-- ==== Defs.lean ====
def Pre_Decode (m : (ℓ : Loc Cert.Decode.nD Cert.Decode.τ Cert.Decode.sig) → Buf (Elt Bits) ℓ) : Prop :=
  True

def Pre_DecodeIdeal (m : (ℓ : Loc Cert.DecodeIdeal.nD Cert.DecodeIdeal.τ Cert.DecodeIdeal.sig) → Buf (Elt Ideal) ℓ) : Prop :=
  True

def Pre_DecodeIdeal_finite_keys [hPre_finite_keys : Cert.Pre_finite_keys.Facts] (m : (ℓ : Loc Cert.DecodeIdeal.nD Cert.DecodeIdeal.τ Cert.DecodeIdeal.sig) → Buf (Elt Ideal) ℓ) : Prop :=
  ∀ c : Dev Cert.DecodeIdeal.nD,
    (Cert.Pre_finite_keys.fn (F := Ideal) (m ((c.tc : Thread Cert.DecodeIdeal.nD Cert.DecodeIdeal.τ).loc Cert.DecodeIdeal.main_arg0)) (m ((c.tc : Thread Cert.DecodeIdeal.nD Cert.DecodeIdeal.τ).loc Cert.DecodeIdeal.main_arg1)) (m ((c.tc : Thread Cert.DecodeIdeal.nD Cert.DecodeIdeal.τ).loc Cert.DecodeIdeal.main_arg2)) (m ((c.tc : Thread Cert.DecodeIdeal.nD Cert.DecodeIdeal.τ).loc Cert.DecodeIdeal.main_arg3)) (m ((c.tc : Thread Cert.DecodeIdeal.nD Cert.DecodeIdeal.τ).loc Cert.DecodeIdeal.main_arg4))).1 = (fun _ => 1#1)
    ∧ (Cert.Pre_finite_keys.fn (F := Ideal) (m ((c.tc : Thread Cert.DecodeIdeal.nD Cert.DecodeIdeal.τ).loc Cert.DecodeIdeal.main_arg0)) (m ((c.tc : Thread Cert.DecodeIdeal.nD Cert.DecodeIdeal.τ).loc Cert.DecodeIdeal.main_arg1)) (m ((c.tc : Thread Cert.DecodeIdeal.nD Cert.DecodeIdeal.τ).loc Cert.DecodeIdeal.main_arg2)) (m ((c.tc : Thread Cert.DecodeIdeal.nD Cert.DecodeIdeal.τ).loc Cert.DecodeIdeal.main_arg3)) (m ((c.tc : Thread Cert.DecodeIdeal.nD Cert.DecodeIdeal.τ).loc Cert.DecodeIdeal.main_arg4))).2.1 = (fun _ => 1#1)
    ∧ (Cert.Pre_finite_keys.fn (F := Ideal) (m ((c.tc : Thread Cert.DecodeIdeal.nD Cert.DecodeIdeal.τ).loc Cert.DecodeIdeal.main_arg0)) (m ((c.tc : Thread Cert.DecodeIdeal.nD Cert.DecodeIdeal.τ).loc Cert.DecodeIdeal.main_arg1)) (m ((c.tc : Thread Cert.DecodeIdeal.nD Cert.DecodeIdeal.τ).loc Cert.DecodeIdeal.main_arg2)) (m ((c.tc : Thread Cert.DecodeIdeal.nD Cert.DecodeIdeal.τ).loc Cert.DecodeIdeal.main_arg3)) (m ((c.tc : Thread Cert.DecodeIdeal.nD Cert.DecodeIdeal.τ).loc Cert.DecodeIdeal.main_arg4))).2.2 = (fun _ => 1#1)

def Pre_DecodeRefIdeal (m : (ℓ : Loc Cert.DecodeRefIdeal.nD Cert.DecodeRefIdeal.τ Cert.DecodeRefIdeal.sig) → Buf (Elt Ideal) ℓ) : Prop :=
  True

def Pre_DecodeRefIdeal_finite_keys [hPre_finite_keys : Cert.Pre_finite_keys.Facts] (m : (ℓ : Loc Cert.DecodeRefIdeal.nD Cert.DecodeRefIdeal.τ Cert.DecodeRefIdeal.sig) → Buf (Elt Ideal) ℓ) : Prop :=
  ∀ c : Dev Cert.DecodeRefIdeal.nD,
    (Cert.Pre_finite_keys.fn (F := Ideal) (m ((c.tc : Thread Cert.DecodeRefIdeal.nD Cert.DecodeRefIdeal.τ).loc Cert.DecodeRefIdeal.main_arg0)) (m ((c.tc : Thread Cert.DecodeRefIdeal.nD Cert.DecodeRefIdeal.τ).loc Cert.DecodeRefIdeal.main_arg1)) (m ((c.tc : Thread Cert.DecodeRefIdeal.nD Cert.DecodeRefIdeal.τ).loc Cert.DecodeRefIdeal.main_arg2)) (m ((c.tc : Thread Cert.DecodeRefIdeal.nD Cert.DecodeRefIdeal.τ).loc Cert.DecodeRefIdeal.main_arg3)) (m ((c.tc : Thread Cert.DecodeRefIdeal.nD Cert.DecodeRefIdeal.τ).loc Cert.DecodeRefIdeal.main_arg4))).1 = (fun _ => 1#1)
    ∧ (Cert.Pre_finite_keys.fn (F := Ideal) (m ((c.tc : Thread Cert.DecodeRefIdeal.nD Cert.DecodeRefIdeal.τ).loc Cert.DecodeRefIdeal.main_arg0)) (m ((c.tc : Thread Cert.DecodeRefIdeal.nD Cert.DecodeRefIdeal.τ).loc Cert.DecodeRefIdeal.main_arg1)) (m ((c.tc : Thread Cert.DecodeRefIdeal.nD Cert.DecodeRefIdeal.τ).loc Cert.DecodeRefIdeal.main_arg2)) (m ((c.tc : Thread Cert.DecodeRefIdeal.nD Cert.DecodeRefIdeal.τ).loc Cert.DecodeRefIdeal.main_arg3)) (m ((c.tc : Thread Cert.DecodeRefIdeal.nD Cert.DecodeRefIdeal.τ).loc Cert.DecodeRefIdeal.main_arg4))).2.1 = (fun _ => 1#1)
    ∧ (Cert.Pre_finite_keys.fn (F := Ideal) (m ((c.tc : Thread Cert.DecodeRefIdeal.nD Cert.DecodeRefIdeal.τ).loc Cert.DecodeRefIdeal.main_arg0)) (m ((c.tc : Thread Cert.DecodeRefIdeal.nD Cert.DecodeRefIdeal.τ).loc Cert.DecodeRefIdeal.main_arg1)) (m ((c.tc : Thread Cert.DecodeRefIdeal.nD Cert.DecodeRefIdeal.τ).loc Cert.DecodeRefIdeal.main_arg2)) (m ((c.tc : Thread Cert.DecodeRefIdeal.nD Cert.DecodeRefIdeal.τ).loc Cert.DecodeRefIdeal.main_arg3)) (m ((c.tc : Thread Cert.DecodeRefIdeal.nD Cert.DecodeRefIdeal.τ).loc Cert.DecodeRefIdeal.main_arg4))).2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutSeq (m : (ℓ : Loc Cert.OutSeq.nD Cert.OutSeq.τ Cert.OutSeq.sig) → Buf (Elt Bits) ℓ) : Prop :=
  True

def Pre_OutSeqIdeal (m : (ℓ : Loc Cert.OutSeqIdeal.nD Cert.OutSeqIdeal.τ Cert.OutSeqIdeal.sig) → Buf (Elt Ideal) ℓ) : Prop :=
  True

def Pre_OutSeqRefIdeal (m : (ℓ : Loc Cert.OutSeqRefIdeal.nD Cert.OutSeqRefIdeal.τ Cert.OutSeqRefIdeal.sig) → Buf (Elt Ideal) ℓ) : Prop :=
  True

def Pre_OutSlab (m : (ℓ : Loc Cert.OutSlab.nD Cert.OutSlab.τ Cert.OutSlab.sig) → Buf (Elt Bits) ℓ) : Prop :=
  True

def Pre_OutSlabIdeal (m : (ℓ : Loc Cert.OutSlabIdeal.nD Cert.OutSlabIdeal.τ Cert.OutSlabIdeal.sig) → Buf (Elt Ideal) ℓ) : Prop :=
  True

def Pre_OutSlabRefIdeal (m : (ℓ : Loc Cert.OutSlabRefIdeal.nD Cert.OutSlabRefIdeal.τ Cert.OutSlabRefIdeal.sig) → Buf (Elt Ideal) ℓ) : Prop :=
  True

def quiescent_Decode [hDecode : Cert.Decode.Facts] : Prop :=
  ∀ (m : (ℓ : Loc Cert.Decode.nD Cert.Decode.τ Cert.Decode.sig) → Buf (Elt Bits) ℓ) (g : Dev Cert.Decode.nD → PrngReg), Pre_Decode m →
    θ_run (Cert.Decode.defs (F := Bits)) (onTc (τ := Cert.Decode.τ) (Cert.Decode.main (F := Bits))) ⟨m, fun _ => 0, g⟩ (fun r => (∀ c : Dev Cert.Decode.nD,
      r.2.mem ((c.tc : Thread Cert.Decode.nD Cert.Decode.τ).loc Cert.Decode.main_arg0) = m ((c.tc : Thread Cert.Decode.nD Cert.Decode.τ).loc Cert.Decode.main_arg0)
      ∧ r.2.mem ((c.tc : Thread Cert.Decode.nD Cert.Decode.τ).loc Cert.Decode.main_arg1) = m ((c.tc : Thread Cert.Decode.nD Cert.Decode.τ).loc Cert.Decode.main_arg1)
      ∧ r.2.mem ((c.tc : Thread Cert.Decode.nD Cert.Decode.τ).loc Cert.Decode.main_arg2) = m ((c.tc : Thread Cert.Decode.nD Cert.Decode.τ).loc Cert.Decode.main_arg2)
      ∧ r.2.mem ((c.tc : Thread Cert.Decode.nD Cert.Decode.τ).loc Cert.Decode.main_arg3) = m ((c.tc : Thread Cert.Decode.nD Cert.Decode.τ).loc Cert.Decode.main_arg3)
      ∧ r.2.mem ((c.tc : Thread Cert.Decode.nD Cert.Decode.τ).loc Cert.Decode.main_arg4) = m ((c.tc : Thread Cert.Decode.nD Cert.Decode.τ).loc Cert.Decode.main_arg4))
      ∧ r.2.sem = fun _ => 0)

def quiescent_DecodeIdeal [hDecodeIdeal : Cert.DecodeIdeal.Facts] : Prop :=
  ∀ (m : (ℓ : Loc Cert.DecodeIdeal.nD Cert.DecodeIdeal.τ Cert.DecodeIdeal.sig) → Buf (Elt Ideal) ℓ) (g : Dev Cert.DecodeIdeal.nD → PrngReg), Pre_DecodeIdeal m →
    θ_run (Cert.DecodeIdeal.defs (F := Ideal)) (onTc (τ := Cert.DecodeIdeal.τ) (Cert.DecodeIdeal.main (F := Ideal))) ⟨m, fun _ => 0, g⟩ (fun r => (∀ c : Dev Cert.DecodeIdeal.nD,
      r.2.mem ((c.tc : Thread Cert.DecodeIdeal.nD Cert.DecodeIdeal.τ).loc Cert.DecodeIdeal.main_arg0) = m ((c.tc : Thread Cert.DecodeIdeal.nD Cert.DecodeIdeal.τ).loc Cert.DecodeIdeal.main_arg0)
      ∧ r.2.mem ((c.tc : Thread Cert.DecodeIdeal.nD Cert.DecodeIdeal.τ).loc Cert.DecodeIdeal.main_arg1) = m ((c.tc : Thread Cert.DecodeIdeal.nD Cert.DecodeIdeal.τ).loc Cert.DecodeIdeal.main_arg1)
      ∧ r.2.mem ((c.tc : Thread Cert.DecodeIdeal.nD Cert.DecodeIdeal.τ).loc Cert.DecodeIdeal.main_arg2) = m ((c.tc : Thread Cert.DecodeIdeal.nD Cert.DecodeIdeal.τ).loc Cert.DecodeIdeal.main_arg2)
      ∧ r.2.mem ((c.tc : Thread Cert.DecodeIdeal.nD Cert.DecodeIdeal.τ).loc Cert.DecodeIdeal.main_arg3) = m ((c.tc : Thread Cert.DecodeIdeal.nD Cert.DecodeIdeal.τ).loc Cert.DecodeIdeal.main_arg3)
      ∧ r.2.mem ((c.tc : Thread Cert.DecodeIdeal.nD Cert.DecodeIdeal.τ).loc Cert.DecodeIdeal.main_arg4) = m ((c.tc : Thread Cert.DecodeIdeal.nD Cert.DecodeIdeal.τ).loc Cert.DecodeIdeal.main_arg4))
      ∧ r.2.sem = fun _ => 0)

def quiescent_DecodeIdeal_pre_finite_keys [hDecodeIdeal : Cert.DecodeIdeal.Facts] [hPre_finite_keys : Cert.Pre_finite_keys.Facts] : Prop :=
  ∀ (m : (ℓ : Loc Cert.DecodeIdeal.nD Cert.DecodeIdeal.τ Cert.DecodeIdeal.sig) → Buf (Elt Ideal) ℓ) (g : Dev Cert.DecodeIdeal.nD → PrngReg), Pre_DecodeIdeal_finite_keys m →
    θ_run (Cert.DecodeIdeal.defs (F := Ideal)) (onTc (τ := Cert.DecodeIdeal.τ) (Cert.DecodeIdeal.main (F := Ideal))) ⟨m, fun _ => 0, g⟩ (fun r => (∀ c : Dev Cert.DecodeIdeal.nD,
      r.2.mem ((c.tc : Thread Cert.DecodeIdeal.nD Cert.DecodeIdeal.τ).loc Cert.DecodeIdeal.main_arg0) = m ((c.tc : Thread Cert.DecodeIdeal.nD Cert.DecodeIdeal.τ).loc Cert.DecodeIdeal.main_arg0)
      ∧ r.2.mem ((c.tc : Thread Cert.DecodeIdeal.nD Cert.DecodeIdeal.τ).loc Cert.DecodeIdeal.main_arg1) = m ((c.tc : Thread Cert.DecodeIdeal.nD Cert.DecodeIdeal.τ).loc Cert.DecodeIdeal.main_arg1)
      ∧ r.2.mem ((c.tc : Thread Cert.DecodeIdeal.nD Cert.DecodeIdeal.τ).loc Cert.DecodeIdeal.main_arg2) = m ((c.tc : Thread Cert.DecodeIdeal.nD Cert.DecodeIdeal.τ).loc Cert.DecodeIdeal.main_arg2)
      ∧ r.2.mem ((c.tc : Thread Cert.DecodeIdeal.nD Cert.DecodeIdeal.τ).loc Cert.DecodeIdeal.main_arg3) = m ((c.tc : Thread Cert.DecodeIdeal.nD Cert.DecodeIdeal.τ).loc Cert.DecodeIdeal.main_arg3)
      ∧ r.2.mem ((c.tc : Thread Cert.DecodeIdeal.nD Cert.DecodeIdeal.τ).loc Cert.DecodeIdeal.main_arg4) = m ((c.tc : Thread Cert.DecodeIdeal.nD Cert.DecodeIdeal.τ).loc Cert.DecodeIdeal.main_arg4))
      ∧ r.2.sem = fun _ => 0)

def quiescent_DecodeRefIdeal [hDecodeRefIdeal : Cert.DecodeRefIdeal.Facts] : Prop :=
  ∀ (m : (ℓ : Loc Cert.DecodeRefIdeal.nD Cert.DecodeRefIdeal.τ Cert.DecodeRefIdeal.sig) → Buf (Elt Ideal) ℓ) (g : Dev Cert.DecodeRefIdeal.nD → PrngReg), Pre_DecodeRefIdeal m →
    θ_run (Cert.DecodeRefIdeal.defs (F := Ideal)) (onTc (τ := Cert.DecodeRefIdeal.τ) (Cert.DecodeRefIdeal.main (F := Ideal))) ⟨m, fun _ => 0, g⟩ (fun r => (∀ c : Dev Cert.DecodeRefIdeal.nD,
      r.2.mem ((c.tc : Thread Cert.DecodeRefIdeal.nD Cert.DecodeRefIdeal.τ).loc Cert.DecodeRefIdeal.main_arg0) = m ((c.tc : Thread Cert.DecodeRefIdeal.nD Cert.DecodeRefIdeal.τ).loc Cert.DecodeRefIdeal.main_arg0)
      ∧ r.2.mem ((c.tc : Thread Cert.DecodeRefIdeal.nD Cert.DecodeRefIdeal.τ).loc Cert.DecodeRefIdeal.main_arg1) = m ((c.tc : Thread Cert.DecodeRefIdeal.nD Cert.DecodeRefIdeal.τ).loc Cert.DecodeRefIdeal.main_arg1)
      ∧ r.2.mem ((c.tc : Thread Cert.DecodeRefIdeal.nD Cert.DecodeRefIdeal.τ).loc Cert.DecodeRefIdeal.main_arg2) = m ((c.tc : Thread Cert.DecodeRefIdeal.nD Cert.DecodeRefIdeal.τ).loc Cert.DecodeRefIdeal.main_arg2)
      ∧ r.2.mem ((c.tc : Thread Cert.DecodeRefIdeal.nD Cert.DecodeRefIdeal.τ).loc Cert.DecodeRefIdeal.main_arg3) = m ((c.tc : Thread Cert.DecodeRefIdeal.nD Cert.DecodeRefIdeal.τ).loc Cert.DecodeRefIdeal.main_arg3)
      ∧ r.2.mem ((c.tc : Thread Cert.DecodeRefIdeal.nD Cert.DecodeRefIdeal.τ).loc Cert.DecodeRefIdeal.main_arg4) = m ((c.tc : Thread Cert.DecodeRefIdeal.nD Cert.DecodeRefIdeal.τ).loc Cert.DecodeRefIdeal.main_arg4))
      ∧ r.2.sem = fun _ => 0)

def quiescent_DecodeRefIdeal_pre_finite_keys [hDecodeRefIdeal : Cert.DecodeRefIdeal.Facts] [hPre_finite_keys : Cert.Pre_finite_keys.Facts] : Prop :=
  ∀ (m : (ℓ : Loc Cert.DecodeRefIdeal.nD Cert.DecodeRefIdeal.τ Cert.DecodeRefIdeal.sig) → Buf (Elt Ideal) ℓ) (g : Dev Cert.DecodeRefIdeal.nD → PrngReg), Pre_DecodeRefIdeal_finite_keys m →
    θ_run (Cert.DecodeRefIdeal.defs (F := Ideal)) (onTc (τ := Cert.DecodeRefIdeal.τ) (Cert.DecodeRefIdeal.main (F := Ideal))) ⟨m, fun _ => 0, g⟩ (fun r => (∀ c : Dev Cert.DecodeRefIdeal.nD,
      r.2.mem ((c.tc : Thread Cert.DecodeRefIdeal.nD Cert.DecodeRefIdeal.τ).loc Cert.DecodeRefIdeal.main_arg0) = m ((c.tc : Thread Cert.DecodeRefIdeal.nD Cert.DecodeRefIdeal.τ).loc Cert.DecodeRefIdeal.main_arg0)
      ∧ r.2.mem ((c.tc : Thread Cert.DecodeRefIdeal.nD Cert.DecodeRefIdeal.τ).loc Cert.DecodeRefIdeal.main_arg1) = m ((c.tc : Thread Cert.DecodeRefIdeal.nD Cert.DecodeRefIdeal.τ).loc Cert.DecodeRefIdeal.main_arg1)
      ∧ r.2.mem ((c.tc : Thread Cert.DecodeRefIdeal.nD Cert.DecodeRefIdeal.τ).loc Cert.DecodeRefIdeal.main_arg2) = m ((c.tc : Thread Cert.DecodeRefIdeal.nD Cert.DecodeRefIdeal.τ).loc Cert.DecodeRefIdeal.main_arg2)
      ∧ r.2.mem ((c.tc : Thread Cert.DecodeRefIdeal.nD Cert.DecodeRefIdeal.τ).loc Cert.DecodeRefIdeal.main_arg3) = m ((c.tc : Thread Cert.DecodeRefIdeal.nD Cert.DecodeRefIdeal.τ).loc Cert.DecodeRefIdeal.main_arg3)
      ∧ r.2.mem ((c.tc : Thread Cert.DecodeRefIdeal.nD Cert.DecodeRefIdeal.τ).loc Cert.DecodeRefIdeal.main_arg4) = m ((c.tc : Thread Cert.DecodeRefIdeal.nD Cert.DecodeRefIdeal.τ).loc Cert.DecodeRefIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_OutSeq [hOutSeq : Cert.OutSeq.Facts] : Prop :=
  ∀ (m : (ℓ : Loc Cert.OutSeq.nD Cert.OutSeq.τ Cert.OutSeq.sig) → Buf (Elt Bits) ℓ) (g : Dev Cert.OutSeq.nD → PrngReg), Pre_OutSeq m →
    θ_run (Cert.OutSeq.defs (F := Bits)) (onTc (τ := Cert.OutSeq.τ) (Cert.OutSeq.main (F := Bits))) ⟨m, fun _ => 0, g⟩ (fun r => (∀ c : Dev Cert.OutSeq.nD,
      r.2.mem ((c.tc : Thread Cert.OutSeq.nD Cert.OutSeq.τ).loc Cert.OutSeq.main_arg0) = m ((c.tc : Thread Cert.OutSeq.nD Cert.OutSeq.τ).loc Cert.OutSeq.main_arg0)
      ∧ r.2.mem ((c.tc : Thread Cert.OutSeq.nD Cert.OutSeq.τ).loc Cert.OutSeq.main_arg1) = m ((c.tc : Thread Cert.OutSeq.nD Cert.OutSeq.τ).loc Cert.OutSeq.main_arg1)
      ∧ r.2.mem ((c.tc : Thread Cert.OutSeq.nD Cert.OutSeq.τ).loc Cert.OutSeq.main_arg2) = m ((c.tc : Thread Cert.OutSeq.nD Cert.OutSeq.τ).loc Cert.OutSeq.main_arg2)
      ∧ r.2.mem ((c.tc : Thread Cert.OutSeq.nD Cert.OutSeq.τ).loc Cert.OutSeq.main_arg3) = m ((c.tc : Thread Cert.OutSeq.nD Cert.OutSeq.τ).loc Cert.OutSeq.main_arg3)
      ∧ r.2.mem ((c.tc : Thread Cert.OutSeq.nD Cert.OutSeq.τ).loc Cert.OutSeq.main_arg4) = m ((c.tc : Thread Cert.OutSeq.nD Cert.OutSeq.τ).loc Cert.OutSeq.main_arg4)
      ∧ r.2.mem ((c.tc : Thread Cert.OutSeq.nD Cert.OutSeq.τ).loc Cert.OutSeq.main_arg5) = m ((c.tc : Thread Cert.OutSeq.nD Cert.OutSeq.τ).loc Cert.OutSeq.main_arg5)
      ∧ r.2.mem ((c.tc : Thread Cert.OutSeq.nD Cert.OutSeq.τ).loc Cert.OutSeq.main_arg6) = m ((c.tc : Thread Cert.OutSeq.nD Cert.OutSeq.τ).loc Cert.OutSeq.main_arg6)
      ∧ r.2.mem ((c.tc : Thread Cert.OutSeq.nD Cert.OutSeq.τ).loc Cert.OutSeq.main_arg7) = m ((c.tc : Thread Cert.OutSeq.nD Cert.OutSeq.τ).loc Cert.OutSeq.main_arg7)
      ∧ r.2.mem ((c.tc : Thread Cert.OutSeq.nD Cert.OutSeq.τ).loc Cert.OutSeq.main_arg8) = m ((c.tc : Thread Cert.OutSeq.nD Cert.OutSeq.τ).loc Cert.OutSeq.main_arg8)
      ∧ r.2.mem ((c.tc : Thread Cert.OutSeq.nD Cert.OutSeq.τ).loc Cert.OutSeq.main_arg9) = m ((c.tc : Thread Cert.OutSeq.nD Cert.OutSeq.τ).loc Cert.OutSeq.main_arg9)
      ∧ r.2.mem ((c.tc : Thread Cert.OutSeq.nD Cert.OutSeq.τ).loc Cert.OutSeq.main_arg10) = m ((c.tc : Thread Cert.OutSeq.nD Cert.OutSeq.τ).loc Cert.OutSeq.main_arg10)
      ∧ r.2.mem ((c.tc : Thread Cert.OutSeq.nD Cert.OutSeq.τ).loc Cert.OutSeq.main_arg11) = m ((c.tc : Thread Cert.OutSeq.nD Cert.OutSeq.τ).loc Cert.OutSeq.main_arg11)
      ∧ r.2.mem ((c.tc : Thread Cert.OutSeq.nD Cert.OutSeq.τ).loc Cert.OutSeq.main_arg12) = m ((c.tc : Thread Cert.OutSeq.nD Cert.OutSeq.τ).loc Cert.OutSeq.main_arg12)
      ∧ r.2.mem ((c.tc : Thread Cert.OutSeq.nD Cert.OutSeq.τ).loc Cert.OutSeq.main_arg13) = m ((c.tc : Thread Cert.OutSeq.nD Cert.OutSeq.τ).loc Cert.OutSeq.main_arg13))
      ∧ r.2.sem = fun _ => 0)

def quiescent_OutSeqIdeal [hOutSeqIdeal : Cert.OutSeqIdeal.Facts] : Prop :=
  ∀ (m : (ℓ : Loc Cert.OutSeqIdeal.nD Cert.OutSeqIdeal.τ Cert.OutSeqIdeal.sig) → Buf (Elt Ideal) ℓ) (g : Dev Cert.OutSeqIdeal.nD → PrngReg), Pre_OutSeqIdeal m →
    θ_run (Cert.OutSeqIdeal.defs (F := Ideal)) (onTc (τ := Cert.OutSeqIdeal.τ) (Cert.OutSeqIdeal.main (F := Ideal))) ⟨m, fun _ => 0, g⟩ (fun r => (∀ c : Dev Cert.OutSeqIdeal.nD,
      r.2.mem ((c.tc : Thread Cert.OutSeqIdeal.nD Cert.OutSeqIdeal.τ).loc Cert.OutSeqIdeal.main_arg0) = m ((c.tc : Thread Cert.OutSeqIdeal.nD Cert.OutSeqIdeal.τ).loc Cert.OutSeqIdeal.main_arg0)
      ∧ r.2.mem ((c.tc : Thread Cert.OutSeqIdeal.nD Cert.OutSeqIdeal.τ).loc Cert.OutSeqIdeal.main_arg1) = m ((c.tc : Thread Cert.OutSeqIdeal.nD Cert.OutSeqIdeal.τ).loc Cert.OutSeqIdeal.main_arg1)
      ∧ r.2.mem ((c.tc : Thread Cert.OutSeqIdeal.nD Cert.OutSeqIdeal.τ).loc Cert.OutSeqIdeal.main_arg2) = m ((c.tc : Thread Cert.OutSeqIdeal.nD Cert.OutSeqIdeal.τ).loc Cert.OutSeqIdeal.main_arg2)
      ∧ r.2.mem ((c.tc : Thread Cert.OutSeqIdeal.nD Cert.OutSeqIdeal.τ).loc Cert.OutSeqIdeal.main_arg3) = m ((c.tc : Thread Cert.OutSeqIdeal.nD Cert.OutSeqIdeal.τ).loc Cert.OutSeqIdeal.main_arg3)
      ∧ r.2.mem ((c.tc : Thread Cert.OutSeqIdeal.nD Cert.OutSeqIdeal.τ).loc Cert.OutSeqIdeal.main_arg4) = m ((c.tc : Thread Cert.OutSeqIdeal.nD Cert.OutSeqIdeal.τ).loc Cert.OutSeqIdeal.main_arg4)
      ∧ r.2.mem ((c.tc : Thread Cert.OutSeqIdeal.nD Cert.OutSeqIdeal.τ).loc Cert.OutSeqIdeal.main_arg5) = m ((c.tc : Thread Cert.OutSeqIdeal.nD Cert.OutSeqIdeal.τ).loc Cert.OutSeqIdeal.main_arg5)
      ∧ r.2.mem ((c.tc : Thread Cert.OutSeqIdeal.nD Cert.OutSeqIdeal.τ).loc Cert.OutSeqIdeal.main_arg6) = m ((c.tc : Thread Cert.OutSeqIdeal.nD Cert.OutSeqIdeal.τ).loc Cert.OutSeqIdeal.main_arg6)
      ∧ r.2.mem ((c.tc : Thread Cert.OutSeqIdeal.nD Cert.OutSeqIdeal.τ).loc Cert.OutSeqIdeal.main_arg7) = m ((c.tc : Thread Cert.OutSeqIdeal.nD Cert.OutSeqIdeal.τ).loc Cert.OutSeqIdeal.main_arg7)
      ∧ r.2.mem ((c.tc : Thread Cert.OutSeqIdeal.nD Cert.OutSeqIdeal.τ).loc Cert.OutSeqIdeal.main_arg8) = m ((c.tc : Thread Cert.OutSeqIdeal.nD Cert.OutSeqIdeal.τ).loc Cert.OutSeqIdeal.main_arg8)
      ∧ r.2.mem ((c.tc : Thread Cert.OutSeqIdeal.nD Cert.OutSeqIdeal.τ).loc Cert.OutSeqIdeal.main_arg9) = m ((c.tc : Thread Cert.OutSeqIdeal.nD Cert.OutSeqIdeal.τ).loc Cert.OutSeqIdeal.main_arg9)
      ∧ r.2.mem ((c.tc : Thread Cert.OutSeqIdeal.nD Cert.OutSeqIdeal.τ).loc Cert.OutSeqIdeal.main_arg10) = m ((c.tc : Thread Cert.OutSeqIdeal.nD Cert.OutSeqIdeal.τ).loc Cert.OutSeqIdeal.main_arg10)
      ∧ r.2.mem ((c.tc : Thread Cert.OutSeqIdeal.nD Cert.OutSeqIdeal.τ).loc Cert.OutSeqIdeal.main_arg11) = m ((c.tc : Thread Cert.OutSeqIdeal.nD Cert.OutSeqIdeal.τ).loc Cert.OutSeqIdeal.main_arg11)
      ∧ r.2.mem ((c.tc : Thread Cert.OutSeqIdeal.nD Cert.OutSeqIdeal.τ).loc Cert.OutSeqIdeal.main_arg12) = m ((c.tc : Thread Cert.OutSeqIdeal.nD Cert.OutSeqIdeal.τ).loc Cert.OutSeqIdeal.main_arg12)
      ∧ r.2.mem ((c.tc : Thread Cert.OutSeqIdeal.nD Cert.OutSeqIdeal.τ).loc Cert.OutSeqIdeal.main_arg13) = m ((c.tc : Thread Cert.OutSeqIdeal.nD Cert.OutSeqIdeal.τ).loc Cert.OutSeqIdeal.main_arg13))
      ∧ r.2.sem = fun _ => 0)

def quiescent_OutSeqRefIdeal [hOutSeqRefIdeal : Cert.OutSeqRefIdeal.Facts] : Prop :=
  ∀ (m : (ℓ : Loc Cert.OutSeqRefIdeal.nD Cert.OutSeqRefIdeal.τ Cert.OutSeqRefIdeal.sig) → Buf (Elt Ideal) ℓ) (g : Dev Cert.OutSeqRefIdeal.nD → PrngReg), Pre_OutSeqRefIdeal m →
    θ_run (Cert.OutSeqRefIdeal.defs (F := Ideal)) (onTc (τ := Cert.OutSeqRefIdeal.τ) (Cert.OutSeqRefIdeal.main (F := Ideal))) ⟨m, fun _ => 0, g⟩ (fun r => (∀ c : Dev Cert.OutSeqRefIdeal.nD,
      r.2.mem ((c.tc : Thread Cert.OutSeqRefIdeal.nD Cert.OutSeqRefIdeal.τ).loc Cert.OutSeqRefIdeal.main_arg0) = m ((c.tc : Thread Cert.OutSeqRefIdeal.nD Cert.OutSeqRefIdeal.τ).loc Cert.OutSeqRefIdeal.main_arg0)
      ∧ r.2.mem ((c.tc : Thread Cert.OutSeqRefIdeal.nD Cert.OutSeqRefIdeal.τ).loc Cert.OutSeqRefIdeal.main_arg1) = m ((c.tc : Thread Cert.OutSeqRefIdeal.nD Cert.OutSeqRefIdeal.τ).loc Cert.OutSeqRefIdeal.main_arg1)
      ∧ r.2.mem ((c.tc : Thread Cert.OutSeqRefIdeal.nD Cert.OutSeqRefIdeal.τ).loc Cert.OutSeqRefIdeal.main_arg2) = m ((c.tc : Thread Cert.OutSeqRefIdeal.nD Cert.OutSeqRefIdeal.τ).loc Cert.OutSeqRefIdeal.main_arg2)
      ∧ r.2.mem ((c.tc : Thread Cert.OutSeqRefIdeal.nD Cert.OutSeqRefIdeal.τ).loc Cert.OutSeqRefIdeal.main_arg3) = m ((c.tc : Thread Cert.OutSeqRefIdeal.nD Cert.OutSeqRefIdeal.τ).loc Cert.OutSeqRefIdeal.main_arg3)
      ∧ r.2.mem ((c.tc : Thread Cert.OutSeqRefIdeal.nD Cert.OutSeqRefIdeal.τ).loc Cert.OutSeqRefIdeal.main_arg4) = m ((c.tc : Thread Cert.OutSeqRefIdeal.nD Cert.OutSeqRefIdeal.τ).loc Cert.OutSeqRefIdeal.main_arg4)
      ∧ r.2.mem ((c.tc : Thread Cert.OutSeqRefIdeal.nD Cert.OutSeqRefIdeal.τ).loc Cert.OutSeqRefIdeal.main_arg5) = m ((c.tc : Thread Cert.OutSeqRefIdeal.nD Cert.OutSeqRefIdeal.τ).loc Cert.OutSeqRefIdeal.main_arg5)
      ∧ r.2.mem ((c.tc : Thread Cert.OutSeqRefIdeal.nD Cert.OutSeqRefIdeal.τ).loc Cert.OutSeqRefIdeal.main_arg6) = m ((c.tc : Thread Cert.OutSeqRefIdeal.nD Cert.OutSeqRefIdeal.τ).loc Cert.OutSeqRefIdeal.main_arg6)
      ∧ r.2.mem ((c.tc : Thread Cert.OutSeqRefIdeal.nD Cert.OutSeqRefIdeal.τ).loc Cert.OutSeqRefIdeal.main_arg7) = m ((c.tc : Thread Cert.OutSeqRefIdeal.nD Cert.OutSeqRefIdeal.τ).loc Cert.OutSeqRefIdeal.main_arg7)
      ∧ r.2.mem ((c.tc : Thread Cert.OutSeqRefIdeal.nD Cert.OutSeqRefIdeal.τ).loc Cert.OutSeqRefIdeal.main_arg8) = m ((c.tc : Thread Cert.OutSeqRefIdeal.nD Cert.OutSeqRefIdeal.τ).loc Cert.OutSeqRefIdeal.main_arg8)
      ∧ r.2.mem ((c.tc : Thread Cert.OutSeqRefIdeal.nD Cert.OutSeqRefIdeal.τ).loc Cert.OutSeqRefIdeal.main_arg9) = m ((c.tc : Thread Cert.OutSeqRefIdeal.nD Cert.OutSeqRefIdeal.τ).loc Cert.OutSeqRefIdeal.main_arg9)
      ∧ r.2.mem ((c.tc : Thread Cert.OutSeqRefIdeal.nD Cert.OutSeqRefIdeal.τ).loc Cert.OutSeqRefIdeal.main_arg10) = m ((c.tc : Thread Cert.OutSeqRefIdeal.nD Cert.OutSeqRefIdeal.τ).loc Cert.OutSeqRefIdeal.main_arg10)
      ∧ r.2.mem ((c.tc : Thread Cert.OutSeqRefIdeal.nD Cert.OutSeqRefIdeal.τ).loc Cert.OutSeqRefIdeal.main_arg11) = m ((c.tc : Thread Cert.OutSeqRefIdeal.nD Cert.OutSeqRefIdeal.τ).loc Cert.OutSeqRefIdeal.main_arg11)
      ∧ r.2.mem ((c.tc : Thread Cert.OutSeqRefIdeal.nD Cert.OutSeqRefIdeal.τ).loc Cert.OutSeqRefIdeal.main_arg12) = m ((c.tc : Thread Cert.OutSeqRefIdeal.nD Cert.OutSeqRefIdeal.τ).loc Cert.OutSeqRefIdeal.main_arg12)
      ∧ r.2.mem ((c.tc : Thread Cert.OutSeqRefIdeal.nD Cert.OutSeqRefIdeal.τ).loc Cert.OutSeqRefIdeal.main_arg13) = m ((c.tc : Thread Cert.OutSeqRefIdeal.nD Cert.OutSeqRefIdeal.τ).loc Cert.OutSeqRefIdeal.main_arg13))
      ∧ r.2.sem = fun _ => 0)

def quiescent_OutSlab [hOutSlab : Cert.OutSlab.Facts] : Prop :=
  ∀ (m : (ℓ : Loc Cert.OutSlab.nD Cert.OutSlab.τ Cert.OutSlab.sig) → Buf (Elt Bits) ℓ) (g : Dev Cert.OutSlab.nD → PrngReg), Pre_OutSlab m →
    θ_run (Cert.OutSlab.defs (F := Bits)) (onTc (τ := Cert.OutSlab.τ) (Cert.OutSlab.main (F := Bits))) ⟨m, fun _ => 0, g⟩ (fun r => (∀ c : Dev Cert.OutSlab.nD,
      r.2.mem ((c.tc : Thread Cert.OutSlab.nD Cert.OutSlab.τ).loc Cert.OutSlab.main_arg0) = m ((c.tc : Thread Cert.OutSlab.nD Cert.OutSlab.τ).loc Cert.OutSlab.main_arg0)
      ∧ r.2.mem ((c.tc : Thread Cert.OutSlab.nD Cert.OutSlab.τ).loc Cert.OutSlab.main_arg1) = m ((c.tc : Thread Cert.OutSlab.nD Cert.OutSlab.τ).loc Cert.OutSlab.main_arg1)
      ∧ r.2.mem ((c.tc : Thread Cert.OutSlab.nD Cert.OutSlab.τ).loc Cert.OutSlab.main_arg2) = m ((c.tc : Thread Cert.OutSlab.nD Cert.OutSlab.τ).loc Cert.OutSlab.main_arg2)
      ∧ r.2.mem ((c.tc : Thread Cert.OutSlab.nD Cert.OutSlab.τ).loc Cert.OutSlab.main_arg3) = m ((c.tc : Thread Cert.OutSlab.nD Cert.OutSlab.τ).loc Cert.OutSlab.main_arg3)
      ∧ r.2.mem ((c.tc : Thread Cert.OutSlab.nD Cert.OutSlab.τ).loc Cert.OutSlab.main_arg4) = m ((c.tc : Thread Cert.OutSlab.nD Cert.OutSlab.τ).loc Cert.OutSlab.main_arg4)
      ∧ r.2.mem ((c.tc : Thread Cert.OutSlab.nD Cert.OutSlab.τ).loc Cert.OutSlab.main_arg5) = m ((c.tc : Thread Cert.OutSlab.nD Cert.OutSlab.τ).loc Cert.OutSlab.main_arg5)
      ∧ r.2.mem ((c.tc : Thread Cert.OutSlab.nD Cert.OutSlab.τ).loc Cert.OutSlab.main_arg6) = m ((c.tc : Thread Cert.OutSlab.nD Cert.OutSlab.τ).loc Cert.OutSlab.main_arg6)
      ∧ r.2.mem ((c.tc : Thread Cert.OutSlab.nD Cert.OutSlab.τ).loc Cert.OutSlab.main_arg7) = m ((c.tc : Thread Cert.OutSlab.nD Cert.OutSlab.τ).loc Cert.OutSlab.main_arg7)
      ∧ r.2.mem ((c.tc : Thread Cert.OutSlab.nD Cert.OutSlab.τ).loc Cert.OutSlab.main_arg8) = m ((c.tc : Thread Cert.OutSlab.nD Cert.OutSlab.τ).loc Cert.OutSlab.main_arg8)
      ∧ r.2.mem ((c.tc : Thread Cert.OutSlab.nD Cert.OutSlab.τ).loc Cert.OutSlab.main_arg9) = m ((c.tc : Thread Cert.OutSlab.nD Cert.OutSlab.τ).loc Cert.OutSlab.main_arg9)
      ∧ r.2.mem ((c.tc : Thread Cert.OutSlab.nD Cert.OutSlab.τ).loc Cert.OutSlab.main_arg10) = m ((c.tc : Thread Cert.OutSlab.nD Cert.OutSlab.τ).loc Cert.OutSlab.main_arg10)
      ∧ r.2.mem ((c.tc : Thread Cert.OutSlab.nD Cert.OutSlab.τ).loc Cert.OutSlab.main_arg11) = m ((c.tc : Thread Cert.OutSlab.nD Cert.OutSlab.τ).loc Cert.OutSlab.main_arg11)
      ∧ r.2.mem ((c.tc : Thread Cert.OutSlab.nD Cert.OutSlab.τ).loc Cert.OutSlab.main_arg12) = m ((c.tc : Thread Cert.OutSlab.nD Cert.OutSlab.τ).loc Cert.OutSlab.main_arg12)
      ∧ r.2.mem ((c.tc : Thread Cert.OutSlab.nD Cert.OutSlab.τ).loc Cert.OutSlab.main_arg13) = m ((c.tc : Thread Cert.OutSlab.nD Cert.OutSlab.τ).loc Cert.OutSlab.main_arg13)
      ∧ r.2.mem ((c.tc : Thread Cert.OutSlab.nD Cert.OutSlab.τ).loc Cert.OutSlab.main_arg14) = m ((c.tc : Thread Cert.OutSlab.nD Cert.OutSlab.τ).loc Cert.OutSlab.main_arg14))
      ∧ r.2.sem = fun _ => 0)

def quiescent_OutSlabIdeal [hOutSlabIdeal : Cert.OutSlabIdeal.Facts] : Prop :=
  ∀ (m : (ℓ : Loc Cert.OutSlabIdeal.nD Cert.OutSlabIdeal.τ Cert.OutSlabIdeal.sig) → Buf (Elt Ideal) ℓ) (g : Dev Cert.OutSlabIdeal.nD → PrngReg), Pre_OutSlabIdeal m →
    θ_run (Cert.OutSlabIdeal.defs (F := Ideal)) (onTc (τ := Cert.OutSlabIdeal.τ) (Cert.OutSlabIdeal.main (F := Ideal))) ⟨m, fun _ => 0, g⟩ (fun r => (∀ c : Dev Cert.OutSlabIdeal.nD,
      r.2.mem ((c.tc : Thread Cert.OutSlabIdeal.nD Cert.OutSlabIdeal.τ).loc Cert.OutSlabIdeal.main_arg0) = m ((c.tc : Thread Cert.OutSlabIdeal.nD Cert.OutSlabIdeal.τ).loc Cert.OutSlabIdeal.main_arg0)
      ∧ r.2.mem ((c.tc : Thread Cert.OutSlabIdeal.nD Cert.OutSlabIdeal.τ).loc Cert.OutSlabIdeal.main_arg1) = m ((c.tc : Thread Cert.OutSlabIdeal.nD Cert.OutSlabIdeal.τ).loc Cert.OutSlabIdeal.main_arg1)
      ∧ r.2.mem ((c.tc : Thread Cert.OutSlabIdeal.nD Cert.OutSlabIdeal.τ).loc Cert.OutSlabIdeal.main_arg2) = m ((c.tc : Thread Cert.OutSlabIdeal.nD Cert.OutSlabIdeal.τ).loc Cert.OutSlabIdeal.main_arg2)
      ∧ r.2.mem ((c.tc : Thread Cert.OutSlabIdeal.nD Cert.OutSlabIdeal.τ).loc Cert.OutSlabIdeal.main_arg3) = m ((c.tc : Thread Cert.OutSlabIdeal.nD Cert.OutSlabIdeal.τ).loc Cert.OutSlabIdeal.main_arg3)
      ∧ r.2.mem ((c.tc : Thread Cert.OutSlabIdeal.nD Cert.OutSlabIdeal.τ).loc Cert.OutSlabIdeal.main_arg4) = m ((c.tc : Thread Cert.OutSlabIdeal.nD Cert.OutSlabIdeal.τ).loc Cert.OutSlabIdeal.main_arg4)
      ∧ r.2.mem ((c.tc : Thread Cert.OutSlabIdeal.nD Cert.OutSlabIdeal.τ).loc Cert.OutSlabIdeal.main_arg5) = m ((c.tc : Thread Cert.OutSlabIdeal.nD Cert.OutSlabIdeal.τ).loc Cert.OutSlabIdeal.main_arg5)
      ∧ r.2.mem ((c.tc : Thread Cert.OutSlabIdeal.nD Cert.OutSlabIdeal.τ).loc Cert.OutSlabIdeal.main_arg6) = m ((c.tc : Thread Cert.OutSlabIdeal.nD Cert.OutSlabIdeal.τ).loc Cert.OutSlabIdeal.main_arg6)
      ∧ r.2.mem ((c.tc : Thread Cert.OutSlabIdeal.nD Cert.OutSlabIdeal.τ).loc Cert.OutSlabIdeal.main_arg7) = m ((c.tc : Thread Cert.OutSlabIdeal.nD Cert.OutSlabIdeal.τ).loc Cert.OutSlabIdeal.main_arg7)
      ∧ r.2.mem ((c.tc : Thread Cert.OutSlabIdeal.nD Cert.OutSlabIdeal.τ).loc Cert.OutSlabIdeal.main_arg8) = m ((c.tc : Thread Cert.OutSlabIdeal.nD Cert.OutSlabIdeal.τ).loc Cert.OutSlabIdeal.main_arg8)
      ∧ r.2.mem ((c.tc : Thread Cert.OutSlabIdeal.nD Cert.OutSlabIdeal.τ).loc Cert.OutSlabIdeal.main_arg9) = m ((c.tc : Thread Cert.OutSlabIdeal.nD Cert.OutSlabIdeal.τ).loc Cert.OutSlabIdeal.main_arg9)
      ∧ r.2.mem ((c.tc : Thread Cert.OutSlabIdeal.nD Cert.OutSlabIdeal.τ).loc Cert.OutSlabIdeal.main_arg10) = m ((c.tc : Thread Cert.OutSlabIdeal.nD Cert.OutSlabIdeal.τ).loc Cert.OutSlabIdeal.main_arg10)
      ∧ r.2.mem ((c.tc : Thread Cert.OutSlabIdeal.nD Cert.OutSlabIdeal.τ).loc Cert.OutSlabIdeal.main_arg11) = m ((c.tc : Thread Cert.OutSlabIdeal.nD Cert.OutSlabIdeal.τ).loc Cert.OutSlabIdeal.main_arg11)
      ∧ r.2.mem ((c.tc : Thread Cert.OutSlabIdeal.nD Cert.OutSlabIdeal.τ).loc Cert.OutSlabIdeal.main_arg12) = m ((c.tc : Thread Cert.OutSlabIdeal.nD Cert.OutSlabIdeal.τ).loc Cert.OutSlabIdeal.main_arg12)
      ∧ r.2.mem ((c.tc : Thread Cert.OutSlabIdeal.nD Cert.OutSlabIdeal.τ).loc Cert.OutSlabIdeal.main_arg13) = m ((c.tc : Thread Cert.OutSlabIdeal.nD Cert.OutSlabIdeal.τ).loc Cert.OutSlabIdeal.main_arg13)
      ∧ r.2.mem ((c.tc : Thread Cert.OutSlabIdeal.nD Cert.OutSlabIdeal.τ).loc Cert.OutSlabIdeal.main_arg14) = m ((c.tc : Thread Cert.OutSlabIdeal.nD Cert.OutSlabIdeal.τ).loc Cert.OutSlabIdeal.main_arg14))
      ∧ r.2.sem = fun _ => 0)

def quiescent_OutSlabRefIdeal [hOutSlabRefIdeal : Cert.OutSlabRefIdeal.Facts] : Prop :=
  ∀ (m : (ℓ : Loc Cert.OutSlabRefIdeal.nD Cert.OutSlabRefIdeal.τ Cert.OutSlabRefIdeal.sig) → Buf (Elt Ideal) ℓ) (g : Dev Cert.OutSlabRefIdeal.nD → PrngReg), Pre_OutSlabRefIdeal m →
    θ_run (Cert.OutSlabRefIdeal.defs (F := Ideal)) (onTc (τ := Cert.OutSlabRefIdeal.τ) (Cert.OutSlabRefIdeal.main (F := Ideal))) ⟨m, fun _ => 0, g⟩ (fun r => (∀ c : Dev Cert.OutSlabRefIdeal.nD,
      r.2.mem ((c.tc : Thread Cert.OutSlabRefIdeal.nD Cert.OutSlabRefIdeal.τ).loc Cert.OutSlabRefIdeal.main_arg0) = m ((c.tc : Thread Cert.OutSlabRefIdeal.nD Cert.OutSlabRefIdeal.τ).loc Cert.OutSlabRefIdeal.main_arg0)
      ∧ r.2.mem ((c.tc : Thread Cert.OutSlabRefIdeal.nD Cert.OutSlabRefIdeal.τ).loc Cert.OutSlabRefIdeal.main_arg1) = m ((c.tc : Thread Cert.OutSlabRefIdeal.nD Cert.OutSlabRefIdeal.τ).loc Cert.OutSlabRefIdeal.main_arg1)
      ∧ r.2.mem ((c.tc : Thread Cert.OutSlabRefIdeal.nD Cert.OutSlabRefIdeal.τ).loc Cert.OutSlabRefIdeal.main_arg2) = m ((c.tc : Thread Cert.OutSlabRefIdeal.nD Cert.OutSlabRefIdeal.τ).loc Cert.OutSlabRefIdeal.main_arg2)
      ∧ r.2.mem ((c.tc : Thread Cert.OutSlabRefIdeal.nD Cert.OutSlabRefIdeal.τ).loc Cert.OutSlabRefIdeal.main_arg3) = m ((c.tc : Thread Cert.OutSlabRefIdeal.nD Cert.OutSlabRefIdeal.τ).loc Cert.OutSlabRefIdeal.main_arg3)
      ∧ r.2.mem ((c.tc : Thread Cert.OutSlabRefIdeal.nD Cert.OutSlabRefIdeal.τ).loc Cert.OutSlabRefIdeal.main_arg4) = m ((c.tc : Thread Cert.OutSlabRefIdeal.nD Cert.OutSlabRefIdeal.τ).loc Cert.OutSlabRefIdeal.main_arg4)
      ∧ r.2.mem ((c.tc : Thread Cert.OutSlabRefIdeal.nD Cert.OutSlabRefIdeal.τ).loc Cert.OutSlabRefIdeal.main_arg5) = m ((c.tc : Thread Cert.OutSlabRefIdeal.nD Cert.OutSlabRefIdeal.τ).loc Cert.OutSlabRefIdeal.main_arg5)
      ∧ r.2.mem ((c.tc : Thread Cert.OutSlabRefIdeal.nD Cert.OutSlabRefIdeal.τ).loc Cert.OutSlabRefIdeal.main_arg6) = m ((c.tc : Thread Cert.OutSlabRefIdeal.nD Cert.OutSlabRefIdeal.τ).loc Cert.OutSlabRefIdeal.main_arg6)
      ∧ r.2.mem ((c.tc : Thread Cert.OutSlabRefIdeal.nD Cert.OutSlabRefIdeal.τ).loc Cert.OutSlabRefIdeal.main_arg7) = m ((c.tc : Thread Cert.OutSlabRefIdeal.nD Cert.OutSlabRefIdeal.τ).loc Cert.OutSlabRefIdeal.main_arg7)
      ∧ r.2.mem ((c.tc : Thread Cert.OutSlabRefIdeal.nD Cert.OutSlabRefIdeal.τ).loc Cert.OutSlabRefIdeal.main_arg8) = m ((c.tc : Thread Cert.OutSlabRefIdeal.nD Cert.OutSlabRefIdeal.τ).loc Cert.OutSlabRefIdeal.main_arg8)
      ∧ r.2.mem ((c.tc : Thread Cert.OutSlabRefIdeal.nD Cert.OutSlabRefIdeal.τ).loc Cert.OutSlabRefIdeal.main_arg9) = m ((c.tc : Thread Cert.OutSlabRefIdeal.nD Cert.OutSlabRefIdeal.τ).loc Cert.OutSlabRefIdeal.main_arg9)
      ∧ r.2.mem ((c.tc : Thread Cert.OutSlabRefIdeal.nD Cert.OutSlabRefIdeal.τ).loc Cert.OutSlabRefIdeal.main_arg10) = m ((c.tc : Thread Cert.OutSlabRefIdeal.nD Cert.OutSlabRefIdeal.τ).loc Cert.OutSlabRefIdeal.main_arg10)
      ∧ r.2.mem ((c.tc : Thread Cert.OutSlabRefIdeal.nD Cert.OutSlabRefIdeal.τ).loc Cert.OutSlabRefIdeal.main_arg11) = m ((c.tc : Thread Cert.OutSlabRefIdeal.nD Cert.OutSlabRefIdeal.τ).loc Cert.OutSlabRefIdeal.main_arg11)
      ∧ r.2.mem ((c.tc : Thread Cert.OutSlabRefIdeal.nD Cert.OutSlabRefIdeal.τ).loc Cert.OutSlabRefIdeal.main_arg12) = m ((c.tc : Thread Cert.OutSlabRefIdeal.nD Cert.OutSlabRefIdeal.τ).loc Cert.OutSlabRefIdeal.main_arg12)
      ∧ r.2.mem ((c.tc : Thread Cert.OutSlabRefIdeal.nD Cert.OutSlabRefIdeal.τ).loc Cert.OutSlabRefIdeal.main_arg13) = m ((c.tc : Thread Cert.OutSlabRefIdeal.nD Cert.OutSlabRefIdeal.τ).loc Cert.OutSlabRefIdeal.main_arg13)
      ∧ r.2.mem ((c.tc : Thread Cert.OutSlabRefIdeal.nD Cert.OutSlabRefIdeal.τ).loc Cert.OutSlabRefIdeal.main_arg14) = m ((c.tc : Thread Cert.OutSlabRefIdeal.nD Cert.OutSlabRefIdeal.τ).loc Cert.OutSlabRefIdeal.main_arg14))
      ∧ r.2.sem = fun _ => 0)

def preserves_Decode_DecodeIdeal : Prop :=
  True

def algebraic_DecodeIdeal_DecodeRefIdeal_pre_finite_keys [hDecodeIdeal : Cert.DecodeIdeal.Facts] [hDecodeRefIdeal : Cert.DecodeRefIdeal.Facts] [hPre_finite_keys : Cert.Pre_finite_keys.Facts] : Prop :=
  ∀ (m : (ℓ : Loc Cert.DecodeIdeal.nD Cert.DecodeIdeal.τ Cert.DecodeIdeal.sig) → Buf (Elt Ideal) ℓ) (g : Dev Cert.DecodeIdeal.nD → PrngReg)
    (m' : (ℓ : Loc Cert.DecodeRefIdeal.nD Cert.DecodeRefIdeal.τ Cert.DecodeRefIdeal.sig) → Buf (Elt Ideal) ℓ) (g' : Dev Cert.DecodeRefIdeal.nD → PrngReg), Pre_DecodeIdeal_finite_keys m →
    (∀ c : Dev Cert.DecodeIdeal.nD,
      m' ((c.tc : Thread Cert.DecodeRefIdeal.nD Cert.DecodeRefIdeal.τ).loc Cert.DecodeRefIdeal.main_arg0) = m ((c.tc : Thread Cert.DecodeIdeal.nD Cert.DecodeIdeal.τ).loc Cert.DecodeIdeal.main_arg0)
      ∧ m' ((c.tc : Thread Cert.DecodeRefIdeal.nD Cert.DecodeRefIdeal.τ).loc Cert.DecodeRefIdeal.main_arg1) = m ((c.tc : Thread Cert.DecodeIdeal.nD Cert.DecodeIdeal.τ).loc Cert.DecodeIdeal.main_arg1)
      ∧ m' ((c.tc : Thread Cert.DecodeRefIdeal.nD Cert.DecodeRefIdeal.τ).loc Cert.DecodeRefIdeal.main_arg2) = m ((c.tc : Thread Cert.DecodeIdeal.nD Cert.DecodeIdeal.τ).loc Cert.DecodeIdeal.main_arg2)
      ∧ m' ((c.tc : Thread Cert.DecodeRefIdeal.nD Cert.DecodeRefIdeal.τ).loc Cert.DecodeRefIdeal.main_arg3) = m ((c.tc : Thread Cert.DecodeIdeal.nD Cert.DecodeIdeal.τ).loc Cert.DecodeIdeal.main_arg3)
      ∧ m' ((c.tc : Thread Cert.DecodeRefIdeal.nD Cert.DecodeRefIdeal.τ).loc Cert.DecodeRefIdeal.main_arg4) = m ((c.tc : Thread Cert.DecodeIdeal.nD Cert.DecodeIdeal.τ).loc Cert.DecodeIdeal.main_arg4)) →
    ∃ (v0 : (c : Dev Cert.DecodeIdeal.nD) → Buf (Elt Ideal) ((c.tc : Thread Cert.DecodeIdeal.nD Cert.DecodeIdeal.τ).loc Cert.DecodeIdeal.main_v8)),
      θ_run (Cert.DecodeIdeal.defs (F := Ideal)) (onTc (τ := Cert.DecodeIdeal.τ) (Cert.DecodeIdeal.main (F := Ideal))) ⟨m, fun _ => 0, g⟩ (fun r => ∀ c : Dev Cert.DecodeIdeal.nD,
          r.2.mem ((c.tc : Thread Cert.DecodeIdeal.nD Cert.DecodeIdeal.τ).loc Cert.DecodeIdeal.main_v8) = v0 c
          ∧ r.2.mem ((c.tc : Thread Cert.DecodeIdeal.nD Cert.DecodeIdeal.τ).loc Cert.DecodeIdeal.main_arg0) = m ((c.tc : Thread Cert.DecodeIdeal.nD Cert.DecodeIdeal.τ).loc Cert.DecodeIdeal.main_arg0)
          ∧ r.2.mem ((c.tc : Thread Cert.DecodeIdeal.nD Cert.DecodeIdeal.τ).loc Cert.DecodeIdeal.main_arg1) = m ((c.tc : Thread Cert.DecodeIdeal.nD Cert.DecodeIdeal.τ).loc Cert.DecodeIdeal.main_arg1)
          ∧ r.2.mem ((c.tc : Thread Cert.DecodeIdeal.nD Cert.DecodeIdeal.τ).loc Cert.DecodeIdeal.main_arg2) = m ((c.tc : Thread Cert.DecodeIdeal.nD Cert.DecodeIdeal.τ).loc Cert.DecodeIdeal.main_arg2)
          ∧ r.2.mem ((c.tc : Thread Cert.DecodeIdeal.nD Cert.DecodeIdeal.τ).loc Cert.DecodeIdeal.main_arg3) = m ((c.tc : Thread Cert.DecodeIdeal.nD Cert.DecodeIdeal.τ).loc Cert.DecodeIdeal.main_arg3)
          ∧ r.2.mem ((c.tc : Thread Cert.DecodeIdeal.nD Cert.DecodeIdeal.τ).loc Cert.DecodeIdeal.main_arg4) = m ((c.tc : Thread Cert.DecodeIdeal.nD Cert.DecodeIdeal.τ).loc Cert.DecodeIdeal.main_arg4))
      ∧ θ_run (Cert.DecodeRefIdeal.defs (F := Ideal)) (onTc (τ := Cert.DecodeRefIdeal.τ) (Cert.DecodeRefIdeal.main (F := Ideal))) ⟨m', fun _ => 0, g'⟩ (fun r => ∀ c : Dev Cert.DecodeRefIdeal.nD,
          r.2.mem ((c.tc : Thread Cert.DecodeRefIdeal.nD Cert.DecodeRefIdeal.τ).loc Cert.DecodeRefIdeal.main_v176) = v0 c
          ∧ r.2.mem ((c.tc : Thread Cert.DecodeRefIdeal.nD Cert.DecodeRefIdeal.τ).loc Cert.DecodeRefIdeal.main_arg0) = m' ((c.tc : Thread Cert.DecodeRefIdeal.nD Cert.DecodeRefIdeal.τ).loc Cert.DecodeRefIdeal.main_arg0)
          ∧ r.2.mem ((c.tc : Thread Cert.DecodeRefIdeal.nD Cert.DecodeRefIdeal.τ).loc Cert.DecodeRefIdeal.main_arg1) = m' ((c.tc : Thread Cert.DecodeRefIdeal.nD Cert.DecodeRefIdeal.τ).loc Cert.DecodeRefIdeal.main_arg1)
          ∧ r.2.mem ((c.tc : Thread Cert.DecodeRefIdeal.nD Cert.DecodeRefIdeal.τ).loc Cert.DecodeRefIdeal.main_arg2) = m' ((c.tc : Thread Cert.DecodeRefIdeal.nD Cert.DecodeRefIdeal.τ).loc Cert.DecodeRefIdeal.main_arg2)
          ∧ r.2.mem ((c.tc : Thread Cert.DecodeRefIdeal.nD Cert.DecodeRefIdeal.τ).loc Cert.DecodeRefIdeal.main_arg3) = m' ((c.tc : Thread Cert.DecodeRefIdeal.nD Cert.DecodeRefIdeal.τ).loc Cert.DecodeRefIdeal.main_arg3)
          ∧ r.2.mem ((c.tc : Thread Cert.DecodeRefIdeal.nD Cert.DecodeRefIdeal.τ).loc Cert.DecodeRefIdeal.main_arg4) = m' ((c.tc : Thread Cert.DecodeRefIdeal.nD Cert.DecodeRefIdeal.τ).loc Cert.DecodeRefIdeal.main_arg4))

def preserves_InProj_InProjIdeal : Prop :=
  IdealRules.named_const.Statement Cert.InProjIdeal.κ "q_scale" .f32 0x3E38AA3B#32 (((Real.log 2)⁻¹ * (1 / 8) : ℝ) : EReal)

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v2_0)) (v1 : (c : Dev Cert.InProjIdeal.nD) → Buf (Elt Ideal) ((c.tc : Thread Cert.InProjIdeal.nD Cert.InProjIdeal.τ).loc Cert.InProjIdeal.main_v2_1)) (v2 : (c : Dev Cert.InProjIdeal.nD) → Buf (Elt Ideal) ((c.tc : Thread Cert.InProjIdeal.nD Cert.InProjIdeal.τ).loc Cert.InProjIdeal.main_v2_2)) (v3 : (c : Dev Cert.InProjIdeal.nD) → Buf (Elt Ideal) ((c.tc : Thread Cert.InProjIdeal.nD Cert.InProjIdeal.τ).loc Cert.InProjIdeal.main_v2_3)) (v4 : (c : Dev Cert.InProjIdeal.nD) → Buf (Elt Ideal) ((c.tc : Thread Cert.InProjIdeal.nD Cert.InProjIdeal.τ).loc Cert.InProjIdeal.main_v2_4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2_0) = v0 c
          ∧ r.2.mem ((c.tc : Thread Cert.InProjIdeal.nD Cert.InProjIdeal.τ).loc Cert.InProjIdeal.main_v2_1) = v1 c
          ∧ r.2.mem ((c.tc : Thread Cert.InProjIdeal.nD Cert.InProjIdeal.τ).loc Cert.InProjIdeal.main_v2_2) = v2 c
          ∧ r.2.mem ((c.tc : Thread Cert.InProjIdeal.nD Cert.InProjIdeal.τ).loc Cert.InProjIdeal.main_v2_3) = v3 c
          ∧ r.2.mem ((c.tc : Thread Cert.InProjIdeal.nD Cert.InProjIdeal.τ).loc Cert.InProjIdeal.main_v2_4) = v4 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v25) = v0 c
          ∧ r.2.mem ((c.tc : Thread Cert.InProjRefIdeal.nD Cert.InProjRefIdeal.τ).loc Cert.InProjRefIdeal.main_v27) = v1 c
          ∧ r.2.mem ((c.tc : Thread Cert.InProjRefIdeal.nD Cert.InProjRefIdeal.τ).loc Cert.InProjRefIdeal.main_v29) = v2 c
          ∧ r.2.mem ((c.tc : Thread Cert.InProjRefIdeal.nD Cert.InProjRefIdeal.τ).loc Cert.InProjRefIdeal.main_v17) = v3 c
          ∧ r.2.mem ((c.tc : Thread Cert.InProjRefIdeal.nD Cert.InProjRefIdeal.τ).loc Cert.InProjRefIdeal.main_v18) = v4 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_OutSeq_OutSeqIdeal : Prop :=
  True

def algebraic_OutSeqIdeal_OutSeqRefIdeal [hOutSeqIdeal : Cert.OutSeqIdeal.Facts] [hOutSeqRefIdeal : Cert.OutSeqRefIdeal.Facts] : Prop :=
  ∀ (m : (ℓ : Loc Cert.OutSeqIdeal.nD Cert.OutSeqIdeal.τ Cert.OutSeqIdeal.sig) → Buf (Elt Ideal) ℓ) (g : Dev Cert.OutSeqIdeal.nD → PrngReg)
    (m' : (ℓ : Loc Cert.OutSeqRefIdeal.nD Cert.OutSeqRefIdeal.τ Cert.OutSeqRefIdeal.sig) → Buf (Elt Ideal) ℓ) (g' : Dev Cert.OutSeqRefIdeal.nD → PrngReg), Pre_OutSeqIdeal m →
    (∀ c : Dev Cert.OutSeqIdeal.nD,
      m' ((c.tc : Thread Cert.OutSeqRefIdeal.nD Cert.OutSeqRefIdeal.τ).loc Cert.OutSeqRefIdeal.main_arg0) = m ((c.tc : Thread Cert.OutSeqIdeal.nD Cert.OutSeqIdeal.τ).loc Cert.OutSeqIdeal.main_arg0)
      ∧ m' ((c.tc : Thread Cert.OutSeqRefIdeal.nD Cert.OutSeqRefIdeal.τ).loc Cert.OutSeqRefIdeal.main_arg1) = m ((c.tc : Thread Cert.OutSeqIdeal.nD Cert.OutSeqIdeal.τ).loc Cert.OutSeqIdeal.main_arg1)
      ∧ m' ((c.tc : Thread Cert.OutSeqRefIdeal.nD Cert.OutSeqRefIdeal.τ).loc Cert.OutSeqRefIdeal.main_arg2) = m ((c.tc : Thread Cert.OutSeqIdeal.nD Cert.OutSeqIdeal.τ).loc Cert.OutSeqIdeal.main_arg2)
      ∧ m' ((c.tc : Thread Cert.OutSeqRefIdeal.nD Cert.OutSeqRefIdeal.τ).loc Cert.OutSeqRefIdeal.main_arg3) = m ((c.tc : Thread Cert.OutSeqIdeal.nD Cert.OutSeqIdeal.τ).loc Cert.OutSeqIdeal.main_arg3)
      ∧ m' ((c.tc : Thread Cert.OutSeqRefIdeal.nD Cert.OutSeqRefIdeal.τ).loc Cert.OutSeqRefIdeal.main_arg4) = m ((c.tc : Thread Cert.OutSeqIdeal.nD Cert.OutSeqIdeal.τ).loc Cert.OutSeqIdeal.main_arg4)
      ∧ m' ((c.tc : Thread Cert.OutSeqRefIdeal.nD Cert.OutSeqRefIdeal.τ).loc Cert.OutSeqRefIdeal.main_arg5) = m ((c.tc : Thread Cert.OutSeqIdeal.nD Cert.OutSeqIdeal.τ).loc Cert.OutSeqIdeal.main_arg5)
      ∧ m' ((c.tc : Thread Cert.OutSeqRefIdeal.nD Cert.OutSeqRefIdeal.τ).loc Cert.OutSeqRefIdeal.main_arg6) = m ((c.tc : Thread Cert.OutSeqIdeal.nD Cert.OutSeqIdeal.τ).loc Cert.OutSeqIdeal.main_arg6)
      ∧ m' ((c.tc : Thread Cert.OutSeqRefIdeal.nD Cert.OutSeqRefIdeal.τ).loc Cert.OutSeqRefIdeal.main_arg7) = m ((c.tc : Thread Cert.OutSeqIdeal.nD Cert.OutSeqIdeal.τ).loc Cert.OutSeqIdeal.main_arg7)
      ∧ m' ((c.tc : Thread Cert.OutSeqRefIdeal.nD Cert.OutSeqRefIdeal.τ).loc Cert.OutSeqRefIdeal.main_arg8) = m ((c.tc : Thread Cert.OutSeqIdeal.nD Cert.OutSeqIdeal.τ).loc Cert.OutSeqIdeal.main_arg8)
      ∧ m' ((c.tc : Thread Cert.OutSeqRefIdeal.nD Cert.OutSeqRefIdeal.τ).loc Cert.OutSeqRefIdeal.main_arg9) = m ((c.tc : Thread Cert.OutSeqIdeal.nD Cert.OutSeqIdeal.τ).loc Cert.OutSeqIdeal.main_arg9)
      ∧ m' ((c.tc : Thread Cert.OutSeqRefIdeal.nD Cert.OutSeqRefIdeal.τ).loc Cert.OutSeqRefIdeal.main_arg10) = m ((c.tc : Thread Cert.OutSeqIdeal.nD Cert.OutSeqIdeal.τ).loc Cert.OutSeqIdeal.main_arg10)
      ∧ m' ((c.tc : Thread Cert.OutSeqRefIdeal.nD Cert.OutSeqRefIdeal.τ).loc Cert.OutSeqRefIdeal.main_arg11) = m ((c.tc : Thread Cert.OutSeqIdeal.nD Cert.OutSeqIdeal.τ).loc Cert.OutSeqIdeal.main_arg11)
      ∧ m' ((c.tc : Thread Cert.OutSeqRefIdeal.nD Cert.OutSeqRefIdeal.τ).loc Cert.OutSeqRefIdeal.main_arg12) = m ((c.tc : Thread Cert.OutSeqIdeal.nD Cert.OutSeqIdeal.τ).loc Cert.OutSeqIdeal.main_arg12)
      ∧ m' ((c.tc : Thread Cert.OutSeqRefIdeal.nD Cert.OutSeqRefIdeal.τ).loc Cert.OutSeqRefIdeal.main_arg13) = m ((c.tc : Thread Cert.OutSeqIdeal.nD Cert.OutSeqIdeal.τ).loc Cert.OutSeqIdeal.main_arg13)) →
    ∃ (v0 : (c : Dev Cert.OutSeqIdeal.nD) → Buf (Elt Ideal) ((c.tc : Thread Cert.OutSeqIdeal.nD Cert.OutSeqIdeal.τ).loc Cert.OutSeqIdeal.main_v15_0)) (v1 : (c : Dev Cert.OutSeqIdeal.nD) → Buf (Elt Ideal) ((c.tc : Thread Cert.OutSeqIdeal.nD Cert.OutSeqIdeal.τ).loc Cert.OutSeqIdeal.main_v15_1)) (v2 : (c : Dev Cert.OutSeqIdeal.nD) → Buf (Elt Ideal) ((c.tc : Thread Cert.OutSeqIdeal.nD Cert.OutSeqIdeal.τ).loc Cert.OutSeqIdeal.main_v15_2)),
      θ_run (Cert.OutSeqIdeal.defs (F := Ideal)) (onTc (τ := Cert.OutSeqIdeal.τ) (Cert.OutSeqIdeal.main (F := Ideal))) ⟨m, fun _ => 0, g⟩ (fun r => ∀ c : Dev Cert.OutSeqIdeal.nD,
          r.2.mem ((c.tc : Thread Cert.OutSeqIdeal.nD Cert.OutSeqIdeal.τ).loc Cert.OutSeqIdeal.main_v15_0) = v0 c
          ∧ r.2.mem ((c.tc : Thread Cert.OutSeqIdeal.nD Cert.OutSeqIdeal.τ).loc Cert.OutSeqIdeal.main_v15_1) = v1 c
          ∧ r.2.mem ((c.tc : Thread Cert.OutSeqIdeal.nD Cert.OutSeqIdeal.τ).loc Cert.OutSeqIdeal.main_v15_2) = v2 c
          ∧ r.2.mem ((c.tc : Thread Cert.OutSeqIdeal.nD Cert.OutSeqIdeal.τ).loc Cert.OutSeqIdeal.main_arg0) = m ((c.tc : Thread Cert.OutSeqIdeal.nD Cert.OutSeqIdeal.τ).loc Cert.OutSeqIdeal.main_arg0)
          ∧ r.2.mem ((c.tc : Thread Cert.OutSeqIdeal.nD Cert.OutSeqIdeal.τ).loc Cert.OutSeqIdeal.main_arg1) = m ((c.tc : Thread Cert.OutSeqIdeal.nD Cert.OutSeqIdeal.τ).loc Cert.OutSeqIdeal.main_arg1)
          ∧ r.2.mem ((c.tc : Thread Cert.OutSeqIdeal.nD Cert.OutSeqIdeal.τ).loc Cert.OutSeqIdeal.main_arg2) = m ((c.tc : Thread Cert.OutSeqIdeal.nD Cert.OutSeqIdeal.τ).loc Cert.OutSeqIdeal.main_arg2)
          ∧ r.2.mem ((c.tc : Thread Cert.OutSeqIdeal.nD Cert.OutSeqIdeal.τ).loc Cert.OutSeqIdeal.main_arg3) = m ((c.tc : Thread Cert.OutSeqIdeal.nD Cert.OutSeqIdeal.τ).loc Cert.OutSeqIdeal.main_arg3)
          ∧ r.2.mem ((c.tc : Thread Cert.OutSeqIdeal.nD Cert.OutSeqIdeal.τ).loc Cert.OutSeqIdeal.main_arg4) = m ((c.tc : Thread Cert.OutSeqIdeal.nD Cert.OutSeqIdeal.τ).loc Cert.OutSeqIdeal.main_arg4)
          ∧ r.2.mem ((c.tc : Thread Cert.OutSeqIdeal.nD Cert.OutSeqIdeal.τ).loc Cert.OutSeqIdeal.main_arg5) = m ((c.tc : Thread Cert.OutSeqIdeal.nD Cert.OutSeqIdeal.τ).loc Cert.OutSeqIdeal.main_arg5)
          ∧ r.2.mem ((c.tc : Thread Cert.OutSeqIdeal.nD Cert.OutSeqIdeal.τ).loc Cert.OutSeqIdeal.main_arg6) = m ((c.tc : Thread Cert.OutSeqIdeal.nD Cert.OutSeqIdeal.τ).loc Cert.OutSeqIdeal.main_arg6)
          ∧ r.2.mem ((c.tc : Thread Cert.OutSeqIdeal.nD Cert.OutSeqIdeal.τ).loc Cert.OutSeqIdeal.main_arg7) = m ((c.tc : Thread Cert.OutSeqIdeal.nD Cert.OutSeqIdeal.τ).loc Cert.OutSeqIdeal.main_arg7)
          ∧ r.2.mem ((c.tc : Thread Cert.OutSeqIdeal.nD Cert.OutSeqIdeal.τ).loc Cert.OutSeqIdeal.main_arg8) = m ((c.tc : Thread Cert.OutSeqIdeal.nD Cert.OutSeqIdeal.τ).loc Cert.OutSeqIdeal.main_arg8)
          ∧ r.2.mem ((c.tc : Thread Cert.OutSeqIdeal.nD Cert.OutSeqIdeal.τ).loc Cert.OutSeqIdeal.main_arg9) = m ((c.tc : Thread Cert.OutSeqIdeal.nD Cert.OutSeqIdeal.τ).loc Cert.OutSeqIdeal.main_arg9)
          ∧ r.2.mem ((c.tc : Thread Cert.OutSeqIdeal.nD Cert.OutSeqIdeal.τ).loc Cert.OutSeqIdeal.main_arg10) = m ((c.tc : Thread Cert.OutSeqIdeal.nD Cert.OutSeqIdeal.τ).loc Cert.OutSeqIdeal.main_arg10)
          ∧ r.2.mem ((c.tc : Thread Cert.OutSeqIdeal.nD Cert.OutSeqIdeal.τ).loc Cert.OutSeqIdeal.main_arg11) = m ((c.tc : Thread Cert.OutSeqIdeal.nD Cert.OutSeqIdeal.τ).loc Cert.OutSeqIdeal.main_arg11)
          ∧ r.2.mem ((c.tc : Thread Cert.OutSeqIdeal.nD Cert.OutSeqIdeal.τ).loc Cert.OutSeqIdeal.main_arg12) = m ((c.tc : Thread Cert.OutSeqIdeal.nD Cert.OutSeqIdeal.τ).loc Cert.OutSeqIdeal.main_arg12)
          ∧ r.2.mem ((c.tc : Thread Cert.OutSeqIdeal.nD Cert.OutSeqIdeal.τ).loc Cert.OutSeqIdeal.main_arg13) = m ((c.tc : Thread Cert.OutSeqIdeal.nD Cert.OutSeqIdeal.τ).loc Cert.OutSeqIdeal.main_arg13))
      ∧ θ_run (Cert.OutSeqRefIdeal.defs (F := Ideal)) (onTc (τ := Cert.OutSeqRefIdeal.τ) (Cert.OutSeqRefIdeal.main (F := Ideal))) ⟨m', fun _ => 0, g'⟩ (fun r => ∀ c : Dev Cert.OutSeqRefIdeal.nD,
          r.2.mem ((c.tc : Thread Cert.OutSeqRefIdeal.nD Cert.OutSeqRefIdeal.τ).loc Cert.OutSeqRefIdeal.main_v86) = v0 c
          ∧ r.2.mem ((c.tc : Thread Cert.OutSeqRefIdeal.nD Cert.OutSeqRefIdeal.τ).loc Cert.OutSeqRefIdeal.main_v99) = v1 c
          ∧ r.2.mem ((c.tc : Thread Cert.OutSeqRefIdeal.nD Cert.OutSeqRefIdeal.τ).loc Cert.OutSeqRefIdeal.main_v102) = v2 c
          ∧ r.2.mem ((c.tc : Thread Cert.OutSeqRefIdeal.nD Cert.OutSeqRefIdeal.τ).loc Cert.OutSeqRefIdeal.main_arg0) = m' ((c.tc : Thread Cert.OutSeqRefIdeal.nD Cert.OutSeqRefIdeal.τ).loc Cert.OutSeqRefIdeal.main_arg0)
          ∧ r.2.mem ((c.tc : Thread Cert.OutSeqRefIdeal.nD Cert.OutSeqRefIdeal.τ).loc Cert.OutSeqRefIdeal.main_arg1) = m' ((c.tc : Thread Cert.OutSeqRefIdeal.nD Cert.OutSeqRefIdeal.τ).loc Cert.OutSeqRefIdeal.main_arg1)
          ∧ r.2.mem ((c.tc : Thread Cert.OutSeqRefIdeal.nD Cert.OutSeqRefIdeal.τ).loc Cert.OutSeqRefIdeal.main_arg2) = m' ((c.tc : Thread Cert.OutSeqRefIdeal.nD Cert.OutSeqRefIdeal.τ).loc Cert.OutSeqRefIdeal.main_arg2)
          ∧ r.2.mem ((c.tc : Thread Cert.OutSeqRefIdeal.nD Cert.OutSeqRefIdeal.τ).loc Cert.OutSeqRefIdeal.main_arg3) = m' ((c.tc : Thread Cert.OutSeqRefIdeal.nD Cert.OutSeqRefIdeal.τ).loc Cert.OutSeqRefIdeal.main_arg3)
          ∧ r.2.mem ((c.tc : Thread Cert.OutSeqRefIdeal.nD Cert.OutSeqRefIdeal.τ).loc Cert.OutSeqRefIdeal.main_arg4) = m' ((c.tc : Thread Cert.OutSeqRefIdeal.nD Cert.OutSeqRefIdeal.τ).loc Cert.OutSeqRefIdeal.main_arg4)
          ∧ r.2.mem ((c.tc : Thread Cert.OutSeqRefIdeal.nD Cert.OutSeqRefIdeal.τ).loc Cert.OutSeqRefIdeal.main_arg5) = m' ((c.tc : Thread Cert.OutSeqRefIdeal.nD Cert.OutSeqRefIdeal.τ).loc Cert.OutSeqRefIdeal.main_arg5)
          ∧ r.2.mem ((c.tc : Thread Cert.OutSeqRefIdeal.nD Cert.OutSeqRefIdeal.τ).loc Cert.OutSeqRefIdeal.main_arg6) = m' ((c.tc : Thread Cert.OutSeqRefIdeal.nD Cert.OutSeqRefIdeal.τ).loc Cert.OutSeqRefIdeal.main_arg6)
          ∧ r.2.mem ((c.tc : Thread Cert.OutSeqRefIdeal.nD Cert.OutSeqRefIdeal.τ).loc Cert.OutSeqRefIdeal.main_arg7) = m' ((c.tc : Thread Cert.OutSeqRefIdeal.nD Cert.OutSeqRefIdeal.τ).loc Cert.OutSeqRefIdeal.main_arg7)
          ∧ r.2.mem ((c.tc : Thread Cert.OutSeqRefIdeal.nD Cert.OutSeqRefIdeal.τ).loc Cert.OutSeqRefIdeal.main_arg8) = m' ((c.tc : Thread Cert.OutSeqRefIdeal.nD Cert.OutSeqRefIdeal.τ).loc Cert.OutSeqRefIdeal.main_arg8)
          ∧ r.2.mem ((c.tc : Thread Cert.OutSeqRefIdeal.nD Cert.OutSeqRefIdeal.τ).loc Cert.OutSeqRefIdeal.main_arg9) = m' ((c.tc : Thread Cert.OutSeqRefIdeal.nD Cert.OutSeqRefIdeal.τ).loc Cert.OutSeqRefIdeal.main_arg9)
          ∧ r.2.mem ((c.tc : Thread Cert.OutSeqRefIdeal.nD Cert.OutSeqRefIdeal.τ).loc Cert.OutSeqRefIdeal.main_arg10) = m' ((c.tc : Thread Cert.OutSeqRefIdeal.nD Cert.OutSeqRefIdeal.τ).loc Cert.OutSeqRefIdeal.main_arg10)
          ∧ r.2.mem ((c.tc : Thread Cert.OutSeqRefIdeal.nD Cert.OutSeqRefIdeal.τ).loc Cert.OutSeqRefIdeal.main_arg11) = m' ((c.tc : Thread Cert.OutSeqRefIdeal.nD Cert.OutSeqRefIdeal.τ).loc Cert.OutSeqRefIdeal.main_arg11)
          ∧ r.2.mem ((c.tc : Thread Cert.OutSeqRefIdeal.nD Cert.OutSeqRefIdeal.τ).loc Cert.OutSeqRefIdeal.main_arg12) = m' ((c.tc : Thread Cert.OutSeqRefIdeal.nD Cert.OutSeqRefIdeal.τ).loc Cert.OutSeqRefIdeal.main_arg12)
          ∧ r.2.mem ((c.tc : Thread Cert.OutSeqRefIdeal.nD Cert.OutSeqRefIdeal.τ).loc Cert.OutSeqRefIdeal.main_arg13) = m' ((c.tc : Thread Cert.OutSeqRefIdeal.nD Cert.OutSeqRefIdeal.τ).loc Cert.OutSeqRefIdeal.main_arg13))

def preserves_OutSlab_OutSlabIdeal : Prop :=
  True

def algebraic_OutSlabIdeal_OutSlabRefIdeal [hOutSlabIdeal : Cert.OutSlabIdeal.Facts] [hOutSlabRefIdeal : Cert.OutSlabRefIdeal.Facts] : Prop :=
  ∀ (m : (ℓ : Loc Cert.OutSlabIdeal.nD Cert.OutSlabIdeal.τ Cert.OutSlabIdeal.sig) → Buf (Elt Ideal) ℓ) (g : Dev Cert.OutSlabIdeal.nD → PrngReg)
    (m' : (ℓ : Loc Cert.OutSlabRefIdeal.nD Cert.OutSlabRefIdeal.τ Cert.OutSlabRefIdeal.sig) → Buf (Elt Ideal) ℓ) (g' : Dev Cert.OutSlabRefIdeal.nD → PrngReg), Pre_OutSlabIdeal m →
    (∀ c : Dev Cert.OutSlabIdeal.nD,
      m' ((c.tc : Thread Cert.OutSlabRefIdeal.nD Cert.OutSlabRefIdeal.τ).loc Cert.OutSlabRefIdeal.main_arg0) = m ((c.tc : Thread Cert.OutSlabIdeal.nD Cert.OutSlabIdeal.τ).loc Cert.OutSlabIdeal.main_arg0)
      ∧ m' ((c.tc : Thread Cert.OutSlabRefIdeal.nD Cert.OutSlabRefIdeal.τ).loc Cert.OutSlabRefIdeal.main_arg1) = m ((c.tc : Thread Cert.OutSlabIdeal.nD Cert.OutSlabIdeal.τ).loc Cert.OutSlabIdeal.main_arg1)
      ∧ m' ((c.tc : Thread Cert.OutSlabRefIdeal.nD Cert.OutSlabRefIdeal.τ).loc Cert.OutSlabRefIdeal.main_arg2) = m ((c.tc : Thread Cert.OutSlabIdeal.nD Cert.OutSlabIdeal.τ).loc Cert.OutSlabIdeal.main_arg2)
      ∧ m' ((c.tc : Thread Cert.OutSlabRefIdeal.nD Cert.OutSlabRefIdeal.τ).loc Cert.OutSlabRefIdeal.main_arg3) = m ((c.tc : Thread Cert.OutSlabIdeal.nD Cert.OutSlabIdeal.τ).loc Cert.OutSlabIdeal.main_arg3)
      ∧ m' ((c.tc : Thread Cert.OutSlabRefIdeal.nD Cert.OutSlabRefIdeal.τ).loc Cert.OutSlabRefIdeal.main_arg4) = m ((c.tc : Thread Cert.OutSlabIdeal.nD Cert.OutSlabIdeal.τ).loc Cert.OutSlabIdeal.main_arg4)
      ∧ m' ((c.tc : Thread Cert.OutSlabRefIdeal.nD Cert.OutSlabRefIdeal.τ).loc Cert.OutSlabRefIdeal.main_arg5) = m ((c.tc : Thread Cert.OutSlabIdeal.nD Cert.OutSlabIdeal.τ).loc Cert.OutSlabIdeal.main_arg5)
      ∧ m' ((c.tc : Thread Cert.OutSlabRefIdeal.nD Cert.OutSlabRefIdeal.τ).loc Cert.OutSlabRefIdeal.main_arg6) = m ((c.tc : Thread Cert.OutSlabIdeal.nD Cert.OutSlabIdeal.τ).loc Cert.OutSlabIdeal.main_arg6)
      ∧ m' ((c.tc : Thread Cert.OutSlabRefIdeal.nD Cert.OutSlabRefIdeal.τ).loc Cert.OutSlabRefIdeal.main_arg7) = m ((c.tc : Thread Cert.OutSlabIdeal.nD Cert.OutSlabIdeal.τ).loc Cert.OutSlabIdeal.main_arg7)
      ∧ m' ((c.tc : Thread Cert.OutSlabRefIdeal.nD Cert.OutSlabRefIdeal.τ).loc Cert.OutSlabRefIdeal.main_arg8) = m ((c.tc : Thread Cert.OutSlabIdeal.nD Cert.OutSlabIdeal.τ).loc Cert.OutSlabIdeal.main_arg8)
      ∧ m' ((c.tc : Thread Cert.OutSlabRefIdeal.nD Cert.OutSlabRefIdeal.τ).loc Cert.OutSlabRefIdeal.main_arg9) = m ((c.tc : Thread Cert.OutSlabIdeal.nD Cert.OutSlabIdeal.τ).loc Cert.OutSlabIdeal.main_arg9)
      ∧ m' ((c.tc : Thread Cert.OutSlabRefIdeal.nD Cert.OutSlabRefIdeal.τ).loc Cert.OutSlabRefIdeal.main_arg10) = m ((c.tc : Thread Cert.OutSlabIdeal.nD Cert.OutSlabIdeal.τ).loc Cert.OutSlabIdeal.main_arg10)
      ∧ m' ((c.tc : Thread Cert.OutSlabRefIdeal.nD Cert.OutSlabRefIdeal.τ).loc Cert.OutSlabRefIdeal.main_arg11) = m ((c.tc : Thread Cert.OutSlabIdeal.nD Cert.OutSlabIdeal.τ).loc Cert.OutSlabIdeal.main_arg11)
      ∧ m' ((c.tc : Thread Cert.OutSlabRefIdeal.nD Cert.OutSlabRefIdeal.τ).loc Cert.OutSlabRefIdeal.main_arg12) = m ((c.tc : Thread Cert.OutSlabIdeal.nD Cert.OutSlabIdeal.τ).loc Cert.OutSlabIdeal.main_arg12)
      ∧ m' ((c.tc : Thread Cert.OutSlabRefIdeal.nD Cert.OutSlabRefIdeal.τ).loc Cert.OutSlabRefIdeal.main_arg13) = m ((c.tc : Thread Cert.OutSlabIdeal.nD Cert.OutSlabIdeal.τ).loc Cert.OutSlabIdeal.main_arg13)
      ∧ m' ((c.tc : Thread Cert.OutSlabRefIdeal.nD Cert.OutSlabRefIdeal.τ).loc Cert.OutSlabRefIdeal.main_arg14) = m ((c.tc : Thread Cert.OutSlabIdeal.nD Cert.OutSlabIdeal.τ).loc Cert.OutSlabIdeal.main_arg14)) →
    ∃ (v0 : (c : Dev Cert.OutSlabIdeal.nD) → Buf (Elt Ideal) ((c.tc : Thread Cert.OutSlabIdeal.nD Cert.OutSlabIdeal.τ).loc Cert.OutSlabIdeal.main_v27_0)) (v1 : (c : Dev Cert.OutSlabIdeal.nD) → Buf (Elt Ideal) ((c.tc : Thread Cert.OutSlabIdeal.nD Cert.OutSlabIdeal.τ).loc Cert.OutSlabIdeal.main_v27_1)) (v2 : (c : Dev Cert.OutSlabIdeal.nD) → Buf (Elt Ideal) ((c.tc : Thread Cert.OutSlabIdeal.nD Cert.OutSlabIdeal.τ).loc Cert.OutSlabIdeal.main_v27_2)),
      θ_run (Cert.OutSlabIdeal.defs (F := Ideal)) (onTc (τ := Cert.OutSlabIdeal.τ) (Cert.OutSlabIdeal.main (F := Ideal))) ⟨m, fun _ => 0, g⟩ (fun r => ∀ c : Dev Cert.OutSlabIdeal.nD,
          r.2.mem ((c.tc : Thread Cert.OutSlabIdeal.nD Cert.OutSlabIdeal.τ).loc Cert.OutSlabIdeal.main_v27_0) = v0 c
          ∧ r.2.mem ((c.tc : Thread Cert.OutSlabIdeal.nD Cert.OutSlabIdeal.τ).loc Cert.OutSlabIdeal.main_v27_1) = v1 c
          ∧ r.2.mem ((c.tc : Thread Cert.OutSlabIdeal.nD Cert.OutSlabIdeal.τ).loc Cert.OutSlabIdeal.main_v27_2) = v2 c
          ∧ r.2.mem ((c.tc : Thread Cert.OutSlabIdeal.nD Cert.OutSlabIdeal.τ).loc Cert.OutSlabIdeal.main_arg0) = m ((c.tc : Thread Cert.OutSlabIdeal.nD Cert.OutSlabIdeal.τ).loc Cert.OutSlabIdeal.main_arg0)
          ∧ r.2.mem ((c.tc : Thread Cert.OutSlabIdeal.nD Cert.OutSlabIdeal.τ).loc Cert.OutSlabIdeal.main_arg1) = m ((c.tc : Thread Cert.OutSlabIdeal.nD Cert.OutSlabIdeal.τ).loc Cert.OutSlabIdeal.main_arg1)
          ∧ r.2.mem ((c.tc : Thread Cert.OutSlabIdeal.nD Cert.OutSlabIdeal.τ).loc Cert.OutSlabIdeal.main_arg2) = m ((c.tc : Thread Cert.OutSlabIdeal.nD Cert.OutSlabIdeal.τ).loc Cert.OutSlabIdeal.main_arg2)
          ∧ r.2.mem ((c.tc : Thread Cert.OutSlabIdeal.nD Cert.OutSlabIdeal.τ).loc Cert.OutSlabIdeal.main_arg3) = m ((c.tc : Thread Cert.OutSlabIdeal.nD Cert.OutSlabIdeal.τ).loc Cert.OutSlabIdeal.main_arg3)
          ∧ r.2.mem ((c.tc : Thread Cert.OutSlabIdeal.nD Cert.OutSlabIdeal.τ).loc Cert.OutSlabIdeal.main_arg4) = m ((c.tc : Thread Cert.OutSlabIdeal.nD Cert.OutSlabIdeal.τ).loc Cert.OutSlabIdeal.main_arg4)
          ∧ r.2.mem ((c.tc : Thread Cert.OutSlabIdeal.nD Cert.OutSlabIdeal.τ).loc Cert.OutSlabIdeal.main_arg5) = m ((c.tc : Thread Cert.OutSlabIdeal.nD Cert.OutSlabIdeal.τ).loc Cert.OutSlabIdeal.main_arg5)
          ∧ r.2.mem ((c.tc : Thread Cert.OutSlabIdeal.nD Cert.OutSlabIdeal.τ).loc Cert.OutSlabIdeal.main_arg6) = m ((c.tc : Thread Cert.OutSlabIdeal.nD Cert.OutSlabIdeal.τ).loc Cert.OutSlabIdeal.main_arg6)
          ∧ r.2.mem ((c.tc : Thread Cert.OutSlabIdeal.nD Cert.OutSlabIdeal.τ).loc Cert.OutSlabIdeal.main_arg7) = m ((c.tc : Thread Cert.OutSlabIdeal.nD Cert.OutSlabIdeal.τ).loc Cert.OutSlabIdeal.main_arg7)
          ∧ r.2.mem ((c.tc : Thread Cert.OutSlabIdeal.nD Cert.OutSlabIdeal.τ).loc Cert.OutSlabIdeal.main_arg8) = m ((c.tc : Thread Cert.OutSlabIdeal.nD Cert.OutSlabIdeal.τ).loc Cert.OutSlabIdeal.main_arg8)
          ∧ r.2.mem ((c.tc : Thread Cert.OutSlabIdeal.nD Cert.OutSlabIdeal.τ).loc Cert.OutSlabIdeal.main_arg9) = m ((c.tc : Thread Cert.OutSlabIdeal.nD Cert.OutSlabIdeal.τ).loc Cert.OutSlabIdeal.main_arg9)
          ∧ r.2.mem ((c.tc : Thread Cert.OutSlabIdeal.nD Cert.OutSlabIdeal.τ).loc Cert.OutSlabIdeal.main_arg10) = m ((c.tc : Thread Cert.OutSlabIdeal.nD Cert.OutSlabIdeal.τ).loc Cert.OutSlabIdeal.main_arg10)
          ∧ r.2.mem ((c.tc : Thread Cert.OutSlabIdeal.nD Cert.OutSlabIdeal.τ).loc Cert.OutSlabIdeal.main_arg11) = m ((c.tc : Thread Cert.OutSlabIdeal.nD Cert.OutSlabIdeal.τ).loc Cert.OutSlabIdeal.main_arg11)
          ∧ r.2.mem ((c.tc : Thread Cert.OutSlabIdeal.nD Cert.OutSlabIdeal.τ).loc Cert.OutSlabIdeal.main_arg12) = m ((c.tc : Thread Cert.OutSlabIdeal.nD Cert.OutSlabIdeal.τ).loc Cert.OutSlabIdeal.main_arg12)
          ∧ r.2.mem ((c.tc : Thread Cert.OutSlabIdeal.nD Cert.OutSlabIdeal.τ).loc Cert.OutSlabIdeal.main_arg13) = m ((c.tc : Thread Cert.OutSlabIdeal.nD Cert.OutSlabIdeal.τ).loc Cert.OutSlabIdeal.main_arg13)
          ∧ r.2.mem ((c.tc : Thread Cert.OutSlabIdeal.nD Cert.OutSlabIdeal.τ).loc Cert.OutSlabIdeal.main_arg14) = m ((c.tc : Thread Cert.OutSlabIdeal.nD Cert.OutSlabIdeal.τ).loc Cert.OutSlabIdeal.main_arg14))
      ∧ θ_run (Cert.OutSlabRefIdeal.defs (F := Ideal)) (onTc (τ := Cert.OutSlabRefIdeal.τ) (Cert.OutSlabRefIdeal.main (F := Ideal))) ⟨m', fun _ => 0, g'⟩ (fun r => ∀ c : Dev Cert.OutSlabRefIdeal.nD,
          r.2.mem ((c.tc : Thread Cert.OutSlabRefIdeal.nD Cert.OutSlabRefIdeal.τ).loc Cert.OutSlabRefIdeal.main_v87) = v0 c
          ∧ r.2.mem ((c.tc : Thread Cert.OutSlabRefIdeal.nD Cert.OutSlabRefIdeal.τ).loc Cert.OutSlabRefIdeal.main_v100) = v1 c
          ∧ r.2.mem ((c.tc : Thread Cert.OutSlabRefIdeal.nD Cert.OutSlabRefIdeal.τ).loc Cert.OutSlabRefIdeal.main_v102) = v2 c
          ∧ r.2.mem ((c.tc : Thread Cert.OutSlabRefIdeal.nD Cert.OutSlabRefIdeal.τ).loc Cert.OutSlabRefIdeal.main_arg0) = m' ((c.tc : Thread Cert.OutSlabRefIdeal.nD Cert.OutSlabRefIdeal.τ).loc Cert.OutSlabRefIdeal.main_arg0)
          ∧ r.2.mem ((c.tc : Thread Cert.OutSlabRefIdeal.nD Cert.OutSlabRefIdeal.τ).loc Cert.OutSlabRefIdeal.main_arg1) = m' ((c.tc : Thread Cert.OutSlabRefIdeal.nD Cert.OutSlabRefIdeal.τ).loc Cert.OutSlabRefIdeal.main_arg1)
          ∧ r.2.mem ((c.tc : Thread Cert.OutSlabRefIdeal.nD Cert.OutSlabRefIdeal.τ).loc Cert.OutSlabRefIdeal.main_arg2) = m' ((c.tc : Thread Cert.OutSlabRefIdeal.nD Cert.OutSlabRefIdeal.τ).loc Cert.OutSlabRefIdeal.main_arg2)
          ∧ r.2.mem ((c.tc : Thread Cert.OutSlabRefIdeal.nD Cert.OutSlabRefIdeal.τ).loc Cert.OutSlabRefIdeal.main_arg3) = m' ((c.tc : Thread Cert.OutSlabRefIdeal.nD Cert.OutSlabRefIdeal.τ).loc Cert.OutSlabRefIdeal.main_arg3)
          ∧ r.2.mem ((c.tc : Thread Cert.OutSlabRefIdeal.nD Cert.OutSlabRefIdeal.τ).loc Cert.OutSlabRefIdeal.main_arg4) = m' ((c.tc : Thread Cert.OutSlabRefIdeal.nD Cert.OutSlabRefIdeal.τ).loc Cert.OutSlabRefIdeal.main_arg4)
          ∧ r.2.mem ((c.tc : Thread Cert.OutSlabRefIdeal.nD Cert.OutSlabRefIdeal.τ).loc Cert.OutSlabRefIdeal.main_arg5) = m' ((c.tc : Thread Cert.OutSlabRefIdeal.nD Cert.OutSlabRefIdeal.τ).loc Cert.OutSlabRefIdeal.main_arg5)
          ∧ r.2.mem ((c.tc : Thread Cert.OutSlabRefIdeal.nD Cert.OutSlabRefIdeal.τ).loc Cert.OutSlabRefIdeal.main_arg6) = m' ((c.tc : Thread Cert.OutSlabRefIdeal.nD Cert.OutSlabRefIdeal.τ).loc Cert.OutSlabRefIdeal.main_arg6)
          ∧ r.2.mem ((c.tc : Thread Cert.OutSlabRefIdeal.nD Cert.OutSlabRefIdeal.τ).loc Cert.OutSlabRefIdeal.main_arg7) = m' ((c.tc : Thread Cert.OutSlabRefIdeal.nD Cert.OutSlabRefIdeal.τ).loc Cert.OutSlabRefIdeal.main_arg7)
          ∧ r.2.mem ((c.tc : Thread Cert.OutSlabRefIdeal.nD Cert.OutSlabRefIdeal.τ).loc Cert.OutSlabRefIdeal.main_arg8) = m' ((c.tc : Thread Cert.OutSlabRefIdeal.nD Cert.OutSlabRefIdeal.τ).loc Cert.OutSlabRefIdeal.main_arg8)
          ∧ r.2.mem ((c.tc : Thread Cert.OutSlabRefIdeal.nD Cert.OutSlabRefIdeal.τ).loc Cert.OutSlabRefIdeal.main_arg9) = m' ((c.tc : Thread Cert.OutSlabRefIdeal.nD Cert.OutSlabRefIdeal.τ).loc Cert.OutSlabRefIdeal.main_arg9)
          ∧ r.2.mem ((c.tc : Thread Cert.OutSlabRefIdeal.nD Cert.OutSlabRefIdeal.τ).loc Cert.OutSlabRefIdeal.main_arg10) = m' ((c.tc : Thread Cert.OutSlabRefIdeal.nD Cert.OutSlabRefIdeal.τ).loc Cert.OutSlabRefIdeal.main_arg10)
          ∧ r.2.mem ((c.tc : Thread Cert.OutSlabRefIdeal.nD Cert.OutSlabRefIdeal.τ).loc Cert.OutSlabRefIdeal.main_arg11) = m' ((c.tc : Thread Cert.OutSlabRefIdeal.nD Cert.OutSlabRefIdeal.τ).loc Cert.OutSlabRefIdeal.main_arg11)
          ∧ r.2.mem ((c.tc : Thread Cert.OutSlabRefIdeal.nD Cert.OutSlabRefIdeal.τ).loc Cert.OutSlabRefIdeal.main_arg12) = m' ((c.tc : Thread Cert.OutSlabRefIdeal.nD Cert.OutSlabRefIdeal.τ).loc Cert.OutSlabRefIdeal.main_arg12)
          ∧ r.2.mem ((c.tc : Thread Cert.OutSlabRefIdeal.nD Cert.OutSlabRefIdeal.τ).loc Cert.OutSlabRefIdeal.main_arg13) = m' ((c.tc : Thread Cert.OutSlabRefIdeal.nD Cert.OutSlabRefIdeal.τ).loc Cert.OutSlabRefIdeal.main_arg13)
          ∧ r.2.mem ((c.tc : Thread Cert.OutSlabRefIdeal.nD Cert.OutSlabRefIdeal.τ).loc Cert.OutSlabRefIdeal.main_arg14) = m' ((c.tc : Thread Cert.OutSlabRefIdeal.nD Cert.OutSlabRefIdeal.τ).loc Cert.OutSlabRefIdeal.main_arg14))

def Claim : Prop :=
  ∃ (hDecode : Cert.Decode.Facts) (hDecodeIdeal : Cert.DecodeIdeal.Facts) (hDecodeRefIdeal : Cert.DecodeRefIdeal.Facts) (hInProj : Cert.InProj.Facts) (hInProjIdeal : Cert.InProjIdeal.Facts) (hInProjRefIdeal : Cert.InProjRefIdeal.Facts) (hOutSeq : Cert.OutSeq.Facts) (hOutSeqIdeal : Cert.OutSeqIdeal.Facts) (hOutSeqRefIdeal : Cert.OutSeqRefIdeal.Facts) (hOutSlab : Cert.OutSlab.Facts) (hOutSlabIdeal : Cert.OutSlabIdeal.Facts) (hOutSlabRefIdeal : Cert.OutSlabRefIdeal.Facts) (hPre_finite_keys : Cert.Pre_finite_keys.Facts),
    quiescent_Decode (hDecode := hDecode)
    ∧ quiescent_DecodeIdeal (hDecodeIdeal := hDecodeIdeal)
    ∧ quiescent_DecodeIdeal_pre_finite_keys (hDecodeIdeal := hDecodeIdeal) (hPre_finite_keys := hPre_finite_keys)
    ∧ quiescent_DecodeRefIdeal (hDecodeRefIdeal := hDecodeRefIdeal)
    ∧ quiescent_DecodeRefIdeal_pre_finite_keys (hDecodeRefIdeal := hDecodeRefIdeal) (hPre_finite_keys := hPre_finite_keys)
    ∧ quiescent_InProj (hInProj := hInProj)
    ∧ quiescent_InProjIdeal (hInProjIdeal := hInProjIdeal)
    ∧ quiescent_InProjRefIdeal (hInProjRefIdeal := hInProjRefIdeal)
    ∧ quiescent_OutSeq (hOutSeq := hOutSeq)
    ∧ quiescent_OutSeqIdeal (hOutSeqIdeal := hOutSeqIdeal)
    ∧ quiescent_OutSeqRefIdeal (hOutSeqRefIdeal := hOutSeqRefIdeal)
    ∧ quiescent_OutSlab (hOutSlab := hOutSlab)
    ∧ quiescent_OutSlabIdeal (hOutSlabIdeal := hOutSlabIdeal)
    ∧ quiescent_OutSlabRefIdeal (hOutSlabRefIdeal := hOutSlabRefIdeal)
    ∧ preserves_Decode_DecodeIdeal
    ∧ algebraic_DecodeIdeal_DecodeRefIdeal_pre_finite_keys (hDecodeIdeal := hDecodeIdeal) (hDecodeRefIdeal := hDecodeRefIdeal) (hPre_finite_keys := hPre_finite_keys)
    ∧ preserves_InProj_InProjIdeal
    ∧ algebraic_InProjIdeal_InProjRefIdeal (hInProjIdeal := hInProjIdeal) (hInProjRefIdeal := hInProjRefIdeal)
    ∧ preserves_OutSeq_OutSeqIdeal
    ∧ algebraic_OutSeqIdeal_OutSeqRefIdeal (hOutSeqIdeal := hOutSeqIdeal) (hOutSeqRefIdeal := hOutSeqRefIdeal)
    ∧ preserves_OutSlab_OutSlabIdeal
    ∧ algebraic_OutSlabIdeal_OutSlabRefIdeal (hOutSlabIdeal := hOutSlabIdeal) (hOutSlabRefIdeal := hOutSlabRefIdeal)
-- ==== Pre_finite_keys.lean ====
abbrev S32x8x8x64 : Shape := ⟨4, ![32, 8, 8, 64]⟩
abbrev S2x32x2048x8x64 : Shape := ⟨5, ![2, 32, 2048, 8, 64]⟩
abbrev S_ : Shape := ⟨0, ![]⟩

class Facts : Prop where
  bcast_S_S32x8x8x64 : S_.BroadcastsInDim S32x8x8x64 (![] : Fin 0 → Fin S32x8x8x64.rank)
  bcast_S_S2x32x2048x8x64 : S_.BroadcastsInDim S2x32x2048x8x64 (![] : Fin 0 → Fin S2x32x2048x8x64.rank)

variable [Facts]

def fn {F : FTy → Type} [FloatOps F] (main_arg0 : FVec F S32x8x8x64 .f32) (main_arg1 : FVec F S32x8x8x64 .f32) (main_arg2 : FVec F S32x8x8x64 .f32) (main_arg3 : FVec F S2x32x2048x8x64 .f32) (main_arg4 : FVec F S2x32x2048x8x64 .f32) : IVec S32x8x8x64 1 × IVec S32x8x8x64 1 × IVec S2x32x2048x8x64 1 :=
  let main_v0 : FVec F S32x8x8x64 .f32 := Host.absf main_arg0
  let main_cst : FVec F S_ .f32 := constant S_ .f32 0x7F800000#32
  let main_v1 : FVec F S32x8x8x64 .f32 := broadcastInDim S32x8x8x64 ![] bcast_S_S32x8x8x64 main_cst
  let main_v2 : IVec S32x8x8x64 1 := cmpf .olt main_v0 main_v1
  let main_v3 : FVec F S32x8x8x64 .f32 := Host.absf main_arg1
  let main_cst_0 : FVec F S_ .f32 := constant S_ .f32 0x7F800000#32
  let main_v4 : FVec F S32x8x8x64 .f32 := broadcastInDim S32x8x8x64 ![] bcast_S_S32x8x8x64 main_cst_0
  let main_v5 : IVec S32x8x8x64 1 := cmpf .olt main_v3 main_v4
  let main_v6 : FVec F S2x32x2048x8x64 .f32 := Host.absf main_arg3
  let main_cst_1 : FVec F S_ .f32 := constant S_ .f32 0x7F800000#32
  let main_v7 : FVec F S2x32x2048x8x64 .f32 := broadcastInDim S2x32x2048x8x64 ![] bcast_S_S2x32x2048x8x64 main_cst_1
  let main_v8 : IVec S2x32x2048x8x64 1 := cmpf .olt main_v6 main_v7
  (main_v2, main_v5, main_v8)
-- ==== Decode.lean ====
abbrev S32x8x8x64 : Shape := ⟨4, ![32, 8, 8, 64]⟩
abbrev S2x32x2048x8x64 : Shape := ⟨5, ![2, 32, 2048, 8, 64]⟩
abbrev S8x2048 : Shape := ⟨2, ![8, 2048]⟩
abbrev S8x128 : Shape := ⟨2, ![8, 128]⟩
abbrev S2x32x8x64x2048 : Shape := ⟨5, ![2, 32, 8, 64, 2048]⟩
abbrev S256x4x128 : Shape := ⟨3, ![256, 4, 128]⟩
abbrev S4x256x128 : Shape := ⟨3, ![4, 256, 128]⟩
abbrev S256x512 : Shape := ⟨2, ![256, 512]⟩
abbrev S4x8x128 : Shape := ⟨3, ![4, 8, 128]⟩
abbrev S1x1x8x64x2048 : Shape := ⟨5, ![1, 1, 8, 64, 2048]⟩
abbrev S8x512 : Shape := ⟨2, ![8, 512]⟩
abbrev S120x128 : Shape := ⟨2, ![120, 128]⟩
abbrev S1x8x128 : Shape := ⟨3, ![1, 8, 128]⟩
abbrev S128x128 : Shape := ⟨2, ![128, 128]⟩
abbrev S8x64 : Shape := ⟨2, ![8, 64]⟩
abbrev S1x1x1x64x2048 : Shape := ⟨5, ![1, 1, 1, 64, 2048]⟩
abbrev S64x2048 : Shape := ⟨2, ![64, 2048]⟩
abbrev S128x64 : Shape := ⟨2, ![128, 64]⟩
abbrev S8 : Shape := ⟨1, ![8]⟩
abbrev S8x1 : Shape := ⟨2, ![8, 1]⟩

abbrev nBuf : Space → Nat
  | .hbm => 16
  | .vmem => 14
  | .smem => 0
  | _ => 0

abbrev bufTy : (tb : Table) → Fin (tcTables nBuf tb) → BufTy
  | .hbm, ⟨0, _⟩ => ⟨S32x8x8x64, .f32⟩
  | .hbm, ⟨1, _⟩ => ⟨S32x8x8x64, .f32⟩
  | .hbm, ⟨2, _⟩ => ⟨S32x8x8x64, .f32⟩
  | .hbm, ⟨3, _⟩ => ⟨S2x32x2048x8x64, .f32⟩
  | .hbm, ⟨4, _⟩ => ⟨S2x32x2048x8x64, .f32⟩
  | .hbm, ⟨5, _⟩ => ⟨S8x2048, .f32⟩
  | .hbm, ⟨6, _⟩ => ⟨S8x128, .f32⟩
  | .hbm, ⟨7, _⟩ => ⟨S2x32x8x64x2048, .f32⟩
  | .hbm, ⟨8, _⟩ => ⟨S2x32x8x64x2048, .f32⟩
  | .hbm, ⟨9, _⟩ => ⟨S256x4x128, .f32⟩
  | .hbm, ⟨10, _⟩ => ⟨S4x256x128, .f32⟩
  | .hbm, ⟨11, _⟩ => ⟨S256x4x128, .f32⟩
  | .hbm, ⟨12, _⟩ => ⟨S4x256x128, .f32⟩
  | .hbm, ⟨13, _⟩ => ⟨S256x4x128, .f32⟩
  | .hbm, ⟨14, _⟩ => ⟨S4x256x128, .f32⟩
  | .hbm, ⟨15, _⟩ => ⟨S256x512, .f32⟩
  | .local _ .vmem, ⟨0, _⟩ => ⟨S4x8x128, .f32⟩
  | .local _ .vmem, ⟨1, _⟩ => ⟨S4x8x128, .f32⟩
  | .local _ .vmem, ⟨2, _⟩ => ⟨S4x8x128, .f32⟩
  | .local _ .vmem, ⟨3, _⟩ => ⟨S4x8x128, .f32⟩
  | .local _ .vmem, ⟨4, _⟩ => ⟨S4x8x128, .f32⟩
  | .local _ .vmem, ⟨5, _⟩ => ⟨S4x8x128, .f32⟩
  | .local _ .vmem, ⟨6, _⟩ => ⟨S1x1x8x64x2048, .f32⟩
  | .local _ .vmem, ⟨7, _⟩ => ⟨S1x1x8x64x2048, .f32⟩
  | .local _ .vmem, ⟨8, _⟩ => ⟨S1x1x8x64x2048, .f32⟩
  | .local _ .vmem, ⟨9, _⟩ => ⟨S1x1x8x64x2048, .f32⟩
  | .local _ .vmem, ⟨10, _⟩ => ⟨S8x2048, .f32⟩
  | .local _ .vmem, ⟨11, _⟩ => ⟨S8x128, .f32⟩
  | .local _ .vmem, ⟨12, _⟩ => ⟨S8x512, .f32⟩
  | .local _ .vmem, ⟨13, _⟩ => ⟨S8x512, .f32⟩
  | _, _ => ⟨S32x8x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_4 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x8x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x8x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== DecodeRefIdeal.lean ====
abbrev S32x8x8x64 : Shape := ⟨4, ![32, 8, 8, 64]⟩
abbrev S2x32x2048x8x64 : Shape := ⟨5, ![2, 32, 2048, 8, 64]⟩
abbrev S1x32x2048x8x64 : Shape := ⟨5, ![1, 32, 2048, 8, 64]⟩
abbrev S32x2048x8x64 : Shape := ⟨4, ![32, 2048, 8, 64]⟩
abbrev S32x2056x8x64 : Shape := ⟨4, ![32, 2056, 8, 64]⟩
abbrev S8 : Shape := ⟨1, ![8]⟩
abbrev S8x1 : Shape := ⟨2, ![8, 1]⟩
abbrev S_ : Shape := ⟨0, ![]⟩
abbrev S129 : Shape := ⟨1, ![129]⟩
abbrev S1x129 : Shape := ⟨2, ![1, 129]⟩
abbrev S8x129 : Shape := ⟨2, ![8, 129]⟩
abbrev S8x129x1 : Shape := ⟨3, ![8, 129, 1]⟩
abbrev S32x8x129x8x64 : Shape := ⟨5, ![32, 8, 129, 8, 64]⟩
abbrev S32x8x8x129 : Shape := ⟨4, ![32, 8, 8, 129]⟩
abbrev S1x1x8x129 : Shape := ⟨4, ![1, 1, 8, 129]⟩
abbrev S32x8x8 : Shape := ⟨3, ![32, 8, 8]⟩
abbrev S32x8x8x1 : Shape := ⟨4, ![32, 8, 8, 1]⟩
abbrev S1x32x8x8 : Shape := ⟨4, ![1, 32, 8, 8]⟩
abbrev S3x32x8x8 : Shape := ⟨4, ![3, 32, 8, 8]⟩
abbrev S1x32x8x8x64 : Shape := ⟨5, ![1, 32, 8, 8, 64]⟩
abbrev S3x32x8x8x64 : Shape := ⟨5, ![3, 32, 8, 8, 64]⟩
abbrev S256x512 : Shape := ⟨2, ![256, 512]⟩

abbrev nBuf : Space → Nat
  | .hbm => 230
  | .vmem => 0
  | .smem => 0
  | _ => 0

abbrev hbmTy0_0 (i : Nat) : BufTy := match i % 128 with
  | 0 => ⟨S32x8x8x64, .f32⟩
  | 1 => ⟨S32x8x8x64, .f32⟩
  | 2 => ⟨S32x8x8x64, .f32⟩
  | 3 => ⟨S2x32x2048x8x64, .f32⟩
  | 4 => ⟨S2x32x2048x8x64, .f32⟩
  | 5 => ⟨S1x32x2048x8x64, .f32⟩
  | 6 => ⟨S32x2048x8x64, .f32⟩
  | 7 => ⟨S32x2056x8x64, .f32⟩
  | 8 => ⟨S1x32x2048x8x64, .f32⟩
  | 9 => ⟨S32x2048x8x64, .f32⟩
  | 10 => ⟨S32x2056x8x64, .f32⟩
  | 11 => ⟨S8, .i32⟩
  | 12 => ⟨S8x1, .i32⟩
  | 13 => ⟨S_, .i32⟩
  | 14 => ⟨S8x1, .i32⟩
  | 15 => ⟨S8x1, .i32⟩
  | 16 => ⟨S129, .i32⟩
  | 17 => ⟨S1x129, .i32⟩
  | 18 => ⟨S_, .i32⟩
  | 19 => ⟨S1x129, .i32⟩
  | 20 => ⟨S1x129, .i32⟩
  | 21 => ⟨S8x129, .i32⟩
  | 22 => ⟨S8x129, .i32⟩
  | 23 => ⟨S8x129, .i32⟩
  | 24 => ⟨S_, .i32⟩
  | 25 => ⟨S8x129, .i32⟩
  | 26 => ⟨S8x129, .i1⟩
  | 27 => ⟨S_, .i32⟩
  | 28 => ⟨S8x129, .i32⟩
  | 29 => ⟨S8x129, .i32⟩
  | 30 => ⟨S_, .i32⟩
  | 31 => ⟨S8x129, .i32⟩
  | 32 => ⟨S8x129, .i1⟩
  | 33 => ⟨S_, .i32⟩
  | 34 => ⟨S8x129, .i32⟩
  | 35 => ⟨S8x129, .i32⟩
  | 36 => ⟨S8x129, .i32⟩
  | 37 => ⟨S8x129x1, .i32⟩
  | 38 => ⟨S32x8x129x8x64, .f32⟩
  | 39 => ⟨S_, .i32⟩
  | 40 => ⟨S8x129, .i32⟩
  | 41 => ⟨S8x129, .i1⟩
  | 42 => ⟨S_, .i32⟩
  | 43 => ⟨S8x129, .i32⟩
  | 44 => ⟨S8x129, .i32⟩
  | 45 => ⟨S8x129, .i32⟩
  | 46 => ⟨S8x129x1, .i32⟩
  | 47 => ⟨S32x8x129x8x64, .f32⟩
  | 48 => ⟨S32x8x8x129, .f32⟩
  | 49 => ⟨S_, .f32⟩
  | 50 => ⟨S_, .f32⟩
  | 51 => ⟨S32x8x8x129, .f32⟩
  | 52 => ⟨S32x8x8x129, .f32⟩
  | 53 => ⟨S1x1x8x129, .i1⟩
  | 54 => ⟨S_, .f32⟩
  | 55 => ⟨S_, .f32⟩
  | 56 => ⟨S32x8x8x129, .i1⟩
  | 57 => ⟨S32x8x8x129, .f32⟩
  | 58 => ⟨S32x8x8x129, .f32⟩
  | 59 => ⟨S_, .f32⟩
  | 60 => ⟨S32x8x8, .f32⟩
  | 61 => ⟨S32x8x8x1, .f32⟩
  | 62 => ⟨S32x8x8x129, .f32⟩
  | 63 => ⟨S32x8x8x129, .f32⟩
  | 64 => ⟨S32x8x8x129, .f32⟩
  | 65 => ⟨S_, .f32⟩
  | 66 => ⟨S32x8x8, .f32⟩
  | 67 => ⟨S32x8x8x64, .f32⟩
  | 68 => ⟨S32x8x8, .f32⟩
  | 69 => ⟨S32x8x8x1, .f32⟩
  | 70 => ⟨S32x8x8x64, .f32⟩
  | 71 => ⟨S32x8x8x64, .f32⟩
  | 72 => ⟨S32x8x8, .f32⟩
  | 73 => ⟨S32x8x8, .f32⟩
  | 74 => ⟨S32x8x8, .f32⟩
  | 75 => ⟨S32x8x8, .f32⟩
  | 76 => ⟨S8, .i32⟩
  | 77 => ⟨S8x1, .i32⟩
  | 78 => ⟨S_, .i32⟩
  | 79 => ⟨S8x1, .i32⟩
  | 80 => ⟨S8x1, .i32⟩
  | 81 => ⟨S129, .i32⟩
  | 82 => ⟨S1x129, .i32⟩
  | 83 => ⟨S_, .i32⟩
  | 84 => ⟨S1x129, .i32⟩
  | 85 => ⟨S1x129, .i32⟩
  | 86 => ⟨S8x129, .i32⟩
  | 87 => ⟨S8x129, .i32⟩
  | 88 => ⟨S8x129, .i32⟩
  | 89 => ⟨S_, .i32⟩
  | 90 => ⟨S8x129, .i32⟩
  | 91 => ⟨S8x129, .i1⟩
  | 92 => ⟨S_, .i32⟩
  | 93 => ⟨S8x129, .i32⟩
  | 94 => ⟨S8x129, .i32⟩
  | 95 => ⟨S_, .i32⟩
  | 96 => ⟨S8x129, .i32⟩
  | 97 => ⟨S8x129, .i1⟩
  | 98 => ⟨S_, .i32⟩
  | 99 => ⟨S8x129, .i32⟩
  | 100 => ⟨S8x129, .i32⟩
  | 101 => ⟨S8x129, .i32⟩
  | 102 => ⟨S8x129x1, .i32⟩
  | 103 => ⟨S32x8x129x8x64, .f32⟩
  | 104 => ⟨S_, .i32⟩
  | 105 => ⟨S8x129, .i32⟩
  | 106 => ⟨S8x129, .i1⟩
  | 107 => ⟨S_, .i32⟩
  | 108 => ⟨S8x129, .i32⟩
  | 109 => ⟨S8x129, .i32⟩
  | 110 => ⟨S8x129, .i32⟩
  | 111 => ⟨S8x129x1, .i32⟩
  | 112 => ⟨S32x8x129x8x64, .f32⟩
  | 113 => ⟨S32x8x8x129, .f32⟩
  | 114 => ⟨S_, .f32⟩
  | 115 => ⟨S_, .f32⟩
  | 116 => ⟨S32x8x8x129, .f32⟩
  | 117 => ⟨S32x8x8x129, .f32⟩
  | 118 => ⟨S1x1x8x129, .i1⟩
  | 119 => ⟨S_, .f32⟩
  | 120 => ⟨S_, .f32⟩
  | 121 => ⟨S32x8x8x129, .i1⟩
  | 122 => ⟨S32x8x8x129, .f32⟩
  | 123 => ⟨S32x8x8x129, .f32⟩
  | 124 => ⟨S_, .f32⟩
  | 125 => ⟨S32x8x8, .f32⟩
  | 126 => ⟨S32x8x8x1, .f32⟩
  | 127 => ⟨S32x8x8x129, .f32⟩
  | _ => ⟨S32x8x8x64, .f32⟩

abbrev hbmTy0_1 (i : Nat) : BufTy := match i % 128 with
  | 0 => ⟨S32x8x8x129, .f32⟩
  | 1 => ⟨S32x8x8x129, .f32⟩
  | 2 => ⟨S_, .f32⟩
  | 3 => ⟨S32x8x8, .f32⟩
  | 4 => ⟨S32x8x8x64, .f32⟩
  | 5 => ⟨S32x8x8, .f32⟩
  | 6 => ⟨S32x8x8x1, .f32⟩
  | 7 => ⟨S32x8x8x64, .f32⟩
  | 8 => ⟨S32x8x8x64, .f32⟩
  | 9 => ⟨S32x8x8, .f32⟩
  | 10 => ⟨S32x8x8, .f32⟩
  | 11 => ⟨S32x8x8, .f32⟩
  | 12 => ⟨S32x8x8, .f32⟩
  | 13 => ⟨S8, .i32⟩
  | 14 => ⟨S8x1, .i32⟩
  | 15 => ⟨S_, .i32⟩
  | 16 => ⟨S8x1, .i32⟩
  | 17 => ⟨S8x1, .i32⟩
  | 18 => ⟨S129, .i32⟩
  | 19 => ⟨S1x129, .i32⟩
  | 20 => ⟨S_, .i32⟩
  | 21 => ⟨S1x129, .i32⟩
  | 22 => ⟨S1x129, .i32⟩
  | 23 => ⟨S8x129, .i32⟩
  | 24 => ⟨S8x129, .i32⟩
  | 25 => ⟨S8x129, .i32⟩
  | 26 => ⟨S_, .i32⟩
  | 27 => ⟨S8x129, .i32⟩
  | 28 => ⟨S8x129, .i1⟩
  | 29 => ⟨S_, .i32⟩
  | 30 => ⟨S8x129, .i32⟩
  | 31 => ⟨S8x129, .i32⟩
  | 32 => ⟨S_, .i32⟩
  | 33 => ⟨S8x129, .i32⟩
  | 34 => ⟨S8x129, .i1⟩
  | 35 => ⟨S_, .i32⟩
  | 36 => ⟨S8x129, .i32⟩
  | 37 => ⟨S8x129, .i32⟩
  | 38 => ⟨S8x129, .i32⟩
  | 39 => ⟨S8x129x1, .i32⟩
  | 40 => ⟨S32x8x129x8x64, .f32⟩
  | 41 => ⟨S_, .i32⟩
  | 42 => ⟨S8x129, .i32⟩
  | 43 => ⟨S8x129, .i1⟩
  | 44 => ⟨S_, .i32⟩
  | 45 => ⟨S8x129, .i32⟩
  | 46 => ⟨S8x129, .i32⟩
  | 47 => ⟨S8x129, .i32⟩
  | 48 => ⟨S8x129x1, .i32⟩
  | 49 => ⟨S32x8x129x8x64, .f32⟩
  | 50 => ⟨S32x8x8x129, .f32⟩
  | 51 => ⟨S_, .f32⟩
  | 52 => ⟨S_, .f32⟩
  | 53 => ⟨S32x8x8x129, .f32⟩
  | 54 => ⟨S32x8x8x129, .f32⟩
  | 55 => ⟨S1x1x8x129, .i1⟩
  | 56 => ⟨S_, .f32⟩
  | 57 => ⟨S_, .f32⟩
  | 58 => ⟨S32x8x8x129, .i1⟩
  | 59 => ⟨S32x8x8x129, .f32⟩
  | 60 => ⟨S32x8x8x129, .f32⟩
  | 61 => ⟨S_, .f32⟩
  | 62 => ⟨S32x8x8, .f32⟩
  | 63 => ⟨S32x8x8x1, .f32⟩
  | 64 => ⟨S32x8x8x129, .f32⟩
  | 65 => ⟨S32x8x8x129, .f32⟩
  | 66 => ⟨S32x8x8x129, .f32⟩
  | 67 => ⟨S_, .f32⟩
  | 68 => ⟨S32x8x8, .f32⟩
  | 69 => ⟨S32x8x8x64, .f32⟩
  | 70 => ⟨S32x8x8, .f32⟩
  | 71 => ⟨S32x8x8x1, .f32⟩
  | 72 => ⟨S32x8x8x64, .f32⟩
  | 73 => ⟨S32x8x8x64, .f32⟩
  | 74 => ⟨S32x8x8, .f32⟩
  | 75 => ⟨S32x8x8, .f32⟩
  | 76 => ⟨S32x8x8, .f32⟩
  | 77 => ⟨S32x8x8, .f32⟩
  | 78 => ⟨S1x32x8x8, .f32⟩
  | 79 => ⟨S1x32x8x8, .f32⟩
  | 80 => ⟨S1x32x8x8, .f32⟩
  | 81 => ⟨S3x32x8x8, .f32⟩
  | 82 => ⟨S_, .f32⟩
  | 83 => ⟨S32x8x8, .f32⟩
  | 84 => ⟨S_, .f32⟩
  | 85 => ⟨S32x8x8, .f32⟩
  | 86 => ⟨S32x8x8, .f32⟩
  | 87 => ⟨S1x32x8x8, .f32⟩
  | 88 => ⟨S3x32x8x8, .f32⟩
  | 89 => ⟨S3x32x8x8, .f32⟩
  | 90 => ⟨S3x32x8x8, .f32⟩
  | 91 => ⟨S_, .f32⟩
  | 92 => ⟨S32x8x8, .f32⟩
  | 93 => ⟨S1x32x8x8, .f32⟩
  | 94 => ⟨S3x32x8x8, .f32⟩
  | 95 => ⟨S3x32x8x8, .f32⟩
  | 96 => ⟨S1x32x8x8x64, .f32⟩
  | 97 => ⟨S1x32x8x8x64, .f32⟩
  | 98 => ⟨S1x32x8x8x64, .f32⟩
  | 99 => ⟨S3x32x8x8x64, .f32⟩
  | 100 => ⟨S32x8x8x64, .f32⟩
  | 101 => ⟨S256x512, .f32⟩
  | _ => ⟨S32x8x8x64, .f32⟩

abbrev hbmTy (i : Nat) : BufTy := match i / 128 with
  | 0 => hbmTy0_0 i
  | 1 => hbmTy0_1 i
  | _ => ⟨S32x8x8x64, .f32⟩

abbrev bufTy : (tb : Table) → Fin (tcTables nBuf tb) → BufTy
  | .hbm, ⟨i, _⟩ => hbmTy i
  | _, _ => ⟨S32x8x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_5 : Ref sig .tc := ⟨.hbm, 39, rfl⟩
abbrev main_v28 : Ref sig .tc := ⟨.hbm, 40, rfl⟩
abbrev main_v29 : Ref sig .tc := ⟨.hbm, 41, rfl⟩
abbrev main_c_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_c_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_c_11 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_c_12 : Ref sig .tc := ⟨.hbm, 89, rfl⟩
abbrev main_v67 : Ref sig .tc := ⟨.hbm, 90, rfl⟩
abbrev main_v68 : Ref sig .tc := ⟨.hbm, 91, rfl⟩
abbrev main_c_13 : Ref sig .tc := ⟨.hbm, 92, rfl⟩
abbrev main_v69 : Ref sig .tc := ⟨.hbm, 93, rfl⟩
abbrev main_v70 : Ref sig .tc := ⟨.hbm, 94, rfl⟩
abbrev main_c_14 : Ref sig .tc := ⟨.hbm, 95, rfl⟩
abbrev main_v71 : Ref sig .tc := ⟨.hbm, 96, rfl⟩
abbrev main_v72 : Ref sig .tc := ⟨.hbm, 97, rfl⟩
abbrev main_c_15 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_c_16 : Ref sig .tc := ⟨.hbm, 104, rfl⟩
abbrev main_v78 : Ref sig .tc := ⟨.hbm, 105, rfl⟩
abbrev main_v79 : Ref sig .tc := ⟨.hbm, 106, rfl⟩
abbrev main_c_17 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_18 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_19 : Ref sig .tc := ⟨.hbm, 119, rfl⟩
abbrev main_call1_v0 : Ref sig .tc := ⟨.hbm, 120, rfl⟩
abbrev main_call1_v1 : Ref sig .tc := ⟨.hbm, 121, rfl⟩
abbrev main_call1_v2 : Ref sig .tc := ⟨.hbm, 122, rfl⟩
abbrev main_v90 : Ref sig .tc := ⟨.hbm, 123, rfl⟩
abbrev main_cst_20 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_cst_21 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_c_22 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_c_23 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_c_24 : Ref sig .tc := ⟨.hbm, 154, rfl⟩
abbrev main_v117 : Ref sig .tc := ⟨.hbm, 155, rfl⟩
abbrev main_v118 : Ref sig .tc := ⟨.hbm, 156, rfl⟩
abbrev main_c_25 : Ref sig .tc := ⟨.hbm, 157, rfl⟩
abbrev main_v119 : Ref sig .tc := ⟨.hbm, 158, rfl⟩
abbrev main_v120 : Ref sig .tc := ⟨.hbm, 159, rfl⟩
abbrev main_c_26 : Ref sig .tc := ⟨.hbm, 160, rfl⟩
abbrev main_v121 : Ref sig .tc := ⟨.hbm, 161, rfl⟩
abbrev main_v122 : Ref sig .tc := ⟨.hbm, 162, rfl⟩
abbrev main_c_27 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_c_28 : Ref sig .tc := ⟨.hbm, 169, rfl⟩
abbrev main_v128 : Ref sig .tc := ⟨.hbm, 170, rfl⟩
abbrev main_v129 : Ref sig .tc := ⟨.hbm, 171, rfl⟩
abbrev main_c_29 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_cst_30 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_cst_31 : Ref sig .tc := ⟨.hbm, 184, rfl⟩
abbrev main_call2_v0 : Ref sig .tc := ⟨.hbm, 185, rfl⟩
abbrev main_call2_v1 : Ref sig .tc := ⟨.hbm, 186, rfl⟩
abbrev main_call2_v2 : Ref sig .tc := ⟨.hbm, 187, rfl⟩
abbrev main_v140 : Ref sig .tc := ⟨.hbm, 188, rfl⟩
abbrev main_cst_32 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_cst_33 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_cst_34 : Ref sig .tc := ⟨.hbm, 210, rfl⟩
abbrev main_v160 : Ref sig .tc := ⟨.hbm, 211, rfl⟩
abbrev main_cst_35 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_cst_36 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩

abbrev nD : Nat := 1
abbrev τ : Topo := Topo.v7x

variable {F : FTy → Type} [FloatOps F]
-- ==== InProj.lean ====
abbrev S16384x1024 : Shape := ⟨2, ![16384, 1024]⟩
abbrev S1024 : Shape := ⟨1, ![1024]⟩
abbrev S1024x2048 : Shape := ⟨2, ![1024, 2048]⟩
abbrev S1x1024 : Shape := ⟨2, ![1, 1024]⟩
abbrev S4x16384x128 : Shape := ⟨3, ![4, 16384, 128]⟩
abbrev S16384x256 : Shape := ⟨2, ![16384, 256]⟩
abbrev S512x1024 : Shape := ⟨2, ![512, 1024]⟩
abbrev S4x512x128 : Shape := ⟨3, ![4, 512, 128]⟩
abbrev S512x256 : Shape := ⟨2, ![512, 256]⟩
abbrev S512 : Shape := ⟨1, ![512]⟩
abbrev S512x1 : Shape := ⟨2, ![512, 1]⟩
abbrev S512x2048 : Shape := ⟨2, ![512, 2048]⟩
abbrev S512x128 : Shape := ⟨2, ![512, 128]⟩
abbrev S1x512x128 : Shape := ⟨3, ![1, 512, 128]⟩

abbrev nBuf : Space → Nat
  | .hbm => 10
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2048, .f32⟩
  | .hbm, ⟨3, _⟩ => ⟨S1x1024, .f32⟩
  | .hbm, ⟨4, _⟩ => ⟨S1024x2048, .bf16⟩
  | .hbm, ⟨5, _⟩ => ⟨S4x16384x128, .f32⟩
  | .hbm, ⟨6, _⟩ => ⟨S4x16384x128, .f32⟩
  | .hbm, ⟨7, _⟩ => ⟨S4x16384x128, .f32⟩
  | .hbm, ⟨8, _⟩ => ⟨S16384x256, .f32⟩
  | .hbm, ⟨9, _⟩ => ⟨S16384x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S4x512x128, .f32⟩
  | .local _ .vmem, ⟨5, _⟩ => ⟨S4x512x128, .f32⟩
  | .local _ .vmem, ⟨6, _⟩ => ⟨S4x512x128, .f32⟩
  | .local _ .vmem, ⟨7, _⟩ => ⟨S4x512x128, .f32⟩
  | .local _ .vmem, ⟨8, _⟩ => ⟨S4x512x128, .f32⟩
  | .local _ .vmem, ⟨9, _⟩ => ⟨S4x512x128, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InProjIdeal.lean ====
variable {F : FTy → Type} [FloatOps F] [Named F]
def κ : String → Option EReal := fun
  | "q_scale" => some (((Real.log 2)⁻¹ * (1 / 8) : ℝ) : EReal)
  | _ => none
-- ==== InProjRefIdeal.lean ====
abbrev S16384x1024 : Shape := ⟨2, ![16384, 1024]⟩
abbrev S1024 : Shape := ⟨1, ![1024]⟩
abbrev S1024x2048 : Shape := ⟨2, ![1024, 2048]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2048 : Shape := ⟨2, ![16384, 2048]⟩
abbrev S16384x512 : Shape := ⟨2, ![16384, 512]⟩
abbrev S16384x256 : Shape := ⟨2, ![16384, 256]⟩
abbrev S16384x4x128 : Shape := ⟨3, ![16384, 4, 128]⟩
abbrev S4x16384x128 : Shape := ⟨3, ![4, 16384, 128]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2048, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x2048, .f32⟩
  | .hbm, ⟨20, _⟩ => ⟨S16384x512, .f32⟩
  | .hbm, ⟨21, _⟩ => ⟨S16384x512, .f32⟩
  | .hbm, ⟨22, _⟩ => ⟨S16384x512, .f32⟩
  | .hbm, ⟨23, _⟩ => ⟨S16384x256, .f32⟩
  | .hbm, ⟨24, _⟩ => ⟨S16384x256, .f32⟩
  | .hbm, ⟨25, _⟩ => ⟨S_, .f32⟩
  | .hbm, ⟨26, _⟩ => ⟨S16384x512, .f32⟩
  | .hbm, ⟨27, _⟩ => ⟨S16384x512, .f32⟩
  | .hbm, ⟨28, _⟩ => ⟨S_, .f32⟩
  | .hbm, ⟨29, _⟩ => ⟨S_, .f32⟩
  | .hbm, ⟨30, _⟩ => ⟨S16384x512, .f32⟩
  | .hbm, ⟨31, _⟩ => ⟨S16384x512, .f32⟩
  | .hbm, ⟨32, _⟩ => ⟨S16384x4x128, .f32⟩
  | .hbm, ⟨33, _⟩ => ⟨S4x16384x128, .f32⟩
  | .hbm, ⟨34, _⟩ => ⟨S16384x4x128, .f32⟩
  | .hbm, ⟨35, _⟩ => ⟨S4x16384x128, .f32⟩
  | .hbm, ⟨36, _⟩ => ⟨S16384x4x128, .f32⟩
  | .hbm, ⟨37, _⟩ => ⟨S4x16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== OutSeq.lean ====
abbrev S2x8192x512 : Shape := ⟨3, ![2, 8192, 512]⟩
abbrev S2x8192x256 : Shape := ⟨3, ![2, 8192, 256]⟩
abbrev S2x8192x1024 : Shape := ⟨3, ![2, 8192, 1024]⟩
abbrev S512 : Shape := ⟨1, ![512]⟩
abbrev S256 : Shape := ⟨1, ![256]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x512 : Shape := ⟨2, ![1, 512]⟩
abbrev S1x256 : Shape := ⟨2, ![1, 256]⟩
abbrev S1x1024 : Shape := ⟨2, ![1, 1024]⟩
abbrev S1024x2x11x256 : Shape := ⟨4, ![1024, 2, 11, 256]⟩
abbrev S2x11x1024x256 : Shape := ⟨4, ![2, 11, 1024, 256]⟩
abbrev S3x2x11x256 : Shape := ⟨4, ![3, 2, 11, 256]⟩
abbrev S2x11x3x256 : Shape := ⟨4, ![2, 11, 3, 256]⟩
abbrev S1x5632 : Shape := ⟨2, ![1, 5632]⟩
abbrev S1x2x11x256 : Shape := ⟨4, ![1, 2, 11, 256]⟩
abbrev S2x11x1x256 : Shape := ⟨4, ![2, 11, 1, 256]⟩
abbrev S2x2x11x2x256 : Shape := ⟨5, ![2, 2, 11, 2, 256]⟩
abbrev S1x512x512 : Shape := ⟨3, ![1, 512, 512]⟩
abbrev S1x512x256 : Shape := ⟨3, ![1, 512, 256]⟩
abbrev S1x512x1024 : Shape := ⟨3, ![1, 512, 1024]⟩
abbrev S1x2x11x2x256 : Shape := ⟨5, ![1, 2, 11, 2, 256]⟩
abbrev S512x2816 : Shape := ⟨2, ![512, 2816]⟩
abbrev S2x11x8x256 : Shape := ⟨4, ![2, 11, 8, 256]⟩
abbrev S512x512 : Shape := ⟨2, ![512, 512]⟩
abbrev S512x1 : Shape := ⟨2, ![512, 1]⟩
abbrev S512x1024 : Shape := ⟨2, ![512, 1024]⟩
abbrev S512x256 : Shape := ⟨2, ![512, 256]⟩
abbrev S256x1024 : Shape := ⟨2, ![256, 1024]⟩
abbrev S1x1x1024x256 : Shape := ⟨4, ![1, 1, 1024, 256]⟩
abbrev S1024x256 : Shape := ⟨2, ![1024, 256]⟩
abbrev S1x1x8x256 : Shape := ⟨4, ![1, 1, 8, 256]⟩
abbrev S8x256 : Shape := ⟨2, ![8, 256]⟩
abbrev S520x256 : Shape := ⟨2, ![520, 256]⟩
abbrev S2x256 : Shape := ⟨2, ![2, 256]⟩
abbrev S1x1x1x2x256 : Shape := ⟨5, ![1, 1, 1, 2, 256]⟩
abbrev S1x1x3x256 : Shape := ⟨4, ![1, 1, 3, 256]⟩
abbrev S3x256 : Shape := ⟨2, ![3, 256]⟩
abbrev S1x1x1x256 : Shape := ⟨4, ![1, 1, 1, 256]⟩

abbrev nBuf : Space → Nat
  | .hbm => 32
  | .vmem => 26
  | .smem => 0
  | _ => 0

abbrev bufTy : (tb : Table) → Fin (tcTables nBuf tb) → BufTy
  | .hbm, ⟨0, _⟩ => ⟨S2x8192x512, .f32⟩
  | .hbm, ⟨1, _⟩ => ⟨S2x8192x256, .f32⟩
  | .hbm, ⟨2, _⟩ => ⟨S2x8192x256, .f32⟩
  | .hbm, ⟨3, _⟩ => ⟨S2x8192x1024, .f32⟩
  | .hbm, ⟨4, _⟩ => ⟨S512, .f32⟩
  | .hbm, ⟨5, _⟩ => ⟨S256, .f32⟩
  | .hbm, ⟨6, _⟩ => ⟨S256, .f32⟩
  | .hbm, ⟨7, _⟩ => ⟨S1024x1024, .f32⟩
  | .hbm, ⟨8, _⟩ => ⟨S1024, .f32⟩
  | .hbm, ⟨9, _⟩ => ⟨S1024x5632, .f32⟩
  | .hbm, ⟨10, _⟩ => ⟨S3x5632, .f32⟩
  | .hbm, ⟨11, _⟩ => ⟨S5632, .f32⟩
  | .hbm, ⟨12, _⟩ => ⟨S2816x1024, .f32⟩
  | .hbm, ⟨13, _⟩ => ⟨S1024, .f32⟩
  | .hbm, ⟨14, _⟩ => ⟨S1x512, .f32⟩
  | .hbm, ⟨15, _⟩ => ⟨S1x256, .f32⟩
  | .hbm, ⟨16, _⟩ => ⟨S1x256, .f32⟩
  | .hbm, ⟨17, _⟩ => ⟨S1024x1024, .bf16⟩
  | .hbm, ⟨18, _⟩ => ⟨S1x1024, .f32⟩
  | .hbm, ⟨19, _⟩ => ⟨S1024x5632, .bf16⟩
  | .hbm, ⟨20, _⟩ => ⟨S1024x2x11x256, .bf16⟩
  | .hbm, ⟨21, _⟩ => ⟨S2x11x1024x256, .bf16⟩
  | .hbm, ⟨22, _⟩ => ⟨S3x2x11x256, .f32⟩
  | .hbm, ⟨23, _⟩ => ⟨S2x11x3x256, .f32⟩
  | .hbm, ⟨24, _⟩ => ⟨S1x5632, .f32⟩
  | .hbm, ⟨25, _⟩ => ⟨S1x2x11x256, .f32⟩
  | .hbm, ⟨26, _⟩ => ⟨S2x11x1x256, .f32⟩
  | .hbm, ⟨27, _⟩ => ⟨S2816x1024, .bf16⟩
  | .hbm, ⟨28, _⟩ => ⟨S1x1024, .f32⟩
  | .hbm, ⟨29, _⟩ => ⟨S2x8192x1024, .f32⟩
  | .hbm, ⟨30, _⟩ => ⟨S2x8192x1024, .f32⟩
  | .hbm, ⟨31, _⟩ => ⟨S2x2x11x2x256, .f32⟩
  | .local _ .vmem, ⟨0, _⟩ => ⟨S1x512x512, .f32⟩
  | .local _ .vmem, ⟨1, _⟩ => ⟨S1x512x512, .f32⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x1024, .f32⟩
  | .local _ .vmem, ⟨7, _⟩ => ⟨S1x512x1024, .f32⟩
  | .local _ .vmem, ⟨8, _⟩ => ⟨S1x512, .f32⟩
  | .local _ .vmem, ⟨9, _⟩ => ⟨S1x256, .f32⟩
  | .local _ .vmem, ⟨10, _⟩ => ⟨S1x256, .f32⟩
  | .local _ .vmem, ⟨11, _⟩ => ⟨S1024x1024, .bf16⟩
  | .local _ .vmem, ⟨12, _⟩ => ⟨S1x1024, .f32⟩
  | .local _ .vmem, ⟨13, _⟩ => ⟨S2x11x1024x256, .bf16⟩
  | .local _ .vmem, ⟨14, _⟩ => ⟨S2x11x3x256, .f32⟩
  | .local _ .vmem, ⟨15, _⟩ => ⟨S2x11x1x256, .f32⟩
  | .local _ .vmem, ⟨16, _⟩ => ⟨S2816x1024, .bf16⟩
  | .local _ .vmem, ⟨17, _⟩ => ⟨S1x1024, .f32⟩
  | .local _ .vmem, ⟨18, _⟩ => ⟨S1x512x1024, .f32⟩
  | .local _ .vmem, ⟨19, _⟩ => ⟨S1x512x1024, .f32⟩
  | .local _ .vmem, ⟨20, _⟩ => ⟨S1x512x1024, .f32⟩
  | .local _ .vmem, ⟨21, _⟩ => ⟨S1x512x1024, .f32⟩
  | .local _ .vmem, ⟨22, _⟩ => ⟨S1x2x11x2x256, .f32⟩
  | .local _ .vmem, ⟨23, _⟩ => ⟨S1x2x11x2x256, .f32⟩
  | .local _ .vmem, ⟨24, _⟩ => ⟨S512x2816, .bf16⟩
  | .local _ .vmem, ⟨25, _⟩ => ⟨S2x11x8x256, .f32⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15_0 : Ref sig .tc := ⟨.hbm, 29, rfl⟩
abbrev main_v15_1 : Ref sig .tc := ⟨.hbm, 30, rfl⟩
abbrev main_v15_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2x11x1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2x11x3x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2x11x1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x2x11x2x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== OutSeqRefIdeal.lean ====
abbrev S2x8192x512 : Shape := ⟨3, ![2, 8192, 512]⟩
abbrev S2x8192x256 : Shape := ⟨3, ![2, 8192, 256]⟩
abbrev S2x8192x1024 : Shape := ⟨3, ![2, 8192, 1024]⟩
abbrev S512 : Shape := ⟨1, ![512]⟩
abbrev S256 : Shape := ⟨1, ![256]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S2x8192 : Shape := ⟨2, ![2, 8192]⟩
abbrev S2x8192x1 : Shape := ⟨3, ![2, 8192, 1]⟩
abbrev S1x1x512 : Shape := ⟨3, ![1, 1, 512]⟩
abbrev S1x1x256 : Shape := ⟨3, ![1, 1, 256]⟩
abbrev S1x1x1024 : Shape := ⟨3, ![1, 1, 1024]⟩
abbrev S2x8192x5632 : Shape := ⟨3, ![2, 8192, 5632]⟩
abbrev S2x2x5632 : Shape := ⟨3, ![2, 2, 5632]⟩
abbrev S2x8194x5632 : Shape := ⟨3, ![2, 8194, 5632]⟩
abbrev S1x5632 : Shape := ⟨2, ![1, 5632]⟩
abbrev S1x1x5632 : Shape := ⟨3, ![1, 1, 5632]⟩
abbrev S2x8192x2816 : Shape := ⟨3, ![2, 8192, 2816]⟩
abbrev S2x2x2x11x256 : Shape := ⟨5, ![2, 2, 2, 11, 256]⟩
abbrev S2x2x11x2x256 : Shape := ⟨5, ![2, 2, 11, 2, 256]⟩

abbrev nBuf : Space → Nat
  | .hbm => 141
  | .vmem => 0
  | .smem => 0
  | _ => 0

abbrev hbmTy0_0 (i : Nat) : BufTy := match i % 128 with
  | 0 => ⟨S2x8192x512, .f32⟩
  | 1 => ⟨S2x8192x256, .f32⟩
  | 2 => ⟨S2x8192x256, .f32⟩
  | 3 => ⟨S2x8192x1024, .f32⟩
  | 4 => ⟨S512, .f32⟩
  | 5 => ⟨S256, .f32⟩
  | 6 => ⟨S256, .f32⟩
  | 7 => ⟨S1024x1024, .f32⟩
  | 8 => ⟨S1024, .f32⟩
  | 9 => ⟨S1024x5632, .f32⟩
  | 10 => ⟨S3x5632, .f32⟩
  | 11 => ⟨S5632, .f32⟩
  | 12 => ⟨S2816x1024, .f32⟩
  | 13 => ⟨S1024, .f32⟩
  | 14 => ⟨S2x8192x512, .f32⟩
  | 15 => ⟨S_, .f32⟩
  | 16 => ⟨S2x8192, .f32⟩
  | 17 => ⟨S2x8192x1, .f32⟩
  | 18 => ⟨S_, .f32⟩
  | 19 => ⟨S2x8192x1, .f32⟩
  | 20 => ⟨S2x8192x1, .f32⟩
  | 21 => ⟨S_, .f32⟩
  | 22 => ⟨S2x8192x1, .f32⟩
  | 23 => ⟨S2x8192x1, .f32⟩
  | 24 => ⟨S2x8192x1, .f32⟩
  | 25 => ⟨S2x8192x512, .f32⟩
  | 26 => ⟨S2x8192x512, .f32⟩
  | 27 => ⟨S1x1x512, .f32⟩
  | 28 => ⟨S2x8192x512, .f32⟩
  | 29 => ⟨S2x8192x512, .f32⟩
  | 30 => ⟨S2x8192x256, .f32⟩
  | 31 => ⟨S_, .f32⟩
  | 32 => ⟨S2x8192, .f32⟩
  | 33 => ⟨S2x8192x1, .f32⟩
  | 34 => ⟨S_, .f32⟩
  | 35 => ⟨S2x8192x1, .f32⟩
  | 36 => ⟨S2x8192x1, .f32⟩
  | 37 => ⟨S_, .f32⟩
  | 38 => ⟨S2x8192x1, .f32⟩
  | 39 => ⟨S2x8192x1, .f32⟩
  | 40 => ⟨S2x8192x1, .f32⟩
  | 41 => ⟨S2x8192x256, .f32⟩
  | 42 => ⟨S2x8192x256, .f32⟩
  | 43 => ⟨S1x1x256, .f32⟩
  | 44 => ⟨S2x8192x256, .f32⟩
  | 45 => ⟨S2x8192x256, .f32⟩
  | 46 => ⟨S2x8192x256, .f32⟩
  | 47 => ⟨S_, .f32⟩
  | 48 => ⟨S2x8192, .f32⟩
  | 49 => ⟨S2x8192x1, .f32⟩
  | 50 => ⟨S_, .f32⟩
  | 51 => ⟨S2x8192x1, .f32⟩
  | 52 => ⟨S2x8192x1, .f32⟩
  | 53 => ⟨S_, .f32⟩
  | 54 => ⟨S2x8192x1, .f32⟩
  | 55 => ⟨S2x8192x1, .f32⟩
  | 56 => ⟨S2x8192x1, .f32⟩
  | 57 => ⟨S2x8192x256, .f32⟩
  | 58 => ⟨S2x8192x256, .f32⟩
  | 59 => ⟨S1x1x256, .f32⟩
  | 60 => ⟨S2x8192x256, .f32⟩
  | 61 => ⟨S2x8192x256, .f32⟩
  | 62 => ⟨S2x8192x1024, .f32⟩
  | 63 => ⟨S2x8192x1024, .f32⟩
  | 64 => ⟨S2x8192x1024, .f32⟩
  | 65 => ⟨S2x8192x1024, .f32⟩
  | 66 => ⟨S_, .f32⟩
  | 67 => ⟨S2x8192, .f32⟩
  | 68 => ⟨S2x8192x1, .f32⟩
  | 69 => ⟨S_, .f32⟩
  | 70 => ⟨S2x8192x1, .f32⟩
  | 71 => ⟨S2x8192x1, .f32⟩
  | 72 => ⟨S_, .f32⟩
  | 73 => ⟨S2x8192x1, .f32⟩
  | 74 => ⟨S2x8192x1, .f32⟩
  | 75 => ⟨S2x8192x1, .f32⟩
  | 76 => ⟨S2x8192x1024, .f32⟩
  | 77 => ⟨S2x8192x1024, .f32⟩
  | 78 => ⟨S1x1x1024, .f32⟩
  | 79 => ⟨S2x8192x1024, .f32⟩
  | 80 => ⟨S2x8192x1024, .f32⟩
  | 81 => ⟨S2x8192x5632, .f32⟩
  | 82 => ⟨S_, .f32⟩
  | 83 => ⟨S2x2x5632, .f32⟩
  | 84 => ⟨S2x8194x5632, .f32⟩
  | 85 => ⟨S2x8192x5632, .f32⟩
  | 86 => ⟨S1x5632, .f32⟩
  | 87 => ⟨S5632, .f32⟩
  | 88 => ⟨S1x1x5632, .f32⟩
  | 89 => ⟨S2x8192x5632, .f32⟩
  | 90 => ⟨S2x8192x5632, .f32⟩
  | 91 => ⟨S1x1x5632, .f32⟩
  | 92 => ⟨S2x8192x5632, .f32⟩
  | 93 => ⟨S2x8192x5632, .f32⟩
  | 94 => ⟨S2x8192x5632, .f32⟩
  | 95 => ⟨S1x5632, .f32⟩
  | 96 => ⟨S5632, .f32⟩
  | 97 => ⟨S1x1x5632, .f32⟩
  | 98 => ⟨S2x8192x5632, .f32⟩
  | 99 => ⟨S2x8192x5632, .f32⟩
  | 100 => ⟨S2x8192x5632, .f32⟩
  | 101 => ⟨S2x8192x5632, .f32⟩
  | 102 => ⟨S1x5632, .f32⟩
  | 103 => ⟨S5632, .f32⟩
  | 104 => ⟨S1x1x5632, .f32⟩
  | 105 => ⟨S2x8192x5632, .f32⟩
  | 106 => ⟨S2x8192x5632, .f32⟩
  | 107 => ⟨S2x8192x5632, .f32⟩
  | 108 => ⟨S2x8192x2816, .f32⟩
  | 109 => ⟨S2x8192x2816, .f32⟩
  | 110 => ⟨S2x8192x2816, .f32⟩
  | 111 => ⟨S2x8192x2816, .f32⟩
  | 112 => ⟨S_, .f32⟩
  | 113 => ⟨S2x8192x2816, .f32⟩
  | 114 => ⟨S2x8192x2816, .f32⟩
  | 115 => ⟨S_, .f32⟩
  | 116 => ⟨S2x8192x2816, .f32⟩
  | 117 => ⟨S2x8192x2816, .f32⟩
  | 118 => ⟨S2x8192x2816, .f32⟩
  | 119 => ⟨S2x8192x2816, .f32⟩
  | 120 => ⟨S2x8192x1024, .f32⟩
  | 121 => ⟨S2x8192x1024, .f32⟩
  | 122 => ⟨S2x8192x1024, .f32⟩
  | 123 => ⟨S_, .f32⟩
  | 124 => ⟨S2x8192, .f32⟩
  | 125 => ⟨S2x8192x1, .f32⟩
  | 126 => ⟨S_, .f32⟩
  | 127 => ⟨S2x8192x1, .f32⟩
  | _ => ⟨S2x8192x512, .f32⟩

abbrev hbmTy0_1 (i : Nat) : BufTy := match i % 128 with
  | 0 => ⟨S2x8192x1, .f32⟩
  | 1 => ⟨S_, .f32⟩
  | 2 => ⟨S2x8192x1, .f32⟩
  | 3 => ⟨S2x8192x1, .f32⟩
  | 4 => ⟨S2x8192x1, .f32⟩
  | 5 => ⟨S2x8192x1024, .f32⟩
  | 6 => ⟨S2x8192x1024, .f32⟩
  | 7 => ⟨S1x1x1024, .f32⟩
  | 8 => ⟨S2x8192x1024, .f32⟩
  | 9 => ⟨S2x8192x1024, .f32⟩
  | 10 => ⟨S2x2x5632, .f32⟩
  | 11 => ⟨S2x2x2x11x256, .f32⟩
  | 12 => ⟨S2x2x11x2x256, .f32⟩
  | _ => ⟨S2x8192x512, .f32⟩

abbrev hbmTy (i : Nat) : BufTy := match i / 128 with
  | 0 => hbmTy0_0 i
  | 1 => hbmTy0_1 i
  | _ => ⟨S2x8192x512, .f32⟩

abbrev bufTy : (tb : Table) → Fin (tcTables nBuf tb) → BufTy
  | .hbm, ⟨i, _⟩ => hbmTy i
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_v16 : Ref sig .tc := ⟨.hbm, 35, rfl⟩
abbrev main_v17 : Ref sig .tc := ⟨.hbm, 36, rfl⟩
abbrev main_cst_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_5 : Ref sig .tc := ⟨.hbm, 47, rfl⟩
abbrev main_v27 : Ref sig .tc := ⟨.hbm, 48, rfl⟩
abbrev main_v28 : Ref sig .tc := ⟨.hbm, 49, rfl⟩
abbrev main_cst_6 : Ref sig .tc := ⟨.hbm, 50, rfl⟩
abbrev main_v29 : Ref sig .tc := ⟨.hbm, 51, rfl⟩
abbrev main_v30 : Ref sig .tc := ⟨.hbm, 52, rfl⟩
abbrev main_cst_7 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_cst_9 : Ref sig .tc := ⟨.hbm, 69, rfl⟩
abbrev main_v45 : Ref sig .tc := ⟨.hbm, 70, rfl⟩
abbrev main_v46 : Ref sig .tc := ⟨.hbm, 71, rfl⟩
abbrev main_cst_10 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_call0_v0 : Ref sig .tc := ⟨.hbm, 110, rfl⟩
abbrev main_call0_v1 : Ref sig .tc := ⟨.hbm, 111, rfl⟩
abbrev main_call0_cst : Ref sig .tc := ⟨.hbm, 112, rfl⟩
abbrev main_call0_v2 : Ref sig .tc := ⟨.hbm, 113, rfl⟩
abbrev main_call0_v3 : Ref sig .tc := ⟨.hbm, 114, rfl⟩
abbrev main_call0_cst_0 : Ref sig .tc := ⟨.hbm, 115, rfl⟩
abbrev main_call0_v4 : Ref sig .tc := ⟨.hbm, 116, rfl⟩
abbrev main_call0_v5 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_12 : Ref sig .tc := ⟨.hbm, 123, rfl⟩
abbrev main_v88 : Ref sig .tc := ⟨.hbm, 124, rfl⟩
abbrev main_v89 : Ref sig .tc := ⟨.hbm, 125, rfl⟩
abbrev main_cst_13 : Ref sig .tc := ⟨.hbm, 126, rfl⟩
abbrev main_v90 : Ref sig .tc := ⟨.hbm, 127, rfl⟩
abbrev main_v91 : Ref sig .tc := ⟨.hbm, 128, rfl⟩
abbrev main_cst_14 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩

abbrev nD : Nat := 1
abbrev τ : Topo := Topo.v7x

variable {F : FTy → Type} [FloatOps F]
-- ==== OutSlab.lean ====
abbrev S1x256x512 : Shape := ⟨3, ![1, 256, 512]⟩
abbrev S1x256x256 : Shape := ⟨3, ![1, 256, 256]⟩
abbrev S1x256x1024 : Shape := ⟨3, ![1, 256, 1024]⟩
abbrev S32x2x5632 : Shape := ⟨3, ![32, 2, 5632]⟩
abbrev S512 : Shape := ⟨1, ![512]⟩
abbrev S256 : Shape := ⟨1, ![256]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x512 : Shape := ⟨2, ![1, 512]⟩
abbrev S1x256 : Shape := ⟨2, ![1, 256]⟩
abbrev S1x1024 : Shape := ⟨2, ![1, 1024]⟩
abbrev S1024x2x11x256 : Shape := ⟨4, ![1024, 2, 11, 256]⟩
abbrev S2x11x1024x256 : Shape := ⟨4, ![2, 11, 1024, 256]⟩
abbrev S3x2x11x256 : Shape := ⟨4, ![3, 2, 11, 256]⟩
abbrev S2x11x3x256 : Shape := ⟨4, ![2, 11, 3, 256]⟩
abbrev S1x5632 : Shape := ⟨2, ![1, 5632]⟩
abbrev S1x2x11x256 : Shape := ⟨4, ![1, 2, 11, 256]⟩
abbrev S2x11x1x256 : Shape := ⟨4, ![2, 11, 1, 256]⟩
abbrev S_ : Shape := ⟨0, ![]⟩
abbrev S32x1x5632 : Shape := ⟨3, ![32, 1, 5632]⟩
abbrev S32x8x5632 : Shape := ⟨3, ![32, 8, 5632]⟩
abbrev S256x5632 : Shape := ⟨2, ![256, 5632]⟩
abbrev S256x2x11x256 : Shape := ⟨4, ![256, 2, 11, 256]⟩
abbrev S2x11x256x256 : Shape := ⟨4, ![2, 11, 256, 256]⟩
abbrev S256x2816 : Shape := ⟨2, ![256, 2816]⟩
abbrev S256x512 : Shape := ⟨2, ![256, 512]⟩
abbrev S256x1 : Shape := ⟨2, ![256, 1]⟩
abbrev S512x1024 : Shape := ⟨2, ![512, 1024]⟩
abbrev S256x1024 : Shape := ⟨2, ![256, 1024]⟩
abbrev S256x256 : Shape := ⟨2, ![256, 256]⟩
abbrev S1x1x1024x256 : Shape := ⟨4, ![1, 1, 1024, 256]⟩
abbrev S1024x256 : Shape := ⟨2, ![1024, 256]⟩
abbrev S1x1x256x256 : Shape := ⟨4, ![1, 1, 256, 256]⟩
abbrev S1x1x3x256 : Shape := ⟨4, ![1, 1, 3, 256]⟩
abbrev S3x256 : Shape := ⟨2, ![3, 256]⟩
abbrev S1x1x1x256 : Shape := ⟨4, ![1, 1, 1, 256]⟩

abbrev nBuf : Space → Nat
  | .hbm => 46
  | .vmem => 20
  | .smem => 0
  | _ => 0

abbrev bufTy : (tb : Table) → Fin (tcTables nBuf tb) → BufTy
  | .hbm, ⟨0, _⟩ => ⟨S1x256x512, .f32⟩
  | .hbm, ⟨1, _⟩ => ⟨S1x256x256, .f32⟩
  | .hbm, ⟨2, _⟩ => ⟨S1x256x256, .f32⟩
  | .hbm, ⟨3, _⟩ => ⟨S1x256x1024, .f32⟩
  | .hbm, ⟨4, _⟩ => ⟨S32x2x5632, .f32⟩
  | .hbm, ⟨5, _⟩ => ⟨S512, .f32⟩
  | .hbm, ⟨6, _⟩ => ⟨S256, .f32⟩
  | .hbm, ⟨7, _⟩ => ⟨S256, .f32⟩
  | .hbm, ⟨8, _⟩ => ⟨S1024x1024, .f32⟩
  | .hbm, ⟨9, _⟩ => ⟨S1024, .f32⟩
  | .hbm, ⟨10, _⟩ => ⟨S1024x5632, .f32⟩
  | .hbm, ⟨11, _⟩ => ⟨S3x5632, .f32⟩
  | .hbm, ⟨12, _⟩ => ⟨S5632, .f32⟩
  | .hbm, ⟨13, _⟩ => ⟨S2816x1024, .f32⟩
  | .hbm, ⟨14, _⟩ => ⟨S1024, .f32⟩
  | .hbm, ⟨15, _⟩ => ⟨S1x512, .f32⟩
  | .hbm, ⟨16, _⟩ => ⟨S1x256, .f32⟩
  | .hbm, ⟨17, _⟩ => ⟨S1x256, .f32⟩
  | .hbm, ⟨18, _⟩ => ⟨S1024x1024, .bf16⟩
  | .hbm, ⟨19, _⟩ => ⟨S1x1024, .f32⟩
  | .hbm, ⟨20, _⟩ => ⟨S1024x5632, .bf16⟩
  | .hbm, ⟨21, _⟩ => ⟨S1024x2x11x256, .bf16⟩
  | .hbm, ⟨22, _⟩ => ⟨S2x11x1024x256, .bf16⟩
  | .hbm, ⟨23, _⟩ => ⟨S3x2x11x256, .f32⟩
  | .hbm, ⟨24, _⟩ => ⟨S2x11x3x256, .f32⟩
  | .hbm, ⟨25, _⟩ => ⟨S1x5632, .f32⟩
  | .hbm, ⟨26, _⟩ => ⟨S1x2x11x256, .f32⟩
  | .hbm, ⟨27, _⟩ => ⟨S2x11x1x256, .f32⟩
  | .hbm, ⟨28, _⟩ => ⟨S2816x1024, .bf16⟩
  | .hbm, ⟨29, _⟩ => ⟨S1x1024, .f32⟩
  | .hbm, ⟨30, _⟩ => ⟨S_, .f32⟩
  | .hbm, ⟨31, _⟩ => ⟨S32x1x5632, .f32⟩
  | .hbm, ⟨32, _⟩ => ⟨S32x1x5632, .f32⟩
  | .hbm, ⟨33, _⟩ => ⟨S32x8x5632, .f32⟩
  | .hbm, ⟨34, _⟩ => ⟨S32x1x5632, .f32⟩
  | .hbm, ⟨35, _⟩ => ⟨S32x1x5632, .f32⟩
  | .hbm, ⟨36, _⟩ => ⟨S32x8x5632, .f32⟩
  | .hbm, ⟨37, _⟩ => ⟨S256x5632, .f32⟩
  | .hbm, ⟨38, _⟩ => ⟨S256x2x11x256, .f32⟩
  | .hbm, ⟨39, _⟩ => ⟨S2x11x256x256, .f32⟩
  | .hbm, ⟨40, _⟩ => ⟨S256x5632, .f32⟩
  | .hbm, ⟨41, _⟩ => ⟨S256x2x11x256, .f32⟩
  | .hbm, ⟨42, _⟩ => ⟨S2x11x256x256, .f32⟩
  | .hbm, ⟨43, _⟩ => ⟨S1x256x1024, .f32⟩
  | .hbm, ⟨44, _⟩ => ⟨S1x256x1024, .f32⟩
  | .hbm, ⟨45, _⟩ => ⟨S2x11x256x256, .f32⟩
  | .local _ .vmem, ⟨0, _⟩ => ⟨S1x256x512, .f32⟩
  | .local _ .vmem, ⟨1, _⟩ => ⟨S1x256x256, .f32⟩
  | .local _ .vmem, ⟨2, _⟩ => ⟨S1x256x256, .f32⟩
  | .local _ .vmem, ⟨3, _⟩ => ⟨S1x256x1024, .f32⟩
  | .local _ .vmem, ⟨4, _⟩ => ⟨S2x11x256x256, .f32⟩
  | .local _ .vmem, ⟨5, _⟩ => ⟨S2x11x256x256, .f32⟩
  | .local _ .vmem, ⟨6, _⟩ => ⟨S1x512, .f32⟩
  | .local _ .vmem, ⟨7, _⟩ => ⟨S1x256, .f32⟩
  | .local _ .vmem, ⟨8, _⟩ => ⟨S1x256, .f32⟩
  | .local _ .vmem, ⟨9, _⟩ => ⟨S1024x1024, .bf16⟩
  | .local _ .vmem, ⟨10, _⟩ => ⟨S1x1024, .f32⟩
  | .local _ .vmem, ⟨11, _⟩ => ⟨S2x11x1024x256, .bf16⟩
  | .local _ .vmem, ⟨12, _⟩ => ⟨S2x11x3x256, .f32⟩
  | .local _ .vmem, ⟨13, _⟩ => ⟨S2x11x1x256, .f32⟩
  | .local _ .vmem, ⟨14, _⟩ => ⟨S2816x1024, .bf16⟩
  | .local _ .vmem, ⟨15, _⟩ => ⟨S1x1024, .f32⟩
  | .local _ .vmem, ⟨16, _⟩ => ⟨S1x256x1024, .f32⟩
  | .local _ .vmem, ⟨17, _⟩ => ⟨S1x256x1024, .f32⟩
  | .local _ .vmem, ⟨18, _⟩ => ⟨S2x11x256x256, .f32⟩
  | .local _ .vmem, ⟨19, _⟩ => ⟨S256x2816, .bf16⟩
  | _, _ => ⟨S1x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27_0 : Ref sig .tc := ⟨.hbm, 43, rfl⟩
abbrev main_v27_1 : Ref sig .tc := ⟨.hbm, 44, rfl⟩
abbrev main_v27_2 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_scratch0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := .none

abbrev stage0_0 : Fin 1 → Memref sig .tc .vmem S1x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x11x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x11x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x11x1024x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x11x3x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x11x1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2816x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x256x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x256x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x11x256x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
-- ==== OutSlabRefIdeal.lean ====
abbrev S1x256x512 : Shape := ⟨3, ![1, 256, 512]⟩
abbrev S1x256x256 : Shape := ⟨3, ![1, 256, 256]⟩
abbrev S1x256x1024 : Shape := ⟨3, ![1, 256, 1024]⟩
abbrev S32x2x5632 : Shape := ⟨3, ![32, 2, 5632]⟩
abbrev S512 : Shape := ⟨1, ![512]⟩
abbrev S256 : Shape := ⟨1, ![256]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S1x256 : Shape := ⟨2, ![1, 256]⟩
abbrev S1x256x1 : Shape := ⟨3, ![1, 256, 1]⟩
abbrev S1x1x512 : Shape := ⟨3, ![1, 1, 512]⟩
abbrev S1x1x256 : Shape := ⟨3, ![1, 1, 256]⟩
abbrev S1x1x1024 : Shape := ⟨3, ![1, 1, 1024]⟩
abbrev S1x256x5632 : Shape := ⟨3, ![1, 256, 5632]⟩
abbrev S32x8x5632 : Shape := ⟨3, ![32, 8, 5632]⟩
abbrev S32x10x5632 : Shape := ⟨3, ![32, 10, 5632]⟩
abbrev S1x5632 : Shape := ⟨2, ![1, 5632]⟩
abbrev S1x1x5632 : Shape := ⟨3, ![1, 1, 5632]⟩
abbrev S32x8x2816 : Shape := ⟨3, ![32, 8, 2816]⟩
abbrev S32x8x1024 : Shape := ⟨3, ![32, 8, 1024]⟩
abbrev S256x2x11x256 : Shape := ⟨4, ![256, 2, 11, 256]⟩
abbrev S2x11x256x256 : Shape := ⟨4, ![2, 11, 256, 256]⟩

abbrev nBuf : Space → Nat
  | .hbm => 141
  | .vmem => 0
  | .smem => 0
  | _ => 0

abbrev hbmTy0_0 (i : Nat) : BufTy := match i % 128 with
  | 0 => ⟨S1x256x512, .f32⟩
  | 1 => ⟨S1x256x256, .f32⟩
  | 2 => ⟨S1x256x256, .f32⟩
  | 3 => ⟨S1x256x1024, .f32⟩
  | 4 => ⟨S32x2x5632, .f32⟩
  | 5 => ⟨S512, .f32⟩
  | 6 => ⟨S256, .f32⟩
  | 7 => ⟨S256, .f32⟩
  | 8 => ⟨S1024x1024, .f32⟩
  | 9 => ⟨S1024, .f32⟩
  | 10 => ⟨S1024x5632, .f32⟩
  | 11 => ⟨S3x5632, .f32⟩
  | 12 => ⟨S5632, .f32⟩
  | 13 => ⟨S2816x1024, .f32⟩
  | 14 => ⟨S1024, .f32⟩
  | 15 => ⟨S1x256x512, .f32⟩
  | 16 => ⟨S_, .f32⟩
  | 17 => ⟨S1x256, .f32⟩
  | 18 => ⟨S1x256x1, .f32⟩
  | 19 => ⟨S_, .f32⟩
  | 20 => ⟨S1x256x1, .f32⟩
  | 21 => ⟨S1x256x1, .f32⟩
  | 22 => ⟨S_, .f32⟩
  | 23 => ⟨S1x256x1, .f32⟩
  | 24 => ⟨S1x256x1, .f32⟩
  | 25 => ⟨S1x256x1, .f32⟩
  | 26 => ⟨S1x256x512, .f32⟩
  | 27 => ⟨S1x256x512, .f32⟩
  | 28 => ⟨S1x1x512, .f32⟩
  | 29 => ⟨S1x256x512, .f32⟩
  | 30 => ⟨S1x256x512, .f32⟩
  | 31 => ⟨S1x256x256, .f32⟩
  | 32 => ⟨S_, .f32⟩
  | 33 => ⟨S1x256, .f32⟩
  | 34 => ⟨S1x256x1, .f32⟩
  | 35 => ⟨S_, .f32⟩
  | 36 => ⟨S1x256x1, .f32⟩
  | 37 => ⟨S1x256x1, .f32⟩
  | 38 => ⟨S_, .f32⟩
  | 39 => ⟨S1x256x1, .f32⟩
  | 40 => ⟨S1x256x1, .f32⟩
  | 41 => ⟨S1x256x1, .f32⟩
  | 42 => ⟨S1x256x256, .f32⟩
  | 43 => ⟨S1x256x256, .f32⟩
  | 44 => ⟨S1x1x256, .f32⟩
  | 45 => ⟨S1x256x256, .f32⟩
  | 46 => ⟨S1x256x256, .f32⟩
  | 47 => ⟨S1x256x256, .f32⟩
  | 48 => ⟨S_, .f32⟩
  | 49 => ⟨S1x256, .f32⟩
  | 50 => ⟨S1x256x1, .f32⟩
  | 51 => ⟨S_, .f32⟩
  | 52 => ⟨S1x256x1, .f32⟩
  | 53 => ⟨S1x256x1, .f32⟩
  | 54 => ⟨S_, .f32⟩
  | 55 => ⟨S1x256x1, .f32⟩
  | 56 => ⟨S1x256x1, .f32⟩
  | 57 => ⟨S1x256x1, .f32⟩
  | 58 => ⟨S1x256x256, .f32⟩
  | 59 => ⟨S1x256x256, .f32⟩
  | 60 => ⟨S1x1x256, .f32⟩
  | 61 => ⟨S1x256x256, .f32⟩
  | 62 => ⟨S1x256x256, .f32⟩
  | 63 => ⟨S1x256x1024, .f32⟩
  | 64 => ⟨S1x256x1024, .f32⟩
  | 65 => ⟨S1x256x1024, .f32⟩
  | 66 => ⟨S1x256x1024, .f32⟩
  | 67 => ⟨S_, .f32⟩
  | 68 => ⟨S1x256, .f32⟩
  | 69 => ⟨S1x256x1, .f32⟩
  | 70 => ⟨S_, .f32⟩
  | 71 => ⟨S1x256x1, .f32⟩
  | 72 => ⟨S1x256x1, .f32⟩
  | 73 => ⟨S_, .f32⟩
  | 74 => ⟨S1x256x1, .f32⟩
  | 75 => ⟨S1x256x1, .f32⟩
  | 76 => ⟨S1x256x1, .f32⟩
  | 77 => ⟨S1x256x1024, .f32⟩
  | 78 => ⟨S1x256x1024, .f32⟩
  | 79 => ⟨S1x1x1024, .f32⟩
  | 80 => ⟨S1x256x1024, .f32⟩
  | 81 => ⟨S1x256x1024, .f32⟩
  | 82 => ⟨S1x256x5632, .f32⟩
  | 83 => ⟨S32x8x5632, .f32⟩
  | 84 => ⟨S32x10x5632, .f32⟩
  | 85 => ⟨S32x8x5632, .f32⟩
  | 86 => ⟨S1x5632, .f32⟩
  | 87 => ⟨S5632, .f32⟩
  | 88 => ⟨S1x1x5632, .f32⟩
  | 89 => ⟨S32x8x5632, .f32⟩
  | 90 => ⟨S32x8x5632, .f32⟩
  | 91 => ⟨S1x1x5632, .f32⟩
  | 92 => ⟨S32x8x5632, .f32⟩
  | 93 => ⟨S32x8x5632, .f32⟩
  | 94 => ⟨S32x8x5632, .f32⟩
  | 95 => ⟨S1x5632, .f32⟩
  | 96 => ⟨S5632, .f32⟩
  | 97 => ⟨S1x1x5632, .f32⟩
  | 98 => ⟨S32x8x5632, .f32⟩
  | 99 => ⟨S32x8x5632, .f32⟩
  | 100 => ⟨S32x8x5632, .f32⟩
  | 101 => ⟨S32x8x5632, .f32⟩
  | 102 => ⟨S1x5632, .f32⟩
  | 103 => ⟨S5632, .f32⟩
  | 104 => ⟨S1x1x5632, .f32⟩
  | 105 => ⟨S32x8x5632, .f32⟩
  | 106 => ⟨S32x8x5632, .f32⟩
  | 107 => ⟨S32x8x5632, .f32⟩
  | 108 => ⟨S32x8x2816, .f32⟩
  | 109 => ⟨S32x8x2816, .f32⟩
  | 110 => ⟨S32x8x2816, .f32⟩
  | 111 => ⟨S32x8x2816, .f32⟩
  | 112 => ⟨S_, .f32⟩
  | 113 => ⟨S32x8x2816, .f32⟩
  | 114 => ⟨S32x8x2816, .f32⟩
  | 115 => ⟨S_, .f32⟩
  | 116 => ⟨S32x8x2816, .f32⟩
  | 117 => ⟨S32x8x2816, .f32⟩
  | 118 => ⟨S32x8x2816, .f32⟩
  | 119 => ⟨S32x8x2816, .f32⟩
  | 120 => ⟨S32x8x1024, .f32⟩
  | 121 => ⟨S1x256x1024, .f32⟩
  | 122 => ⟨S1x256x1024, .f32⟩
  | 123 => ⟨S1x256x1024, .f32⟩
  | 124 => ⟨S_, .f32⟩
  | 125 => ⟨S1x256, .f32⟩
  | 126 => ⟨S1x256x1, .f32⟩
  | 127 => ⟨S_, .f32⟩
  | _ => ⟨S1x256x512, .f32⟩

abbrev hbmTy0_1 (i : Nat) : BufTy := match i % 128 with
  | 0 => ⟨S1x256x1, .f32⟩
  | 1 => ⟨S1x256x1, .f32⟩
  | 2 => ⟨S_, .f32⟩
  | 3 => ⟨S1x256x1, .f32⟩
  | 4 => ⟨S1x256x1, .f32⟩
  | 5 => ⟨S1x256x1, .f32⟩
  | 6 => ⟨S1x256x1024, .f32⟩
  | 7 => ⟨S1x256x1024, .f32⟩
  | 8 => ⟨S1x1x1024, .f32⟩
  | 9 => ⟨S1x256x1024, .f32⟩
  | 10 => ⟨S1x256x1024, .f32⟩
  | 11 => ⟨S256x2x11x256, .f32⟩
  | 12 => ⟨S2x11x256x256, .f32⟩
  | _ => ⟨S1x256x512, .f32⟩

abbrev hbmTy (i : Nat) : BufTy := match i / 128 with
  | 0 => hbmTy0_0 i
  | 1 => hbmTy0_1 i
  | _ => ⟨S1x256x512, .f32⟩

abbrev bufTy : (tb : Table) → Fin (tcTables nBuf tb) → BufTy
  | .hbm, ⟨i, _⟩ => hbmTy i
  | _, _ => ⟨S1x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_cst_3 : Ref sig .tc := ⟨.hbm, 35, rfl⟩
abbrev main_v16 : Ref sig .tc := ⟨.hbm, 36, rfl⟩
abbrev main_v17 : Ref sig .tc := ⟨.hbm, 37, rfl⟩
abbrev main_cst_4 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_5 : Ref sig .tc := ⟨.hbm, 48, rfl⟩
abbrev main_v27 : Ref sig .tc := ⟨.hbm, 49, rfl⟩
abbrev main_v28 : Ref sig .tc := ⟨.hbm, 50, rfl⟩
abbrev main_cst_6 : Ref sig .tc := ⟨.hbm, 51, rfl⟩
abbrev main_v29 : Ref sig .tc := ⟨.hbm, 52, rfl⟩
abbrev main_v30 : Ref sig .tc := ⟨.hbm, 53, rfl⟩
abbrev main_cst_7 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_cst_9 : Ref sig .tc := ⟨.hbm, 70, rfl⟩
abbrev main_v45 : Ref sig .tc := ⟨.hbm, 71, rfl⟩
abbrev main_v46 : Ref sig .tc := ⟨.hbm, 72, rfl⟩
abbrev main_cst_10 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_call0_v0 : Ref sig .tc := ⟨.hbm, 110, rfl⟩
abbrev main_call0_v1 : Ref sig .tc := ⟨.hbm, 111, rfl⟩
abbrev main_call0_cst : Ref sig .tc := ⟨.hbm, 112, rfl⟩
abbrev main_call0_v2 : Ref sig .tc := ⟨.hbm, 113, rfl⟩
abbrev main_call0_v3 : Ref sig .tc := ⟨.hbm, 114, rfl⟩
abbrev main_call0_cst_0 : Ref sig .tc := ⟨.hbm, 115, rfl⟩
abbrev main_call0_v4 : Ref sig .tc := ⟨.hbm, 116, rfl⟩
abbrev main_call0_v5 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_11 : Ref sig .tc := ⟨.hbm, 124, rfl⟩
abbrev main_v89 : Ref sig .tc := ⟨.hbm, 125, rfl⟩
abbrev main_v90 : Ref sig .tc := ⟨.hbm, 126, rfl⟩
abbrev main_cst_12 : Ref sig .tc := ⟨.hbm, 127, rfl⟩
abbrev main_v91 : Ref sig .tc := ⟨.hbm, 128, rfl⟩
abbrev main_v92 : Ref sig .tc := ⟨.hbm, 129, rfl⟩
abbrev main_cst_13 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩

abbrev nD : Nat := 1
abbrev τ : Topo := Topo.v7x

variable {F : FTy → Type} [FloatOps F]
-- ==== Proof.Decode.Weights.lean ====
/- Sums weighted by nonnegative real numbers, over the extended reals: scaling, dividing by the total, merging. The values may be
   infinite, the weights not. -/
module

public import Idealize.ShloMosaic.PureOps.Ideal.Laws
public import Idealize.ShloMosaic.Lib.Pointwise

@[expose] public section

noncomputable section

namespace Cert.Weights

open Idealize.ShloMosaic

variable {ι : Type} [Fintype ι]

/-- A nonnegative real factor goes into a sum of two. -/
theorem coe_mul_add {r : ℝ} (h : 0 ≤ r) (x y : EReal) : (r : EReal) * (x + y) = (r : EReal) * x + (r : EReal) * y :=
  EReal.left_distrib_of_nonneg_of_ne_top (by exact_mod_cast h) (EReal.coe_ne_top r) x y

/-- A nonnegative real factor goes into a finite sum. -/
theorem coe_mul_sum {r : ℝ} (h : 0 ≤ r) (s : Finset ι) (f : ι → EReal) :
    (r : EReal) * ∑ k ∈ s, f k = ∑ k ∈ s, (r : EReal) * f k := by
  classical
  induction s using Finset.induction_on with
  | empty => simp
  | insert a s ha ih => rw [Finset.sum_insert ha, Finset.sum_insert ha, coe_mul_add h, ih]

/-- A finite sum of real numbers, in the extended reals. -/
theorem coe_sum (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The sum of the values weighted by `a`, the weights divided by their total. -/
def average (a : ι → ℝ) (v : ι → EReal) : EReal := ∑ k, ((a k / ∑ j, a j : ℝ) : EReal) * v k

/-- Weights all scaled by the same positive number, the sum divided by their total: the scale drops out. -/
theorem div_total (a : ι → ℝ) (ha : ∀ k, 0 ≤ a k) (hA : 0 < ∑ k, a k) {r : ℝ} (hr : 0 < r) (v : ι → EReal) :
    Ideal.div (∑ k, ((a k * r : ℝ) : EReal) * v k) (∑ k, ((a k * r : ℝ) : EReal)) = average a v := by
  have h0 : (∑ k, a k * r : ℝ) = (∑ k, a k) * r := (Finset.sum_mul _ _ _).symm
  have h1 : 0 < (∑ k, a k) * r := mul_pos hA hr
  rw [← coe_sum, h0, Ideal.div_coe h1.ne', mul_comm, coe_mul_sum (by positivity)]
  refine Finset.sum_congr rfl fun k _ => ?_
  rw [← mul_assoc, ← EReal.coe_mul]
  congr 2
  field_simp

/-- The average of averages, each weighted by its own total: the average over all. -/
theorem average_average {κ : Type} [Fintype κ] (a : κ → ι → ℝ) (ha : ∀ g k, 0 ≤ a g k) (hA : ∀ g, 0 < ∑ k, a g k)
    (v : κ → ι → EReal) :
    (∑ g, (((∑ k, a g k) / ∑ g, ∑ k, a g k : ℝ) : EReal) * average (a g) (v g))
      = ∑ g, ∑ k, ((a g k / ∑ g, ∑ k, a g k : ℝ) : EReal) * v g k := by
  refine Finset.sum_congr rfl fun g _ => ?_
  have hT : 0 ≤ ∑ g, ∑ k, a g k := Finset.sum_nonneg fun g _ => (hA g).le
  rw [average, coe_mul_sum (div_nonneg (hA g).le hT)]
  refine Finset.sum_congr rfl fun k _ => ?_
  rw [← mul_assoc, ← EReal.coe_mul]
  congr 2
  have := (hA g).ne'
  field_simp

/-- A sum of real numbers lies among the reals, whatever the summands' real values. -/
theorem sum_mul_real (f g : ι → EReal) (hf : ∀ k, ∃ r : ℝ, f k = r) (hg : ∀ k, ∃ r : ℝ, g k = r) :
    ∃ r : ℝ, ∑ k, f k * g k = r := by
  choose x hx using hf
  choose y hy using hg
  refine ⟨∑ k, x k * y k, ?_⟩
  rw [coe_sum]
  exact Finset.sum_congr rfl fun k _ => by rw [hx, hy, EReal.coe_mul]

/-- The exponential in base 2 of a real number. -/
theorem exp2_sub (x m : ℝ) : Ideal.exp2 ((x : EReal) - (m : EReal)) = (((2 : ℝ) ^ x * (2 : ℝ) ^ (-m) : ℝ) : EReal) := by
  rw [← EReal.coe_sub, Ideal.exp2_coe]
  congr 1
  show (2 : ℝ) ^ (x - m) = _
  rw [sub_eq_add_neg, Real.rpow_add (by norm_num)]

/-- The exponential of a real number scaled by log 2. -/
theorem exp_sub (x m : ℝ) :
    Ideal.exp (((x * Real.log 2 : ℝ) : EReal) - (m : EReal)) = (((2 : ℝ) ^ x * Real.exp (-m) : ℝ) : EReal) := by
  rw [← EReal.coe_sub, Ideal.exp_coe]
  congr 1
  rw [sub_eq_add_neg, Real.exp_add, Real.rpow_def_of_pos (by norm_num), mul_comm x]

/-- The keys one window of stride `d` reaches from the new token `t`: key `k` at a distance that `d` divides, at most 128 steps. -/
def reach (d : Nat) (t : Fin 8) (k : Fin 2056) : Prop := k.val ≤ 2048 + t.val ∧ d ∣ (2048 + t.val - k.val) ∧ 2048 + t.val - k.val ≤ 128 * d

instance (d : Nat) (t : Fin 8) (k : Fin 2056) : Decidable (reach d t k) := by unfold reach; infer_instance

/-- The key that is `n` steps of stride `d` before the new token `t`. -/
def back (d : Nat) (t : Fin 8) (n : Fin 129) : Fin 2056 := ⟨2048 + t.val - d * n.val, by omega⟩

/-- A sum over the steps of a window is the sum over the keys it reaches. -/
theorem sum_back {M : Type} [AddCommMonoid M] (d : Nat) (hd : 0 < d) (hd' : d ≤ 16) (t : Fin 8) (f : Fin 2056 → M) :
    ∑ n, f (back d t n) = ∑ k, if reach d t k then f k else 0 := by
  rw [← Finset.sum_filter]
  have hle : ∀ n : Fin 129, d * n.val ≤ 2048 := fun n => by
    calc d * n.val ≤ 16 * 128 := Nat.mul_le_mul hd' (by omega)
      _ = 2048 := rfl
  refine Finset.sum_bij (fun n _ => back d t n) (fun n _ => ?_) (fun n _ n' _ h => ?_) (fun k hk => ?_) (fun n _ => rfl)
  · have h := hle n
    have e : 2048 + t.val - (2048 + t.val - d * n.val) = d * n.val := by omega
    have h3 : d * n.val ≤ 128 * d := by
      rw [Nat.mul_comm]
      exact Nat.mul_le_mul_right d (by omega)
    have hr : reach d t (back d t n) := by
      unfold reach
      show 2048 + t.val - d * n.val ≤ 2048 + t.val ∧ d ∣ 2048 + t.val - (2048 + t.val - d * n.val)
        ∧ 2048 + t.val - (2048 + t.val - d * n.val) ≤ 128 * d
      rw [e]
      exact ⟨by omega, Dvd.intro _ rfl, h3⟩
    exact Finset.mem_filter.mpr ⟨Finset.mem_univ _, hr⟩
  · have h1 := hle n
    have h2 := hle n'
    have h3 : 2048 + t.val - d * n.val = 2048 + t.val - d * n'.val := congrArg Fin.val h
    have h4 : d * n.val = d * n'.val := by omega
    exact Fin.ext (Nat.eq_of_mul_eq_mul_left hd h4)
  · have hr : reach d t k := (Finset.mem_filter.mp hk).2
    unfold reach at hr
    obtain ⟨h1, hdvd, h3⟩ := hr
    obtain ⟨q, hq⟩ := hdvd
    have h4 : q ≤ 128 := by
      rw [hq, Nat.mul_comm] at h3
      exact Nat.le_of_mul_le_mul_right h3 hd
    refine ⟨⟨q, by omega⟩, Finset.mem_univ _, Fin.ext ?_⟩
    show 2048 + t.val - d * q = k.val
    omega

/-- The stride of a window. -/
def stride (g : Fin 3) : Nat := ![1, 4, 16] g

/-- How many of the three windows reach a key. -/
def count (t : Fin 8) (k : Fin 2056) : Nat := ∑ g, if reach (stride g) t k then 1 else 0

theorem stride_pos : ∀ g : Fin 3, 0 < stride g := by decide
theorem stride_le : ∀ g : Fin 3, stride g ≤ 16 := by decide

/-- The token's own place, read by every window. -/
theorem count_pos (t : Fin 8) : 0 < count t ⟨2048 + t.val, by omega⟩ := by
  revert t; decide +kernel

/-- The three windows' sums are one sum over the keys, each key as often as the windows reach it. -/
theorem sum_windows {M : Type} [AddCommMonoid M] (t : Fin 8) (f : Fin 2056 → M) :
    ∑ g, ∑ n, f (back (stride g) t n) = ∑ k, count t k • f k := by
  rw [Finset.sum_congr rfl fun g _ => sum_back (stride g) (stride_pos g) (stride_le g) t f, Finset.sum_comm]
  refine Finset.sum_congr rfl fun k _ => ?_
  rw [count, Finset.sum_smul]
  refine Finset.sum_congr rfl fun g _ => ?_
  split <;> simp

/-- The attention of one new token: the values averaged with weights 2 ^ score, a key as often as the windows reach it. -/
def attention (t : Fin 8) (s : Fin 2056 → ℝ) (v : Fin 2056 → EReal) : EReal :=
  average (fun k => (count t k : ℝ) * (2 : ℝ) ^ s k) v

/-- The same as the three windows' sum. -/
theorem attention_windows (t : Fin 8) (s : Fin 2056 → ℝ) (v : Fin 2056 → EReal) :
    (∑ g, ∑ n, (((2 : ℝ) ^ s (back (stride g) t n) / ∑ g, ∑ n, (2 : ℝ) ^ s (back (stride g) t n) : ℝ) : EReal)
      * v (back (stride g) t n)) = attention t s v := by
  have hA : (∑ g, ∑ n, (2 : ℝ) ^ s (back (stride g) t n)) = ∑ k, (count t k : ℝ) * (2 : ℝ) ^ s k := by
    rw [sum_windows t fun k => (2 : ℝ) ^ s k]
    exact Finset.sum_congr rfl fun k _ => nsmul_eq_mul _ _
  rw [hA, attention, average]
  rw [sum_windows t fun k => (((2 : ℝ) ^ s k / ∑ k, (count t k : ℝ) * (2 : ℝ) ^ s k : ℝ) : EReal) * v k]
  refine Finset.sum_congr rfl fun k _ => ?_
  rw [EReal.nsmul_eq_mul, ← mul_assoc, mul_div_assoc, EReal.coe_mul]
  rfl

/-- The total of the attention's weights is positive. -/
theorem total_pos (t : Fin 8) (s : Fin 2056 → ℝ) : 0 < ∑ k, (count t k : ℝ) * (2 : ℝ) ^ s k := by
  refine Finset.sum_pos' (fun k _ => by positivity) ⟨⟨2048 + t.val, by omega⟩, Finset.mem_univ _, ?_⟩
  have := count_pos t
  have h : (0 : ℝ) < (count t ⟨2048 + t.val, by omega⟩ : ℝ) := by exact_mod_cast this
  positivity

end Cert.Weights

end
-- ==== Proof.Decode.Head.lean ====
/- One pair of heads of the decoding kernel, over the extended reals. For a head, a new token and a lane the kernel forms
   the scores against the cached and the new keys, masks those no window reaches, subtracts the largest, weighs 2 to that
   power by the tables, and divides the weighted sum of the values by the sum of the weights. With finite scores that is
   the attention of `Weights`: masked keys have weight zero, and the subtracted maximum drops out. -/
module

public import proofs.«01_k».proof.Proof.Gen.DecodeIdeal.Value
public import proofs.«01_k».proof.Proof.Decode.Weights
public import Idealize.ShloMosaic.Lib.Pointwise

@[expose] public section

set_option maxRecDepth 16384

noncomputable section

namespace Cert.DecodeIdeal.Head

open Cert.DecodeIdeal Cert.DecodeIdeal.Gen Cert.DecodeIdeal.Value Cert.Weights Idealize.ShloMosaic Idealize.ShloMosaic.TcCoe Idealize.SL.Sem

/-- The score of a key no window reaches. -/
abbrev low : EReal := Ideal.ofBits .f32 0xF149F2CA#32

theorem low_real : ∃ r : ℝ, low = (r : EReal) := by
  unfold low Ideal.ofBits Ideal.ieee
  simp
  exact ⟨_, rfl⟩

/-- The largest of finitely many real numbers is real. -/
theorem largest_real {n : Nat} [NeZero n] (f : Fin n → EReal) (h : ∀ k, ∃ r : ℝ, f k = (r : EReal)) :
    ∃ r : ℝ, Finset.fold max (Ideal.ofBits .f32 0xFF800000#32) f Finset.univ = (r : EReal) := by
  have hb : Ideal.ofBits .f32 0xFF800000#32 = ⊥ := by simp [Ideal.ofBits, Ideal.ieee]
  rw [hb]
  obtain ⟨k, -, hk⟩ := Finset.exists_mem_eq_sup (Finset.univ : Finset (Fin n)) Finset.univ_nonempty f
  obtain ⟨r, hr⟩ := h k
  exact ⟨r, (show Finset.univ.sup f = _ from hk.trans hr)⟩

theorem max_real {x y : EReal} (hx : ∃ r : ℝ, x = (r : EReal)) (hy : ∃ r : ℝ, y = (r : EReal)) : ∃ r : ℝ, max x y = (r : EReal) := by
  rcases max_choice x y with h | h <;> rw [h] <;> assumption

/-- A score, or the low one where the table holds zero. -/
def masked {n : Nat} (c y : Fin n → EReal) (x : Fin n) : EReal := if 0 < c x then y x else low

theorem masked_real {n : Nat} (c y : Fin n → EReal) (hy : ∀ x, ∃ r : ℝ, y x = (r : EReal)) (x : Fin n) :
    ∃ r : ℝ, masked c y x = (r : EReal) := by
  unfold masked
  split
  · exact hy x
  · exact low_real

/-- The largest score. -/
def largest (c0 y0 : Fin 2048 → EReal) (c1 y1 : Fin 128 → EReal) : EReal :=
  max (Finset.fold max (Ideal.ofBits .f32 0xFF800000#32) (masked c0 y0) Finset.univ)
    (Finset.fold max (Ideal.ofBits .f32 0xFF800000#32) (masked c1 y1) Finset.univ)

/-- A key's weight in the kernel. -/
def weight (m c y : EReal) : EReal := c * Ideal.exp2 ((if 0 < c then y else low) - m)

theorem weight_eq (n : Nat) (s m : ℝ) : weight (m : EReal) ((n : ℝ) : EReal) (s : EReal) = (((n : ℝ) * (2 : ℝ) ^ s * (2 : ℝ) ^ (-m) : ℝ) : EReal) := by
  unfold weight
  rcases Nat.eq_zero_or_pos n with rfl | h
  · simp
  · rw [if_pos (by exact_mod_cast h), exp2_sub, ← EReal.coe_mul, mul_assoc]

theorem weight_zero (m y : EReal) : weight m 0 y = 0 := by unfold weight; rw [zero_mul]

/-- The kernel's quotient for one head, token and lane. -/
def quotient (c0 y0 : Fin 2048 → EReal) (c1 y1 : Fin 128 → EReal) (y1a : Fin 8 → EReal) (y1b : Fin 120 → EReal)
    (v0 : Fin 2048 → EReal) (v1 : Fin 8 → EReal) : EReal :=
  Ideal.div
    ((∑ x, weight (largest c0 y0 c1 y1) (c0 x) (y0 x) * v0 x)
      + ((∑ x : Fin 8, weight (largest c0 y0 c1 y1) (c1 ⟨x.val, by omega⟩) (y1a x) * v1 x)
        + ∑ x : Fin 120, weight (largest c0 y0 c1 y1) (c1 ⟨8 + x.val, by omega⟩) (y1b x) * 0))
    ((∑ x, weight (largest c0 y0 c1 y1) (c0 x) (y0 x))
      + ((∑ x : Fin 8, weight (largest c0 y0 c1 y1) (c1 ⟨x.val, by omega⟩) (y1a x))
        + ∑ x : Fin 120, weight (largest c0 y0 c1 y1) (c1 ⟨8 + x.val, by omega⟩) (y1b x)))

/-- A sum over all keys: the cached ones, then the new ones. -/
theorem sum_keys (f : Fin 2056 → EReal) :
    ∑ k, f k = (∑ x : Fin 2048, f ⟨x.val, by omega⟩) + ∑ x : Fin 8, f ⟨2048 + x.val, by omega⟩ :=
  Fin.sum_univ_add (a := 2048) (b := 8) f

/-- The tables' counts at the new tokens' own keys. -/
def fresh (t : Fin 8) (b : Fin 128) : Nat := if h : b.val < 8 then count t ⟨2048 + b.val, by omega⟩ else 0

/-- With finite scores the quotient is the attention. -/
theorem quotient_eq (t : Fin 8) (s : Fin 2056 → ℝ) (v : Fin 2056 → EReal)
    (c0 y0 : Fin 2048 → EReal) (c1 y1 : Fin 128 → EReal) (y1a : Fin 8 → EReal) (y1b : Fin 120 → EReal)
    (v0 : Fin 2048 → EReal) (v1 : Fin 8 → EReal)
    (hc0 : ∀ x, c0 x = ((count t ⟨x.val, by omega⟩ : ℝ) : EReal)) (hc1 : ∀ x, c1 x = ((fresh t x : ℝ) : EReal))
    (hy0 : ∀ x, y0 x = (s ⟨x.val, by omega⟩ : EReal)) (hy1a : ∀ x, y1a x = (s ⟨2048 + x.val, by omega⟩ : EReal))
    (hy1 : ∀ x, ∃ r : ℝ, y1 x = (r : EReal))
    (hv0 : ∀ x, v0 x = v ⟨x.val, by omega⟩) (hv1 : ∀ x, v1 x = v ⟨2048 + x.val, by omega⟩) :
    quotient c0 y0 c1 y1 y1a y1b v0 v1 = attention t s v := by
  obtain ⟨m, hm⟩ : ∃ m : ℝ, largest c0 y0 c1 y1 = (m : EReal) :=
    max_real (largest_real _ (masked_real _ _ fun x => ⟨_, hy0 x⟩)) (largest_real _ (masked_real _ _ hy1))
  have w0 : ∀ x : Fin 2048, weight (m : EReal) (c0 x) (y0 x)
      = (((count t ⟨x.val, by omega⟩ : ℝ) * (2 : ℝ) ^ s ⟨x.val, by omega⟩ * (2 : ℝ) ^ (-m) : ℝ) : EReal) := fun x => by
    rw [hc0, hy0, weight_eq]
  have w1 : ∀ x : Fin 8, weight (m : EReal) (c1 ⟨x.val, by omega⟩) (y1a x)
      = (((count t ⟨2048 + x.val, by omega⟩ : ℝ) * (2 : ℝ) ^ s ⟨2048 + x.val, by omega⟩ * (2 : ℝ) ^ (-m) : ℝ) : EReal) := fun x => by
    rw [hc1, hy1a, weight_eq, fresh, dif_pos x.isLt]
  have w2 : ∀ x : Fin 120, weight (m : EReal) (c1 ⟨8 + x.val, by omega⟩) (y1b x) = 0 := fun x => by
    rw [hc1, fresh, dif_neg (by show ¬ 8 + x.val < 8; omega)]
    simp [weight_zero]
  unfold quotient
  rw [hm]
  simp only [w0, w1, w2, hv0, hv1, zero_mul, Finset.sum_const_zero, add_zero]
  rw [attention, ← div_total _ (fun k => by positivity) (total_pos t s) (r := (2 : ℝ) ^ (-m)) (by positivity) v,
    sum_keys, sum_keys]

/-- The first head of a pair: the kernel's operations. -/
def first (c0 : Vec Ideal S8x2048 .f32) (c1 : Vec Ideal S8x128 .f32) (q k v : Vec Ideal S1x8x128 .f32)
    (kt vt : Vec Ideal S1x1x1x64x2048 .f32) : FVec Ideal S8x64 .f32 :=
  k0_pay11 c0 c1 (k0_pay5 v) (k0_pay7 c0 q kt) (k0_pay8 c1 q k) (k0_pay9 c0 q kt) (k0_pay10 c1 q k) vt

/-- Both heads, side by side. -/
def both (c0 : Vec Ideal S8x2048 .f32) (c1 : Vec Ideal S8x128 .f32) (q k v : Vec Ideal S1x8x128 .f32)
    (kt vt kt' vt' : Vec Ideal S1x1x1x64x2048 .f32) : FVec Ideal S8x128 .f32 :=
  k0_pay16 c0 c1 (k0_pay5 v) (first c0 c1 q k v kt vt) (k0_pay13 (k0_pay3 q) (k0_pay4 k)) (k0_pay14 c0 (k0_pay3 q) kt')
    (k0_pay15 c1) vt'

theorem first_apply (c0 : Vec Ideal S8x2048 .f32) (c1 : Vec Ideal S8x128 .f32) (q k v : Vec Ideal S1x8x128 .f32)
    (kt vt : Vec Ideal S1x1x1x64x2048 .f32) (t : Fin 8) (e : Fin 64) : first c0 c1 q k v kt vt (ix2 t e)
    = quotient (fun x => c0 (ix2 t x)) (fun x => ∑ j : Fin 64, q (ix3 0 t ⟨j.val, by omega⟩) * kt (ix5 0 0 0 j x))
      (fun x => c1 (ix2 t x))
      (fun x => ∑ j : Fin 64, q (ix3 0 t ⟨j.val, by omega⟩) * if h : x.val < 8 then k (ix3 0 ⟨x.val, h⟩ ⟨j.val, by omega⟩) else 0)
      (fun x => ∑ j : Fin 64, q (ix3 0 t ⟨j.val, by omega⟩) * k (ix3 0 x ⟨j.val, by omega⟩))
      (fun x => ∑ j : Fin 64, q (ix3 0 t ⟨j.val, by omega⟩) * 0)
      (fun x => vt (ix5 0 0 0 e x)) (fun x => v (ix3 0 x ⟨e.val, by omega⟩)) := by
  pointwise [first, k0_pay11, k0_pay5, k0_pay7, k0_pay8, k0_pay9, k0_pay10, k0_pay6, k0_pay3, k0_pay4, k0_pay2]
  rfl

theorem both_first (c0 : Vec Ideal S8x2048 .f32) (c1 : Vec Ideal S8x128 .f32) (q k v : Vec Ideal S1x8x128 .f32)
    (kt vt kt' vt' : Vec Ideal S1x1x1x64x2048 .f32) (t : Fin 8) (e : Fin 64) :
    both c0 c1 q k v kt vt kt' vt' (ix2 t ⟨e.val, by omega⟩) = first c0 c1 q k v kt vt (ix2 t e) := by
  unfold both
  generalize first c0 c1 q k v kt vt = P
  pointwise [k0_pay16]

theorem both_second (c0 : Vec Ideal S8x2048 .f32) (c1 : Vec Ideal S8x128 .f32) (q k v : Vec Ideal S1x8x128 .f32)
    (kt vt kt' vt' : Vec Ideal S1x1x1x64x2048 .f32) (t : Fin 8) (e : Fin 64) :
    both c0 c1 q k v kt vt kt' vt' (ix2 t ⟨64 + e.val, by omega⟩)
    = quotient (fun x => c0 (ix2 t x)) (fun x => ∑ j : Fin 64, q (ix3 0 t ⟨64 + j.val, by omega⟩) * kt' (ix5 0 0 0 j x))
      (fun x => c1 (ix2 t x))
      (fun x => ∑ j : Fin 64, q (ix3 0 t ⟨64 + j.val, by omega⟩) * if h : x.val < 8 then k (ix3 0 ⟨x.val, h⟩ ⟨64 + j.val, by omega⟩) else 0)
      (fun x => ∑ j : Fin 64, q (ix3 0 t ⟨64 + j.val, by omega⟩) * k (ix3 0 x ⟨64 + j.val, by omega⟩))
      (fun x => ∑ j : Fin 64, q (ix3 0 t ⟨64 + j.val, by omega⟩) * 0)
      (fun x => vt' (ix5 0 0 0 e x)) (fun x => v (ix3 0 x ⟨64 + e.val, by omega⟩)) := by
  unfold both
  generalize first c0 c1 q k v kt vt = P
  pointwise [k0_pay16, k0_pay5, k0_pay13, k0_pay14, k0_pay15, k0_pay12, k0_pay3, k0_pay4, k0_pay2]
  rfl

end Cert.DecodeIdeal.Head

end
-- ==== Proof.Decode.Body.lean ====
/- The block one grid point of the decoding call writes: eight rows (the new tokens of one batch) by four pairs of heads, each pair's
   128 columns stored together. -/
module

public import proofs.«01_k».proof.Proof.Decode.Head

@[expose] public section

set_option maxRecDepth 16384

noncomputable section

namespace Cert.DecodeIdeal.Head

open Cert.DecodeIdeal Cert.DecodeIdeal.Gen Cert.DecodeIdeal.Value Cert.Weights Idealize.ShloMosaic Idealize.ShloMosaic.TcCoe Idealize.SL.Sem

theorem hz : (![0, 0] : Fin 2 → Nat) = fun _ => 0 := funext fun a => by fin_cases a <;> rfl

variable (x0 x1 x2 : Vec Ideal S4x8x128 .f32) (x3 x4 : Vec Ideal S1x1x8x64x2048 .f32) (x5 : Vec Ideal S8x2048 .f32)
  (x6 : Vec Ideal S8x128 .f32)

/-- One pair's rows. -/
def pairRows (x : Vec Ideal S4x8x128 .f32) (p : Fin 4) : Vec Ideal S1x8x128 .f32 := fun y => x (ix3 p (y 1) (y 2))

/-- One head's slab of a cache, a lane a row. -/
def slab (x : Vec Ideal S1x1x8x64x2048 .f32) (h : Fin 8) : Vec Ideal S1x1x1x64x2048 .f32 := fun y => x (ix5 0 0 h (y 3) (y 4))

/-- The block's columns of one pair. -/
def pairOut (p : Fin 4) : FVec Ideal S8x128 .f32 :=
  both x5 x6 (pairRows x0 p) (pairRows x1 p) (pairRows x2 p) (slab x3 ⟨2 * p.val, by omega⟩) (slab x4 ⟨2 * p.val, by omega⟩)
    (slab x3 ⟨2 * p.val + 1, by omega⟩) (slab x4 ⟨2 * p.val + 1, by omega⟩)

theorem ld_pair (x : Vec Ideal S4x8x128 .f32) (o : Fin 4) (h) :
    View.ld x (Rect.unit (s := S4x8x128) ![o.val, 0, 0] S1x8x128.size h) = pairRows x o := by
  funext y
  obtain ⟨a, b, d, rfl⟩ : ∃ a b d, y = ix3 a b d := ⟨_, _, _, eq_ix3 y⟩
  obtain rfl : a = 0 := Subsingleton.elim _ _
  refine congrArg x (funext fun i => Fin.ext ?_)
  match i with
  | ⟨0, _⟩ => show o.val + 1 * 0 = o.val; omega
  | ⟨1, _⟩ => show 0 + 1 * b.val = b.val; omega
  | ⟨2, _⟩ => show 0 + 1 * d.val = d.val; omega

theorem ld_slab (x : Vec Ideal S1x1x8x64x2048 .f32) (o : Fin 8) (h) :
    View.ld x (Rect.unit (s := S1x1x8x64x2048) ![0, 0, o.val, 0, 0] S1x1x1x64x2048.size h) = slab x o := by
  funext y
  obtain ⟨a, b, d, e, f, rfl⟩ : ∃ a b d e f, y = ix5 a b d e f := ⟨_, _, _, _, _, eq_ix5 y⟩
  obtain rfl : a = 0 := Subsingleton.elim _ _
  obtain rfl : b = 0 := Subsingleton.elim _ _
  obtain rfl : d = 0 := Subsingleton.elim _ _
  refine congrArg x (funext fun i => Fin.ext ?_)
  match i with
  | ⟨0, _⟩ => rfl
  | ⟨1, _⟩ => rfl
  | ⟨2, _⟩ => show o.val + 1 * 0 = o.val; omega
  | ⟨3, _⟩ => show 0 + 1 * e.val = e.val; omega
  | ⟨4, _⟩ => show 0 + 1 * f.val = f.val; omega

theorem block_apply (t : Fin 8) (p : Fin 4) (e : Fin 128) :
    out0_7 x0 x1 x2 x3 x4 x5 x6 (ix2 t ⟨128 * p.val + e.val, by omega⟩) = pairOut x0 x1 x2 x3 x4 x5 x6 p (ix2 t e) := by
  have e0 : View.ld x5 r0_0 = x5 := View.ld_unit_zero hz _ _
  have e1 : View.ld x6 r0_1 = x6 := View.ld_unit_zero hz _ _
  unfold out0_7
  refine (View.canon_apply_of_pieces (S := S8x512) (fun y => pairOut x0 x1 x2 x3 x4 x5 x6 ⟨(y 1).val / 128, by
    have h : (y 1).val < 512 := (y 1).isLt
    omega⟩ (ix2 (y 0) ⟨(y 1).val % 128, by omega⟩)) _ ?_ _ (cover0_7 _ _ _ _ _)).trans ?_
  · intro q hq
    simp only [List.mem_cons, List.not_mem_nil, or_false] at hq
    have key : ∀ (p : Fin 4) (a : Fin 8) (b : Fin 128) (y : S8x512.Idx), (y 0).val = a.val → (y 1).val = 128 * p.val + b.val →
        pairOut x0 x1 x2 x3 x4 x5 x6 p (ix2 a b) = pairOut x0 x1 x2 x3 x4 x5 x6 ⟨(y 1).val / 128, by
          have h : (y 1).val < 512 := (y 1).isLt
          omega⟩ (ix2 (y 0) ⟨(y 1).val % 128, by omega⟩) := by
      intro p a b y h0 h1
      have hp : p = ⟨(y 1).val / 128, by have h : (y 1).val < 512 := (y 1).isLt; omega⟩ := Fin.ext (by show p.val = _ / 128; omega)
      have ha : a = y 0 := Fin.ext h0.symm
      have hb : b = ⟨(y 1).val % 128, by omega⟩ := Fin.ext (by show b.val = _ % 128; omega)
      rw [← hp, ← ha, ← hb]
    rcases hq with rfl | rfl | rfl | rfl
    all_goals
      intro x
      obtain ⟨a, b, rfl⟩ : ∃ a b, x = ix2 a b := ⟨_, _, eq_ix2 x⟩
    · refine Eq.trans ?_ (key 3 a b _ (by show 0 + 1 * a.val = _; omega) (by show 384 + 1 * b.val = 128 * 3 + b.val; omega))
      show both (View.ld x5 r0_0) (View.ld x6 r0_1) (View.ld x0 r0_14) (View.ld x1 r0_14) (View.ld x2 r0_14) (View.ld x3 r0_15)
        (View.ld x4 r0_15) (View.ld x3 r0_16) (View.ld x4 r0_16) (ix2 a b) = _
      have hp : ∀ x : Vec Ideal S4x8x128 .f32, View.ld x r0_14 = pairRows x 3 := fun x => ld_pair x 3 _
      have ha : ∀ x : Vec Ideal S1x1x8x64x2048 .f32, View.ld x r0_15 = slab x 6 := fun x => ld_slab x 6 _
      have hb : ∀ x : Vec Ideal S1x1x8x64x2048 .f32, View.ld x r0_16 = slab x 7 := fun x => ld_slab x 7 _
      rw [e0, e1, hp, hp, hp, ha, ha, hb, hb]
      rfl
    · refine Eq.trans ?_ (key 2 a b _ (by show 0 + 1 * a.val = _; omega) (by show 256 + 1 * b.val = 128 * 2 + b.val; omega))
      show both (View.ld x5 r0_0) (View.ld x6 r0_1) (View.ld x0 r0_10) (View.ld x1 r0_10) (View.ld x2 r0_10) (View.ld x3 r0_11)
        (View.ld x4 r0_11) (View.ld x3 r0_12) (View.ld x4 r0_12) (ix2 a b) = _
      have hp : ∀ x : Vec Ideal S4x8x128 .f32, View.ld x r0_10 = pairRows x 2 := fun x => ld_pair x 2 _
      have ha : ∀ x : Vec Ideal S1x1x8x64x2048 .f32, View.ld x r0_11 = slab x 4 := fun x => ld_slab x 4 _
      have hb : ∀ x : Vec Ideal S1x1x8x64x2048 .f32, View.ld x r0_12 = slab x 5 := fun x => ld_slab x 5 _
      rw [e0, e1, hp, hp, hp, ha, ha, hb, hb]
      rfl
    · refine Eq.trans ?_ (key 1 a b _ (by show 0 + 1 * a.val = _; omega) (by show 128 + 1 * b.val = 128 * 1 + b.val; omega))
      show both (View.ld x5 r0_0) (View.ld x6 r0_1) (View.ld x0 r0_6) (View.ld x1 r0_6) (View.ld x2 r0_6) (View.ld x3 r0_7)
        (View.ld x4 r0_7) (View.ld x3 r0_8) (View.ld x4 r0_8) (ix2 a b) = _
      have hp : ∀ x : Vec Ideal S4x8x128 .f32, View.ld x r0_6 = pairRows x 1 := fun x => ld_pair x 1 _
      have ha : ∀ x : Vec Ideal S1x1x8x64x2048 .f32, View.ld x r0_7 = slab x 2 := fun x => ld_slab x 2 _
      have hb : ∀ x : Vec Ideal S1x1x8x64x2048 .f32, View.ld x r0_8 = slab x 3 := fun x => ld_slab x 3 _
      rw [e0, e1, hp, hp, hp, ha, ha, hb, hb]
      rfl
    · refine Eq.trans ?_ (key 0 a b _ (by show 0 + 1 * a.val = _; omega) (by show 0 + 1 * b.val = 128 * 0 + b.val; omega))
      show both (View.ld x5 r0_0) (View.ld x6 r0_1) (View.ld x0 r0_2) (View.ld x1 r0_2) (View.ld x2 r0_2) (View.ld x3 r0_3)
        (View.ld x4 r0_3) (View.ld x3 r0_4) (View.ld x4 r0_4) (ix2 a b) = _
      have hp : ∀ x : Vec Ideal S4x8x128 .f32, View.ld x r0_2 = pairRows x 0 := fun x => ld_pair x 0 _
      have ha : ∀ x : Vec Ideal S1x1x8x64x2048 .f32, View.ld x r0_3 = slab x 0 := fun x => ld_slab x 0 _
      have hb : ∀ x : Vec Ideal S1x1x8x64x2048 .f32, View.ld x r0_4 = slab x 1 := fun x => ld_slab x 1 _
      rw [e0, e1, hp, hp, hp, ha, ha, hb, hb]
      rfl
  · have hp : (⟨(128 * p.val + e.val) / 128, by omega⟩ : Fin 4) = p := Fin.ext (by show _ / 128 = p.val; omega)
    have he : (⟨(128 * p.val + e.val) % 128, by omega⟩ : Fin 128) = e := Fin.ext (by show _ % 128 = e.val; omega)
    show pairOut x0 x1 x2 x3 x4 x5 x6 ⟨(128 * p.val + e.val) / 128, _⟩ (ix2 t ⟨(128 * p.val + e.val) % 128, _⟩) = _
    rw [hp, he]

end Cert.DecodeIdeal.Head

end
-- ==== Proof.Decode.TableWords.lean ====
/- The words of the kernel's two tables, entry by entry: each is the bits of how many windows reach a key. -/
module

public import proofs.«01_k».proof.Proof.Gen.DecodeIdeal.Value

@[expose] public section

set_option maxRecDepth 16384

noncomputable section

namespace Cert.DecodeIdeal.Table

open Cert.DecodeIdeal

/-- How many windows reach key `k` from the new token `t`, over the naturals. -/
def countNat (t k : Nat) : Nat :=
  (if k ≤ 2048 + t ∧ 1 ∣ (2048 + t - k) ∧ 2048 + t - k ≤ 128 * 1 then 1 else 0)
    + (if k ≤ 2048 + t ∧ 4 ∣ (2048 + t - k) ∧ 2048 + t - k ≤ 128 * 4 then 1 else 0)
    + (if k ≤ 2048 + t ∧ 16 ∣ (2048 + t - k) ∧ 2048 + t - k ≤ 128 * 16 then 1 else 0)

/-- The bits of a small whole number. -/
def word (n : Nat) : BitVec 32 := if n = 0 then 0x00000000#32 else if n = 1 then 0x3F800000#32 else if n = 2 then 0x40000000#32 else 0x40400000#32

/-- The first table's entry `i`, row by row. -/
def oldWord (i : Nat) : BitVec 32 := lit0t i

/-- The second table's entry `i`. -/
def newWord (i : Nat) : BitVec 32 := lit1t i

theorem old_word : ∀ t : Fin 8, ∀ a : Fin 16, ∀ b : Fin 128,
    oldWord (t.val * 2048 + (a.val * 128 + b.val)) = word (countNat t.val (a.val * 128 + b.val)) := by decide +kernel

theorem new_word : ∀ t : Fin 8, ∀ b : Fin 128,
    newWord (t.val * 128 + b.val) = word (if b.val < 8 then countNat t.val (2048 + b.val) else 0) := by decide +kernel

end Cert.DecodeIdeal.Table

end
-- ==== Proof.Decode.Table.lean ====
/- The two tables the kernel is handed: how many of the three windows reach each key, the cached keys first, then the new ones
   with empty rows after them. -/
module

public import proofs.«01_k».proof.Proof.Decode.TableWords
public import proofs.«01_k».proof.Proof.Decode.Head

@[expose] public section

set_option maxRecDepth 16384

noncomputable section

namespace Cert.DecodeIdeal.Table

open Cert.DecodeIdeal Cert.DecodeIdeal.Gen Cert.DecodeIdeal.Head Cert.Weights Idealize.ShloMosaic

theorem count_eq (t : Fin 8) (k : Fin 2056) : count t k = countNat t.val k.val := by
  show (∑ g, if reach (stride g) t k then 1 else 0) = _
  rw [Fin.sum_univ_three]
  rfl

theorem word_eq (n : Nat) (h : n ≤ 3) : Ideal.ofBits .f32 (word n) = ((n : ℝ) : EReal) := by
  obtain rfl | rfl | rfl | rfl : n = 0 ∨ n = 1 ∨ n = 2 ∨ n = 3 := by omega
  · show Ideal.ofBits .f32 0x00000000#32 = _
    rw [Ideal.ofBits_zero_f32]; simp
  · show Ideal.ofBits .f32 0x3F800000#32 = _
    rw [Ideal.ofBits_one_f32]; simp
  · show Ideal.ofBits .f32 0x40000000#32 = _
    simp [Ideal.ofBits, Ideal.ieee, -EReal.coe_mul]; norm_num
  · show Ideal.ofBits .f32 0x40400000#32 = _
    simp [Ideal.ofBits, Ideal.ieee, -EReal.coe_mul]; norm_num

theorem count_le (t : Fin 8) (k : Fin 2056) : count t k ≤ 3 := by
  rw [count_eq]; unfold countNat; split <;> split <;> split <;> decide

/-- The first table at row `t`, key `k`. -/
theorem old_apply (t : Fin 8) (k : Fin 2048) :
    Ideal.ofBits .f32 (lit0 (S8x2048.rowMajor (ix2 t k))) = ((count t ⟨k.val, by omega⟩ : ℝ) : EReal) := by
  have hr : (S8x2048.rowMajor (ix2 t k)).val = t.val * 2048 + (k.val / 128 * 128 + k.val % 128) :=
    (Shape.rowMajor_val_two (ix2 t k)).trans (by show t.val * 2048 + k.val = _; omega)
  have hn : countNat t.val (k.val / 128 * 128 + k.val % 128) = count t ⟨k.val, by omega⟩ := by
    rw [count_eq]; congr 1; show _ = k.val; omega
  have h : Ideal.ofBits .f32 (oldWord (S8x2048.rowMajor (ix2 t k)).val) = ((count t ⟨k.val, by omega⟩ : ℝ) : EReal) := by
    rw [hr]
    refine (congrArg (Ideal.ofBits .f32) (old_word t ⟨k.val / 128, by omega⟩ ⟨k.val % 128, by omega⟩)).trans ?_
    refine (congrArg (fun n => Ideal.ofBits .f32 (word n)) hn).trans ?_
    exact word_eq _ (count_le _ _)
  exact h

/-- The second table at row `t`, new key `b`: nothing after the eighth. -/
theorem new_apply (t : Fin 8) (b : Fin 128) :
    Ideal.ofBits .f32 (lit1 (S8x128.rowMajor (ix2 t b))) = ((fresh t b : ℝ) : EReal) := by
  have hr : (S8x128.rowMajor (ix2 t b)).val = t.val * 128 + b.val := Shape.rowMajor_val_two (ix2 t b)
  have hn : (if b.val < 8 then countNat t.val (2048 + b.val) else 0) = fresh t b := by
    unfold fresh
    by_cases hb : b.val < 8
    · rw [if_pos hb, dif_pos hb, count_eq]
    · rw [if_neg hb, dif_neg hb]
  have hle : fresh t b ≤ 3 := by
    unfold fresh
    split
    · exact count_le _ _
    · omega
  have h : Ideal.ofBits .f32 (newWord (S8x128.rowMajor (ix2 t b)).val) = ((fresh t b : ℝ) : EReal) := by
    rw [hr, new_word t b, hn]
    exact word_eq _ hle
  exact h

end Cert.DecodeIdeal.Table

end
-- ==== Proof.Decode.Spec.lean ====
/- What the decoding call computes, of its five arguments: for each batch, new token and head the attention over the 2056 keys
   (the cache and the eight new ones), a key counted once for every stride whose window reaches it. -/
module

public import proofs.«01_k».proof.DecodeIdeal
public import proofs.«01_k».proof.Proof.Decode.Weights

@[expose] public section

noncomputable section

namespace Cert.DecodeSpec

open Cert.DecodeIdeal Cert.Weights Idealize.ShloMosaic

variable (x0 x1 x2 : Vec Ideal S32x8x8x64 .f32) (x3 x4 : Vec Ideal S2x32x2048x8x64 .f32)

/-- Every entry a real number. -/
def Finite {s : Shape} (x : Vec Ideal s .f32) : Prop := ∀ i, ∃ r : ℝ, x i = (r : EReal)

/-- Key (or value) `k` of a batch and a head: of the cache's first member, then of the new ones. -/
def row (new : Vec Ideal S32x8x8x64 .f32) (cache : Vec Ideal S2x32x2048x8x64 .f32) (b : Fin 32) (h : Fin 8) (k : Fin 2056) (e : Fin 64) : EReal :=
  if hk : k.val < 2048 then cache (ix5 0 b ⟨k.val, hk⟩ h e) else new (ix4 b ⟨k.val - 2048, by omega⟩ h e)

theorem row_old (new : Vec Ideal S32x8x8x64 .f32) (cache : Vec Ideal S2x32x2048x8x64 .f32) (b : Fin 32) (h : Fin 8) (k : Fin 2048) (e : Fin 64) :
    row new cache b h ⟨k.val, by omega⟩ e = cache (ix5 0 b k h e) := dif_pos k.isLt

theorem row_new (new : Vec Ideal S32x8x8x64 .f32) (cache : Vec Ideal S2x32x2048x8x64 .f32) (b : Fin 32) (h : Fin 8) (k : Fin 8) (e : Fin 64) :
    row new cache b h ⟨2048 + k.val, by omega⟩ e = new (ix4 b k h e) := by
  unfold row
  rw [dif_neg (by show ¬ 2048 + k.val < 2048; omega)]
  have hk : (⟨2048 + k.val - 2048, by omega⟩ : Fin 8) = k := Fin.ext (by show 2048 + k.val - 2048 = k.val; omega)
  exact congrArg (fun z => new (ix4 b z h e)) hk

theorem row_real {new : Vec Ideal S32x8x8x64 .f32} {cache : Vec Ideal S2x32x2048x8x64 .f32} (hn : Finite new) (hc : Finite cache)
    (b : Fin 32) (h : Fin 8) (k : Fin 2056) (e : Fin 64) : ∃ r : ℝ, row new cache b h k e = (r : EReal) := by
  unfold row
  split
  · exact hc _
  · exact hn _

/-- The score of key `k` for token `t`. -/
def score (b : Fin 32) (h t : Fin 8) (k : Fin 2056) : EReal := ∑ e : Fin 64, x0 (ix4 b t h e) * row x1 x3 b h k e

theorem score_real (h0 : Finite x0) (h1 : Finite x1) (h3 : Finite x3) (b : Fin 32) (h t : Fin 8) (k : Fin 2056) :
    score x0 x1 x3 b h t k = (((score x0 x1 x3 b h t k).toReal : ℝ) : EReal) := by
  obtain ⟨r, hr⟩ := sum_mul_real (fun e : Fin 64 => x0 (ix4 b t h e)) (fun e => row x1 x3 b h k e) (fun e => h0 _) (fun e => row_real h1 h3 b h k e)
  have : score x0 x1 x3 b h t k = (r : EReal) := hr
  rw [this, EReal.toReal_coe]

/-- The attention of token `t` at head `h`, column `e`. -/
def att (b : Fin 32) (h t : Fin 8) (e : Fin 64) : EReal :=
  attention t (fun k => (score x0 x1 x3 b h t k).toReal) (fun k => row x2 x4 b h k e)

/-- The call's result: a row a batch's token, a column a head's. -/
def want (y : S256x512.Idx) : EReal :=
  have h0 : (y 0).val < 256 := (y 0).isLt
  have h1 : (y 1).val < 512 := (y 1).isLt
  att x0 x1 x2 x3 x4 ⟨(y 0).val / 8, by omega⟩ ⟨(y 1).val / 64, by omega⟩ ⟨(y 0).val % 8, by omega⟩ ⟨(y 1).val % 64, by omega⟩

theorem want_apply (b : Fin 32) (h t : Fin 8) (e : Fin 64) :
    want x0 x1 x2 x3 x4 (ix2 ⟨8 * b.val + t.val, by omega⟩ ⟨64 * h.val + e.val, by omega⟩) = att x0 x1 x2 x3 x4 b h t e := by
  have e0 : (⟨(8 * b.val + t.val) / 8, by omega⟩ : Fin 32) = b := Fin.ext (by show _ / 8 = b.val; omega)
  have e1 : (⟨(64 * h.val + e.val) / 64, by omega⟩ : Fin 8) = h := Fin.ext (by show _ / 64 = h.val; omega)
  have e2 : (⟨(8 * b.val + t.val) % 8, by omega⟩ : Fin 8) = t := Fin.ext (by show _ % 8 = t.val; omega)
  have e3 : (⟨(64 * h.val + e.val) % 64, by omega⟩ : Fin 64) = e := Fin.ext (by show _ % 64 = e.val; omega)
  show att x0 x1 x2 x3 x4 ⟨(8 * b.val + t.val) / 8, _⟩ ⟨(64 * h.val + e.val) / 64, _⟩ ⟨(8 * b.val + t.val) % 8, _⟩ ⟨(64 * h.val + e.val) % 64, _⟩ = _
  rw [e0, e1, e2, e3]

end Cert.DecodeSpec

end
-- ==== Proof.Decode.Windows.lean ====
/- What each window of the decoding call holds at a grid point, in terms of the call's arguments: grid point `t` is batch `t`. -/
module

public import proofs.«01_k».proof.Proof.Decode.Spec
public import proofs.«01_k».proof.Proof.Gen.DecodeIdeal.Value
public import Idealize.ShloMosaic.Lib.Pipeline.ValueKit
public import Idealize.ShloMosaic.Lib.Pointwise

@[expose] public section

set_option maxRecDepth 16384

noncomputable section

namespace Cert.DecodeIdeal.Block

open Cert.DecodeIdeal Cert.DecodeIdeal.Gen Cert.DecodeIdeal.Value Cert.DecodeSpec Idealize.ShloMosaic Idealize.ShloMosaic.TcCoe Idealize.SL.Sem

variable (m : (ℓ : Loc nD τ sig) → Buf (Elt Ideal) ℓ) (c : Dev nD)

/-- The batch a grid point works on. -/
abbrev bat (t : Fin cfg0.N) : Fin 32 := ⟨t.val, t.isLt⟩

/-- A row array: the heads taken two at a time, the pair's axis moved in front of the rows'. -/
def pairs (x : Vec Ideal S32x8x8x64 .f32) : Vec Ideal S4x256x128 .f32 :=
  transpose S4x256x128 [1, 0, 2] (shapeCast S256x4x128 x shapeCasts_S32x8x8x64_S256x4x128) transposes_S256x4x128_S4x256x128_1_0_2

theorem pairs_apply (x : Vec Ideal S32x8x8x64 .f32) (p : Fin 4) (d : Fin 2) (b : Fin 32) (r : Fin 8) (e : Fin 64) :
    pairs x (ix3 p ⟨8 * b.val + r.val, by omega⟩ ⟨64 * d.val + e.val, by omega⟩) = x (ix4 b r ⟨2 * p.val + d.val, by omega⟩ e) := by
  show shapeCast S256x4x128 x shapeCasts_S32x8x8x64_S256x4x128 (ix3 ⟨8 * b.val + r.val, by omega⟩ p ⟨64 * d.val + e.val, by omega⟩) = _
  refine shapeCast_apply x _ _ _ ?_
  rw [Shape.rowMajor_val_three, Shape.rowMajor_val_four]
  show ((b.val * 8 + r.val) * 8 + (2 * p.val + d.val)) * 64 + e.val = ((8 * b.val + r.val) * 4 + p.val) * 128 + (64 * d.val + e.val)
  omega

/-- A cache: the keys' axis moved last. -/
def lanes (x : Vec Ideal S2x32x2048x8x64 .f32) : Vec Ideal S2x32x8x64x2048 .f32 :=
  transpose S2x32x8x64x2048 [0, 1, 3, 4, 2] x transposes_S2x32x2048x8x64_S2x32x8x64x2048_0_1_3_4_2

theorem lanes_apply (x : Vec Ideal S2x32x2048x8x64 .f32) (g : Fin 2) (b : Fin 32) (h : Fin 8) (e : Fin 64) (k : Fin 2048) :
    lanes x (ix5 g b h e k) = x (ix5 g b k h e) := by
  unfold lanes
  pointwise!

theorem V_q : (V m c main_v3 : Vec Ideal S4x256x128 .f32) = pairs (m ((c : Thread nD τ).loc main_arg0)) := by
  simp only [V, hostOps0]
  after_results_simp
  rfl
theorem V_k : (V m c main_v5 : Vec Ideal S4x256x128 .f32) = pairs (m ((c : Thread nD τ).loc main_arg1)) := by
  simp only [V, hostOps0]
  after_results_simp
  rfl
theorem V_v : (V m c main_v7 : Vec Ideal S4x256x128 .f32) = pairs (m ((c : Thread nD τ).loc main_arg2)) := by
  simp only [V, hostOps0]
  after_results_simp
  rfl
theorem V_kt : (V m c main_v0 : Vec Ideal S2x32x8x64x2048 .f32) = lanes (m ((c : Thread nD τ).loc main_arg3)) := by
  simp only [V, hostOps0]
  after_results_simp
  rfl
theorem V_vt : (V m c main_v1 : Vec Ideal S2x32x8x64x2048 .f32) = lanes (m ((c : Thread nD τ).loc main_arg4)) := by
  simp only [V, hostOps0]
  after_results_simp
  rfl
theorem V_old : (V m c main_cst : Vec Ideal S8x2048 .f32) = fun i => Ideal.ofBits .f32 (lit0 (S8x2048.rowMajor i)) := by
  simp only [V, hostOps0]
  after_results_simp
  rfl
theorem V_new : (V m c main_cst_0 : Vec Ideal S8x128 .f32) = fun i => Ideal.ofBits .f32 (lit1 (S8x128.rowMajor i)) := by
  simp only [V, hostOps0]
  after_results_simp
  rfl

theorem at0 : ∀ t : Fin cfg0.N, win0_0.index t (0 : Fin 3) = 0 ∧ win0_0.index t (1 : Fin 3) = t.val ∧ win0_0.index t (2 : Fin 3) = 0 := (by decide +kernel : ∀ t : Fin grid0.N, _)
theorem at1 : ∀ t : Fin cfg0.N, win0_1.index t (0 : Fin 3) = 0 ∧ win0_1.index t (1 : Fin 3) = t.val ∧ win0_1.index t (2 : Fin 3) = 0 := (by decide +kernel : ∀ t : Fin grid0.N, _)
theorem at2 : ∀ t : Fin cfg0.N, win0_2.index t (0 : Fin 3) = 0 ∧ win0_2.index t (1 : Fin 3) = t.val ∧ win0_2.index t (2 : Fin 3) = 0 := (by decide +kernel : ∀ t : Fin grid0.N, _)
theorem emb0 (t : Fin cfg0.N) (p : Fin 4) (r : Fin 8) (j : Fin 128) : ((cfg0.win 0).blk t).view.emb (ix3 p r j) = ix3 p ⟨8 * (bat t).val + r.val, by omega⟩ j := by
  obtain ⟨a, b, d⟩ := at0 t
  funext i; apply Fin.ext
  match i with
  | ⟨0, _⟩ => show win0_0.index t (0 : Fin 3) * 4 + 1 * p.val = p.val; omega
  | ⟨1, _⟩ => show win0_0.index t (1 : Fin 3) * 8 + 1 * r.val = 8 * t.val + r.val; omega
  | ⟨2, _⟩ => show win0_0.index t (2 : Fin 3) * 128 + 1 * j.val = j.val; omega
theorem emb1 (t : Fin cfg0.N) (p : Fin 4) (r : Fin 8) (j : Fin 128) : ((cfg0.win 1).blk t).view.emb (ix3 p r j) = ix3 p ⟨8 * (bat t).val + r.val, by omega⟩ j := by
  obtain ⟨a, b, d⟩ := at1 t
  funext i; apply Fin.ext
  match i with
  | ⟨0, _⟩ => show win0_1.index t (0 : Fin 3) * 4 + 1 * p.val = p.val; omega
  | ⟨1, _⟩ => show win0_1.index t (1 : Fin 3) * 8 + 1 * r.val = 8 * t.val + r.val; omega
  | ⟨2, _⟩ => show win0_1.index t (2 : Fin 3) * 128 + 1 * j.val = j.val; omega
theorem emb2 (t : Fin cfg0.N) (p : Fin 4) (r : Fin 8) (j : Fin 128) : ((cfg0.win 2).blk t).view.emb (ix3 p r j) = ix3 p ⟨8 * (bat t).val + r.val, by omega⟩ j := by
  obtain ⟨a, b, d⟩ := at2 t
  funext i; apply Fin.ext
  match i with
  | ⟨0, _⟩ => show win0_2.index t (0 : Fin 3) * 4 + 1 * p.val = p.val; omega
  | ⟨1, _⟩ => show win0_2.index t (1 : Fin 3) * 8 + 1 * r.val = 8 * t.val + r.val; omega
  | ⟨2, _⟩ => show win0_2.index t (2 : Fin 3) * 128 + 1 * j.val = j.val; omega

theorem blk0 (t : Fin cfg0.N) (p : Fin 4) (r : Fin 8) (d : Fin 2) (e : Fin 64) :
    iblk m c 0 t (ix3 p r ⟨64 * d.val + e.val, by omega⟩) = m ((c : Thread nD τ).loc main_arg0) (ix4 (bat t) r ⟨2 * p.val + d.val, by omega⟩ e) := by
  show V m c main_v3 (((cfg0.win 0).blk t).view.emb (ix3 p r _)) = _
  rw [emb0]
  exact (congrFun (V_q m c) _).trans (pairs_apply _ p d (bat t) r e)
theorem blk1 (t : Fin cfg0.N) (p : Fin 4) (r : Fin 8) (d : Fin 2) (e : Fin 64) :
    iblk m c 1 t (ix3 p r ⟨64 * d.val + e.val, by omega⟩) = m ((c : Thread nD τ).loc main_arg1) (ix4 (bat t) r ⟨2 * p.val + d.val, by omega⟩ e) := by
  show V m c main_v5 (((cfg0.win 1).blk t).view.emb (ix3 p r _)) = _
  rw [emb1]
  exact (congrFun (V_k m c) _).trans (pairs_apply _ p d (bat t) r e)
theorem blk2 (t : Fin cfg0.N) (p : Fin 4) (r : Fin 8) (d : Fin 2) (e : Fin 64) :
    iblk m c 2 t (ix3 p r ⟨64 * d.val + e.val, by omega⟩) = m ((c : Thread nD τ).loc main_arg2) (ix4 (bat t) r ⟨2 * p.val + d.val, by omega⟩ e) := by
  show V m c main_v7 (((cfg0.win 2).blk t).view.emb (ix3 p r _)) = _
  rw [emb2]
  exact (congrFun (V_v m c) _).trans (pairs_apply _ p d (bat t) r e)

theorem at3 : ∀ t : Fin cfg0.N, win0_3.index t (0 : Fin 5) = 0 ∧ win0_3.index t (1 : Fin 5) = t.val ∧ win0_3.index t (2 : Fin 5) = 0
    ∧ win0_3.index t (3 : Fin 5) = 0 ∧ win0_3.index t (4 : Fin 5) = 0 := (by decide +kernel : ∀ t : Fin grid0.N, _)
theorem at4 : ∀ t : Fin cfg0.N, win0_4.index t (0 : Fin 5) = 0 ∧ win0_4.index t (1 : Fin 5) = t.val ∧ win0_4.index t (2 : Fin 5) = 0
    ∧ win0_4.index t (3 : Fin 5) = 0 ∧ win0_4.index t (4 : Fin 5) = 0 := (by decide +kernel : ∀ t : Fin grid0.N, _)
theorem emb3 (t : Fin cfg0.N) (h : Fin 8) (e : Fin 64) (k : Fin 2048) : ((cfg0.win 3).blk t).view.emb (ix5 0 0 h e k) = ix5 0 (bat t) h e k := by
  obtain ⟨a0, a1, a2, a3, a4⟩ := at3 t
  funext i; apply Fin.ext
  match i with
  | ⟨0, _⟩ => show win0_3.index t (0 : Fin 5) * 1 + 1 * 0 = 0; omega
  | ⟨1, _⟩ => show win0_3.index t (1 : Fin 5) * 1 + 1 * 0 = t.val; omega
  | ⟨2, _⟩ => show win0_3.index t (2 : Fin 5) * 8 + 1 * h.val = h.val; omega
  | ⟨3, _⟩ => show win0_3.index t (3 : Fin 5) * 64 + 1 * e.val = e.val; omega
  | ⟨4, _⟩ => show win0_3.index t (4 : Fin 5) * 2048 + 1 * k.val = k.val; omega
theorem emb4 (t : Fin cfg0.N) (h : Fin 8) (e : Fin 64) (k : Fin 2048) : ((cfg0.win 4).blk t).view.emb (ix5 0 0 h e k) = ix5 0 (bat t) h e k := by
  obtain ⟨a0, a1, a2, a3, a4⟩ := at4 t
  funext i; apply Fin.ext
  match i with
  | ⟨0, _⟩ => show win0_4.index t (0 : Fin 5) * 1 + 1 * 0 = 0; omega
  | ⟨1, _⟩ => show win0_4.index t (1 : Fin 5) * 1 + 1 * 0 = t.val; omega
  | ⟨2, _⟩ => show win0_4.index t (2 : Fin 5) * 8 + 1 * h.val = h.val; omega
  | ⟨3, _⟩ => show win0_4.index t (3 : Fin 5) * 64 + 1 * e.val = e.val; omega
  | ⟨4, _⟩ => show win0_4.index t (4 : Fin 5) * 2048 + 1 * k.val = k.val; omega

theorem blk3 (t : Fin cfg0.N) (h : Fin 8) (e : Fin 64) (k : Fin 2048) :
    iblk m c 3 t (ix5 0 0 h e k) = m ((c : Thread nD τ).loc main_arg3) (ix5 0 (bat t) k h e) := by
  show V m c main_v0 (((cfg0.win 3).blk t).view.emb (ix5 0 0 h e k)) = _
  rw [emb3]
  exact (congrFun (V_kt m c) _).trans (lanes_apply _ 0 (bat t) h e k)
theorem blk4 (t : Fin cfg0.N) (h : Fin 8) (e : Fin 64) (k : Fin 2048) :
    iblk m c 4 t (ix5 0 0 h e k) = m ((c : Thread nD τ).loc main_arg4) (ix5 0 (bat t) k h e) := by
  show V m c main_v1 (((cfg0.win 4).blk t).view.emb (ix5 0 0 h e k)) = _
  rw [emb4]
  exact (congrFun (V_vt m c) _).trans (lanes_apply _ 0 (bat t) h e k)

theorem at5 : ∀ t : Fin cfg0.N, win0_5.index t (0 : Fin 2) = 0 ∧ win0_5.index t (1 : Fin 2) = 0 := (by decide +kernel : ∀ t : Fin grid0.N, _)
theorem at6 : ∀ t : Fin cfg0.N, win0_6.index t (0 : Fin 2) = 0 ∧ win0_6.index t (1 : Fin 2) = 0 := (by decide +kernel : ∀ t : Fin grid0.N, _)
theorem emb5 (t : Fin cfg0.N) (r : Fin 8) (k : Fin 2048) : ((cfg0.win 5).blk t).view.emb (ix2 r k) = ix2 r k := by
  obtain ⟨a, b⟩ := at5 t
  funext i; apply Fin.ext
  match i with
  | ⟨0, _⟩ => show win0_5.index t (0 : Fin 2) * 8 + 1 * r.val = r.val; omega
  | ⟨1, _⟩ => show win0_5.index t (1 : Fin 2) * 2048 + 1 * k.val = k.val; omega
theorem emb6 (t : Fin cfg0.N) (r : Fin 8) (k : Fin 128) : ((cfg0.win 6).blk t).view.emb (ix2 r k) = ix2 r k := by
  obtain ⟨a, b⟩ := at6 t
  funext i; apply Fin.ext
  match i with
  | ⟨0, _⟩ => show win0_6.index t (0 : Fin 2) * 8 + 1 * r.val = r.val; omega
  | ⟨1, _⟩ => show win0_6.index t (1 : Fin 2) * 128 + 1 * k.val = k.val; omega

theorem blk5 (t : Fin cfg0.N) (r : Fin 8) (k : Fin 2048) : iblk m c 5 t (ix2 r k) = Ideal.ofBits .f32 (lit0 (S8x2048.rowMajor (ix2 r k))) := by
  show V m c main_cst (((cfg0.win 5).blk t).view.emb (ix2 r k)) = _
  rw [emb5]
  exact congrFun (V_old m c) _
theorem blk6 (t : Fin cfg0.N) (r : Fin 8) (k : Fin 128) : iblk m c 6 t (ix2 r k) = Ideal.ofBits .f32 (lit1 (S8x128.rowMajor (ix2 r k))) := by
  show V m c main_cst_0 (((cfg0.win 6).blk t).view.emb (ix2 r k)) = _
  rw [emb6]
  exact congrFun (V_new m c) _

theorem at7 : ∀ t : Fin cfg0.N, win0_7.index t (0 : Fin 2) = t.val ∧ win0_7.index t (1 : Fin 2) = 0 := (by decide +kernel : ∀ t : Fin grid0.N, _)
theorem emb7 (t : Fin cfg0.N) (r : Fin 8) (j : Fin 512) : ((cfg0.win 7).blk t).view.emb (ix2 r j) = ix2 ⟨8 * (bat t).val + r.val, by omega⟩ j := by
  obtain ⟨a, b⟩ := at7 t
  funext i; apply Fin.ext
  match i with
  | ⟨0, _⟩ => show win0_7.index t (0 : Fin 2) * 8 + 1 * r.val = 8 * t.val + r.val; omega
  | ⟨1, _⟩ => show win0_7.index t (1 : Fin 2) * 512 + 1 * j.val = j.val; omega

end Cert.DecodeIdeal.Block

end
-- ==== Proof.Decode.Final.lean ====
/- The decoding call's result array after the run: every block the grid points write back is the attention of its batch's tokens. -/
module

public import proofs.«01_k».proof.Proof.Decode.Body
public import proofs.«01_k».proof.Proof.Decode.Table
public import proofs.«01_k».proof.Proof.Decode.Windows

@[expose] public section

set_option maxRecDepth 16384

noncomputable section

namespace Cert.DecodeIdeal.Block

open Cert.DecodeIdeal Cert.DecodeIdeal.Gen Cert.DecodeIdeal.Value Cert.DecodeIdeal.Head Cert.DecodeIdeal.Table Cert.DecodeSpec Cert.Weights
open Idealize.ShloMosaic Idealize.ShloMosaic.TcCoe Idealize.SL.Sem

section

variable (x0 x1 x2 : Vec Ideal S32x8x8x64 .f32) (x3 x4 : Vec Ideal S2x32x2048x8x64 .f32)
  (q k v : Vec Ideal S4x8x128 .f32) (kt vt : Vec Ideal S1x1x8x64x2048 .f32) (c0 : Vec Ideal S8x2048 .f32) (c1 : Vec Ideal S8x128 .f32)

/-- One pair's columns, of a block whose windows hold one batch's part of the arguments. -/
theorem pair_att (b : Fin 32) (h0 : Finite x0) (h1 : Finite x1) (h3 : Finite x3)
    (hq : ∀ (p : Fin 4) (r : Fin 8) (d : Fin 2) (e : Fin 64), q (ix3 p r ⟨64 * d.val + e.val, by omega⟩) = x0 (ix4 b r ⟨2 * p.val + d.val, by omega⟩ e))
    (hk : ∀ (p : Fin 4) (r : Fin 8) (d : Fin 2) (e : Fin 64), k (ix3 p r ⟨64 * d.val + e.val, by omega⟩) = x1 (ix4 b r ⟨2 * p.val + d.val, by omega⟩ e))
    (hv : ∀ (p : Fin 4) (r : Fin 8) (d : Fin 2) (e : Fin 64), v (ix3 p r ⟨64 * d.val + e.val, by omega⟩) = x2 (ix4 b r ⟨2 * p.val + d.val, by omega⟩ e))
    (hkt : ∀ (h : Fin 8) (e : Fin 64) (z : Fin 2048), kt (ix5 0 0 h e z) = x3 (ix5 0 b z h e))
    (hvt : ∀ (h : Fin 8) (e : Fin 64) (z : Fin 2048), vt (ix5 0 0 h e z) = x4 (ix5 0 b z h e))
    (hc0 : ∀ (r : Fin 8) (z : Fin 2048), c0 (ix2 r z) = ((count r ⟨z.val, by omega⟩ : ℝ) : EReal))
    (hc1 : ∀ (r : Fin 8) (z : Fin 128), c1 (ix2 r z) = ((fresh r z : ℝ) : EReal))
    (t : Fin 8) (p : Fin 4) (d : Fin 2) (e : Fin 64) :
    pairOut q k v kt vt c0 c1 p (ix2 t ⟨64 * d.val + e.val, by omega⟩) = att x0 x1 x2 x3 x4 b ⟨2 * p.val + d.val, by omega⟩ t e := by
  have sr := score_real x0 x1 x3 h0 h1 h3 b
  have main : ∀ (d : Fin 2) (h : Fin 8) (hh : h.val = 2 * p.val + d.val)
      (y1 : Fin 128 → EReal) (y1b : Fin 120 → EReal)
      (hy1 : ∀ x : Fin 128, y1 x = ∑ j : Fin 64, q (ix3 p t ⟨64 * d.val + j.val, by omega⟩)
        * if h : x.val < 8 then k (ix3 p ⟨x.val, h⟩ ⟨64 * d.val + j.val, by omega⟩) else 0),
      quotient (fun x => c0 (ix2 t x)) (fun x => ∑ j : Fin 64, q (ix3 p t ⟨64 * d.val + j.val, by omega⟩) * kt (ix5 0 0 h j x))
      (fun x => c1 (ix2 t x)) y1
      (fun x => ∑ j : Fin 64, q (ix3 p t ⟨64 * d.val + j.val, by omega⟩) * k (ix3 p x ⟨64 * d.val + j.val, by omega⟩)) y1b
      (fun x => vt (ix5 0 0 h e x)) (fun x => v (ix3 p x ⟨64 * d.val + e.val, by omega⟩)) = att x0 x1 x2 x3 x4 b h t e := by
    intro d h hh y1 y1b hy1
    have eh : (⟨2 * p.val + d.val, by omega⟩ : Fin 8) = h := Fin.ext hh.symm
    refine quotient_eq t (fun z => (score x0 x1 x3 b h t z).toReal) (fun z => row x2 x4 b h z e) _ _ _ _ _ _ _ _
      (hc0 t) (hc1 t) ?_ ?_ ?_ ?_ ?_
    · intro x
      rw [← sr]
      refine Finset.sum_congr rfl fun j _ => ?_
      rw [hq, hkt, eh, row_old]
    · intro x
      rw [← sr]
      refine Finset.sum_congr rfl fun j _ => ?_
      rw [hq, hk, eh, row_new]
    · intro x
      rw [hy1]
      refine sum_mul_real _ _ (fun j => ?_) (fun j => ?_)
      · rw [hq]; exact h0 _
      · split
        · rw [hk]; exact h1 _
        · exact ⟨0, rfl⟩
    · intro x
      exact (hvt h e x).trans (row_old x2 x4 b h x e).symm
    · intro x
      exact ((hv p x d e).trans (by rw [eh])).trans (row_new x2 x4 b h x e).symm
  have z0 : ∀ j : Fin 64, (⟨64 * (0 : Fin 2).val + j.val, by show 64 * 0 + j.val < 128; omega⟩ : Fin 128) = ⟨j.val, by omega⟩ :=
    fun j => Fin.ext (by show 64 * 0 + j.val = j.val; omega)
  fin_cases d
  · refine (congrArg (fun z => pairOut q k v kt vt c0 c1 p (ix2 t z)) (z0 e)).trans ?_
    refine (both_first _ _ _ _ _ _ _ _ _ t e).trans ((first_apply _ _ _ _ _ _ _ t e).trans ?_)
    have := main 0 ⟨2 * p.val, by omega⟩ rfl _ (fun x => ∑ j : Fin 64, q (ix3 p t ⟨64 * (0 : Fin 2).val + j.val, by show 64 * 0 + j.val < 128; omega⟩) * 0) fun x => rfl
    simp only [z0] at this
    exact this
  · refine (both_second _ _ _ _ _ _ _ _ _ t e).trans ?_
    exact main 1 ⟨2 * p.val + 1, by omega⟩ rfl _ _ fun x => rfl

end

variable (m : (ℓ : Loc nD τ sig) → Buf (Elt Ideal) ℓ) (c : Dev nD)

/-- The call's result for its arguments in a memory. -/
def wanted : S256x512.Idx → EReal :=
  want (m ((c : Thread nD τ).loc main_arg0)) (m ((c : Thread nD τ).loc main_arg1)) (m ((c : Thread nD τ).loc main_arg2))
    (m ((c : Thread nD τ).loc main_arg3)) (m ((c : Thread nD τ).loc main_arg4))

theorem final (h0 : Finite (s := S32x8x8x64) (m ((c : Thread nD τ).loc main_arg0))) (h1 : Finite (s := S32x8x8x64) (m ((c : Thread nD τ).loc main_arg1)))
    (h3 : Finite (s := S2x32x2048x8x64) (m ((c : Thread nD τ).loc main_arg3))) :
    (dats m 0 c).arrAt 7 cfg0.N = wanted m c := by
  refine (dats m 0 c).arrAt_eq_of_covers 7 _ (by decide +kernel) fun t _ y => ?_
  obtain ⟨r, j, rfl⟩ : ∃ (r : Fin 8) (j : Fin 512), y = ix2 r j := ⟨_, _, eq_ix2 y⟩
  rw [emb7]
  refine (congrFun (after0_7 m c t) (ix2 r j)).trans ?_
  obtain ⟨p, d, e, hj⟩ : ∃ (p : Fin 4) (d : Fin 2) (e : Fin 64), j = ⟨128 * p.val + (64 * d.val + e.val), by omega⟩ :=
    ⟨⟨j.val / 128, by omega⟩, ⟨j.val / 64 % 2, by omega⟩, ⟨j.val % 64, by omega⟩, Fin.ext (by
      show j.val = 128 * (j.val / 128) + (64 * (j.val / 64 % 2) + j.val % 64); omega)⟩
  subst hj
  refine (block_apply _ _ _ _ _ _ _ r p ⟨64 * d.val + e.val, by omega⟩).trans ?_
  refine (pair_att (m ((c : Thread nD τ).loc main_arg0)) (m ((c : Thread nD τ).loc main_arg1)) (m ((c : Thread nD τ).loc main_arg2))
    (m ((c : Thread nD τ).loc main_arg3)) (m ((c : Thread nD τ).loc main_arg4)) _ _ _ _ _ _ _ (bat t) h0 h1 h3
    (blk0 m c t) (blk1 m c t) (blk2 m c t) (blk3 m c t) (blk4 m c t)
    (fun r z => (blk5 m c t r z).trans (old_apply r z)) (fun r z => (blk6 m c t r z).trans (new_apply r z)) r p d e).trans ?_
  refine (want_apply _ _ _ _ _ (bat t) ⟨2 * p.val + d.val, by omega⟩ r e).symm.trans ?_
  have hc : (⟨64 * (2 * p.val + d.val) + e.val, by omega⟩ : Fin 512) = ⟨128 * p.val + (64 * d.val + e.val), by omega⟩ := Fin.ext (by
    show 64 * (2 * p.val + d.val) + e.val = 128 * p.val + (64 * d.val + e.val); omega)
  exact congrArg (fun z => wanted m c (ix2 ⟨8 * (bat t).val + r.val, by omega⟩ z)) hc

end Cert.DecodeIdeal.Block

end
-- ==== Proof.Decode.Gather.lean ====
/- The reference's windows: which key the `n`-th entry of a stride's window is, and the array gathered from those keys. -/
module

public import proofs.«01_k».proof.Proof.Gen.DecodeRefIdeal.Read
public import Idealize.ShloMosaic.Lib.Pointwise
public import proofs.«01_k».proof.Proof.Decode.Weights

@[expose] public section

set_option maxRecDepth 16384

noncomputable section

namespace Cert.DecodeRefIdeal.Value

open Cert.DecodeRefIdeal Cert.DecodeRefIdeal.Gen Cert.DecodeRefIdeal.Read Cert.Weights Idealize.ShloMosaic Idealize.ShloMosaic.TcCoe Idealize.SL.Sem

/-- The keys' places, for a stride given as a word. -/
def place (w : BitVec 32) : IVec S8x129 32 :=
  subi (broadcastInDim S8x129 ![0, 1] bcast_S8x1_S8x129_0_1
      (addi (broadcastInDim S8x1 ![] bcast_S_S8x1 (constantI S_ 32 2048#32)) (broadcastInDim S8x1 ![0] bcast_S8_S8x1_0 (iotaInDim S8 32 0))))
    (broadcastInDim S8x129 ![0, 1] bcast_S1x129_S8x129_0_1
      (muli (broadcastInDim S1x129 ![] bcast_S_S1x129 (constantI S_ 32 w)) (broadcastInDim S1x129 ![1] bcast_S129_S1x129_1 (iotaInDim S129 32 0))))

/-- A constant at every place. -/
def everywhere (w : BitVec 32) : IVec S8x129 32 := broadcastInDim S8x129 ![] bcast_S_S8x129 (constantI S_ 32 w)

/-- Whether a place is one of the array's. -/
def mask (w : BitVec 32) : IVec S8x129 1 := cmpi .sge (place w) (everywhere 0#32)

/-- The place, not below 0. -/
def low (w : BitVec 32) : IVec S8x129 32 := maxsi (place w) (everywhere 0#32)

/-- The places as a gather takes them. -/
def start (w : BitVec 32) : IVec S8x129x1 32 :=
  broadcastInDim S8x129x1 ![0, 1] bcast_S8x129_S8x129x1_0_1
    (select (cmpi .slt (low w) (everywhere 0#32)) (addi (low w) (everywhere 2056#32)) (low w))

/-- The stride of a group as a word. -/
def strideWord : Fin 3 → BitVec 32 := ![1#32, 4#32, 16#32]

theorem mask_true (g : Fin 3) (t : Fin 8) (n : Fin 129) : mask (strideWord g) (ix2 t n) = 1#1 := by
  unfold mask place everywhere
  pointwise
  revert g t n
  decide +kernel

theorem start_word (g : Fin 3) (t : Fin 8) (n : Fin 129) :
    (start (strideWord g) (ix3 t n 0)).toInt.toNat = (back (stride g) t n).val := by
  unfold start low place everywhere
  pointwise
  revert g t n
  decide +kernel

/-- The rows an array holds at the gathered places. -/
def taken (x : Vec Ideal S32x2056x8x64 .f32) (w : BitVec 32) : Vec Ideal S32x8x129x8x64 .f32 :=
  Host.gather gather_S32x2056x8x64_S8x129x1_S32x8x129x8x64_034_1_n_n_1_2_321864 x (start w)

theorem taken_apply (x : Vec Ideal S32x2056x8x64 .f32) (g : Fin 3) (b : Fin 32) (t : Fin 8) (n : Fin 129) (h : Fin 8) (e : Fin 64) :
    taken x (strideWord g) (ix5 b t n h e) = x (ix4 b (back (stride g) t n) h e) := by
  unfold taken Host.gather
  generalize hD : gather_S32x2056x8x64_S8x129x1_S32x8x129x8x64_034_1_n_n_1_2_321864 = D
  refine congrArg x (funext fun a => Fin.ext ?_)
  show D.start (ix5 b t n h e) (start (strideWord g)) a + D.batchCoord (ix5 b t n h e) a + D.offCoord (ix5 b t n h e) a = _
  subst hD
  rw [GatherDims.batchCoord_eq_zero _ _ _ List.not_mem_nil]
  match a with
  | ⟨0, _⟩ =>
    have h1 : GatherDims.start gather_S32x2056x8x64_S8x129x1_S32x8x129x8x64_034_1_n_n_1_2_321864 (ix5 b t n h e) (start (strideWord g)) 0 = 0 := by
      unfold GatherDims.start; exact dif_neg (by decide)
    have h2 : GatherDims.offCoord gather_S32x2056x8x64_S8x129x1_S32x8x129x8x64_034_1_n_n_1_2_321864 (ix5 b t n h e) 0 = b.val := by
      unfold GatherDims.offCoord; rfl
    exact (congrArg₂ (fun p q => p + 0 + q) h1 h2).trans (Nat.zero_add _)
  | ⟨1, _⟩ =>
    have h2 : GatherDims.offCoord gather_S32x2056x8x64_S8x129x1_S32x8x129x8x64_034_1_n_n_1_2_321864 (ix5 b t n h e) 1 = 0 :=
      GatherDims.offCoord_eq_zero _ _ _ (fun h => ((GatherDims.mem_sKept _ _).mp h).1 (List.mem_singleton.mpr rfl))
    have h1 : GatherDims.start gather_S32x2056x8x64_S8x129x1_S32x8x129x8x64_034_1_n_n_1_2_321864 (ix5 b t n h e) (start (strideWord g)) 1
        = (back (stride g) t n).val := by
      unfold GatherDims.start
      refine (dif_pos (show (1 : Fin 4) ∈ GatherDims.startIndexMap gather_S32x2056x8x64_S8x129x1_S32x8x129x8x64_034_1_n_n_1_2_321864 from
        List.mem_singleton.mpr rfl)).trans ?_
      have hsi : GatherDims.siIdx gather_S32x2056x8x64_S8x129x1_S32x8x129x8x64_034_1_n_n_1_2_321864 (ix5 b t n h e)
          ⟨List.idxOf (1 : Fin 4) [1], List.idxOf_lt_length_iff.2 (List.mem_singleton.mpr rfl)⟩ = ix3 t n 0 := by
        funext b; refine Fin.ext ?_
        match b with
        | ⟨0, _⟩ => rfl
        | ⟨1, _⟩ => rfl
        | ⟨2, _⟩ => rfl
      refine (congrArg (fun z => min (start (strideWord g) z).toInt.toNat (2056 - 1)) hsi).trans ?_
      show min (start (strideWord g) (ix3 t n 0)).toInt.toNat (2056 - 1) = _
      rw [start_word]
      omega
    exact congrArg₂ (fun p q => p + 0 + q) h1 h2
  | ⟨2, _⟩ =>
    have h1 : GatherDims.start gather_S32x2056x8x64_S8x129x1_S32x8x129x8x64_034_1_n_n_1_2_321864 (ix5 b t n h e) (start (strideWord g)) 2 = 0 := by
      unfold GatherDims.start; exact dif_neg (by decide)
    have h2 : GatherDims.offCoord gather_S32x2056x8x64_S8x129x1_S32x8x129x8x64_034_1_n_n_1_2_321864 (ix5 b t n h e) 2 = h.val := by
      unfold GatherDims.offCoord; rfl
    exact (congrArg₂ (fun p q => p + 0 + q) h1 h2).trans (Nat.zero_add _)
  | ⟨3, _⟩ =>
    have h1 : GatherDims.start gather_S32x2056x8x64_S8x129x1_S32x8x129x8x64_034_1_n_n_1_2_321864 (ix5 b t n h e) (start (strideWord g)) 3 = 0 := by
      unfold GatherDims.start; exact dif_neg (by decide)
    have h2 : GatherDims.offCoord gather_S32x2056x8x64_S8x129x1_S32x8x129x8x64_034_1_n_n_1_2_321864 (ix5 b t n h e) 3 = e.val := by
      unfold GatherDims.offCoord; rfl
    exact (congrArg₂ (fun p q => p + 0 + q) h1 h2).trans (Nat.zero_add _)

end Cert.DecodeRefIdeal.Value

end
-- ==== Proof.Decode.Group.lean ====
/- One stride's share of the reference: the softmax over its window, its result and the logarithm of its total. -/
module

public import proofs.«01_k».proof.Proof.Decode.Gather
public import proofs.«01_k».proof.Proof.Decode.Spec

@[expose] public section

set_option maxRecDepth 16384

noncomputable section

namespace Cert.DecodeRefIdeal.Value

open Cert.DecodeRefIdeal Cert.DecodeRefIdeal.Gen Cert.DecodeRefIdeal.Read Cert.Weights Idealize.ShloMosaic Idealize.ShloMosaic.TcCoe Idealize.SL.Sem

variable (q : Vec Ideal S32x8x8x64 .f32) (K V : Vec Ideal S32x2056x8x64 .f32) (w : BitVec 32)

/-- The scores, times the logarithm of 2. -/
def scores : FVec Ideal S32x8x8x129 .f32 :=
  mulf (Host.dotGeneral (F := Ideal) (φ₁ := .f32) (φ₂ := .f32) dot_S32x8x8x64_S32x8x129x8x64_S32x8x8x129_3_4_n_2_021_031 none q (taken K w))
    (broadcastInDim S32x8x8x129 ![] bcast_S_S32x8x8x129 (Host.log (constant (F := Ideal) S_ .f32 0x40000000#32)))

/-- The scores of a window's keys that are the array's. -/
def kept : FVec Ideal S32x8x8x129 .f32 :=
  select (broadcastInDim S32x8x8x129 ![0, 1, 2, 3] bcast_S1x1x8x129_S32x8x8x129_0_1_2_3
      (broadcastInDim S1x1x8x129 ![2, 3] bcast_S8x129_S1x1x8x129_2_3 (mask w))) (scores q K w)
    (broadcastInDim S32x8x8x129 ![] bcast_S_S32x8x8x129 (id (constant (F := Ideal) S_ .f32 0xF149F2CA#32)))

/-- The largest of them, with an axis of one. -/
def top : FVec Ideal S32x8x8x1 .f32 :=
  broadcastInDim S32x8x8x1 ![0, 1, 2] bcast_S32x8x8_S32x8x8x1_0_1_2
    (Host.reduce FloatOps.maximumf (kept q K w) (constant (F := Ideal) S_ .f32 0xFF800000#32) reducesTo_S32x8x8x129_S32x8x8_d3 h_S_)

/-- The exponentials. -/
def expo : FVec Ideal S32x8x8x129 .f32 :=
  Host.exp (subf (kept q K w) (broadcastInDim S32x8x8x129 ![0, 1, 2, 3] bcast_S32x8x8x1_S32x8x8x129_0_1_2_3 (top q K w)))

/-- Their total. -/
def total : FVec Ideal S32x8x8 .f32 :=
  Host.reduceAdd (expo q K w) (constant (F := Ideal) S_ .f32 0x00000000#32) reducesTo_S32x8x8x129_S32x8x8_d3 h_S_

/-- The stride's result. -/
def share : FVec Ideal S32x8x8x64 .f32 :=
  Host.divf (Host.dotGeneral (F := Ideal) (φ₁ := .f32) (φ₂ := .f32) dot_S32x8x8x129_S32x8x129x8x64_S32x8x8x64_3_2_n_4_021_013 none (expo q K w) (taken V w))
    (broadcastInDim S32x8x8x64 ![0, 1, 2, 3] bcast_S32x8x8x1_S32x8x8x64_0_1_2_3
      (broadcastInDim S32x8x8x1 ![0, 1, 2] bcast_S32x8x8_S32x8x8x1_0_1_2 (transpose S32x8x8 [0, 2, 1] (total q K w) transposes_S32x8x8_S32x8x8_0_2_1)))

/-- The logarithm of its total. -/
def mass : FVec Ideal S32x8x8 .f32 :=
  transpose S32x8x8 [0, 2, 1] (addf (shapeCast _ (top q K w) shapeCasts_S32x8x8x1_S32x8x8) (Host.log (total q K w))) transposes_S32x8x8_S32x8x8_0_2_1

theorem scores_apply (b : Fin 32) (h t : Fin 8) (n : Fin 129) : scores q K w (ix4 b h t n)
    = (∑ e : Fin 64, q (ix4 b t h e) * taken K w (ix5 b t n h e)) * Ideal.log (Ideal.ofBits .f32 0x40000000#32) := by
  unfold scores
  generalize taken K w = T
  pointwise

theorem kept_apply (b : Fin 32) (h t : Fin 8) (n : Fin 129) (hm : mask w (ix2 t n) = 1#1) :
    kept q K w (ix4 b h t n) = scores q K w (ix4 b h t n) := by
  unfold kept
  generalize scores q K w = S
  generalize mask w = M at hm ⊢
  pointwise
  rw [hm]
  rfl

theorem top_apply (b : Fin 32) (h t : Fin 8) : top q K w (ix4 b h t 0)
    = Finset.fold max (Ideal.ofBits .f32 0xFF800000#32) (fun n : Fin 129 => kept q K w (ix4 b h t n)) Finset.univ := by
  unfold top
  generalize kept q K w = S
  pointwise

theorem expo_apply (b : Fin 32) (h t : Fin 8) (n : Fin 129) : expo q K w (ix4 b h t n)
    = Ideal.exp (kept q K w (ix4 b h t n) - top q K w (ix4 b h t 0)) := by
  unfold expo
  generalize kept q K w = S
  generalize top q K w = M
  pointwise

theorem total_apply (b : Fin 32) (h t : Fin 8) : total q K w (ix3 b h t) = ∑ n : Fin 129, expo q K w (ix4 b h t n) := by
  unfold total
  generalize expo q K w = S
  pointwise

theorem share_apply (b : Fin 32) (h t : Fin 8) (e : Fin 64) : share q K V w (ix4 b t h e)
    = Ideal.div (∑ n : Fin 129, expo q K w (ix4 b h t n) * taken V w (ix5 b t n h e)) (total q K w (ix3 b h t)) := by
  unfold share
  generalize expo q K w = S
  generalize taken V w = T
  generalize total q K w = D
  pointwise

theorem mass_apply (b : Fin 32) (h t : Fin 8) : mass q K w (ix3 b t h)
    = top q K w (ix4 b h t 0) + Ideal.log (total q K w (ix3 b h t)) := by
  unfold mass
  generalize top q K w = M
  generalize total q K w = D
  pointwise

end Cert.DecodeRefIdeal.Value

end
-- ==== Proof.Decode.Shares.lean ====
/- One stride's share, with finite scores: the average over its window, and the logarithm of the window's total weight. -/
module

public import proofs.«01_k».proof.Proof.Decode.Group
public import proofs.«01_k».proof.Proof.Decode.Head

@[expose] public section

set_option maxRecDepth 16384

noncomputable section

namespace Cert.DecodeRefIdeal.Value

open Cert.DecodeRefIdeal Cert.DecodeRefIdeal.Gen Cert.DecodeRefIdeal.Read Cert.Weights Cert.DecodeSpec Idealize.ShloMosaic Idealize.ShloMosaic.TcCoe Idealize.SL.Sem
open Cert.DecodeIdeal.Head (largest_real)

variable (x0 x1 x2 : Vec Ideal S32x8x8x64 .f32) (x3 x4 : Vec Ideal S2x32x2048x8x64 .f32)

theorem log_two : Ideal.log (Ideal.ofBits .f32 0x40000000#32) = ((Real.log 2 : ℝ) : EReal) := by
  have h2 : Ideal.ofBits .f32 0x40000000#32 = ((2 : ℝ) : EReal) := by
    simp [Ideal.ofBits, Ideal.ieee, -EReal.coe_mul]; norm_num
  rw [h2]
  show (if (2 : ℝ) ≤ 0 then ⊥ else ((Real.log 2 : ℝ) : EReal)) = _
  rw [if_neg (by norm_num)]

/-- The keys the reference reads: the cache's, then the new ones. -/
theorem keys_apply (b : Fin 32) (k : Fin 2056) (h : Fin 8) (e : Fin 64) :
    val_main_v2 (F := Ideal) x1 x3 (ix4 b k h e) = row x1 x3 b h k e := by
  unfold row
  pointwise [val_main_v2, val_main_v1, val_main_v0]

theorem values_apply (b : Fin 32) (k : Fin 2056) (h : Fin 8) (e : Fin 64) :
    val_main_v5 (F := Ideal) x2 x4 (ix4 b k h e) = row x2 x4 b h k e := by
  unfold row
  pointwise [val_main_v5, val_main_v4, val_main_v3]

/-- The real score of a window's entry. -/
def entry (b : Fin 32) (h t : Fin 8) (g : Fin 3) (n : Fin 129) : ℝ := (score x0 x1 x3 b h t (back (stride g) t n)).toReal

/-- A window's total weight. -/
def heavy (b : Fin 32) (h t : Fin 8) (g : Fin 3) : ℝ := ∑ n : Fin 129, (2 : ℝ) ^ entry x0 x1 x3 b h t g n

theorem heavy_pos (b : Fin 32) (h t : Fin 8) (g : Fin 3) : 0 < heavy x0 x1 x3 b h t g :=
  Finset.sum_pos (fun n _ => by positivity) Finset.univ_nonempty

variable (h0 : Finite x0) (h1 : Finite x1) (h3 : Finite x3)
include h0 h1 h3

theorem kept_eq (b : Fin 32) (h t : Fin 8) (g : Fin 3) (n : Fin 129) :
    kept x0 (val_main_v2 (F := Ideal) x1 x3) (strideWord g) (ix4 b h t n) = ((entry x0 x1 x3 b h t g n * Real.log 2 : ℝ) : EReal) := by
  rw [kept_apply _ _ _ _ _ _ _ (mask_true g t n), scores_apply, log_two, EReal.coe_mul]
  unfold entry
  rw [← score_real x0 x1 x3 h0 h1 h3 b h t]
  refine congrArg (· * _) (Finset.sum_congr rfl fun e _ => ?_)
  rw [taken_apply, keys_apply]

theorem top_eq (b : Fin 32) (h t : Fin 8) (g : Fin 3) :
    ∃ m : ℝ, top x0 (val_main_v2 (F := Ideal) x1 x3) (strideWord g) (ix4 b h t 0) = (m : EReal) := by
  rw [top_apply]
  exact largest_real _ fun n => ⟨_, kept_eq x0 x1 x3 h0 h1 h3 b h t g n⟩

theorem expo_eq (b : Fin 32) (h t : Fin 8) (g : Fin 3) {m : ℝ}
    (hm : top x0 (val_main_v2 (F := Ideal) x1 x3) (strideWord g) (ix4 b h t 0) = (m : EReal)) (n : Fin 129) :
    expo x0 (val_main_v2 (F := Ideal) x1 x3) (strideWord g) (ix4 b h t n)
      = (((2 : ℝ) ^ entry x0 x1 x3 b h t g n * Real.exp (-m) : ℝ) : EReal) := by
  rw [expo_apply, hm, kept_eq x0 x1 x3 h0 h1 h3, exp_sub]

/-- The stride's result is the average over its window. -/
theorem share_eq (b : Fin 32) (h t : Fin 8) (g : Fin 3) (e : Fin 64) :
    share x0 (val_main_v2 (F := Ideal) x1 x3) (val_main_v5 (F := Ideal) x2 x4) (strideWord g) (ix4 b t h e)
      = average (fun n => (2 : ℝ) ^ entry x0 x1 x3 b h t g n) (fun n => row x2 x4 b h (back (stride g) t n) e) := by
  obtain ⟨m, hm⟩ := top_eq x0 x1 x3 h0 h1 h3 b h t g
  rw [share_apply, total_apply]
  simp only [expo_eq x0 x1 x3 h0 h1 h3 b h t g hm, taken_apply, values_apply]
  exact div_total _ (fun n => by positivity) (heavy_pos x0 x1 x3 b h t g) (Real.exp_pos _) _

/-- The logarithm it hands on is the one of its window's total weight. -/
theorem mass_eq (b : Fin 32) (h t : Fin 8) (g : Fin 3) :
    mass x0 (val_main_v2 (F := Ideal) x1 x3) (strideWord g) (ix3 b t h) = ((Real.log (heavy x0 x1 x3 b h t g) : ℝ) : EReal) := by
  obtain ⟨m, hm⟩ := top_eq x0 x1 x3 h0 h1 h3 b h t g
  have hA := heavy_pos x0 x1 x3 b h t g
  rw [mass_apply, total_apply, hm]
  simp only [expo_eq x0 x1 x3 h0 h1 h3 b h t g hm]
  rw [← coe_sum, ← Finset.sum_mul]
  have hp : 0 < heavy x0 x1 x3 b h t g * Real.exp (-m) := mul_pos hA (Real.exp_pos _)
  show (m : EReal) + (if heavy x0 x1 x3 b h t g * Real.exp (-m) ≤ 0 then ⊥ else ((Real.log (heavy x0 x1 x3 b h t g * Real.exp (-m)) : ℝ) : EReal)) = _
  rw [if_neg (not_le.mpr hp), ← EReal.coe_add, Real.log_mul hA.ne' (Real.exp_pos _).ne', Real.log_exp]
  exact congrArg (fun r : ℝ => (r : EReal)) (by ring)

end Cert.DecodeRefIdeal.Value

end
-- ==== Proof.Decode.Reference.lean ====
/- What the decoding reference computes: the three strides' shares, each weighed with its window's part of the total, are the attention. -/
module

public import proofs.«01_k».proof.Proof.Decode.Shares

@[expose] public section

set_option maxRecDepth 16384

noncomputable section

namespace Cert.DecodeRefIdeal.Value

open Cert.DecodeRefIdeal Cert.DecodeRefIdeal.Gen Cert.DecodeRefIdeal.Read Cert.Weights Cert.DecodeSpec Idealize.ShloMosaic Idealize.ShloMosaic.TcCoe Idealize.SL.Sem
open Cert.DecodeIdeal.Head (largest_real max_real)

variable (x0 x1 x2 : Vec Ideal S32x8x8x64 .f32) (x3 x4 : Vec Ideal S2x32x2048x8x64 .f32)

/-! The reference's terms for the three strides are one function of the stride. -/

theorem mass_one : val_main_v55 (F := Ideal) x0 x1 x3 = mass x0 (val_main_v2 (F := Ideal) x1 x3) 1#32 := rfl
theorem mass_four : val_main_v105 (F := Ideal) x0 x1 x3 = mass x0 (val_main_v2 (F := Ideal) x1 x3) 4#32 := rfl
theorem mass_sixteen : val_main_v155 (F := Ideal) x0 x1 x3 = mass x0 (val_main_v2 (F := Ideal) x1 x3) 16#32 := rfl
theorem share_one : val_main_v51 (F := Ideal) x0 x1 x2 x3 x4 = share x0 (val_main_v2 (F := Ideal) x1 x3) (val_main_v5 (F := Ideal) x2 x4) 1#32 := rfl
theorem share_four : val_main_v101 (F := Ideal) x0 x1 x2 x3 x4 = share x0 (val_main_v2 (F := Ideal) x1 x3) (val_main_v5 (F := Ideal) x2 x4) 4#32 := rfl
theorem share_sixteen : val_main_v151 (F := Ideal) x0 x1 x2 x3 x4 = share x0 (val_main_v2 (F := Ideal) x1 x3) (val_main_v5 (F := Ideal) x2 x4) 16#32 := rfl

theorem masses_apply (g : Fin 3) (b : Fin 32) (t h : Fin 8) :
    val_main_v159 (F := Ideal) x0 x1 x3 (ix4 g b t h) = mass x0 (val_main_v2 (F := Ideal) x1 x3) (strideWord g) (ix3 b t h) := by
  unfold val_main_v159 val_main_v158 val_main_v157 val_main_v156
  rw [mass_one, mass_four, mass_sixteen]
  fin_cases g
  · show _ = mass x0 (val_main_v2 (F := Ideal) x1 x3) 1#32 (ix3 b t h)
    generalize mass x0 (val_main_v2 (F := Ideal) x1 x3) 1#32 = A
    generalize mass x0 (val_main_v2 (F := Ideal) x1 x3) 4#32 = B
    generalize mass x0 (val_main_v2 (F := Ideal) x1 x3) 16#32 = C
    pointwise
  · show _ = mass x0 (val_main_v2 (F := Ideal) x1 x3) 4#32 (ix3 b t h)
    generalize mass x0 (val_main_v2 (F := Ideal) x1 x3) 1#32 = A
    generalize mass x0 (val_main_v2 (F := Ideal) x1 x3) 4#32 = B
    generalize mass x0 (val_main_v2 (F := Ideal) x1 x3) 16#32 = C
    pointwise
  · show _ = mass x0 (val_main_v2 (F := Ideal) x1 x3) 16#32 (ix3 b t h)
    generalize mass x0 (val_main_v2 (F := Ideal) x1 x3) 1#32 = A
    generalize mass x0 (val_main_v2 (F := Ideal) x1 x3) 4#32 = B
    generalize mass x0 (val_main_v2 (F := Ideal) x1 x3) 16#32 = C
    pointwise

theorem shares_apply (g : Fin 3) (b : Fin 32) (t h : Fin 8) (e : Fin 64) :
    val_main_v174 (F := Ideal) x0 x1 x2 x3 x4 (ix5 g b t h e)
      = share x0 (val_main_v2 (F := Ideal) x1 x3) (val_main_v5 (F := Ideal) x2 x4) (strideWord g) (ix4 b t h e) := by
  unfold val_main_v174 val_main_v173 val_main_v172 val_main_v171
  rw [share_one, share_four, share_sixteen]
  fin_cases g
  · show _ = share x0 (val_main_v2 (F := Ideal) x1 x3) (val_main_v5 (F := Ideal) x2 x4) 1#32 (ix4 b t h e)
    generalize share x0 (val_main_v2 (F := Ideal) x1 x3) (val_main_v5 (F := Ideal) x2 x4) 1#32 = A
    generalize share x0 (val_main_v2 (F := Ideal) x1 x3) (val_main_v5 (F := Ideal) x2 x4) 4#32 = B
    generalize share x0 (val_main_v2 (F := Ideal) x1 x3) (val_main_v5 (F := Ideal) x2 x4) 16#32 = C
    pointwise
  · show _ = share x0 (val_main_v2 (F := Ideal) x1 x3) (val_main_v5 (F := Ideal) x2 x4) 4#32 (ix4 b t h e)
    generalize share x0 (val_main_v2 (F := Ideal) x1 x3) (val_main_v5 (F := Ideal) x2 x4) 1#32 = A
    generalize share x0 (val_main_v2 (F := Ideal) x1 x3) (val_main_v5 (F := Ideal) x2 x4) 4#32 = B
    generalize share x0 (val_main_v2 (F := Ideal) x1 x3) (val_main_v5 (F := Ideal) x2 x4) 16#32 = C
    pointwise
  · show _ = share x0 (val_main_v2 (F := Ideal) x1 x3) (val_main_v5 (F := Ideal) x2 x4) 16#32 (ix4 b t h e)
    generalize share x0 (val_main_v2 (F := Ideal) x1 x3) (val_main_v5 (F := Ideal) x2 x4) 1#32 = A
    generalize share x0 (val_main_v2 (F := Ideal) x1 x3) (val_main_v5 (F := Ideal) x2 x4) 4#32 = B
    generalize share x0 (val_main_v2 (F := Ideal) x1 x3) (val_main_v5 (F := Ideal) x2 x4) 16#32 = C
    pointwise

/-- The largest of the three logarithms. -/
theorem peak_apply (b : Fin 32) (t h : Fin 8) : val_main_v162 (F := Ideal) x0 x1 x3 (ix3 b t h)
    = max (Ideal.ofBits .f32 0xFF800000#32)
      (Finset.fold max (Ideal.ofBits .f32 0xFF800000#32) (fun g : Fin 3 => val_main_v159 (F := Ideal) x0 x1 x3 (ix4 g b t h)) Finset.univ) := by
  unfold val_main_v162 val_main_v161 val_main_v160 val_main_cst_34 val_main_cst_35
  generalize val_main_v159 (F := Ideal) x0 x1 x3 = L
  pointwise

theorem parts_apply (g : Fin 3) (b : Fin 32) (t h : Fin 8) : val_main_v166 (F := Ideal) x0 x1 x3 (ix4 g b t h)
    = Ideal.exp (val_main_v159 (F := Ideal) x0 x1 x3 (ix4 g b t h) - val_main_v162 (F := Ideal) x0 x1 x3 (ix3 b t h)) := by
  unfold val_main_v166 val_main_v165 val_main_v164 val_main_v163
  generalize val_main_v159 (F := Ideal) x0 x1 x3 = L
  generalize val_main_v162 (F := Ideal) x0 x1 x3 = M
  pointwise

theorem weights_apply (g : Fin 3) (b : Fin 32) (t h : Fin 8) : val_main_v170 (F := Ideal) x0 x1 x3 (ix4 g b t h)
    = Ideal.div (val_main_v166 (F := Ideal) x0 x1 x3 (ix4 g b t h)) (∑ g : Fin 3, val_main_v166 (F := Ideal) x0 x1 x3 (ix4 g b t h)) := by
  unfold val_main_v170 val_main_v169 val_main_v168 val_main_v167 val_main_cst_36
  generalize val_main_v166 (F := Ideal) x0 x1 x3 = P
  pointwise

theorem merged_apply (b : Fin 32) (t h : Fin 8) (e : Fin 64) : val_main_v175 (F := Ideal) x0 x1 x2 x3 x4 (ix4 b t h e)
    = ∑ g : Fin 3, val_main_v170 (F := Ideal) x0 x1 x3 (ix4 g b t h) * val_main_v174 (F := Ideal) x0 x1 x2 x3 x4 (ix5 g b t h e) := by
  unfold val_main_v175
  generalize val_main_v170 (F := Ideal) x0 x1 x3 = P
  generalize val_main_v174 (F := Ideal) x0 x1 x2 x3 x4 = Q
  pointwise

section
variable (h0 : Finite x0) (h1 : Finite x1) (h3 : Finite x3)
include h0 h1 h3

/-- A stride's weight is its window's part of the three totals. -/
theorem weights_eq (g : Fin 3) (b : Fin 32) (t h : Fin 8) : val_main_v170 (F := Ideal) x0 x1 x3 (ix4 g b t h)
    = ((heavy x0 x1 x3 b h t g / ∑ g, heavy x0 x1 x3 b h t g : ℝ) : EReal) := by
  have hL : ∀ g, val_main_v159 (F := Ideal) x0 x1 x3 (ix4 g b t h) = ((Real.log (heavy x0 x1 x3 b h t g) : ℝ) : EReal) := fun g =>
    (masses_apply x0 x1 x3 g b t h).trans (mass_eq x0 x1 x3 h0 h1 h3 b h t g)
  obtain ⟨m, hm⟩ : ∃ m : ℝ, val_main_v162 (F := Ideal) x0 x1 x3 (ix3 b t h) = (m : EReal) := by
    obtain ⟨m, hm⟩ := largest_real (fun g : Fin 3 => val_main_v159 (F := Ideal) x0 x1 x3 (ix4 g b t h)) fun g => ⟨_, hL g⟩
    have hb : Ideal.ofBits .f32 0xFF800000#32 = ⊥ := by simp [Ideal.ofBits, Ideal.ieee]
    exact ⟨m, (peak_apply x0 x1 x3 b t h).trans ((congrArg₂ max hb hm).trans (max_eq_right bot_le))⟩
  have hP : ∀ g, val_main_v166 (F := Ideal) x0 x1 x3 (ix4 g b t h) = ((heavy x0 x1 x3 b h t g * Real.exp (-m) : ℝ) : EReal) := fun g => by
    rw [parts_apply, hL, hm, ← EReal.coe_sub, Ideal.exp_coe, sub_eq_add_neg, Real.exp_add, Real.exp_log (heavy_pos x0 x1 x3 b h t g)]
  have hT : 0 < ∑ g, heavy x0 x1 x3 b h t g := Finset.sum_pos (fun g _ => heavy_pos x0 x1 x3 b h t g) Finset.univ_nonempty
  rw [weights_apply]
  simp only [hP]
  rw [← coe_sum, ← Finset.sum_mul, Ideal.div_coe (mul_pos hT (Real.exp_pos _)).ne', ← EReal.coe_mul]
  have := (Real.exp_pos (-m)).ne'
  exact congrArg (fun r : ℝ => (r : EReal)) (by field_simp)

/-- The reference's result before its rows are laid out: the attention. -/
theorem merged_eq (b : Fin 32) (t h : Fin 8) (e : Fin 64) :
    val_main_v175 (F := Ideal) x0 x1 x2 x3 x4 (ix4 b t h e) = att x0 x1 x2 x3 x4 b h t e := by
  rw [merged_apply]
  simp only [weights_eq x0 x1 x3 h0 h1 h3, shares_apply, share_eq x0 x1 x2 x3 x4 h0 h1 h3]
  refine (average_average (fun g n => (2 : ℝ) ^ entry x0 x1 x3 b h t g n) (fun g n => by positivity) (heavy_pos x0 x1 x3 b h t)
    (fun g n => row x2 x4 b h (back (stride g) t n) e)).trans ?_
  exact attention_windows t (fun k => (score x0 x1 x3 b h t k).toReal) fun k => row x2 x4 b h k e

/-- The reference's result. -/
theorem final_eq : val_main_v176 (F := Ideal) x0 x1 x2 x3 x4 = want x0 x1 x2 x3 x4 := by
  funext y
  obtain ⟨r, c, rfl⟩ : ∃ (r : Fin 256) (c : Fin 512), y = ix2 r c := ⟨_, _, eq_ix2 y⟩
  obtain ⟨b, t, hr⟩ : ∃ (b : Fin 32) (t : Fin 8), r = ⟨8 * b.val + t.val, by omega⟩ :=
    ⟨⟨r.val / 8, by omega⟩, ⟨r.val % 8, by omega⟩, Fin.ext (by show r.val = 8 * (r.val / 8) + r.val % 8; omega)⟩
  obtain ⟨h, e, hc⟩ : ∃ (h : Fin 8) (e : Fin 64), c = ⟨64 * h.val + e.val, by omega⟩ :=
    ⟨⟨c.val / 64, by omega⟩, ⟨c.val % 64, by omega⟩, Fin.ext (by show c.val = 64 * (c.val / 64) + c.val % 64; omega)⟩
  subst hr hc
  rw [want_apply, ← merged_eq x0 x1 x2 x3 x4 h0 h1 h3]
  unfold val_main_v176
  refine shapeCast_apply _ _ _ _ ?_
  rw [Shape.rowMajor_val_two, Shape.rowMajor_val_four]
  show ((b.val * 8 + t.val) * 8 + h.val) * 64 + e.val = (8 * b.val + t.val) * 512 + (64 * h.val + e.val)
  omega

end

end Cert.DecodeRefIdeal.Value

end
-- ==== Proof.Decode.Claims.lean ====
/- The claims about the decoding call. -/
module

public import proofs.«01_k».proof.Defs
public import proofs.«01_k».proof.Proof.Gen.DecodeIdeal.Frame
public import proofs.«01_k».proof.Proof.Gen.DecodeRefIdeal.Run
public import proofs.«01_k».proof.Proof.Decode.Final
public import proofs.«01_k».proof.Proof.Decode.Reference
public import Idealize.ShloMosaic.Lib.Quiescent

@[expose] public section

set_option maxRecDepth 16384

noncomputable section

namespace Cert.Proof.Decode

open Idealize.ShloMosaic Idealize.ShloMosaic.TcCoe Idealize.SL.Sem Cert.DecodeSpec

/-- The precondition's two broadcasts are of a scalar. -/
theorem pre_facts : Cert.Pre_finite_keys.Facts := ⟨by decide, by decide⟩

/-- An entry whose absolute value lies below infinity is a real number. -/
theorem real_of_below (x : EReal) (h : max x (-x) < Ideal.ofBits .f32 0x7F800000#32) : ∃ r : ℝ, x = (r : EReal) := by
  have ht : Ideal.ofBits .f32 0x7F800000#32 = ⊤ := by simp [Ideal.ofBits, Ideal.ieee]
  rw [ht] at h
  induction x using EReal.rec with
  | bot => simp at h
  | coe r => exact ⟨r, rfl⟩
  | top => simp at h

/-- An array whose every comparison holds is finite. -/
theorem finite_of_below {s : Shape} (x : Vec Ideal s .f32)
    (h : ∀ i, BitVec.ofBool (decide (max (x i) (-(x i)) < Ideal.ofBits .f32 0x7F800000#32)) = 1#1) : Finite x := fun i => by
  refine real_of_below _ ?_
  have hi := h i
  by_contra hn
  rw [decide_eq_false hn] at hi
  exact absurd hi (by decide)

theorem finite_args (m : (ℓ : Loc Cert.DecodeIdeal.nD Cert.DecodeIdeal.τ Cert.DecodeIdeal.sig) → Buf (Elt Ideal) ℓ)
    (h : Cert.Pre_DecodeIdeal_finite_keys (hPre_finite_keys := pre_facts) m) (c : Dev Cert.DecodeIdeal.nD) :
    Finite (s := Cert.DecodeIdeal.S32x8x8x64) (m ((c : Thread Cert.DecodeIdeal.nD Cert.DecodeIdeal.τ).loc Cert.DecodeIdeal.main_arg0))
    ∧ Finite (s := Cert.DecodeIdeal.S32x8x8x64) (m ((c : Thread Cert.DecodeIdeal.nD Cert.DecodeIdeal.τ).loc Cert.DecodeIdeal.main_arg1))
    ∧ Finite (s := Cert.DecodeIdeal.S2x32x2048x8x64) (m ((c : Thread Cert.DecodeIdeal.nD Cert.DecodeIdeal.τ).loc Cert.DecodeIdeal.main_arg3)) := by
  obtain ⟨a, b, d⟩ := h c
  exact ⟨finite_of_below _ fun i => congrFun a i, finite_of_below _ fun i => congrFun b i, finite_of_below _ fun i => congrFun d i⟩

theorem reference_frame : Cert.quiescent_DecodeRefIdeal (hDecodeRefIdeal := Cert.DecodeRefIdeal.Gen.facts) := fun m ρ _ =>
  (θ_run Cert.DecodeRefIdeal.defs _ _).mono
    (fun r h => ⟨fun c => (h c).2, Idealize.ShloMosaic.sem_eq_zero_of_no_sems (by decide) r.2⟩)
    (Cert.DecodeRefIdeal.Value.run (F := Ideal) m ρ)

theorem reference_frame_finite : Cert.quiescent_DecodeRefIdeal_pre_finite_keys (hDecodeRefIdeal := Cert.DecodeRefIdeal.Gen.facts)
    (hPre_finite_keys := pre_facts) := fun m ρ _ => reference_frame m ρ trivial

theorem kernel_frame_finite : Cert.quiescent_DecodeIdeal_pre_finite_keys (hDecodeIdeal := Cert.DecodeIdeal.Gen.facts)
    (hPre_finite_keys := pre_facts) := fun m ρ _ => Cert.DecodeIdeal.Gen.frame m ρ

theorem algebraic : Cert.algebraic_DecodeIdeal_DecodeRefIdeal_pre_finite_keys (hDecodeIdeal := Cert.DecodeIdeal.Gen.facts)
    (hDecodeRefIdeal := Cert.DecodeRefIdeal.Gen.facts) (hPre_finite_keys := pre_facts) := by
  intro m ρ m' ρ' hpre hagree
  refine ⟨fun c => Cert.DecodeIdeal.Block.wanted m c,
    (θ_run Cert.DecodeIdeal.defs _ _).mono (fun r h c => ?_) (Cert.DecodeIdeal.Value.run_blocks m ρ),
    (θ_run Cert.DecodeRefIdeal.defs _ _).mono (fun r h c => ?_) (Cert.DecodeRefIdeal.Value.run m' ρ')⟩
  · obtain ⟨h0, k⟩ := h c
    obtain ⟨f0, f1, f3⟩ := finite_args m hpre c
    exact ⟨h0.trans (Cert.DecodeIdeal.Block.final m c f0 f1 f3), k⟩
  · obtain ⟨h0, k⟩ := h c
    obtain ⟨f0, f1, f3⟩ := finite_args m hpre c
    obtain ⟨a0, a1, a2, a3, a4⟩ := hagree c
    dsimp only
    unfold Cert.DecodeIdeal.Block.wanted
    rw [← a0] at f0
    rw [← a1] at f1
    rw [← a3] at f3
    rw [← a0, ← a1, ← a2, ← a3, ← a4]
    exact ⟨h0.trans ((Cert.DecodeRefIdeal.Read.val_main_v176_eq _).trans (Cert.DecodeRefIdeal.Value.final_eq _ _ _ _ _ f0 f1 f3)), k⟩

end Cert.Proof.Decode

end
-- ==== Proof.InProj.Block.lean ====
/- The projection kernel, one grid point at a time, over the extended reals. A point holds 512 rows of the layer's input,
   the gain and the whole weight. Its body forms, for each row and each of the 2048 columns, one number: the row divided by
   the root of its mean square, times the gain, contracted with the weight's column (`rowDot`). The five results are that
   product cut into column ranges; the first is also multiplied by the scale of the attention scores. -/
module

public import proofs.«01_k».proof.Proof.Gen.InProjIdeal.Value
public import Idealize.ShloMosaic.Lib.Pointwise

@[expose] public section

set_option maxRecDepth 16384

noncomputable section

namespace Cert.InProjIdeal.Block

open Cert.InProjIdeal Cert.InProjIdeal.Gen Cert.InProjIdeal.Value Idealize.ShloMosaic Idealize.ShloMosaic.TcCoe Idealize.SL.Sem

/-- A row divided by the root of its mean square (plus the small constant), times the gain. -/
def rmsRow {n : Nat} (d e : EReal) (x g : Fin n → EReal) (k : Fin n) : EReal :=
  x k * Ideal.rsqrt (Ideal.div (∑ j, x j * x j) d + e) * g k

/-- The normalised row contracted with one column of the weight. -/
def rowDot (x g w : Fin 1024 → EReal) : EReal :=
  ∑ k, rmsRow (Ideal.ofBits .f32 0x44800000#32) (Ideal.ofBits .f32 0x358637BD#32) x g k * w k

/-- The body's product at row `r`, column `c`. -/
theorem product_apply (x0 : Vec Ideal S512x1024 .f32) (x1 : Vec Ideal S1x1024 .f32) (x2 : Vec Ideal S1024x2048 .bf16)
    (r : Fin 512) (c : Fin 2048) :
    k0_pay6 (F := Ideal) x0 x1 x2 (ix2 r c)
      = rowDot (fun k => x0 (ix2 r k)) (fun k => x1 (ix2 0 k)) (fun k => x2 (ix2 k c)) := by
  unfold rowDot rmsRow
  pointwise [k0_pay6]

variable (m : (ℓ : Loc nD τ sig) → Buf (Elt Ideal) ℓ)

theorem V_gain (c : Dev nD) : (V m c main_v0 : Vec Ideal S1x1024 .f32) = shapeCast S1x1024 (m ((c : Thread nD τ).loc main_arg1)) shapeCasts_S1024_S1x1024 := by
  simp only [V, hostOps0]
  after_results_simp
  rfl

theorem V_weight (c : Dev nD) : V m c main_v1 = m ((c : Thread nD τ).loc main_arg2) := by
  simp only [V, hostOps0]
  after_results_simp
  rfl

end Cert.InProjIdeal.Block

end
-- ==== Proof.InProj.Windows.lean ====
/- The five blocks one grid point writes, each at an index, over the extended reals: the first four heads' 128-column
   groups are stacked (group `h` holds columns `128 h ..`), the last two results are plain column ranges. -/
module

public import proofs.«01_k».proof.Proof.InProj.Block

@[expose] public section

set_option maxRecDepth 16384

noncomputable section

namespace Cert.InProjIdeal.Block

open Cert.InProjIdeal Cert.InProjIdeal.Gen Cert.InProjIdeal.Value Idealize.ShloMosaic Idealize.ShloMosaic.TcCoe Idealize.SL.Sem

theorem hz : (![0, 0] : Fin 2 → Nat) = fun _ => 0 := funext fun a => by fin_cases a <;> rfl

/-- The scale of the attention scores: 1/8 (the root of the head's width, inverted) over the logarithm of 2. -/
def scale : EReal := (((Real.log 2)⁻¹ * (1 / 8) : ℝ) : EReal)

theorem scale_eq : (Named.named κ "q_scale" 0x3E38AA3B#32 : Ideal .f32) = scale :=
  IdealRules.named_const.ideal_named_scalar _ _ _ _ rfl

variable (x0 : Vec Ideal S512x1024 .f32) (x1 : Vec Ideal S1x1024 .f32) (x2 : Vec Ideal S1024x2048 .bf16)

theorem product_eq : k0_pay19 x0 x1 x2 = k0_pay6 (F := Ideal) x0 x1 x2 := by
  unfold k0_pay19
  rw [View.ld_unit_zero hz, View.ld_unit_zero hz, View.ld_unit_zero hz]

/-- The column a group-and-lane pair stands for. -/
abbrev col (h : Fin 4) (e : Fin 128) (o : Nat) (ho : o ≤ 1536 := by omega) : Fin 2048 := ⟨h.val * 128 + e.val + o, by omega⟩

/-- The four stores of a stacked result: the store into group `k` holds `f` of the columns `128 k + o ..`. -/
theorem stacked (P : Vec Ideal S512x2048 .f32) (f : EReal → EReal) (o : Nat) (ho : o ≤ 1536)
    (p0 p1 p2 p3 : Vec Ideal S1x512x128 .f32)
    (h0 : ∀ (r : Fin 512) (e : Fin 128), p0 (ix3 0 r e) = f (P (ix2 r ⟨0 + o + e.val, by omega⟩)))
    (h1 : ∀ (r : Fin 512) (e : Fin 128), p1 (ix3 0 r e) = f (P (ix2 r ⟨128 + o + e.val, by omega⟩)))
    (h2 : ∀ (r : Fin 512) (e : Fin 128), p2 (ix3 0 r e) = f (P (ix2 r ⟨256 + o + e.val, by omega⟩)))
    (h3 : ∀ (r : Fin 512) (e : Fin 128), p3 (ix3 0 r e) = f (P (ix2 r ⟨384 + o + e.val, by omega⟩)))
    (h : Fin 4) (r : Fin 512) (e : Fin 128) :
    View.canon ([⟨r0_6, p3⟩, ⟨r0_5, p2⟩, ⟨r0_4, p1⟩, ⟨r0_3, p0⟩] : List (View.Piece (Elt Ideal) S4x512x128 .f32)) (ix3 h r e)
      = f (P (ix2 r (col h e o))) := by
  refine (View.canon_apply_of_pieces (S := S4x512x128) (fun y => f (P (ix2 (y 1) (col (y 0) (y 2) o)))) _ ?_ _ (cover0_3 _ _ _ _ _)).trans rfl
  intro p hp
  simp only [List.mem_cons, List.not_mem_nil, or_false] at hp
  rcases hp with rfl | rfl | rfl | rfl
  all_goals
    intro x
    obtain ⟨z, a, b, rfl⟩ : ∃ z a b, x = ix3 z a b := ⟨_, _, _, eq_ix3 x⟩
    obtain rfl : z = 0 := Subsingleton.elim _ _
  · refine (h3 a b).trans (congrArg f (congrArg P (congrArg₂ ix2 (Fin.ext ?_) (Fin.ext ?_))))
    · show a.val = 0 + 1 * a.val; omega
    · show 384 + o + b.val = (3 + 1 * 0) * 128 + (0 + 1 * b.val) + o; omega
  · refine (h2 a b).trans (congrArg f (congrArg P (congrArg₂ ix2 (Fin.ext ?_) (Fin.ext ?_))))
    · show a.val = 0 + 1 * a.val; omega
    · show 256 + o + b.val = (2 + 1 * 0) * 128 + (0 + 1 * b.val) + o; omega
  · refine (h1 a b).trans (congrArg f (congrArg P (congrArg₂ ix2 (Fin.ext ?_) (Fin.ext ?_))))
    · show a.val = 0 + 1 * a.val; omega
    · show 128 + o + b.val = (1 + 1 * 0) * 128 + (0 + 1 * b.val) + o; omega
  · refine (h0 a b).trans (congrArg f (congrArg P (congrArg₂ ix2 (Fin.ext ?_) (Fin.ext ?_))))
    · show a.val = 0 + 1 * a.val; omega
    · show 0 + o + b.val = (0 + 1 * 0) * 128 + (0 + 1 * b.val) + o; omega

theorem scaled_apply (h : Fin 4) (r : Fin 512) (e : Fin 128) :
    out0_3 x0 x1 x2 (ix3 h r e) = k0_pay6 (F := Ideal) x0 x1 x2 (ix2 r (col h e 0)) * scale := by
  unfold out0_3
  rw [product_eq, View.ld_unit_zero hz, View.ld_unit_zero hz, View.ld_unit_zero hz]
  refine stacked (k0_pay6 (F := Ideal) x0 x1 x2) (· * scale) 0 (by omega) _ _ _ _ ?_ ?_ ?_ ?_ h r e
  all_goals
    intro r e
    simp only [k0_pay1, k0_pay18, k0_pay15, k0_pay12, k0_pay10, k0_pay11, k0_pay7, ← scale_eq]
    generalize k0_pay6 (F := Ideal) x0 x1 x2 = P
    pointwise!

theorem keys_apply (h : Fin 4) (r : Fin 512) (e : Fin 128) :
    out0_4 x0 x1 x2 (ix3 h r e) = k0_pay6 (F := Ideal) x0 x1 x2 (ix2 r (col h e 512)) := by
  unfold out0_4
  rw [product_eq, View.ld_unit_zero hz, View.ld_unit_zero hz, View.ld_unit_zero hz]
  rw [canon4_eq x0 x1 x2]
  show k0_pay6 x0 x1 x2 (ix4_0 (ix3 h r e)) = _
  generalize k0_pay6 (F := Ideal) x0 x1 x2 = P
  exact congrArg P (eq_ix2 _)

theorem values_apply (h : Fin 4) (r : Fin 512) (e : Fin 128) :
    out0_5 x0 x1 x2 (ix3 h r e) = k0_pay6 (F := Ideal) x0 x1 x2 (ix2 r (col h e 1024)) := by
  unfold out0_5
  rw [product_eq, View.ld_unit_zero hz, View.ld_unit_zero hz, View.ld_unit_zero hz]
  rw [canon5_eq x0 x1 x2]
  show k0_pay6 x0 x1 x2 (ix5_0 (ix3 h r e)) = _
  generalize k0_pay6 (F := Ideal) x0 x1 x2 = P
  exact congrArg P (eq_ix2 _)

theorem state_apply (r : Fin 512) (e : Fin 256) :
    out0_6 x0 x1 x2 (ix2 r e) = k0_pay6 (F := Ideal) x0 x1 x2 (ix2 r ⟨e.val + 1536, by omega⟩) := by
  unfold out0_6
  rw [product_eq]
  rw [canon6_eq x0 x1 x2]
  show k0_pay6 x0 x1 x2 (ix6_0 (ix2 r e)) = _
  generalize k0_pay6 (F := Ideal) x0 x1 x2 = P
  exact congrArg P (eq_ix2 _)

theorem pool_apply (r : Fin 512) (e : Fin 256) :
    out0_7 x0 x1 x2 (ix2 r e) = k0_pay6 (F := Ideal) x0 x1 x2 (ix2 r ⟨e.val + 1792, by omega⟩) := by
  unfold out0_7
  rw [product_eq]
  rw [canon7_eq x0 x1 x2]
  show k0_pay6 x0 x1 x2 (ix7_0 (ix2 r e)) = _
  generalize k0_pay6 (F := Ideal) x0 x1 x2 = P
  exact congrArg P (eq_ix2 _)

end Cert.InProjIdeal.Block

end
-- ==== Proof.InProj.Reference.lean ====
/- What the projection's reference computes, at an index: the same rows contracted with the same columns (`rowDot`), cut
   into the same ranges, the first result multiplied by 1/8 and divided by the logarithm of 2. -/
module

public import proofs.«01_k».proof.Proof.Gen.InProjRefIdeal.Read
public import proofs.«01_k».proof.Proof.InProj.Windows

@[expose] public section

set_option maxRecDepth 16384

noncomputable section

namespace Cert.InProjRefIdeal.Value

open Cert.InProjRefIdeal Cert.InProjRefIdeal.Gen Cert.InProjRefIdeal.Read Idealize.ShloMosaic Idealize.ShloMosaic.TcCoe Idealize.SL.Sem
open Cert.InProjIdeal.Block (rowDot rmsRow scale)

variable (x0 : Vec Ideal S16384x1024 .f32) (x1 : Vec Ideal S1024 .f32) (x2 : Vec Ideal S1024x2048 .f32)

/-- The whole projection at a row and a column. -/
def proj (r : Fin 16384) (c : Fin 2048) : EReal :=
  rowDot (fun k => x0 (ix2 r k)) (fun k => x1 (ix1 k)) (fun k => x2 (ix2 k c))

theorem product_apply (r : Fin 16384) (c : Fin 2048) : val_main_v13 (F := Ideal) x0 x1 x2 (ix2 r c) = proj x0 x1 x2 r c := by
  unfold proj rowDot rmsRow
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]

/-- The reference's factor 1/8, then its division by the logarithm of 2, are one multiplication by the scale. -/
theorem scale_step (z : EReal) :
    Ideal.div (z * Ideal.ofBits .f32 0x3E000000#32) (Ideal.log (Ideal.ofBits .f32 0x40000000#32)) = z * scale := by
  have h8 : Ideal.ofBits .f32 0x3E000000#32 = ((1 / 8 : ℝ) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; norm_num
  have hl : Real.log 2 ≠ 0 := (Real.log_pos one_lt_two).ne'
  have hlog : Ideal.log ((2 : ℝ) : EReal) = ((Real.log 2 : ℝ) : EReal) := by
    show (if (2 : ℝ) ≤ 0 then ⊥ else ((Real.log 2 : ℝ) : EReal)) = _
    rw [if_neg (by norm_num)]
  rw [h8, h2, hlog]
  unfold scale
  rw [Ideal.div, if_neg (by exact_mod_cast hl), ← EReal.coe_inv, mul_assoc, ← EReal.coe_mul, mul_comm (1 / 8 : ℝ)]

theorem scaled_apply (h : Fin 4) (r : Fin 16384) (e : Fin 128) :
    val_main_v25 (F := Ideal) x0 x1 x2 (ix3 h r e) = proj x0 x1 x2 r ⟨h.val * 128 + e.val + 0, by omega⟩ * scale := by
  rw [← product_apply, ← scale_step]
  unfold val_main_v25 val_main_v24 val_main_v23 val_main_v22 val_main_v21 val_main_v20 val_main_v19 val_main_v14 val_main_cst_2 val_main_cst_3
  generalize val_main_v13 (F := Ideal) x0 x1 x2 = P
  pointwise!

theorem keys_apply (h : Fin 4) (r : Fin 16384) (e : Fin 128) :
    val_main_v27 (F := Ideal) x0 x1 x2 (ix3 h r e) = proj x0 x1 x2 r ⟨h.val * 128 + e.val + 512, by omega⟩ := by
  rw [← product_apply]
  unfold val_main_v27 val_main_v26 val_main_v15
  generalize val_main_v13 (F := Ideal) x0 x1 x2 = P
  pointwise!

theorem values_apply (h : Fin 4) (r : Fin 16384) (e : Fin 128) :
    val_main_v29 (F := Ideal) x0 x1 x2 (ix3 h r e) = proj x0 x1 x2 r ⟨h.val * 128 + e.val + 1024, by omega⟩ := by
  rw [← product_apply]
  unfold val_main_v29 val_main_v28 val_main_v16
  generalize val_main_v13 (F := Ideal) x0 x1 x2 = P
  pointwise!

theorem state_apply (r : Fin 16384) (e : Fin 256) :
    val_main_v17 (F := Ideal) x0 x1 x2 (ix2 r e) = proj x0 x1 x2 r ⟨e.val + 1536, by omega⟩ := by
  rw [← product_apply]
  unfold val_main_v17
  generalize val_main_v13 (F := Ideal) x0 x1 x2 = P
  pointwise!

theorem pool_apply (r : Fin 16384) (e : Fin 256) :
    val_main_v18 (F := Ideal) x0 x1 x2 (ix2 r e) = proj x0 x1 x2 r ⟨e.val + 1792, by omega⟩ := by
  rw [← product_apply]
  unfold val_main_v18
  generalize val_main_v13 (F := Ideal) x0 x1 x2 = P
  pointwise!

end Cert.InProjRefIdeal.Value

end
-- ==== Proof.InProj.Run.lean ====
/- The projection's five result arrays after the run, over the extended reals: grid point `t` writes rows `512 t ..` of
   each, the blocks tile the arrays, so each array is the reference's. -/
module

public import proofs.«01_k».proof.Proof.InProj.Reference
public import Idealize.ShloMosaic.Lib.Pipeline.ValueKit

@[expose] public section

set_option maxRecDepth 16384

noncomputable section

namespace Cert.InProjIdeal.Block

open Cert.InProjIdeal Cert.InProjIdeal.Gen Cert.InProjIdeal.Value Idealize.ShloMosaic Idealize.ShloMosaic.TcCoe Idealize.SL.Sem
open Cert.InProjRefIdeal.Value (proj)
open Cert.InProjRefIdeal.Read

variable (m : (ℓ : Loc nD τ sig) → Buf (Elt Ideal) ℓ) (ρ : Dev nD → PrngReg)

theorem at0 : ∀ t : Fin cfg0.N, win0_0.index t (0 : Fin 2) = t.val ∧ win0_0.index t (1 : Fin 2) = 0 := (by decide +kernel : ∀ t : Fin grid0.N, _)
theorem at1 : ∀ t : Fin cfg0.N, win0_1.index t (0 : Fin 2) = 0 ∧ win0_1.index t (1 : Fin 2) = 0 := (by decide +kernel : ∀ t : Fin grid0.N, _)
theorem at2 : ∀ t : Fin cfg0.N, win0_2.index t (0 : Fin 2) = 0 ∧ win0_2.index t (1 : Fin 2) = 0 := (by decide +kernel : ∀ t : Fin grid0.N, _)
theorem at3 : ∀ t : Fin cfg0.N, win0_3.index t (0 : Fin 3) = 0 ∧ win0_3.index t (1 : Fin 3) = t.val ∧ win0_3.index t (2 : Fin 3) = 0 := (by decide +kernel : ∀ t : Fin grid0.N, _)
theorem at4 : ∀ t : Fin cfg0.N, win0_4.index t (0 : Fin 3) = 0 ∧ win0_4.index t (1 : Fin 3) = t.val ∧ win0_4.index t (2 : Fin 3) = 0 := (by decide +kernel : ∀ t : Fin grid0.N, _)
theorem at5 : ∀ t : Fin cfg0.N, win0_5.index t (0 : Fin 3) = 0 ∧ win0_5.index t (1 : Fin 3) = t.val ∧ win0_5.index t (2 : Fin 3) = 0 := (by decide +kernel : ∀ t : Fin grid0.N, _)
theorem at6 : ∀ t : Fin cfg0.N, win0_6.index t (0 : Fin 2) = t.val ∧ win0_6.index t (1 : Fin 2) = 0 := (by decide +kernel : ∀ t : Fin grid0.N, _)
theorem at7 : ∀ t : Fin cfg0.N, win0_7.index t (0 : Fin 2) = t.val ∧ win0_7.index t (1 : Fin 2) = 0 := (by decide +kernel : ∀ t : Fin grid0.N, _)

/-- The array row that row `r` of point `t`'s block is. -/
abbrev row (t : Fin cfg0.N) (r : Fin 512) : Fin 16384 :=
  ⟨t.val * 512 + r.val, by have h : t.val < 32 := t.isLt; omega⟩

theorem emb0 (t : Fin cfg0.N) (r : Fin 512) (k : Fin 1024) : ((cfg0.win 0).blk t).view.emb (ix2 r k) = ix2 (row t r) k := by
  obtain ⟨a, b⟩ := at0 t
  funext i; apply Fin.ext
  match i with
  | ⟨0, _⟩ => show win0_0.index t (0 : Fin 2) * 512 + 1 * r.val = t.val * 512 + r.val; omega
  | ⟨1, _⟩ => show win0_0.index t (1 : Fin 2) * 1024 + 1 * k.val = k.val; omega

theorem emb1 (t : Fin cfg0.N) (r : Fin 1) (k : Fin 1024) : ((cfg0.win 1).blk t).view.emb (ix2 r k) = ix2 r k := by
  obtain ⟨a, b⟩ := at1 t
  funext i; apply Fin.ext
  match i with
  | ⟨0, _⟩ => show win0_1.index t (0 : Fin 2) * 1 + 1 * r.val = r.val; omega
  | ⟨1, _⟩ => show win0_1.index t (1 : Fin 2) * 1024 + 1 * k.val = k.val; omega

theorem emb2 (t : Fin cfg0.N) (k : Fin 1024) (c : Fin 2048) : ((cfg0.win 2).blk t).view.emb (ix2 k c) = ix2 k c := by
  obtain ⟨a, b⟩ := at2 t
  funext i; apply Fin.ext
  match i with
  | ⟨0, _⟩ => show win0_2.index t (0 : Fin 2) * 1024 + 1 * k.val = k.val; omega
  | ⟨1, _⟩ => show win0_2.index t (1 : Fin 2) * 2048 + 1 * c.val = c.val; omega

/-- The product a point forms is its rows of the whole projection. -/
theorem block_product (c : Dev nD) (t : Fin cfg0.N) (r : Fin 512) (k : Fin 2048) :
    k0_pay6 (F := Ideal) (iblk m c 0 t) (iblk m c 1 t) (iblk m c 2 t) (ix2 r k)
      = proj (m ((c : Thread nD τ).loc main_arg0)) (m ((c : Thread nD τ).loc main_arg1)) (m ((c : Thread nD τ).loc main_arg2)) (row t r) k := by
  rw [product_apply]
  have e0 : ∀ j : Fin 1024, iblk m c 0 t (ix2 r j) = m ((c : Thread nD τ).loc main_arg0) (ix2 (row t r) j) := fun j => by
    show V m c main_arg0 (((cfg0.win 0).blk t).view.emb (ix2 r j)) = _
    rw [emb0, V_main_arg0]
  have e1 : ∀ j : Fin 1024, iblk m c 1 t (ix2 0 j) = m ((c : Thread nD τ).loc main_arg1) (ix1 j) := fun j => by
    show V m c main_v0 (((cfg0.win 1).blk t).view.emb (ix2 0 j)) = _
    rw [emb1]
    refine (congrFun (V_gain m c) _).trans ?_
    pointwise!
  have e2 : ∀ j : Fin 1024, iblk m c 2 t (ix2 j k) = m ((c : Thread nD τ).loc main_arg2) (ix2 j k) := fun j => by
    show V m c main_v1 (((cfg0.win 2).blk t).view.emb (ix2 j k)) = _
    rw [emb2]
    exact congrFun (V_weight m c) _
  unfold proj
  rw [funext e0, funext e1, funext e2]

theorem final3 (c : Dev nD) : (dats m 0 c).arrAt 3 cfg0.N
    = val_main_v25 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  obtain ⟨h, r, e, rfl⟩ : ∃ (h : Fin 4) (r : Fin 512) (e : Fin 128), y = ix3 h r e := ⟨_, _, _, eq_ix3 y⟩
  obtain ⟨a, b, d⟩ := at3 t
  have he : ((cfg0.win 3).blk t).view.emb (ix3 h r e) = ix3 h (row t r) e := by
    funext i; apply Fin.ext
    match i with
    | ⟨0, _⟩ => show win0_3.index t (0 : Fin 3) * 4 + 1 * h.val = h.val; omega
    | ⟨1, _⟩ => show win0_3.index t (1 : Fin 3) * 512 + 1 * r.val = t.val * 512 + r.val; omega
    | ⟨2, _⟩ => show win0_3.index t (2 : Fin 3) * 128 + 1 * e.val = e.val; omega
  rw [he, Cert.InProjRefIdeal.Value.scaled_apply, ← block_product m c t r]
  refine Eq.trans ?_ (scaled_apply _ _ _ h r e)
  exact congrFun (after0_3 m c t) (ix3 h r e)

theorem final4 (c : Dev nD) : (dats m 0 c).arrAt 4 cfg0.N
    = val_main_v27 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  obtain ⟨h, r, e, rfl⟩ : ∃ (h : Fin 4) (r : Fin 512) (e : Fin 128), y = ix3 h r e := ⟨_, _, _, eq_ix3 y⟩
  obtain ⟨a, b, d⟩ := at4 t
  have he : ((cfg0.win 4).blk t).view.emb (ix3 h r e) = ix3 h (row t r) e := by
    funext i; apply Fin.ext
    match i with
    | ⟨0, _⟩ => show win0_4.index t (0 : Fin 3) * 4 + 1 * h.val = h.val; omega
    | ⟨1, _⟩ => show win0_4.index t (1 : Fin 3) * 512 + 1 * r.val = t.val * 512 + r.val; omega
    | ⟨2, _⟩ => show win0_4.index t (2 : Fin 3) * 128 + 1 * e.val = e.val; omega
  rw [he, Cert.InProjRefIdeal.Value.keys_apply, ← block_product m c t r]
  refine Eq.trans ?_ (keys_apply _ _ _ h r e)
  exact congrFun (after0_4 m c t) (ix3 h r e)

theorem final5 (c : Dev nD) : (dats m 0 c).arrAt 5 cfg0.N
    = val_main_v29 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  obtain ⟨h, r, e, rfl⟩ : ∃ (h : Fin 4) (r : Fin 512) (e : Fin 128), y = ix3 h r e := ⟨_, _, _, eq_ix3 y⟩
  obtain ⟨a, b, d⟩ := at5 t
  have he : ((cfg0.win 5).blk t).view.emb (ix3 h r e) = ix3 h (row t r) e := by
    funext i; apply Fin.ext
    match i with
    | ⟨0, _⟩ => show win0_5.index t (0 : Fin 3) * 4 + 1 * h.val = h.val; omega
    | ⟨1, _⟩ => show win0_5.index t (1 : Fin 3) * 512 + 1 * r.val = t.val * 512 + r.val; omega
    | ⟨2, _⟩ => show win0_5.index t (2 : Fin 3) * 128 + 1 * e.val = e.val; omega
  rw [he, Cert.InProjRefIdeal.Value.values_apply, ← block_product m c t r]
  refine Eq.trans ?_ (values_apply _ _ _ h r e)
  exact congrFun (after0_5 m c t) (ix3 h r e)

theorem final6 (c : Dev nD) : (dats m 0 c).arrAt 6 cfg0.N
    = val_main_v17 (F := Ideal) (m ((c : Thread nD τ).loc main_arg0)) (m ((c : Thread nD τ).loc main_arg1)) (m ((c : Thread nD τ).loc main_arg2)) := by
  refine (dats m 0 c).arrAt_eq_of_covers 6 _ (by decide +kernel) fun t _ y => ?_
  obtain ⟨r, e, rfl⟩ : ∃ (r : Fin 512) (e : Fin 256), y = ix2 r e := ⟨_, _, eq_ix2 y⟩
  obtain ⟨a, b⟩ := at6 t
  have he : ((cfg0.win 6).blk t).view.emb (ix2 r e) = ix2 (row t r) e := by
    funext i; apply Fin.ext
    match i with
    | ⟨0, _⟩ => show win0_6.index t (0 : Fin 2) * 512 + 1 * r.val = t.val * 512 + r.val; omega
    | ⟨1, _⟩ => show win0_6.index t (1 : Fin 2) * 256 + 1 * e.val = e.val; omega
  rw [he, Cert.InProjRefIdeal.Value.state_apply, ← block_product m c t r]
  refine Eq.trans ?_ (state_apply _ _ _ r e)
  exact congrFun (after0_6 m c t) (ix2 r e)

theorem final7 (c : Dev nD) : (dats m 0 c).arrAt 7 cfg0.N
    = val_main_v18 (F := Ideal) (m ((c : Thread nD τ).loc main_arg0)) (m ((c : Thread nD τ).loc main_arg1)) (m ((c : Thread nD τ).loc main_arg2)) := by
  refine (dats m 0 c).arrAt_eq_of_covers 7 _ (by decide +kernel) fun t _ y => ?_
  obtain ⟨r, e, rfl⟩ : ∃ (r : Fin 512) (e : Fin 256), y = ix2 r e := ⟨_, _, eq_ix2 y⟩
  obtain ⟨a, b⟩ := at7 t
  have he : ((cfg0.win 7).blk t).view.emb (ix2 r e) = ix2 (row t r) e := by
    funext i; apply Fin.ext
    match i with
    | ⟨0, _⟩ => show win0_7.index t (0 : Fin 2) * 512 + 1 * r.val = t.val * 512 + r.val; omega
    | ⟨1, _⟩ => show win0_7.index t (1 : Fin 2) * 256 + 1 * e.val = e.val; omega
  rw [he, Cert.InProjRefIdeal.Value.pool_apply, ← block_product m c t r]
  refine Eq.trans ?_ (pool_apply _ _ _ r e)
  exact congrFun (after0_7 m c t) (ix2 r e)

end Cert.InProjIdeal.Block

end
-- ==== Proof.InProj.Claims.lean ====
/- The claims about the projection call. -/
module

public import proofs.«01_k».proof.Defs
public import proofs.«01_k».proof.Proof.Gen.InProj.Frame
public import proofs.«01_k».proof.Proof.Gen.InProjRefIdeal.Run
public import proofs.«01_k».proof.Proof.InProj.Run
public import Idealize.ShloMosaic.Lib.Quiescent

@[expose] public section

set_option maxRecDepth 16384

noncomputable section

namespace Cert.Proof.InProj

open Idealize.ShloMosaic Idealize.ShloMosaic.TcCoe Idealize.SL.Sem

theorem reference_frame : Cert.quiescent_InProjRefIdeal (hInProjRefIdeal := Cert.InProjRefIdeal.Gen.facts) := fun m ρ _ =>
  (θ_run Cert.InProjRefIdeal.defs _ _).mono
    (fun r h => ⟨fun c => (h c).2.2.2.2.2, Idealize.ShloMosaic.sem_eq_zero_of_no_sems (by decide) r.2⟩)
    (Cert.InProjRefIdeal.Value.run (F := Ideal) m ρ)

theorem preserves : Cert.preserves_InProj_InProjIdeal :=
  IdealRules.named_const.statement Cert.InProjIdeal.κ "q_scale" .f32 0x3E38AA3B#32 _ rfl

theorem algebraic : Cert.algebraic_InProjIdeal_InProjRefIdeal (hInProjIdeal := Cert.InProjIdeal.Gen.facts)
    (hInProjRefIdeal := Cert.InProjRefIdeal.Gen.facts) := by
  intro m ρ m' ρ' _ hagree
  refine ⟨fun c => Cert.InProjRefIdeal.Read.val_main_v25 (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)),
    fun c => Cert.InProjRefIdeal.Read.val_main_v27 (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)),
    fun c => Cert.InProjRefIdeal.Read.val_main_v29 (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)),
    fun c => Cert.InProjRefIdeal.Read.val_main_v17 (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)),
    fun c => Cert.InProjRefIdeal.Read.val_main_v18 (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)),
    (θ_run Cert.InProjIdeal.defs _ _).mono (fun r h c => ?_) (Cert.InProjIdeal.Value.run_blocks m ρ),
    (θ_run Cert.InProjRefIdeal.defs _ _).mono (fun r h c => ?_) (Cert.InProjRefIdeal.Value.run m' ρ')⟩
  · obtain ⟨h0, h1, h2, h3, h4, k⟩ := h c
    exact ⟨h0.trans (Cert.InProjIdeal.Block.final3 m c), h1.trans (Cert.InProjIdeal.Block.final4 m c),
      h2.trans (Cert.InProjIdeal.Block.final5 m c), h3.trans (Cert.InProjIdeal.Block.final6 m c),
      h4.trans (Cert.InProjIdeal.Block.final7 m c), k⟩
  · obtain ⟨h0, h1, h2, h3, h4, k⟩ := h c
    obtain ⟨a0, a1, a2⟩ := hagree c
    dsimp only
    rw [← a0, ← a1, ← a2]
    exact ⟨h0.trans (Cert.InProjRefIdeal.Read.val_main_v25_eq _ _ _), h1.trans (Cert.InProjRefIdeal.Read.val_main_v27_eq _ _ _),
      h2.trans (Cert.InProjRefIdeal.Read.val_main_v29_eq _ _ _), h3.trans (Cert.InProjRefIdeal.Read.val_main_v17_eq _ _ _),
      h4.trans (Cert.InProjRefIdeal.Read.val_main_v18_eq _ _ _), k⟩

end Cert.Proof.InProj

end
-- ==== Proof.OutSeq.Block.lean ====
/- The output kernel, one grid point at a time, over the extended reals. A point holds 512 rows of one batch's attention,
   recurrence, pooling and residual streams, and the whole of the weights. Its body mixes the three normalised branches into
   the residual row (`mix`), normalises again, multiplies by the up weight in eleven chunks of 256 columns for each of its two
   halves (`upAt`), convolves every column over three consecutive rows (`partAt`, `ext`: the two rows above the tile come from
   the eight carried ones), gates one half by the other (`gated`), and multiplies by the down weight.
   This module reads each of the body's values at an index. -/
module

public import proofs.«01_k».proof.Proof.Gen.OutSeqIdeal.Value
public import Idealize.ShloMosaic.Lib.Pointwise

@[expose] public section

set_option maxRecDepth 16384

noncomputable section

namespace Cert.OutSeqIdeal.Block

open Cert.OutSeqIdeal Cert.OutSeqIdeal.Gen Cert.OutSeqIdeal.Value Idealize.ShloMosaic Idealize.ShloMosaic.TcCoe Idealize.SL.Sem

/-- A row divided by the root of its mean square (plus the small constant), times the gain. -/
def rmsRow {n : Nat} (d : EReal) (x g : Fin n → EReal) (k : Fin n) : EReal :=
  x k * Ideal.rsqrt (Ideal.div (∑ j, x j * x j) d + Ideal.ofBits .f32 0x358637BD#32) * g k

/-- A row contracted with a column. -/
def dotRow {n : Nat} (h w : Fin n → EReal) : EReal := ∑ k, h k * w k

/-- The residual plus the three normalised branches, each contracted with its rows of the output weight. -/
def mix (a : Fin 512 → EReal) (s p : Fin 256 → EReal) (x : EReal) (ga : Fin 512 → EReal) (gs gp : Fin 256 → EReal)
    (wa : Fin 512 → EReal) (ws wp : Fin 256 → EReal) : EReal :=
  x + (dotRow (rmsRow (Ideal.ofBits .f32 0x44000000#32) a ga) wa + dotRow (rmsRow (Ideal.ofBits .f32 0x43800000#32) s gs) ws
    + dotRow (rmsRow (Ideal.ofBits .f32 0x43800000#32) p gp) wp)

/-- A row of 1024 entries, normalised. -/
def wide (x g : Fin 1024 → EReal) : Fin 1024 → EReal := rmsRow (Ideal.ofBits .f32 0x44800000#32) x g

/-- The three-row convolution: the bias, and the rows two above, one above and here, times the three taps. -/
def tap (cb c0 c1 c2 u0 u1 u2 : EReal) : EReal := cb + u2 * c0 + u1 * c1 + u0 * c2

/-- One half gated by the other: `g` times its logistic, times `a`. -/
def gated (g a : EReal) : EReal := g * Ideal.logistic g * a

theorem mix_apply (a : Vec Ideal S1x512x512 .f32) (s p : Vec Ideal S1x512x256 .f32) (x : Vec Ideal S1x512x1024 .f32)
    (ga : Vec Ideal S1x512 .f32) (gs gp : Vec Ideal S1x256 .f32) (wa : Vec Ideal S512x1024 .bf16) (ws wp : Vec Ideal S256x1024 .bf16)
    (r : Fin 512) (k : Fin 1024) :
    k0_pay6 (F := Ideal) (k0_pay2 a ga wa) (k0_pay3 s) (k0_pay4 gs) (k0_pay5 s) ws p gp wp x (ix2 r k)
      = mix (fun j => a (ix3 0 r j)) (fun j => s (ix3 0 r j)) (fun j => p (ix3 0 r j)) (x (ix3 0 r k)) (fun j => ga (ix2 0 j))
          (fun j => gs (ix2 0 j)) (fun j => gp (ix2 0 j)) (fun j => wa (ix2 j k)) (fun j => ws (ix2 j k)) (fun j => wp (ix2 j k)) := by
  unfold mix dotRow rmsRow
  pointwise [k0_pay6, k0_pay2, k0_pay3, k0_pay4, k0_pay5]

/-- The mixed rows normalised, from the mixed rows `X` and their mean squares. -/
theorem wide_apply (X : FVec Ideal S512x1024 .f32) (g : Vec Ideal S1x1024 .f32) (v22 : FVec Ideal S512x1024 .f32)
    (v24 : FVec Ideal S512x256 .f32) (v26 : FVec Ideal S1x256 .f32) (v35 : FVec Ideal S512x256 .f32) (v40 : Vec Ideal S256x1024 .bf16)
    (v44 : Vec Ideal S1x512x256 .f32) (v46 : Vec Ideal S1x256 .f32) (v61 : Vec Ideal S256x1024 .bf16) (v65 : Vec Ideal S1x512x1024 .f32)
    (hX : k0_pay6 v22 v24 v26 v35 v40 v44 v46 v61 v65 = X) (r : Fin 512) (k : Fin 1024) :
    k0_pay9 (F := Ideal) X (k0_pay7 g) (k0_pay8 v22 v24 v26 v35 v40 v44 v46 v61 v65) (ix2 r k)
      = wide (fun j => X (ix2 r j)) (fun j => g (ix2 0 j)) k := by
  unfold wide rmsRow
  unfold k0_pay8
  rw [hX]
  pointwise [k0_pay9, k0_pay7]

variable (hn : FVec Ideal S512x1024 .bf16) (w w' : Vec Ideal S1x1x1024x256 .bf16) (t t' : Vec Ideal S1x1x8x256 .f32)
  (cw cw' : Vec Ideal S1x1x3x256 .f32) (cb cb' : Vec Ideal S1x1x1x256 .f32)

/-- The up product of one chunk at row `r`, column `l`. -/
def upAt (r : Fin 512) (l : Fin 256) : EReal := dotRow (fun k => hn (ix2 r k)) (fun k => w (ix4 0 0 k l))

/-- Row `i` of the eight carried rows with the tile's own rows below them. -/
def ext (i : Fin 520) (l : Fin 256) : EReal :=
  if h : i.val < 8 then t (ix4 0 0 ⟨i.val, h⟩ l) else upAt hn w ⟨i.val - 8, by omega⟩ l

/-- One half of one chunk after the convolution. -/
def partAt (r : Fin 512) (l : Fin 256) : EReal :=
  tap (cb (ix4 0 0 0 l)) (cw (ix4 0 0 0 l)) (cw (ix4 0 0 1 l)) (cw (ix4 0 0 2 l)) (upAt hn w r l)
    (ext hn w t ⟨r.val + 7, by omega⟩ l) (ext hn w t ⟨r.val + 6, by omega⟩ l)

theorem up_apply (r : Fin 512) (l : Fin 256) : k0_pay26 (F := Ideal) hn w (ix2 r l) = upAt hn w r l := by
  unfold upAt dotRow
  pointwise [k0_pay26]

theorem ext_apply (r : Fin 520) (l : Fin 256) : k0_pay27 (F := Ideal) hn w t (ix2 r l) = ext hn w t r l := by
  unfold k0_pay27
  have h := up_apply hn w
  generalize k0_pay26 (F := Ideal) hn w = P at h ⊢
  unfold ext
  simp only [← h]
  pointwise

/-- A row index below eight rows, one row up. -/
theorem up_one (r : Fin 512) : (8 + r.val + 520 - 1) % 520 = r.val + 7 := by omega

/-- A row index below eight rows, two rows up. -/
theorem up_two (r : Fin 512) : (8 + r.val + 520 - 2) % 520 = r.val + 6 := by omega

theorem part_apply (r : Fin 512) (l : Fin 256) :
    k0_pay31 (F := Ideal) (k0_pay26 hn w) (k0_pay27 hn w t) cw cb (ix2 r l) = partAt hn w t cw cb r l := by
  unfold partAt tap
  simp only [← up_apply, ← ext_apply]
  generalize k0_pay26 (F := Ideal) hn w = P
  generalize k0_pay27 (F := Ideal) hn w t = Q
  pointwise [k0_pay31]
  simp only [up_one, up_two]

/-- One chunk of the hidden rows as the body writes it in its second chunk. The other ten are the same operations cut at other
    places. -/
def chunk : FVec Ideal S512x256 .bf16 :=
  k0_pay37 (F := Ideal) (k0_pay31 (k0_pay26 hn w) (k0_pay27 hn w t) cw cb) (k0_pay32 hn w') (k0_pay33 hn w' t') cw' cb'

theorem chunk_apply (r : Fin 512) (l : Fin 256) :
    chunk hn w w' t t' cw cw' cb cb' (ix2 r l) = gated (partAt hn w' t' cw' cb' r l) (partAt hn w t cw cb r l) := by
  have h : k0_pay37 (F := Ideal) (k0_pay31 (k0_pay26 hn w) (k0_pay27 hn w t) cw cb) (k0_pay32 hn w') (k0_pay33 hn w' t') cw' cb' (ix2 r l)
      = gated (k0_pay31 (F := Ideal) (k0_pay26 hn w') (k0_pay27 hn w' t') cw' cb' (ix2 r l))
          (k0_pay31 (F := Ideal) (k0_pay26 hn w) (k0_pay27 hn w t) cw cb (ix2 r l)) := by
    show k0_pay37 (F := Ideal) _ (k0_pay26 hn w') (k0_pay27 hn w' t') cw' cb' _ = _
    generalize k0_pay31 (F := Ideal) (k0_pay26 hn w) (k0_pay27 hn w t) cw cb = A
    generalize k0_pay26 (F := Ideal) hn w' = P
    generalize k0_pay27 (F := Ideal) hn w' t' = Q
    unfold gated
    pointwise [k0_pay37, k0_pay31]
  rw [chunk, h, part_apply, part_apply]

theorem chunk0 (r4 : FVec Ideal S512x1024 .f32) (r5 : FVec Ideal S1x1024 .f32) (r6 : FVec Ideal S512x1 .f32) (hr : k0_pay9 r4 r5 r6 = hn) :
    k0_pay25 (F := Ideal) (k0_pay17 (k0_pay10 r4 r5 r6 w) (k0_pay14 r4 r5 r6 w t) (k0_pay15 r4 r5 r6 w t) (k0_pay16 cw) cb)
      (k0_pay18 hn w') (k0_pay22 hn w' t') (k0_pay23 hn w' t') (k0_pay24 cw') cb' = chunk hn w w' t t' cw cw' cb cb' := by
  subst hr; rfl

theorem chunk1 :
    k0_pay37 (F := Ideal) (k0_pay31 (k0_pay26 hn w) (k0_pay27 hn w t) cw cb) (k0_pay32 hn w') (k0_pay33 hn w' t') cw' cb' = chunk hn w w' t t' cw cw' cb cb' := rfl

theorem chunk2 :
    k0_pay48 (F := Ideal) (k0_pay41 (k0_pay38 hn w) t cw cb) (k0_pay46 hn (k0_pay42 w') t' cw' cb') (k0_pay47 hn (k0_pay42 w') t' cw' cb') = chunk hn w w' t t' cw cw' cb cb' := rfl

theorem chunk3 :
    k0_pay64 (F := Ideal) (k0_pay56 (k0_pay49 hn w) (k0_pay53 hn w t) (k0_pay54 hn w t) (k0_pay55 cw) cb) (k0_pay57 hn w') (k0_pay61 hn w' t')
      (k0_pay62 hn w' t') (k0_pay63 cw') cb' = chunk hn w w' t t' cw cw' cb cb' := rfl

theorem chunk4 :
    k0_pay76 (F := Ideal) (k0_pay70 (k0_pay65 hn w) (k0_pay66 hn w t) cw cb) (k0_pay71 hn w') (k0_pay72 hn w' t') cw' cb' = chunk hn w w' t t' cw cw' cb cb' := rfl

theorem chunk5 :
    k0_pay87 (F := Ideal) (k0_pay80 (k0_pay77 hn w) t cw cb) (k0_pay85 hn (k0_pay81 w') t' cw' cb') (k0_pay86 hn (k0_pay81 w') t' cw' cb') = chunk hn w w' t t' cw cw' cb cb' := rfl

theorem chunk6 :
    k0_pay103 (F := Ideal) (k0_pay95 (k0_pay88 hn w) (k0_pay92 hn w t) (k0_pay93 hn w t) (k0_pay94 cw) cb) (k0_pay96 hn w') (k0_pay100 hn w' t')
      (k0_pay101 hn w' t') (k0_pay102 cw') cb' = chunk hn w w' t t' cw cw' cb cb' := rfl

theorem chunk7 :
    k0_pay115 (F := Ideal) (k0_pay109 (k0_pay104 hn w) (k0_pay105 hn w t) cw cb) (k0_pay110 hn w') (k0_pay111 hn w' t') cw' cb' = chunk hn w w' t t' cw cw' cb cb' := rfl

theorem chunk8 :
    k0_pay126 (F := Ideal) (k0_pay119 (k0_pay116 hn w) t cw cb) (k0_pay124 hn (k0_pay120 w') t' cw' cb') (k0_pay125 hn (k0_pay120 w') t' cw' cb') = chunk hn w w' t t' cw cw' cb cb' := rfl

theorem chunk9 :
    k0_pay142 (F := Ideal) (k0_pay134 (k0_pay127 hn w) (k0_pay131 hn w t) (k0_pay132 hn w t) (k0_pay133 cw) cb) (k0_pay135 hn w') (k0_pay139 hn w' t')
      (k0_pay140 hn w' t') (k0_pay141 cw') cb' = chunk hn w w' t t' cw cw' cb cb' := rfl

theorem chunk10 :
    k0_pay154 (F := Ideal) (k0_pay148 (k0_pay143 hn w) (k0_pay144 hn w t) cw cb) (k0_pay149 hn w') (k0_pay150 hn w' t') cw' cb' = chunk hn w w' t t' cw cw' cb cb' := rfl

end Cert.OutSeqIdeal.Block

end
-- ==== Proof.OutSeq.Tile.lean ====
/- How the output kernel's body addresses its blocks: each load of one chunk's weights or carried rows is a slice of the whole
   block (`slice`), the eleven stores into the hidden scratch put chunk `c` at columns `256 c …` (`hid_canon`), and the stores
   of carried rows and of convolution rows put half `p` of chunk `c` at `(p, c)` (`tail_canon`, `conv_canon`). -/
module

public import proofs.«01_k».proof.Proof.OutSeq.Block
public import Idealize.ShloMosaic.Lib.Pipeline.ValueKit

@[expose] public section

set_option maxRecDepth 16384

noncomputable section

namespace Cert.OutSeqIdeal.Block

open Cert.OutSeqIdeal Cert.OutSeqIdeal.Gen Cert.OutSeqIdeal.Value Idealize.ShloMosaic Idealize.ShloMosaic.TcCoe Idealize.SL.Sem

/-- Half `p` of chunk `c` of a block. -/
def slice {α : Type} {A B : Nat} (x : (⟨4, ![2, 11, A, B]⟩ : Shape).Idx → α) (p : Fin 2) (c : Fin 11) :
    (⟨4, ![1, 1, A, B]⟩ : Shape).Idx → α := fun i => x (ix4 p c (i 2) (i 3))

/-- A load of one half of one chunk of a whole block reads its slice. -/
theorem load_slice {A B : Nat} {e : EltTy} (a : Memref sig .tc .vmem (⟨4, ![2, 11, A, B]⟩ : Shape) e) (ha : a.IsWhole)
    (x : Vec Ideal (⟨4, ![2, 11, A, B]⟩ : Shape) e) (p c : Nat)
    (inb : ∀ b, (![p, c, 0, 0] : Fin 4 → Nat) b + (![1, 1, A, B] : Fin 4 → Nat) b ≤ (![2, 11, A, B] : Fin 4 → Nat) b) :
    View.readAt (Elt Ideal) a.view (Rect.unit (s := ⟨4, ![2, 11, A, B]⟩) ![p, c, 0, 0] ![1, 1, A, B] inb).toLoadRect (ha.unread x)
      = slice x ⟨p, inb 0⟩ ⟨c, inb 1⟩ := by
  rw [View.readAt_eq_ld, ha.read_unread]
  funext i
  show x _ = x _
  congr 1
  funext b; apply Fin.ext
  have h0 : (i 0).val = 0 := Nat.lt_one_iff.mp (i 0).isLt
  have h1 : (i 1).val = 0 := Nat.lt_one_iff.mp (i 1).isLt
  match b with
  | ⟨0, _⟩ => show p + 1 * (i 0).val = p; omega
  | ⟨1, _⟩ => show c + 1 * (i 1).val = c; omega
  | ⟨2, _⟩ => show 0 + 1 * (i 2).val = (i 2).val; omega
  | ⟨3, _⟩ => show 0 + 1 * (i 3).val = (i 3).val; omega

/-- The stores into the hidden scratch, last first. -/
def hidPieces (H : Fin 11 → FVec Ideal S512x256 .bf16) : List (View.Piece (Elt Ideal) S512x2816 .bf16) :=
  [⟨Rect.unit ![0, 2560] S512x256.size inb_S512x2816_S512x256_0_2560, H 10⟩,
    ⟨Rect.unit ![0, 2304] S512x256.size inb_S512x2816_S512x256_0_2304, H 9⟩,
    ⟨Rect.unit ![0, 2048] S512x256.size inb_S512x2816_S512x256_0_2048, H 8⟩,
    ⟨Rect.unit ![0, 1792] S512x256.size inb_S512x2816_S512x256_0_1792, H 7⟩,
    ⟨Rect.unit ![0, 1536] S512x256.size inb_S512x2816_S512x256_0_1536, H 6⟩,
    ⟨Rect.unit ![0, 1280] S512x256.size inb_S512x2816_S512x256_0_1280, H 5⟩,
    ⟨Rect.unit ![0, 1024] S512x256.size inb_S512x2816_S512x256_0_1024, H 4⟩,
    ⟨Rect.unit ![0, 768] S512x256.size inb_S512x2816_S512x256_0_768, H 3⟩,
    ⟨Rect.unit ![0, 512] S512x256.size inb_S512x2816_S512x256_0_512, H 2⟩,
    ⟨Rect.unit ![0, 256] S512x256.size inb_S512x2816_S512x256_0_256, H 1⟩,
    ⟨Rect.unit ![0, 0] S512x256.size inb_S512x2816_S512x256_0_0, H 0⟩]

theorem hid_piece (H : Fin 11 → FVec Ideal S512x256 .bf16) (c : Fin 11) (o : Nat) (ho : o = 256 * c.val)
    (inb : ∀ a, (![0, o] : Fin 2 → Nat) a + S512x256.size a ≤ S512x2816.size a) (x : S512x256.Idx) :
    H c x = (fun y : S512x2816.Idx => H ⟨(y 1).val / 256, by have : (y 1).val < 2816 := (y 1).isLt; omega⟩
      (ix2 (y 0) ⟨(y 1).val % 256, Nat.mod_lt _ (by decide)⟩)) ((Rect.unit (s := S512x2816) ![0, o] S512x256.size inb).emb x) := by
  obtain ⟨a, b, rfl⟩ : ∃ a b, x = ix2 a b := ⟨_, _, eq_ix2 x⟩
  have hb : b.val < 256 := b.isLt
  show H c (ix2 a b) = H ⟨(o + 1 * b.val) / 256, _⟩ (ix2 ⟨0 + 1 * a.val, _⟩ ⟨(o + 1 * b.val) % 256, _⟩)
  congr 1
  · congr 1; apply Fin.ext; show c.val = _; simp only; omega
  · congr 1 <;> (apply Fin.ext; simp only; omega)

theorem hid_canon (H : Fin 11 → FVec Ideal S512x256 .bf16) (r : Fin 512) (j : Fin 2816) :
    View.canon (hidPieces H) (ix2 r j) = H ⟨j.val / 256, by omega⟩ (ix2 r ⟨j.val % 256, Nat.mod_lt _ (by decide)⟩) := by
  refine View.canon_apply_of_pieces (fun y : S512x2816.Idx => H ⟨(y 1).val / 256, by have : (y 1).val < 2816 := (y 1).isLt; omega⟩
      (ix2 (y 0) ⟨(y 1).val % 256, Nat.mod_lt _ (by decide)⟩)) (hidPieces H) ?_ (ix2 r j)
    (View.cover_of_tiledL (hidPieces H) S512x256.size (by sl_kernel_rfl) _)
  intro q hq x
  simp only [hidPieces, List.mem_cons, List.not_mem_nil, or_false] at hq
  rcases hq with rfl | rfl | rfl | rfl | rfl | rfl | rfl | rfl | rfl | rfl | rfl
  · exact hid_piece H 10 2560 rfl inb_S512x2816_S512x256_0_2560 x
  · exact hid_piece H 9 2304 rfl inb_S512x2816_S512x256_0_2304 x
  · exact hid_piece H 8 2048 rfl inb_S512x2816_S512x256_0_2048 x
  · exact hid_piece H 7 1792 rfl inb_S512x2816_S512x256_0_1792 x
  · exact hid_piece H 6 1536 rfl inb_S512x2816_S512x256_0_1536 x
  · exact hid_piece H 5 1280 rfl inb_S512x2816_S512x256_0_1280 x
  · exact hid_piece H 4 1024 rfl inb_S512x2816_S512x256_0_1024 x
  · exact hid_piece H 3 768 rfl inb_S512x2816_S512x256_0_768 x
  · exact hid_piece H 2 512 rfl inb_S512x2816_S512x256_0_512 x
  · exact hid_piece H 1 256 rfl inb_S512x2816_S512x256_0_256 x
  · exact hid_piece H 0 0 rfl inb_S512x2816_S512x256_0_0 x

/-- Pieces that hold an index decide what it reads, whatever was stored before them. -/
theorem canon_append {S : Shape} {e : EltTy} (L R : List (View.Piece (Elt Ideal) S e)) (y : S.Idx) (h : ∃ p ∈ L, y ∈ p.1.set) :
    View.canon (L ++ R) y = View.canon L y := by
  induction L with
  | nil => obtain ⟨_, hp, _⟩ := h; exact absurd hp List.not_mem_nil
  | cons q L ih =>
    by_cases hy : y ∈ q.1.set
    · obtain ⟨x, rfl⟩ := q.1.exists_idx_of_mem hy
      obtain ⟨r, w⟩ := q
      exact (View.canon_cons_emb r w (L ++ R) x).trans (View.canon_cons_emb r w L x).symm
    · rw [List.cons_append, View.canon_cons_of_not_mem q _ hy, View.canon_cons_of_not_mem q _ hy]
      refine ih ?_
      obtain ⟨p, hp, hm⟩ := h
      rcases List.mem_cons.mp hp with rfl | hp
      · exact absurd hm hy
      · exact ⟨p, hp, hm⟩

/-- The stores of the rows carried to the next tile, last first. -/
def tailPieces (T : Fin 2 → Fin 11 → Vec Ideal S1x1x8x256 .f32) : List (View.Piece (Elt Ideal) S2x11x8x256 .f32) :=
  [⟨Rect.unit ![1, 10, 0, 0] S1x1x8x256.size inb_S2x11x8x256_S1x1x8x256_1_10_0_0, T 1 10⟩,
    ⟨Rect.unit ![0, 10, 0, 0] S1x1x8x256.size inb_S2x11x8x256_S1x1x8x256_0_10_0_0, T 0 10⟩,
    ⟨Rect.unit ![1, 9, 0, 0] S1x1x8x256.size inb_S2x11x8x256_S1x1x8x256_1_9_0_0, T 1 9⟩,
    ⟨Rect.unit ![0, 9, 0, 0] S1x1x8x256.size inb_S2x11x8x256_S1x1x8x256_0_9_0_0, T 0 9⟩,
    ⟨Rect.unit ![1, 8, 0, 0] S1x1x8x256.size inb_S2x11x8x256_S1x1x8x256_1_8_0_0, T 1 8⟩,
    ⟨Rect.unit ![0, 8, 0, 0] S1x1x8x256.size inb_S2x11x8x256_S1x1x8x256_0_8_0_0, T 0 8⟩,
    ⟨Rect.unit ![1, 7, 0, 0] S1x1x8x256.size inb_S2x11x8x256_S1x1x8x256_1_7_0_0, T 1 7⟩,
    ⟨Rect.unit ![0, 7, 0, 0] S1x1x8x256.size inb_S2x11x8x256_S1x1x8x256_0_7_0_0, T 0 7⟩,
    ⟨Rect.unit ![1, 6, 0, 0] S1x1x8x256.size inb_S2x11x8x256_S1x1x8x256_1_6_0_0, T 1 6⟩,
    ⟨Rect.unit ![0, 6, 0, 0] S1x1x8x256.size inb_S2x11x8x256_S1x1x8x256_0_6_0_0, T 0 6⟩,
    ⟨Rect.unit ![1, 5, 0, 0] S1x1x8x256.size inb_S2x11x8x256_S1x1x8x256_1_5_0_0, T 1 5⟩,
    ⟨Rect.unit ![0, 5, 0, 0] S1x1x8x256.size inb_S2x11x8x256_S1x1x8x256_0_5_0_0, T 0 5⟩,
    ⟨Rect.unit ![1, 4, 0, 0] S1x1x8x256.size inb_S2x11x8x256_S1x1x8x256_1_4_0_0, T 1 4⟩,
    ⟨Rect.unit ![0, 4, 0, 0] S1x1x8x256.size inb_S2x11x8x256_S1x1x8x256_0_4_0_0, T 0 4⟩,
    ⟨Rect.unit ![1, 3, 0, 0] S1x1x8x256.size inb_S2x11x8x256_S1x1x8x256_1_3_0_0, T 1 3⟩,
    ⟨Rect.unit ![0, 3, 0, 0] S1x1x8x256.size inb_S2x11x8x256_S1x1x8x256_0_3_0_0, T 0 3⟩,
    ⟨Rect.unit ![1, 2, 0, 0] S1x1x8x256.size inb_S2x11x8x256_S1x1x8x256_1_2_0_0, T 1 2⟩,
    ⟨Rect.unit ![0, 2, 0, 0] S1x1x8x256.size inb_S2x11x8x256_S1x1x8x256_0_2_0_0, T 0 2⟩,
    ⟨Rect.unit ![1, 1, 0, 0] S1x1x8x256.size inb_S2x11x8x256_S1x1x8x256_1_1_0_0, T 1 1⟩,
    ⟨Rect.unit ![0, 1, 0, 0] S1x1x8x256.size inb_S2x11x8x256_S1x1x8x256_0_1_0_0, T 0 1⟩,
    ⟨Rect.unit ![1, 0, 0, 0] S1x1x8x256.size inb_S2x11x8x256_S1x1x8x256_1_0_0_0, T 1 0⟩,
    ⟨Rect.unit ![0, 0, 0, 0] S1x1x8x256.size inb_S2x11x8x256_S1x1x8x256_0_0_0_0, T 0 0⟩]

theorem tail_piece (T : Fin 2 → Fin 11 → Vec Ideal S1x1x8x256 .f32) (p : Fin 2) (c : Fin 11) (p' c' : Nat) (hp : p' = p.val) (hc : c' = c.val)
    (inb : ∀ a, (![p', c', 0, 0] : Fin 4 → Nat) a + S1x1x8x256.size a ≤ S2x11x8x256.size a) (x : S1x1x8x256.Idx) :
    T p c x = (fun y : S2x11x8x256.Idx => T (y 0) (y 1) (ix4 0 0 (y 2) (y 3))) ((Rect.unit (s := S2x11x8x256) ![p', c', 0, 0] S1x1x8x256.size inb).emb x) := by
  subst hp hc
  obtain ⟨a, b, i, l, rfl⟩ : ∃ a b i l, x = ix4 a b i l := ⟨_, _, _, _, eq_ix4 x⟩
  obtain rfl : a = 0 := Subsingleton.elim _ _
  obtain rfl : b = 0 := Subsingleton.elim _ _
  show T p c _ = T ⟨p.val + 1 * 0, _⟩ ⟨c.val + 1 * 0, _⟩ (ix4 0 0 ⟨0 + 1 * i.val, _⟩ ⟨0 + 1 * l.val, _⟩)
  congr 1
  congr 1 <;> (apply Fin.ext; simp only; omega)

theorem tail_canon (T : Fin 2 → Fin 11 → Vec Ideal S1x1x8x256 .f32) (R : List (View.Piece (Elt Ideal) S2x11x8x256 .f32)) (p : Fin 2) (c : Fin 11) (i : Fin 8) (l : Fin 256) :
    View.canon (tailPieces T ++ R) (ix4 p c i l) = T p c (ix4 0 0 i l) := by
  rw [canon_append _ _ _ (View.cover_of_tiledL (tailPieces T) S1x1x8x256.size (by sl_kernel_rfl) _)]
  refine View.canon_apply_of_pieces (fun y : S2x11x8x256.Idx => T (y 0) (y 1) (ix4 0 0 (y 2) (y 3))) (tailPieces T) ?_ (ix4 p c i l)
    (View.cover_of_tiledL (tailPieces T) S1x1x8x256.size (by sl_kernel_rfl) _)
  intro q hq x
  simp only [tailPieces, List.mem_cons, List.not_mem_nil, or_false] at hq
  rcases hq with rfl | rfl | rfl | rfl | rfl | rfl | rfl | rfl | rfl | rfl | rfl | rfl | rfl | rfl | rfl | rfl | rfl | rfl | rfl | rfl | rfl | rfl
  · exact tail_piece T 1 10 1 10 rfl rfl inb_S2x11x8x256_S1x1x8x256_1_10_0_0 x
  · exact tail_piece T 0 10 0 10 rfl rfl inb_S2x11x8x256_S1x1x8x256_0_10_0_0 x
  · exact tail_piece T 1 9 1 9 rfl rfl inb_S2x11x8x256_S1x1x8x256_1_9_0_0 x
  · exact tail_piece T 0 9 0 9 rfl rfl inb_S2x11x8x256_S1x1x8x256_0_9_0_0 x
  · exact tail_piece T 1 8 1 8 rfl rfl inb_S2x11x8x256_S1x1x8x256_1_8_0_0 x
  · exact tail_piece T 0 8 0 8 rfl rfl inb_S2x11x8x256_S1x1x8x256_0_8_0_0 x
  · exact tail_piece T 1 7 1 7 rfl rfl inb_S2x11x8x256_S1x1x8x256_1_7_0_0 x
  · exact tail_piece T 0 7 0 7 rfl rfl inb_S2x11x8x256_S1x1x8x256_0_7_0_0 x
  · exact tail_piece T 1 6 1 6 rfl rfl inb_S2x11x8x256_S1x1x8x256_1_6_0_0 x
  · exact tail_piece T 0 6 0 6 rfl rfl inb_S2x11x8x256_S1x1x8x256_0_6_0_0 x
  · exact tail_piece T 1 5 1 5 rfl rfl inb_S2x11x8x256_S1x1x8x256_1_5_0_0 x
  · exact tail_piece T 0 5 0 5 rfl rfl inb_S2x11x8x256_S1x1x8x256_0_5_0_0 x
  · exact tail_piece T 1 4 1 4 rfl rfl inb_S2x11x8x256_S1x1x8x256_1_4_0_0 x
  · exact tail_piece T 0 4 0 4 rfl rfl inb_S2x11x8x256_S1x1x8x256_0_4_0_0 x
  · exact tail_piece T 1 3 1 3 rfl rfl inb_S2x11x8x256_S1x1x8x256_1_3_0_0 x
  · exact tail_piece T 0 3 0 3 rfl rfl inb_S2x11x8x256_S1x1x8x256_0_3_0_0 x
  · exact tail_piece T 1 2 1 2 rfl rfl inb_S2x11x8x256_S1x1x8x256_1_2_0_0 x
  · exact tail_piece T 0 2 0 2 rfl rfl inb_S2x11x8x256_S1x1x8x256_0_2_0_0 x
  · exact tail_piece T 1 1 1 1 rfl rfl inb_S2x11x8x256_S1x1x8x256_1_1_0_0 x
  · exact tail_piece T 0 1 0 1 rfl rfl inb_S2x11x8x256_S1x1x8x256_0_1_0_0 x
  · exact tail_piece T 1 0 1 0 rfl rfl inb_S2x11x8x256_S1x1x8x256_1_0_0_0 x
  · exact tail_piece T 0 0 0 0 rfl rfl inb_S2x11x8x256_S1x1x8x256_0_0_0_0 x

/-- The stores of the convolution rows, last first. -/
def convPieces (T : Fin 2 → Fin 11 → Vec Ideal S1x1x1x2x256 .f32) : List (View.Piece (Elt Ideal) S1x2x11x2x256 .f32) :=
  [⟨Rect.unit ![0, 1, 10, 0, 0] S1x1x1x2x256.size inb_S1x2x11x2x256_S1x1x1x2x256_0_1_10_0_0, T 1 10⟩,
    ⟨Rect.unit ![0, 0, 10, 0, 0] S1x1x1x2x256.size inb_S1x2x11x2x256_S1x1x1x2x256_0_0_10_0_0, T 0 10⟩,
    ⟨Rect.unit ![0, 1, 9, 0, 0] S1x1x1x2x256.size inb_S1x2x11x2x256_S1x1x1x2x256_0_1_9_0_0, T 1 9⟩,
    ⟨Rect.unit ![0, 0, 9, 0, 0] S1x1x1x2x256.size inb_S1x2x11x2x256_S1x1x1x2x256_0_0_9_0_0, T 0 9⟩,
    ⟨Rect.unit ![0, 1, 8, 0, 0] S1x1x1x2x256.size inb_S1x2x11x2x256_S1x1x1x2x256_0_1_8_0_0, T 1 8⟩,
    ⟨Rect.unit ![0, 0, 8, 0, 0] S1x1x1x2x256.size inb_S1x2x11x2x256_S1x1x1x2x256_0_0_8_0_0, T 0 8⟩,
    ⟨Rect.unit ![0, 1, 7, 0, 0] S1x1x1x2x256.size inb_S1x2x11x2x256_S1x1x1x2x256_0_1_7_0_0, T 1 7⟩,
    ⟨Rect.unit ![0, 0, 7, 0, 0] S1x1x1x2x256.size inb_S1x2x11x2x256_S1x1x1x2x256_0_0_7_0_0, T 0 7⟩,
    ⟨Rect.unit ![0, 1, 6, 0, 0] S1x1x1x2x256.size inb_S1x2x11x2x256_S1x1x1x2x256_0_1_6_0_0, T 1 6⟩,
    ⟨Rect.unit ![0, 0, 6, 0, 0] S1x1x1x2x256.size inb_S1x2x11x2x256_S1x1x1x2x256_0_0_6_0_0, T 0 6⟩,
    ⟨Rect.unit ![0, 1, 5, 0, 0] S1x1x1x2x256.size inb_S1x2x11x2x256_S1x1x1x2x256_0_1_5_0_0, T 1 5⟩,
    ⟨Rect.unit ![0, 0, 5, 0, 0] S1x1x1x2x256.size inb_S1x2x11x2x256_S1x1x1x2x256_0_0_5_0_0, T 0 5⟩,
    ⟨Rect.unit ![0, 1, 4, 0, 0] S1x1x1x2x256.size inb_S1x2x11x2x256_S1x1x1x2x256_0_1_4_0_0, T 1 4⟩,
    ⟨Rect.unit ![0, 0, 4, 0, 0] S1x1x1x2x256.size inb_S1x2x11x2x256_S1x1x1x2x256_0_0_4_0_0, T 0 4⟩,
    ⟨Rect.unit ![0, 1, 3, 0, 0] S1x1x1x2x256.size inb_S1x2x11x2x256_S1x1x1x2x256_0_1_3_0_0, T 1 3⟩,
    ⟨Rect.unit ![0, 0, 3, 0, 0] S1x1x1x2x256.size inb_S1x2x11x2x256_S1x1x1x2x256_0_0_3_0_0, T 0 3⟩,
    ⟨Rect.unit ![0, 1, 2, 0, 0] S1x1x1x2x256.size inb_S1x2x11x2x256_S1x1x1x2x256_0_1_2_0_0, T 1 2⟩,
    ⟨Rect.unit ![0, 0, 2, 0, 0] S1x1x1x2x256.size inb_S1x2x11x2x256_S1x1x1x2x256_0_0_2_0_0, T 0 2⟩,
    ⟨Rect.unit ![0, 1, 1, 0, 0] S1x1x1x2x256.size inb_S1x2x11x2x256_S1x1x1x2x256_0_1_1_0_0, T 1 1⟩,
    ⟨Rect.unit ![0, 0, 1, 0, 0] S1x1x1x2x256.size inb_S1x2x11x2x256_S1x1x1x2x256_0_0_1_0_0, T 0 1⟩,
    ⟨Rect.unit ![0, 1, 0, 0, 0] S1x1x1x2x256.size inb_S1x2x11x2x256_S1x1x1x2x256_0_1_0_0_0, T 1 0⟩,
    ⟨Rect.unit ![0, 0, 0, 0, 0] S1x1x1x2x256.size inb_S1x2x11x2x256_S1x1x1x2x256_0_0_0_0_0, T 0 0⟩]

theorem conv_piece (T : Fin 2 → Fin 11 → Vec Ideal S1x1x1x2x256 .f32) (p : Fin 2) (c : Fin 11) (p' c' : Nat) (hp : p' = p.val) (hc : c' = c.val)
    (inb : ∀ a, (![0, p', c', 0, 0] : Fin 5 → Nat) a + S1x1x1x2x256.size a ≤ S1x2x11x2x256.size a) (x : S1x1x1x2x256.Idx) :
    T p c x = (fun y : S1x2x11x2x256.Idx => T (y 1) (y 2) (ix5 0 0 0 (y 3) (y 4))) ((Rect.unit (s := S1x2x11x2x256) ![0, p', c', 0, 0] S1x1x1x2x256.size inb).emb x) := by
  subst hp hc
  obtain ⟨z, a, b, i, l, rfl⟩ : ∃ z a b i l, x = ix5 z a b i l := ⟨_, _, _, _, _, eq_ix5 x⟩
  obtain rfl : z = 0 := Subsingleton.elim _ _
  obtain rfl : a = 0 := Subsingleton.elim _ _
  obtain rfl : b = 0 := Subsingleton.elim _ _
  show T p c _ = T ⟨p.val + 1 * 0, _⟩ ⟨c.val + 1 * 0, _⟩ (ix5 0 0 0 ⟨0 + 1 * i.val, _⟩ ⟨0 + 1 * l.val, _⟩)
  congr 1
  congr 1 <;> (apply Fin.ext; simp only; omega)

theorem conv_canon (T : Fin 2 → Fin 11 → Vec Ideal S1x1x1x2x256 .f32) (R : List (View.Piece (Elt Ideal) S1x2x11x2x256 .f32)) (p : Fin 2) (c : Fin 11) (i : Fin 2) (l : Fin 256) :
    View.canon (convPieces T ++ R) (ix5 0 p c i l) = T p c (ix5 0 0 0 i l) := by
  rw [canon_append _ _ _ (View.cover_of_tiledL (convPieces T) S1x1x1x2x256.size (by sl_kernel_rfl) _)]
  refine View.canon_apply_of_pieces (fun y : S1x2x11x2x256.Idx => T (y 1) (y 2) (ix5 0 0 0 (y 3) (y 4))) (convPieces T) ?_ (ix5 0 p c i l)
    (View.cover_of_tiledL (convPieces T) S1x1x1x2x256.size (by sl_kernel_rfl) _)
  intro q hq x
  simp only [convPieces, List.mem_cons, List.not_mem_nil, or_false] at hq
  rcases hq with rfl | rfl | rfl | rfl | rfl | rfl | rfl | rfl | rfl | rfl | rfl | rfl | rfl | rfl | rfl | rfl | rfl | rfl | rfl | rfl | rfl | rfl
  · exact conv_piece T 1 10 1 10 rfl rfl inb_S1x2x11x2x256_S1x1x1x2x256_0_1_10_0_0 x
  · exact conv_piece T 0 10 0 10 rfl rfl inb_S1x2x11x2x256_S1x1x1x2x256_0_0_10_0_0 x
  · exact conv_piece T 1 9 1 9 rfl rfl inb_S1x2x11x2x256_S1x1x1x2x256_0_1_9_0_0 x
  · exact conv_piece T 0 9 0 9 rfl rfl inb_S1x2x11x2x256_S1x1x1x2x256_0_0_9_0_0 x
  · exact conv_piece T 1 8 1 8 rfl rfl inb_S1x2x11x2x256_S1x1x1x2x256_0_1_8_0_0 x
  · exact conv_piece T 0 8 0 8 rfl rfl inb_S1x2x11x2x256_S1x1x1x2x256_0_0_8_0_0 x
  · exact conv_piece T 1 7 1 7 rfl rfl inb_S1x2x11x2x256_S1x1x1x2x256_0_1_7_0_0 x
  · exact conv_piece T 0 7 0 7 rfl rfl inb_S1x2x11x2x256_S1x1x1x2x256_0_0_7_0_0 x
  · exact conv_piece T 1 6 1 6 rfl rfl inb_S1x2x11x2x256_S1x1x1x2x256_0_1_6_0_0 x
  · exact conv_piece T 0 6 0 6 rfl rfl inb_S1x2x11x2x256_S1x1x1x2x256_0_0_6_0_0 x
  · exact conv_piece T 1 5 1 5 rfl rfl inb_S1x2x11x2x256_S1x1x1x2x256_0_1_5_0_0 x
  · exact conv_piece T 0 5 0 5 rfl rfl inb_S1x2x11x2x256_S1x1x1x2x256_0_0_5_0_0 x
  · exact conv_piece T 1 4 1 4 rfl rfl inb_S1x2x11x2x256_S1x1x1x2x256_0_1_4_0_0 x
  · exact conv_piece T 0 4 0 4 rfl rfl inb_S1x2x11x2x256_S1x1x1x2x256_0_0_4_0_0 x
  · exact conv_piece T 1 3 1 3 rfl rfl inb_S1x2x11x2x256_S1x1x1x2x256_0_1_3_0_0 x
  · exact conv_piece T 0 3 0 3 rfl rfl inb_S1x2x11x2x256_S1x1x1x2x256_0_0_3_0_0 x
  · exact conv_piece T 1 2 1 2 rfl rfl inb_S1x2x11x2x256_S1x1x1x2x256_0_1_2_0_0 x
  · exact conv_piece T 0 2 0 2 rfl rfl inb_S1x2x11x2x256_S1x1x1x2x256_0_0_2_0_0 x
  · exact conv_piece T 1 1 1 1 rfl rfl inb_S1x2x11x2x256_S1x1x1x2x256_0_1_1_0_0 x
  · exact conv_piece T 0 1 0 1 rfl rfl inb_S1x2x11x2x256_S1x1x1x2x256_0_0_1_0_0 x
  · exact conv_piece T 1 0 1 0 rfl rfl inb_S1x2x11x2x256_S1x1x1x2x256_0_1_0_0_0 x
  · exact conv_piece T 0 0 0 0 rfl rfl inb_S1x2x11x2x256_S1x1x1x2x256_0_0_0_0_0 x

end Cert.OutSeqIdeal.Block

end
-- ==== Proof.OutSeq.Body.lean ====
/- What the output kernel's body leaves at one grid point, as arrays: the mixed rows (`mixed`), their normalised form
   (`normed`), the hidden chunks (`hidden`), the rows after the down weight (`outRows`). `T` is what the point before left as
   the last eight up rows. -/
module

public import proofs.«01_k».proof.Proof.OutSeq.Tile

@[expose] public section

set_option maxRecDepth 16384

noncomputable section

namespace Cert.OutSeqIdeal.Block

open Cert.OutSeqIdeal Cert.OutSeqIdeal.Gen Cert.OutSeqIdeal.Value Idealize.ShloMosaic Idealize.ShloMosaic.TcCoe Idealize.SL.Sem

variable (x0 : Vec Ideal S1x512x512 .f32) (x1 x2 : Vec Ideal S1x512x256 .f32) (x3 : Vec Ideal S1x512x1024 .f32)
  (x4 : Vec Ideal S1x512 .f32) (x5 x6 : Vec Ideal S1x256 .f32) (x7 : Vec Ideal S1024x1024 .bf16)

/-- The mixed rows of a tile. -/
def mixed : FVec Ideal S512x1024 .f32 := fun y =>
  mix (fun j => x0 (ix3 0 (y 0) j)) (fun j => x1 (ix3 0 (y 0) j)) (fun j => x2 (ix3 0 (y 0) j)) (x3 (ix3 0 (y 0) (y 1)))
    (fun j => x4 (ix2 0 j)) (fun j => x5 (ix2 0 j)) (fun j => x6 (ix2 0 j)) (fun j => x7 (ix2 ⟨j.val, by omega⟩ (y 1)))
    (fun j => x7 (ix2 ⟨512 + j.val, by omega⟩ (y 1))) (fun j => x7 (ix2 ⟨768 + j.val, by omega⟩ (y 1)))

/-- Rows normalised. -/
def normed (X : FVec Ideal S512x1024 .f32) (g : Vec Ideal S1x1024 .f32) : FVec Ideal S512x1024 .bf16 := fun y =>
  wide (fun j => X (ix2 (y 0) j)) (fun j => g (ix2 0 j)) (y 1)

/-- The hidden chunks of a tile. -/
def hidden (hn : FVec Ideal S512x1024 .bf16) (x9 : Vec Ideal S2x11x1024x256 .bf16) (T : Vec Ideal S2x11x8x256 .f32)
    (x10 : Vec Ideal S2x11x3x256 .f32) (x11 : Vec Ideal S2x11x1x256 .f32) (k : Fin 11) : FVec Ideal S512x256 .bf16 :=
  chunk hn (slice x9 0 k) (slice x9 1 k) (slice T 0 k) (slice T 1 k) (slice x10 0 k) (slice x10 1 k) (slice x11 0 k) (slice x11 1 k)

/-- The rows after the down weight. -/
def outRows (X : FVec Ideal S512x1024 .f32) (H : Fin 11 → FVec Ideal S512x256 .bf16) (x12 : Vec Ideal S2816x1024 .bf16) :
    FVec Ideal S512x1024 .f32 := fun y =>
  X y + dotRow (fun j : Fin 2816 => H ⟨j.val / 256, by omega⟩ (ix2 (y 0) ⟨j.val % 256, Nat.mod_lt _ (by decide)⟩)) (fun j => x12 (ix2 j (y 1)))

/-- The zero offsets of a whole load or store of rank 2, 3. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A load of a whole block of rank 2, 3 reads the block. -/
theorem load_whole2 {A B : Nat} {e : EltTy} (a : Memref sig .tc .vmem (⟨2, ![A, B]⟩ : Shape) e) (ha : a.IsWhole)
    (x : Vec Ideal (⟨2, ![A, B]⟩ : Shape) e) (inb : ∀ b, (![0, 0] : Fin 2 → Nat) b + (![A, B] : Fin 2 → Nat) b ≤ (![A, B] : Fin 2 → Nat) b) :
    View.readAt (Elt Ideal) a.view (Rect.unit (s := ⟨2, ![A, B]⟩) ![0, 0] ![A, B] inb).toLoadRect (ha.unread x) = x := by
  rw [View.readAt_eq_ld, ha.read_unread]; exact View.ld_unit_zero hz2 inb x

theorem load_whole3 {A B C : Nat} {e : EltTy} (a : Memref sig .tc .vmem (⟨3, ![A, B, C]⟩ : Shape) e) (ha : a.IsWhole)
    (x : Vec Ideal (⟨3, ![A, B, C]⟩ : Shape) e)
    (inb : ∀ b, (![0, 0, 0] : Fin 3 → Nat) b + (![A, B, C] : Fin 3 → Nat) b ≤ (![A, B, C] : Fin 3 → Nat) b) :
    View.readAt (Elt Ideal) a.view (Rect.unit (s := ⟨3, ![A, B, C]⟩) ![0, 0, 0] ![A, B, C] inb).toLoadRect (ha.unread x) = x := by
  rw [View.readAt_eq_ld, ha.read_unread]; exact View.ld_unit_zero hz3 inb x

/-- A load of some rows of the output weight. -/
theorem load_rows {n : Nat} (a : Memref sig .tc .vmem S1024x1024 .bf16) (ha : a.IsWhole) (o : Nat)
    (inb : ∀ b, (![o, 0] : Fin 2 → Nat) b + (![n, 1024] : Fin 2 → Nat) b ≤ S1024x1024.size b) (j : Fin n) (k : Fin 1024) :
    View.readAt (Elt Ideal) a.view (Rect.unit (s := S1024x1024) ![o, 0] ![n, 1024] inb).toLoadRect (ha.unread x7) (ix2 j k)
      = x7 (ix2 ⟨o + j.val, by have h := inb 0; have : o + n ≤ 1024 := h; omega⟩ k) := by
  rw [View.readAt_eq_ld, ha.read_unread]
  show x7 _ = x7 _
  congr 1
  funext b; apply Fin.ext
  match b with
  | ⟨0, _⟩ => show o + 1 * j.val = o + j.val; omega
  | ⟨1, _⟩ => show 0 + 1 * k.val = k.val; omega

/-- A load of the whole hidden scratch after its eleven stores, into the down product. -/
theorem outRows_apply (X : FVec Ideal S512x1024 .f32) (H : Fin 11 → FVec Ideal S512x256 .bf16) (x12 : Vec Ideal S2816x1024 .bf16)
    (a : Memref sig .tc .vmem S512x2816 .bf16) (inb : ∀ b, (![0, 0] : Fin 2 → Nat) b + S512x2816.size b ≤ S512x2816.size b) :
    k0_pay155 (F := Ideal) X (a.view.readCov (hidPieces H) (Rect.unit (s := S512x2816) ![0, 0] S512x2816.size inb).toLoadRect) x12 = outRows X H x12 := by
  rw [View.readCov_eq_canon']
  have e : (fun j => View.canon (hidPieces H) ((Rect.unit (s := S512x2816) ![0, 0] S512x2816.size inb).toLoadRect.idx j)) = View.canon (hidPieces H) :=
    View.ld_unit_zero hz2 inb _
  rw [show (fun j => View.canon (hidPieces H) ((Rect.unit (s := S512x2816) ![0, 0] S512x2816.size inb).toLoadRect.idx j)) = View.canon (hidPieces H) from e]
  funext y
  obtain ⟨r, k, rfl⟩ : ∃ r k, y = ix2 r k := ⟨_, _, eq_ix2 y⟩
  unfold outRows dotRow
  have h := hid_canon H r
  simp only [ix2_0, ix2_1, ← h]
  generalize View.canon (hidPieces H) = P
  pointwise [k0_pay155]

/-- The two stores of a tile's rows. -/
theorem store_rows (X : FVec Ideal S512x1024 .f32) (r : Fin 512) (k : Fin 1024) : k0_pay156 (F := Ideal) X (ix3 0 r k) = X (ix2 r k) := by
  pointwise [k0_pay156]

theorem store_wide (X : FVec Ideal S512x1024 .f32) (g : Vec Ideal S1x1024 .f32) (r : Fin 512) (k : Fin 1024) :
    k0_pay157 (F := Ideal) X g (ix3 0 r k) = wide (fun j => X (ix2 r j)) (fun j => g (ix2 0 j)) k := by
  unfold wide rmsRow
  pointwise [k0_pay157]

/-- The eight rows carried to the next tile: the tile's last eight up rows. -/
theorem store_tail (hn : FVec Ideal S512x1024 .bf16) (w : Vec Ideal S1x1x1024x256 .bf16) (i : Fin 8) (l : Fin 256) :
    k0_pay28 (F := Ideal) hn w (ix4 0 0 i l) = upAt hn w ⟨504 + i.val, by omega⟩ l := by
  unfold k0_pay28
  rw [← up_apply]
  generalize k0_pay26 (F := Ideal) hn w = P
  pointwise

/-- The convolution rows: the tile's last two up rows. -/
theorem store_conv (hn : FVec Ideal S512x1024 .bf16) (w : Vec Ideal S1x1x1024x256 .bf16) (i : Fin 2) (l : Fin 256) :
    k0_pay30 (F := Ideal) (k0_pay29 hn w) (ix5 0 0 0 i l) = upAt hn w ⟨510 + i.val, by omega⟩ l := by
  unfold k0_pay29
  rw [← up_apply]
  generalize k0_pay26 (F := Ideal) hn w = P
  pointwise [k0_pay30]

/-- The first chunk's stores, which the body writes from the normalised rows' parts. -/
theorem tail0 (hn : FVec Ideal S512x1024 .bf16) (w : Vec Ideal S1x1x1024x256 .bf16) (r4 : FVec Ideal S512x1024 .f32)
    (r5 : FVec Ideal S1x1024 .f32) (r6 : FVec Ideal S512x1 .f32) (hr : k0_pay9 r4 r5 r6 = hn) :
    k0_pay12 (F := Ideal) r4 r5 r6 w = k0_pay28 hn w := by
  subst hr; rfl

theorem conv0 (hn : FVec Ideal S512x1024 .bf16) (w : Vec Ideal S1x1x1024x256 .bf16) (r4 : FVec Ideal S512x1024 .f32)
    (r5 : FVec Ideal S1x1024 .f32) (r6 : FVec Ideal S512x1 .f32) (hr : k0_pay9 r4 r5 r6 = hn) :
    k0_pay13 (F := Ideal) r4 r5 r6 w = k0_pay30 (k0_pay29 hn w) := by
  subst hr; rfl

end Cert.OutSeqIdeal.Block

end
-- ==== Proof.OutSeq.CaseA.lean ====
/- The output kernel at the first point of a batch, where the carried rows are zeroed first: what its body leaves is what another point leaves over zero rows. -/
module

public import proofs.«01_k».proof.Proof.OutSeq.Body

@[expose] public section

set_option maxRecDepth 16384

noncomputable section

namespace Cert.OutSeqIdeal.Block

open Cert.OutSeqIdeal Cert.OutSeqIdeal.Gen Cert.OutSeqIdeal.Value Idealize.ShloMosaic Idealize.ShloMosaic.TcCoe Idealize.SL.Sem

variable (c : Dev nD) (i : grid0.Coords) (arg2 : Memref sig .tc .vmem S1x512x512 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x1024 .f32) (harg5 : arg5.IsWhole) (arg6 : Memref sig .tc .vmem S1x512 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S2x11x1024x256 .bf16) (harg11 : arg11.IsWhole) (arg12 : Memref sig .tc .vmem S2x11x3x256 .f32) (harg12 : arg12.IsWhole) (arg13 : Memref sig .tc .vmem S2x11x1x256 .f32) (harg13 : arg13.IsWhole) (arg14 : Memref sig .tc .vmem S2816x1024 .bf16) (harg14 : arg14.IsWhole) (arg15 : Memref sig .tc .vmem S1x1024 .f32) (harg15 : arg15.IsWhole) (arg16 : Memref sig .tc .vmem S1x512x1024 .f32) (harg16 : arg16.IsWhole) (arg17 : Memref sig .tc .vmem S1x512x1024 .f32) (harg17 : arg17.IsWhole) (arg18 : Memref sig .tc .vmem S1x2x11x2x256 .f32) (harg18 : arg18.IsWhole) (arg19 : Memref sig .tc .vmem S512x2816 .bf16) (harg19 : arg19.IsWhole) (arg20 : Memref sig .tc .vmem S2x11x8x256 .f32) (harg20 : arg20.IsWhole) (hc0 : cond0_0 i) (x0 : Vec Ideal S1x512x512 .f32) (x1 : Vec Ideal S1x512x256 .f32) (x2 : Vec Ideal S1x512x256 .f32) (x3 : Vec Ideal S1x512x1024 .f32) (x4 : Vec Ideal S1x512 .f32) (x5 : Vec Ideal S1x256 .f32) (x6 : Vec Ideal S1x256 .f32) (x7 : Vec Ideal S1024x1024 .bf16) (x8 : Vec Ideal S1x1024 .f32) (x9 : Vec Ideal S2x11x1024x256 .bf16) (x10 : Vec Ideal S2x11x3x256 .f32) (x11 : Vec Ideal S2x11x1x256 .f32) (x12 : Vec Ideal S2816x1024 .bf16) (x13 : Vec Ideal S1x1024 .f32)

theorem mixed_A : kernelRun0_A.sl.r_4 (F := Ideal) c arg2 harg2 arg3 harg3 arg4 harg4 arg5 harg5 arg6 harg6 arg7 harg7 arg8 harg8 arg9 harg9 x0 x1 x2 x3 x4 x5 x6 x7
    = mixed x0 x1 x2 x3 x4 x5 x6 x7 := by
  unfold kernelRun0_A.sl.r_4
  simp only [kernelRun0_A.sl.r, kernelRun0_A.sl.r_1, kernelRun0_A.sl.r_2, kernelRun0_A.sl.r_3, load_whole2, load_whole3]
  funext y
  obtain ⟨r, j, rfl⟩ : ∃ r j, y = ix2 r j := ⟨_, _, eq_ix2 y⟩
  rw [mix_apply]
  unfold mixed
  simp only [load_rows, ix2_0, ix2_1, Nat.zero_add]

theorem normed_A : kernelRun0_A.sl.r_7 (F := Ideal) c arg2 harg2 arg3 harg3 arg4 harg4 arg5 harg5 arg6 harg6 arg7 harg7 arg8 harg8 arg9 harg9 arg10 harg10 x0 x1 x2 x3 x4 x5 x6 x7 x8
    = normed (mixed x0 x1 x2 x3 x4 x5 x6 x7) x8 := by
  unfold kernelRun0_A.sl.r_7 kernelRun0_A.sl.r_6 kernelRun0_A.sl.r_5
  rw [mixed_A]
  have h := mixed_A c arg2 harg2 arg3 harg3 arg4 harg4 arg5 harg5 arg6 harg6 arg7 harg7 arg8 harg8 arg9 harg9 x0 x1 x2 x3 x4 x5 x6 x7
  unfold kernelRun0_A.sl.r_4 at h
  funext y
  obtain ⟨r, j, rfl⟩ : ∃ r j, y = ix2 r j := ⟨_, _, eq_ix2 y⟩
  rw [wide_apply _ _ _ _ _ _ _ _ _ _ _ h]
  simp only [load_whole2]
  rfl

/-- A store at one `(p, c)` leaves the others. -/
theorem tail_skip (p' c' : Nat) (inb : ∀ a, (![p', c', 0, 0] : Fin 4 → Nat) a + S1x1x8x256.size a ≤ S2x11x8x256.size a)
    (w : Vec Ideal S1x1x8x256 .f32) (L : List (View.Piece (Elt Ideal) S2x11x8x256 .f32)) (p : Fin 2) (c : Fin 11) (i : Fin 8) (l : Fin 256)
    (h : ¬ (p' = p.val ∧ c' = c.val)) :
    View.canon (⟨Rect.unit (s := S2x11x8x256) ![p', c', 0, 0] S1x1x8x256.size inb, w⟩ :: L) (ix4 p c i l) = View.canon L (ix4 p c i l) := by
  refine View.canon_cons_of_not_mem _ _ fun hm => h ?_
  obtain ⟨x, hx⟩ := (Rect.unit (s := S2x11x8x256) ![p', c', 0, 0] S1x1x8x256.size inb).exists_idx_of_mem hm
  have h0 : (x 0).val = 0 := Nat.lt_one_iff.mp (x 0).isLt
  have h1 : (x 1).val = 0 := Nat.lt_one_iff.mp (x 1).isLt
  have e0 : p' + 1 * (x 0).val = p.val := congrArg Fin.val (congrFun hx 0)
  have e1 : c' + 1 * (x 1).val = c.val := congrArg Fin.val (congrFun hx 1)
  constructor <;> omega

/-- A load of one `(p, c)` from the scratch, when the stores before it leave zero there. -/
theorem tail_load (a : Memref sig .tc .vmem S2x11x8x256 .f32) (p c : Nat)
    (inb : ∀ b, (![p, c, 0, 0] : Fin 4 → Nat) b + (![1, 1, 8, 256] : Fin 4 → Nat) b ≤ (![2, 11, 8, 256] : Fin 4 → Nat) b)
    (L : List (View.Piece (Elt Ideal) S2x11x8x256 .f32))
    (h : ∀ i l, View.canon L (ix4 (⟨p, inb 0⟩ : Fin 2) (⟨c, inb 1⟩ : Fin 11) i l) = (0 : EReal)) :
    a.view.readCov L (Rect.unit (s := S2x11x8x256) ![p, c, 0, 0] S1x1x8x256.size inb).toLoadRect
      = slice (fun _ => (0 : EReal)) ⟨p, inb 0⟩ ⟨c, inb 1⟩ := by
  rw [View.readCov_eq_canon']
  funext j
  refine Eq.trans ?_ (h (j 2) (j 3))
  show View.canon L _ = View.canon L _
  congr 1
  funext b; apply Fin.ext
  have h0 : (j 0).val = 0 := Nat.lt_one_iff.mp (j 0).isLt
  have h1 : (j 1).val = 0 := Nat.lt_one_iff.mp (j 1).isLt
  match b with
  | ⟨0, _⟩ => show p + 1 * (j 0).val = p; omega
  | ⟨1, _⟩ => show c + 1 * (j 1).val = c; omega
  | ⟨2, _⟩ => show 0 + 1 * (j 2).val = (j 2).val; omega
  | ⟨3, _⟩ => show 0 + 1 * (j 3).val = (j 3).val; omega

/-- The first store: zero everywhere. -/
theorem zeroed (inb : ∀ b, (![0, 0, 0, 0] : Fin 4 → Nat) b + S2x11x8x256.size b ≤ S2x11x8x256.size b) (y : S2x11x8x256.Idx) :
    View.canon ([⟨Rect.unit (s := S2x11x8x256) ![0, 0, 0, 0] S2x11x8x256.size inb, k0_pay1 (F := Ideal)⟩] :
      List (View.Piece (Elt Ideal) S2x11x8x256 .f32)) y = 0 := by
  have hz : (![0, 0, 0, 0] : Fin 4 → Nat) = fun _ => 0 := funext fun a => by fin_cases a <;> rfl
  rw [View.canon_unit_zero (S := S2x11x8x256) hz]
  pointwise [k0_pay1]

theorem tail_A_0_0 : kernelRun0_A.sl.v86 (F := Ideal) c arg20
    = slice (fun _ => (0 : EReal)) 0 0 := by
  unfold kernelRun0_A.sl.v86
  refine tail_load _ 0 0 _ _ fun i l => ?_
  simp only [kernelRun0_A.sl.HS1_1]
  exact zeroed _ _

theorem tail_A_1_0 : kernelRun0_A.sl.v121 (F := Ideal) c arg2 harg2 arg3 harg3 arg4 harg4 arg5 harg5 arg6 harg6 arg7 harg7 arg8 harg8 arg9 harg9 arg10 harg10 arg11 harg11 arg20 x0 x1 x2 x3 x4 x5 x6 x7 x8 x9
    = slice (fun _ => (0 : EReal)) 1 0 := by
  unfold kernelRun0_A.sl.v121
  refine tail_load _ 1 0 _ _ fun i l => ?_
  simp only [kernelRun0_A.sl.HS1_2, kernelRun0_A.sl.HS1_1]
  iterate 1 refine (tail_skip _ _ _ _ _ _ _ _ _ (by decide)).trans ?_
  exact zeroed _ _

theorem tail_A_0_1 : kernelRun0_A.sl.v163 (F := Ideal) c arg2 harg2 arg3 harg3 arg4 harg4 arg5 harg5 arg6 harg6 arg7 harg7 arg8 harg8 arg9 harg9 arg10 harg10 arg11 harg11 arg20 x0 x1 x2 x3 x4 x5 x6 x7 x8 x9
    = slice (fun _ => (0 : EReal)) 0 1 := by
  unfold kernelRun0_A.sl.v163
  refine tail_load _ 0 1 _ _ fun i l => ?_
  simp only [kernelRun0_A.sl.HS1_3, kernelRun0_A.sl.HS1_2, kernelRun0_A.sl.HS1_1]
  iterate 2 refine (tail_skip _ _ _ _ _ _ _ _ _ (by decide)).trans ?_
  exact zeroed _ _

theorem tail_A_1_1 : kernelRun0_A.sl.v198 (F := Ideal) c arg2 harg2 arg3 harg3 arg4 harg4 arg5 harg5 arg6 harg6 arg7 harg7 arg8 harg8 arg9 harg9 arg10 harg10 arg11 harg11 arg20 x0 x1 x2 x3 x4 x5 x6 x7 x8 x9
    = slice (fun _ => (0 : EReal)) 1 1 := by
  unfold kernelRun0_A.sl.v198
  refine tail_load _ 1 1 _ _ fun i l => ?_
  simp only [kernelRun0_A.sl.HS1_4, kernelRun0_A.sl.HS1_3, kernelRun0_A.sl.HS1_2, kernelRun0_A.sl.HS1_1]
  iterate 3 refine (tail_skip _ _ _ _ _ _ _ _ _ (by decide)).trans ?_
  exact zeroed _ _

theorem tail_A_0_2 : kernelRun0_A.sl.v240 (F := Ideal) c arg2 harg2 arg3 harg3 arg4 harg4 arg5 harg5 arg6 harg6 arg7 harg7 arg8 harg8 arg9 harg9 arg10 harg10 arg11 harg11 arg20 x0 x1 x2 x3 x4 x5 x6 x7 x8 x9
    = slice (fun _ => (0 : EReal)) 0 2 := by
  unfold kernelRun0_A.sl.v240
  refine tail_load _ 0 2 _ _ fun i l => ?_
  simp only [kernelRun0_A.sl.HS1_5, kernelRun0_A.sl.HS1_4, kernelRun0_A.sl.HS1_3, kernelRun0_A.sl.HS1_2, kernelRun0_A.sl.HS1_1]
  iterate 4 refine (tail_skip _ _ _ _ _ _ _ _ _ (by decide)).trans ?_
  exact zeroed _ _

theorem tail_A_1_2 : kernelRun0_A.sl.v275 (F := Ideal) c arg2 harg2 arg3 harg3 arg4 harg4 arg5 harg5 arg6 harg6 arg7 harg7 arg8 harg8 arg9 harg9 arg10 harg10 arg11 harg11 arg20 x0 x1 x2 x3 x4 x5 x6 x7 x8 x9
    = slice (fun _ => (0 : EReal)) 1 2 := by
  unfold kernelRun0_A.sl.v275
  refine tail_load _ 1 2 _ _ fun i l => ?_
  simp only [kernelRun0_A.sl.HS1_6, kernelRun0_A.sl.HS1_5, kernelRun0_A.sl.HS1_4, kernelRun0_A.sl.HS1_3, kernelRun0_A.sl.HS1_2, kernelRun0_A.sl.HS1_1]
  iterate 5 refine (tail_skip _ _ _ _ _ _ _ _ _ (by decide)).trans ?_
  exact zeroed _ _

theorem tail_A_0_3 : kernelRun0_A.sl.v317 (F := Ideal) c arg2 harg2 arg3 harg3 arg4 harg4 arg5 harg5 arg6 harg6 arg7 harg7 arg8 harg8 arg9 harg9 arg10 harg10 arg11 harg11 arg20 x0 x1 x2 x3 x4 x5 x6 x7 x8 x9
    = slice (fun _ => (0 : EReal)) 0 3 := by
  unfold kernelRun0_A.sl.v317
  refine tail_load _ 0 3 _ _ fun i l => ?_
  simp only [kernelRun0_A.sl.HS1_7, kernelRun0_A.sl.HS1_6, kernelRun0_A.sl.HS1_5, kernelRun0_A.sl.HS1_4, kernelRun0_A.sl.HS1_3, kernelRun0_A.sl.HS1_2, kernelRun0_A.sl.HS1_1]
  iterate 6 refine (tail_skip _ _ _ _ _ _ _ _ _ (by decide)).trans ?_
  exact zeroed _ _

theorem tail_A_1_3 : kernelRun0_A.sl.v352 (F := Ideal) c arg2 harg2 arg3 harg3 arg4 harg4 arg5 harg5 arg6 harg6 arg7 harg7 arg8 harg8 arg9 harg9 arg10 harg10 arg11 harg11 arg20 x0 x1 x2 x3 x4 x5 x6 x7 x8 x9
    = slice (fun _ => (0 : EReal)) 1 3 := by
  unfold kernelRun0_A.sl.v352
  refine tail_load _ 1 3 _ _ fun i l => ?_
  simp only [kernelRun0_A.sl.HS1_8, kernelRun0_A.sl.HS1_7, kernelRun0_A.sl.HS1_6, kernelRun0_A.sl.HS1_5, kernelRun0_A.sl.HS1_4, kernelRun0_A.sl.HS1_3, kernelRun0_A.sl.HS1_2, kernelRun0_A.sl.HS1_1]
  iterate 7 refine (tail_skip _ _ _ _ _ _ _ _ _ (by decide)).trans ?_
  exact zeroed _ _

theorem tail_A_0_4 : kernelRun0_A.sl.v394 (F := Ideal) c arg2 harg2 arg3 harg3 arg4 harg4 arg5 harg5 arg6 harg6 arg7 harg7 arg8 harg8 arg9 harg9 arg10 harg10 arg11 harg11 arg20 x0 x1 x2 x3 x4 x5 x6 x7 x8 x9
    = slice (fun _ => (0 : EReal)) 0 4 := by
  unfold kernelRun0_A.sl.v394
  refine tail_load _ 0 4 _ _ fun i l => ?_
  simp only [kernelRun0_A.sl.HS1_9, kernelRun0_A.sl.HS1_8, kernelRun0_A.sl.HS1_7, kernelRun0_A.sl.HS1_6, kernelRun0_A.sl.HS1_5, kernelRun0_A.sl.HS1_4, kernelRun0_A.sl.HS1_3, kernelRun0_A.sl.HS1_2, kernelRun0_A.sl.HS1_1]
  iterate 8 refine (tail_skip _ _ _ _ _ _ _ _ _ (by decide)).trans ?_
  exact zeroed _ _

theorem tail_A_1_4 : kernelRun0_A.sl.v429 (F := Ideal) c arg2 harg2 arg3 harg3 arg4 harg4 arg5 harg5 arg6 harg6 arg7 harg7 arg8 harg8 arg9 harg9 arg10 harg10 arg11 harg11 arg20 x0 x1 x2 x3 x4 x5 x6 x7 x8 x9
    = slice (fun _ => (0 : EReal)) 1 4 := by
  unfold kernelRun0_A.sl.v429
  refine tail_load _ 1 4 _ _ fun i l => ?_
  simp only [kernelRun0_A.sl.HS1_10, kernelRun0_A.sl.HS1_9, kernelRun0_A.sl.HS1_8, kernelRun0_A.sl.HS1_7, kernelRun0_A.sl.HS1_6, kernelRun0_A.sl.HS1_5, kernelRun0_A.sl.HS1_4, kernelRun0_A.sl.HS1_3, kernelRun0_A.sl.HS1_2, kernelRun0_A.sl.HS1_1]
  iterate 9 refine (tail_skip _ _ _ _ _ _ _ _ _ (by decide)).trans ?_
  exact zeroed _ _

theorem tail_A_0_5 : kernelRun0_A.sl.v471 (F := Ideal) c arg2 harg2 arg3 harg3 arg4 harg4 arg5 harg5 arg6 harg6 arg7 harg7 arg8 harg8 arg9 harg9 arg10 harg10 arg11 harg11 arg20 x0 x1 x2 x3 x4 x5 x6 x7 x8 x9
    = slice (fun _ => (0 : EReal)) 0 5 := by
  unfold kernelRun0_A.sl.v471
  refine tail_load _ 0 5 _ _ fun i l => ?_
  simp only [kernelRun0_A.sl.HS1_11, kernelRun0_A.sl.HS1_10, kernelRun0_A.sl.HS1_9, kernelRun0_A.sl.HS1_8, kernelRun0_A.sl.HS1_7, kernelRun0_A.sl.HS1_6, kernelRun0_A.sl.HS1_5, kernelRun0_A.sl.HS1_4, kernelRun0_A.sl.HS1_3, kernelRun0_A.sl.HS1_2, kernelRun0_A.sl.HS1_1]
  iterate 10 refine (tail_skip _ _ _ _ _ _ _ _ _ (by decide)).trans ?_
  exact zeroed _ _

theorem tail_A_1_5 : kernelRun0_A.sl.v506 (F := Ideal) c arg2 harg2 arg3 harg3 arg4 harg4 arg5 harg5 arg6 harg6 arg7 harg7 arg8 harg8 arg9 harg9 arg10 harg10 arg11 harg11 arg20 x0 x1 x2 x3 x4 x5 x6 x7 x8 x9
    = slice (fun _ => (0 : EReal)) 1 5 := by
  unfold kernelRun0_A.sl.v506
  refine tail_load _ 1 5 _ _ fun i l => ?_
  simp only [kernelRun0_A.sl.HS1_12, kernelRun0_A.sl.HS1_11, kernelRun0_A.sl.HS1_10, kernelRun0_A.sl.HS1_9, kernelRun0_A.sl.HS1_8, kernelRun0_A.sl.HS1_7, kernelRun0_A.sl.HS1_6, kernelRun0_A.sl.HS1_5, kernelRun0_A.sl.HS1_4, kernelRun0_A.sl.HS1_3, kernelRun0_A.sl.HS1_2, kernelRun0_A.sl.HS1_1]
  iterate 11 refine (tail_skip _ _ _ _ _ _ _ _ _ (by decide)).trans ?_
  exact zeroed _ _

theorem tail_A_0_6 : kernelRun0_A.sl.v548 (F := Ideal) c arg2 harg2 arg3 harg3 arg4 harg4 arg5 harg5 arg6 harg6 arg7 harg7 arg8 harg8 arg9 harg9 arg10 harg10 arg11 harg11 arg20 x0 x1 x2 x3 x4 x5 x6 x7 x8 x9
    = slice (fun _ => (0 : EReal)) 0 6 := by
  unfold kernelRun0_A.sl.v548
  refine tail_load _ 0 6 _ _ fun i l => ?_
  simp only [kernelRun0_A.sl.HS1_13, kernelRun0_A.sl.HS1_12, kernelRun0_A.sl.HS1_11, kernelRun0_A.sl.HS1_10, kernelRun0_A.sl.HS1_9, kernelRun0_A.sl.HS1_8, kernelRun0_A.sl.HS1_7, kernelRun0_A.sl.HS1_6, kernelRun0_A.sl.HS1_5, kernelRun0_A.sl.HS1_4, kernelRun0_A.sl.HS1_3, kernelRun0_A.sl.HS1_2, kernelRun0_A.sl.HS1_1]
  iterate 12 refine (tail_skip _ _ _ _ _ _ _ _ _ (by decide)).trans ?_
  exact zeroed _ _

theorem tail_A_1_6 : kernelRun0_A.sl.v583 (F := Ideal) c arg2 harg2 arg3 harg3 arg4 harg4 arg5 harg5 arg6 harg6 arg7 harg7 arg8 harg8 arg9 harg9 arg10 harg10 arg11 harg11 arg20 x0 x1 x2 x3 x4 x5 x6 x7 x8 x9
    = slice (fun _ => (0 : EReal)) 1 6 := by
  unfold kernelRun0_A.sl.v583
  refine tail_load _ 1 6 _ _ fun i l => ?_
  simp only [kernelRun0_A.sl.HS1_14, kernelRun0_A.sl.HS1_13, kernelRun0_A.sl.HS1_12, kernelRun0_A.sl.HS1_11, kernelRun0_A.sl.HS1_10, kernelRun0_A.sl.HS1_9, kernelRun0_A.sl.HS1_8, kernelRun0_A.sl.HS1_7, kernelRun0_A.sl.HS1_6, kernelRun0_A.sl.HS1_5, kernelRun0_A.sl.HS1_4, kernelRun0_A.sl.HS1_3, kernelRun0_A.sl.HS1_2, kernelRun0_A.sl.HS1_1]
  iterate 13 refine (tail_skip _ _ _ _ _ _ _ _ _ (by decide)).trans ?_
  exact zeroed _ _

theorem tail_A_0_7 : kernelRun0_A.sl.v625 (F := Ideal) c arg2 harg2 arg3 harg3 arg4 harg4 arg5 harg5 arg6 harg6 arg7 harg7 arg8 harg8 arg9 harg9 arg10 harg10 arg11 harg11 arg20 x0 x1 x2 x3 x4 x5 x6 x7 x8 x9
    = slice (fun _ => (0 : EReal)) 0 7 := by
  unfold kernelRun0_A.sl.v625
  refine tail_load _ 0 7 _ _ fun i l => ?_
  simp only [kernelRun0_A.sl.HS1_15, kernelRun0_A.sl.HS1_14, kernelRun0_A.sl.HS1_13, kernelRun0_A.sl.HS1_12, kernelRun0_A.sl.HS1_11, kernelRun0_A.sl.HS1_10, kernelRun0_A.sl.HS1_9, kernelRun0_A.sl.HS1_8, kernelRun0_A.sl.HS1_7, kernelRun0_A.sl.HS1_6, kernelRun0_A.sl.HS1_5, kernelRun0_A.sl.HS1_4, kernelRun0_A.sl.HS1_3, kernelRun0_A.sl.HS1_2, kernelRun0_A.sl.HS1_1]
  iterate 14 refine (tail_skip _ _ _ _ _ _ _ _ _ (by decide)).trans ?_
  exact zeroed _ _

theorem tail_A_1_7 : kernelRun0_A.sl.v660 (F := Ideal) c arg2 harg2 arg3 harg3 arg4 harg4 arg5 harg5 arg6 harg6 arg7 harg7 arg8 harg8 arg9 harg9 arg10 harg10 arg11 harg11 arg20 x0 x1 x2 x3 x4 x5 x6 x7 x8 x9
    = slice (fun _ => (0 : EReal)) 1 7 := by
  unfold kernelRun0_A.sl.v660
  refine tail_load _ 1 7 _ _ fun i l => ?_
  simp only [kernelRun0_A.sl.HS1_16, kernelRun0_A.sl.HS1_15, kernelRun0_A.sl.HS1_14, kernelRun0_A.sl.HS1_13, kernelRun0_A.sl.HS1_12, kernelRun0_A.sl.HS1_11, kernelRun0_A.sl.HS1_10, kernelRun0_A.sl.HS1_9, kernelRun0_A.sl.HS1_8, kernelRun0_A.sl.HS1_7, kernelRun0_A.sl.HS1_6, kernelRun0_A.sl.HS1_5, kernelRun0_A.sl.HS1_4, kernelRun0_A.sl.HS1_3, kernelRun0_A.sl.HS1_2, kernelRun0_A.sl.HS1_1]
  iterate 15 refine (tail_skip _ _ _ _ _ _ _ _ _ (by decide)).trans ?_
  exact zeroed _ _

theorem tail_A_0_8 : kernelRun0_A.sl.v702 (F := Ideal) c arg2 harg2 arg3 harg3 arg4 harg4 arg5 harg5 arg6 harg6 arg7 harg7 arg8 harg8 arg9 harg9 arg10 harg10 arg11 harg11 arg20 x0 x1 x2 x3 x4 x5 x6 x7 x8 x9
    = slice (fun _ => (0 : EReal)) 0 8 := by
  unfold kernelRun0_A.sl.v702
  refine tail_load _ 0 8 _ _ fun i l => ?_
  simp only [kernelRun0_A.sl.HS1_17, kernelRun0_A.sl.HS1_16, kernelRun0_A.sl.HS1_15, kernelRun0_A.sl.HS1_14, kernelRun0_A.sl.HS1_13, kernelRun0_A.sl.HS1_12, kernelRun0_A.sl.HS1_11, kernelRun0_A.sl.HS1_10, kernelRun0_A.sl.HS1_9, kernelRun0_A.sl.HS1_8, kernelRun0_A.sl.HS1_7, kernelRun0_A.sl.HS1_6, kernelRun0_A.sl.HS1_5, kernelRun0_A.sl.HS1_4, kernelRun0_A.sl.HS1_3, kernelRun0_A.sl.HS1_2, kernelRun0_A.sl.HS1_1]
  iterate 16 refine (tail_skip _ _ _ _ _ _ _ _ _ (by decide)).trans ?_
  exact zeroed _ _

theorem tail_A_1_8 : kernelRun0_A.sl.v737 (F := Ideal) c arg2 harg2 arg3 harg3 arg4 harg4 arg5 harg5 arg6 harg6 arg7 harg7 arg8 harg8 arg9 harg9 arg10 harg10 arg11 harg11 arg20 x0 x1 x2 x3 x4 x5 x6 x7 x8 x9
    = slice (fun _ => (0 : EReal)) 1 8 := by
  unfold kernelRun0_A.sl.v737
  refine tail_load _ 1 8 _ _ fun i l => ?_
  simp only [kernelRun0_A.sl.HS1_18, kernelRun0_A.sl.HS1_17, kernelRun0_A.sl.HS1_16, kernelRun0_A.sl.HS1_15, kernelRun0_A.sl.HS1_14, kernelRun0_A.sl.HS1_13, kernelRun0_A.sl.HS1_12, kernelRun0_A.sl.HS1_11, kernelRun0_A.sl.HS1_10, kernelRun0_A.sl.HS1_9, kernelRun0_A.sl.HS1_8, kernelRun0_A.sl.HS1_7, kernelRun0_A.sl.HS1_6, kernelRun0_A.sl.HS1_5, kernelRun0_A.sl.HS1_4, kernelRun0_A.sl.HS1_3, kernelRun0_A.sl.HS1_2, kernelRun0_A.sl.HS1_1]
  iterate 17 refine (tail_skip _ _ _ _ _ _ _ _ _ (by decide)).trans ?_
  exact zeroed _ _

theorem tail_A_0_9 : kernelRun0_A.sl.v779 (F := Ideal) c arg2 harg2 arg3 harg3 arg4 harg4 arg5 harg5 arg6 harg6 arg7 harg7 arg8 harg8 arg9 harg9 arg10 harg10 arg11 harg11 arg20 x0 x1 x2 x3 x4 x5 x6 x7 x8 x9
    = slice (fun _ => (0 : EReal)) 0 9 := by
  unfold kernelRun0_A.sl.v779
  refine tail_load _ 0 9 _ _ fun i l => ?_
  simp only [kernelRun0_A.sl.HS1_19, kernelRun0_A.sl.HS1_18, kernelRun0_A.sl.HS1_17, kernelRun0_A.sl.HS1_16, kernelRun0_A.sl.HS1_15, kernelRun0_A.sl.HS1_14, kernelRun0_A.sl.HS1_13, kernelRun0_A.sl.HS1_12, kernelRun0_A.sl.HS1_11, kernelRun0_A.sl.HS1_10, kernelRun0_A.sl.HS1_9, kernelRun0_A.sl.HS1_8, kernelRun0_A.sl.HS1_7, kernelRun0_A.sl.HS1_6, kernelRun0_A.sl.HS1_5, kernelRun0_A.sl.HS1_4, kernelRun0_A.sl.HS1_3, kernelRun0_A.sl.HS1_2, kernelRun0_A.sl.HS1_1]
  iterate 18 refine (tail_skip _ _ _ _ _ _ _ _ _ (by decide)).trans ?_
  exact zeroed _ _

theorem tail_A_1_9 : kernelRun0_A.sl.v814 (F := Ideal) c arg2 harg2 arg3 harg3 arg4 harg4 arg5 harg5 arg6 harg6 arg7 harg7 arg8 harg8 arg9 harg9 arg10 harg10 arg11 harg11 arg20 x0 x1 x2 x3 x4 x5 x6 x7 x8 x9
    = slice (fun _ => (0 : EReal)) 1 9 := by
  unfold kernelRun0_A.sl.v814
  refine tail_load _ 1 9 _ _ fun i l => ?_
  simp only [kernelRun0_A.sl.HS1_20, kernelRun0_A.sl.HS1_19, kernelRun0_A.sl.HS1_18, kernelRun0_A.sl.HS1_17, kernelRun0_A.sl.HS1_16, kernelRun0_A.sl.HS1_15, kernelRun0_A.sl.HS1_14, kernelRun0_A.sl.HS1_13, kernelRun0_A.sl.HS1_12, kernelRun0_A.sl.HS1_11, kernelRun0_A.sl.HS1_10, kernelRun0_A.sl.HS1_9, kernelRun0_A.sl.HS1_8, kernelRun0_A.sl.HS1_7, kernelRun0_A.sl.HS1_6, kernelRun0_A.sl.HS1_5, kernelRun0_A.sl.HS1_4, kernelRun0_A.sl.HS1_3, kernelRun0_A.sl.HS1_2, kernelRun0_A.sl.HS1_1]
  iterate 19 refine (tail_skip _ _ _ _ _ _ _ _ _ (by decide)).trans ?_
  exact zeroed _ _

theorem tail_A_0_10 : kernelRun0_A.sl.v856 (F := Ideal) c arg2 harg2 arg3 harg3 arg4 harg4 arg5 harg5 arg6 harg6 arg7 harg7 arg8 harg8 arg9 harg9 arg10 harg10 arg11 harg11 arg20 x0 x1 x2 x3 x4 x5 x6 x7 x8 x9
    = slice (fun _ => (0 : EReal)) 0 10 := by
  unfold kernelRun0_A.sl.v856
  refine tail_load _ 0 10 _ _ fun i l => ?_
  simp only [kernelRun0_A.sl.HS1_21, kernelRun0_A.sl.HS1_20, kernelRun0_A.sl.HS1_19, kernelRun0_A.sl.HS1_18, kernelRun0_A.sl.HS1_17, kernelRun0_A.sl.HS1_16, kernelRun0_A.sl.HS1_15, kernelRun0_A.sl.HS1_14, kernelRun0_A.sl.HS1_13, kernelRun0_A.sl.HS1_12, kernelRun0_A.sl.HS1_11, kernelRun0_A.sl.HS1_10, kernelRun0_A.sl.HS1_9, kernelRun0_A.sl.HS1_8, kernelRun0_A.sl.HS1_7, kernelRun0_A.sl.HS1_6, kernelRun0_A.sl.HS1_5, kernelRun0_A.sl.HS1_4, kernelRun0_A.sl.HS1_3, kernelRun0_A.sl.HS1_2, kernelRun0_A.sl.HS1_1]
  iterate 20 refine (tail_skip _ _ _ _ _ _ _ _ _ (by decide)).trans ?_
  exact zeroed _ _

theorem tail_A_1_10 : kernelRun0_A.sl.v891 (F := Ideal) c arg2 harg2 arg3 harg3 arg4 harg4 arg5 harg5 arg6 harg6 arg7 harg7 arg8 harg8 arg9 harg9 arg10 harg10 arg11 harg11 arg20 x0 x1 x2 x3 x4 x5 x6 x7 x8 x9
    = slice (fun _ => (0 : EReal)) 1 10 := by
  unfold kernelRun0_A.sl.v891
  refine tail_load _ 1 10 _ _ fun i l => ?_
  simp only [kernelRun0_A.sl.HS1_22, kernelRun0_A.sl.HS1_21, kernelRun0_A.sl.HS1_20, kernelRun0_A.sl.HS1_19, kernelRun0_A.sl.HS1_18, kernelRun0_A.sl.HS1_17, kernelRun0_A.sl.HS1_16, kernelRun0_A.sl.HS1_15, kernelRun0_A.sl.HS1_14, kernelRun0_A.sl.HS1_13, kernelRun0_A.sl.HS1_12, kernelRun0_A.sl.HS1_11, kernelRun0_A.sl.HS1_10, kernelRun0_A.sl.HS1_9, kernelRun0_A.sl.HS1_8, kernelRun0_A.sl.HS1_7, kernelRun0_A.sl.HS1_6, kernelRun0_A.sl.HS1_5, kernelRun0_A.sl.HS1_4, kernelRun0_A.sl.HS1_3, kernelRun0_A.sl.HS1_2, kernelRun0_A.sl.HS1_1]
  iterate 21 refine (tail_skip _ _ _ _ _ _ _ _ _ (by decide)).trans ?_
  exact zeroed _ _

theorem hidden_A : kernelRun0_A.sl.HS0_11 (F := Ideal) c arg2 harg2 arg3 harg3 arg4 harg4 arg5 harg5 arg6 harg6 arg7 harg7 arg8 harg8 arg9 harg9 arg10 harg10 arg11 harg11 arg12 harg12 arg13 harg13 arg20 x0 x1 x2 x3 x4 x5 x6 x7 x8 x9 x10 x11
    = hidPieces (hidden (normed (mixed x0 x1 x2 x3 x4 x5 x6 x7) x8) x9 (fun _ => 0) x10 x11) := by
  have hn : k0_pay9 (F := Ideal) (kernelRun0_A.sl.r_4 (F := Ideal) c arg2 harg2 arg3 harg3 arg4 harg4 arg5 harg5 arg6 harg6 arg7 harg7 arg8 harg8 arg9 harg9 x0 x1 x2 x3 x4 x5 x6 x7) (kernelRun0_A.sl.r_5 (F := Ideal) c arg10 harg10 x8) (kernelRun0_A.sl.r_6 (F := Ideal) c arg2 harg2 arg3 harg3 arg4 harg4 arg5 harg5 arg6 harg6 arg7 harg7 arg8 harg8 arg9 harg9 x0 x1 x2 x3 x4 x5 x6 x7)
      = normed (mixed x0 x1 x2 x3 x4 x5 x6 x7) x8 := normed_A c arg2 harg2 arg3 harg3 arg4 harg4 arg5 harg5 arg6 harg6 arg7 harg7 arg8 harg8 arg9 harg9 arg10 harg10 x0 x1 x2 x3 x4 x5 x6 x7 x8
  unfold kernelRun0_A.sl.HS0_11
  simp only [kernelRun0_A.sl.r_1, kernelRun0_A.sl.r_2, kernelRun0_A.sl.r_3, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, tail_A_0_0, tail_A_1_0, tail_A_0_1, tail_A_1_1, tail_A_0_2, tail_A_1_2, tail_A_0_3, tail_A_1_3, tail_A_0_4, tail_A_1_4, tail_A_0_5, tail_A_1_5, tail_A_0_6, tail_A_1_6, tail_A_0_7, tail_A_1_7, tail_A_0_8, tail_A_1_8, tail_A_0_9, tail_A_1_9, tail_A_0_10, tail_A_1_10, normed_A, chunk0 _ _ _ _ _ _ _ _ _ _ _ _ hn, chunk1, chunk2, chunk3, chunk4, chunk5, chunk6, chunk7, chunk8, chunk9, chunk10, load_slice]
  rfl

theorem rows_A : kernelRun0_A.sl.r_91 (F := Ideal) c arg2 harg2 arg3 harg3 arg4 harg4 arg5 harg5 arg6 harg6 arg7 harg7 arg8 harg8 arg9 harg9 arg10 harg10 arg11 harg11 arg12 harg12 arg13 harg13 arg14 harg14 arg19 arg20 x0 x1 x2 x3 x4 x5 x6 x7 x8 x9 x10 x11 x12
    = outRows (mixed x0 x1 x2 x3 x4 x5 x6 x7) (hidden (normed (mixed x0 x1 x2 x3 x4 x5 x6 x7) x8) x9 (fun _ => 0) x10 x11) x12 := by
  unfold kernelRun0_A.sl.r_91 kernelRun0_A.sl.v930
  rw [mixed_A, hidden_A]
  simp only [load_whole2]
  exact outRows_apply _ _ _ _ _

/-- The first output: the rows after the down weight. -/
theorem out14_A (r : Fin 512) (j : Fin 1024) : out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 (ix3 0 r j)
    = outRows (mixed x0 x1 x2 x3 x4 x5 x6 x7) (hidden (normed (mixed x0 x1 x2 x3 x4 x5 x6 x7) x8) x9 (fun _ => 0) x10 x11) x12 (ix2 r j) := by
  unfold out0_A_14
  rw [View.read_writes_junk_eq_canon]
  unfold kernelRun0_A
  dsimp only
  rw [View.canon_unit_zero hz3, rows_A]
  exact store_rows _ r j

/-- The second output: those rows normalised. -/
theorem out15_A (r : Fin 512) (j : Fin 1024) : out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 (ix3 0 r j)
    = wide (fun q => outRows (mixed x0 x1 x2 x3 x4 x5 x6 x7) (hidden (normed (mixed x0 x1 x2 x3 x4 x5 x6 x7) x8) x9 (fun _ => 0) x10 x11) x12 (ix2 r q)) (fun q => x13 (ix2 0 q)) j := by
  unfold out0_A_15
  rw [View.read_writes_junk_eq_canon]
  unfold kernelRun0_A
  dsimp only
  rw [View.canon_unit_zero hz3, rows_A]
  simp only [load_whole2]
  exact store_wide _ _ r j

/-- The third output: each column's last two up rows. -/
theorem out16_A (p : Fin 2) (q : Fin 11) (e : Fin 2) (l : Fin 256) : out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 (ix5 0 p q e l)
    = upAt (normed (mixed x0 x1 x2 x3 x4 x5 x6 x7) x8) (slice x9 p q) ⟨510 + e.val, by omega⟩ l := by
  have hn : k0_pay9 (F := Ideal) (kernelRun0_A.sl.r_4 (F := Ideal) c arg2 harg2 arg3 harg3 arg4 harg4 arg5 harg5 arg6 harg6 arg7 harg7 arg8 harg8 arg9 harg9 x0 x1 x2 x3 x4 x5 x6 x7) (kernelRun0_A.sl.r_5 (F := Ideal) c arg10 harg10 x8) (kernelRun0_A.sl.r_6 (F := Ideal) c arg2 harg2 arg3 harg3 arg4 harg4 arg5 harg5 arg6 harg6 arg7 harg7 arg8 harg8 arg9 harg9 x0 x1 x2 x3 x4 x5 x6 x7)
      = (normed (mixed x0 x1 x2 x3 x4 x5 x6 x7) x8) := normed_A c arg2 harg2 arg3 harg3 arg4 harg4 arg5 harg5 arg6 harg6 arg7 harg7 arg8 harg8 arg9 harg9 arg10 harg10 x0 x1 x2 x3 x4 x5 x6 x7 x8
  unfold out0_A_16
  rw [View.read_writes_junk_eq_canon]
  unfold kernelRun0_A
  dsimp only
  refine (congrFun (congrArg View.canon (?e : _ = convPieces (fun p q => k0_pay30 (k0_pay29 (normed (mixed x0 x1 x2 x3 x4 x5 x6 x7) x8) (slice x9 p q))) ++ [])) _).trans ((conv_canon _ _ p q e l).trans (store_conv _ _ e l))
  simp only [kernelRun0_A.sl.r_1, kernelRun0_A.sl.r_2, kernelRun0_A.sl.r_3, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, normed_A, conv0 _ _ _ _ _ hn, load_slice]
  rfl

/-- The carried rows: each column's last eight up rows. -/
theorem carry_A (p : Fin 2) (q : Fin 11) (e : Fin 8) (l : Fin 256) : sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 (ix4 p q e l)
    = upAt (normed (mixed x0 x1 x2 x3 x4 x5 x6 x7) x8) (slice x9 p q) ⟨504 + e.val, by omega⟩ l := by
  have hn : k0_pay9 (F := Ideal) (kernelRun0_A.sl.r_4 (F := Ideal) c arg2 harg2 arg3 harg3 arg4 harg4 arg5 harg5 arg6 harg6 arg7 harg7 arg8 harg8 arg9 harg9 x0 x1 x2 x3 x4 x5 x6 x7) (kernelRun0_A.sl.r_5 (F := Ideal) c arg10 harg10 x8) (kernelRun0_A.sl.r_6 (F := Ideal) c arg2 harg2 arg3 harg3 arg4 harg4 arg5 harg5 arg6 harg6 arg7 harg7 arg8 harg8 arg9 harg9 x0 x1 x2 x3 x4 x5 x6 x7)
      = (normed (mixed x0 x1 x2 x3 x4 x5 x6 x7) x8) := normed_A c arg2 harg2 arg3 harg3 arg4 harg4 arg5 harg5 arg6 harg6 arg7 harg7 arg8 harg8 arg9 harg9 arg10 harg10 x0 x1 x2 x3 x4 x5 x6 x7 x8
  unfold sout0_A_1
  rw [View.read_writes_junk_eq_canon]
  unfold kernelRun0_A
  dsimp only
  refine (congrFun (congrArg View.canon (?e : _ = tailPieces (fun p q => k0_pay28 (normed (mixed x0 x1 x2 x3 x4 x5 x6 x7) x8) (slice x9 p q)) ++ [⟨Rect.unit ![0, 0, 0, 0] S2x11x8x256.size inb_S2x11x8x256_S2x11x8x256_0_0_0_0, k0_pay1 (F := Ideal)⟩])) _).trans ((tail_canon _ _ p q e l).trans (store_tail _ _ e l))
  simp only [kernelRun0_A.sl.r_1, kernelRun0_A.sl.r_2, kernelRun0_A.sl.r_3, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.HS1_1, kernelRun0_A.sl.HS1_2, kernelRun0_A.sl.HS1_3, kernelRun0_A.sl.HS1_4, kernelRun0_A.sl.HS1_5, kernelRun0_A.sl.HS1_6, kernelRun0_A.sl.HS1_7, kernelRun0_A.sl.HS1_8, kernelRun0_A.sl.HS1_9, kernelRun0_A.sl.HS1_10, kernelRun0_A.sl.HS1_11, kernelRun0_A.sl.HS1_12, kernelRun0_A.sl.HS1_13, kernelRun0_A.sl.HS1_14, kernelRun0_A.sl.HS1_15, kernelRun0_A.sl.HS1_16, kernelRun0_A.sl.HS1_17, kernelRun0_A.sl.HS1_18, kernelRun0_A.sl.HS1_19, kernelRun0_A.sl.HS1_20, kernelRun0_A.sl.HS1_21, kernelRun0_A.sl.HS1_22, normed_A, tail0 _ _ _ _ _ hn, load_slice]
  rfl

end Cert.OutSeqIdeal.Block

end
-- ==== Proof.OutSeq.CaseB.lean ====
/- The output kernel at a point that is not the first of its batch: what its body leaves, over the eight rows `xs1` the point before left. -/
module

public import proofs.«01_k».proof.Proof.OutSeq.Body

@[expose] public section

set_option maxRecDepth 16384

noncomputable section

namespace Cert.OutSeqIdeal.Block

open Cert.OutSeqIdeal Cert.OutSeqIdeal.Gen Cert.OutSeqIdeal.Value Idealize.ShloMosaic Idealize.ShloMosaic.TcCoe Idealize.SL.Sem

variable (c : Dev nD) (i : grid0.Coords) (arg2 : Memref sig .tc .vmem S1x512x512 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x512x1024 .f32) (harg5 : arg5.IsWhole) (arg6 : Memref sig .tc .vmem S1x512 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S2x11x1024x256 .bf16) (harg11 : arg11.IsWhole) (arg12 : Memref sig .tc .vmem S2x11x3x256 .f32) (harg12 : arg12.IsWhole) (arg13 : Memref sig .tc .vmem S2x11x1x256 .f32) (harg13 : arg13.IsWhole) (arg14 : Memref sig .tc .vmem S2816x1024 .bf16) (harg14 : arg14.IsWhole) (arg15 : Memref sig .tc .vmem S1x1024 .f32) (harg15 : arg15.IsWhole) (arg16 : Memref sig .tc .vmem S1x512x1024 .f32) (harg16 : arg16.IsWhole) (arg17 : Memref sig .tc .vmem S1x512x1024 .f32) (harg17 : arg17.IsWhole) (arg18 : Memref sig .tc .vmem S1x2x11x2x256 .f32) (harg18 : arg18.IsWhole) (arg19 : Memref sig .tc .vmem S512x2816 .bf16) (harg19 : arg19.IsWhole) (arg20 : Memref sig .tc .vmem S2x11x8x256 .f32) (harg20 : arg20.IsWhole) (hc0 : ¬cond0_0 i) (x0 : Vec Ideal S1x512x512 .f32) (x1 : Vec Ideal S1x512x256 .f32) (x2 : Vec Ideal S1x512x256 .f32) (x3 : Vec Ideal S1x512x1024 .f32) (x4 : Vec Ideal S1x512 .f32) (x5 : Vec Ideal S1x256 .f32) (x6 : Vec Ideal S1x256 .f32) (x7 : Vec Ideal S1024x1024 .bf16) (x8 : Vec Ideal S1x1024 .f32) (x9 : Vec Ideal S2x11x1024x256 .bf16) (x10 : Vec Ideal S2x11x3x256 .f32) (x11 : Vec Ideal S2x11x1x256 .f32) (x12 : Vec Ideal S2816x1024 .bf16) (x13 : Vec Ideal S1x1024 .f32) (xs1 : Vec Ideal S2x11x8x256 .f32)

theorem mixed_B : kernelRun0_B.sl.r_4 (F := Ideal) c arg2 harg2 arg3 harg3 arg4 harg4 arg5 harg5 arg6 harg6 arg7 harg7 arg8 harg8 arg9 harg9 x0 x1 x2 x3 x4 x5 x6 x7
    = mixed x0 x1 x2 x3 x4 x5 x6 x7 := by
  unfold kernelRun0_B.sl.r_4
  simp only [kernelRun0_B.sl.r, kernelRun0_B.sl.r_1, kernelRun0_B.sl.r_2, kernelRun0_B.sl.r_3, load_whole2, load_whole3]
  funext y
  obtain ⟨r, j, rfl⟩ : ∃ r j, y = ix2 r j := ⟨_, _, eq_ix2 y⟩
  rw [mix_apply]
  unfold mixed
  simp only [load_rows, ix2_0, ix2_1, Nat.zero_add]

theorem normed_B : kernelRun0_B.sl.r_7 (F := Ideal) c arg2 harg2 arg3 harg3 arg4 harg4 arg5 harg5 arg6 harg6 arg7 harg7 arg8 harg8 arg9 harg9 arg10 harg10 x0 x1 x2 x3 x4 x5 x6 x7 x8
    = normed (mixed x0 x1 x2 x3 x4 x5 x6 x7) x8 := by
  unfold kernelRun0_B.sl.r_7 kernelRun0_B.sl.r_6 kernelRun0_B.sl.r_5
  rw [mixed_B]
  have h := mixed_B c arg2 harg2 arg3 harg3 arg4 harg4 arg5 harg5 arg6 harg6 arg7 harg7 arg8 harg8 arg9 harg9 x0 x1 x2 x3 x4 x5 x6 x7
  unfold kernelRun0_B.sl.r_4 at h
  funext y
  obtain ⟨r, j, rfl⟩ : ∃ r j, y = ix2 r j := ⟨_, _, eq_ix2 y⟩
  rw [wide_apply _ _ _ _ _ _ _ _ _ _ _ h]
  simp only [load_whole2]
  rfl

theorem hidden_B : kernelRun0_B.sl.HS0_11 (F := Ideal) c arg2 harg2 arg3 harg3 arg4 harg4 arg5 harg5 arg6 harg6 arg7 harg7 arg8 harg8 arg9 harg9 arg10 harg10 arg11 harg11 arg12 harg12 arg13 harg13 arg20 harg20 x0 x1 x2 x3 x4 x5 x6 x7 x8 x9 x10 x11 xs1
    = hidPieces (hidden (normed (mixed x0 x1 x2 x3 x4 x5 x6 x7) x8) x9 xs1 x10 x11) := by
  have hn : k0_pay9 (F := Ideal) (kernelRun0_B.sl.r_4 (F := Ideal) c arg2 harg2 arg3 harg3 arg4 harg4 arg5 harg5 arg6 harg6 arg7 harg7 arg8 harg8 arg9 harg9 x0 x1 x2 x3 x4 x5 x6 x7) (kernelRun0_B.sl.r_5 (F := Ideal) c arg10 harg10 x8) (kernelRun0_B.sl.r_6 (F := Ideal) c arg2 harg2 arg3 harg3 arg4 harg4 arg5 harg5 arg6 harg6 arg7 harg7 arg8 harg8 arg9 harg9 x0 x1 x2 x3 x4 x5 x6 x7)
      = normed (mixed x0 x1 x2 x3 x4 x5 x6 x7) x8 := normed_B c arg2 harg2 arg3 harg3 arg4 harg4 arg5 harg5 arg6 harg6 arg7 harg7 arg8 harg8 arg9 harg9 arg10 harg10 x0 x1 x2 x3 x4 x5 x6 x7 x8
  unfold kernelRun0_B.sl.HS0_11
  simp only [kernelRun0_B.sl.r_1, kernelRun0_B.sl.r_2, kernelRun0_B.sl.r_3, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_70, kernelRun0_B.sl.r_71, kernelRun0_B.sl.r_72, kernelRun0_B.sl.r_73, kernelRun0_B.sl.r_74, kernelRun0_B.sl.r_75, kernelRun0_B.sl.r_76, kernelRun0_B.sl.r_77, kernelRun0_B.sl.r_78, kernelRun0_B.sl.r_79, kernelRun0_B.sl.r_80, kernelRun0_B.sl.r_81, kernelRun0_B.sl.r_82, kernelRun0_B.sl.r_83, kernelRun0_B.sl.r_84, kernelRun0_B.sl.r_85, kernelRun0_B.sl.r_86, kernelRun0_B.sl.r_87, kernelRun0_B.sl.r_88, kernelRun0_B.sl.r_89, kernelRun0_B.sl.r_90, kernelRun0_B.sl.v121, kernelRun0_B.sl.v163, kernelRun0_B.sl.v198, kernelRun0_B.sl.v240, kernelRun0_B.sl.v275, kernelRun0_B.sl.v317, kernelRun0_B.sl.v352, kernelRun0_B.sl.v394, kernelRun0_B.sl.v429, kernelRun0_B.sl.v471, kernelRun0_B.sl.v506, kernelRun0_B.sl.v548, kernelRun0_B.sl.v583, kernelRun0_B.sl.v625, kernelRun0_B.sl.v660, kernelRun0_B.sl.v702, kernelRun0_B.sl.v737, kernelRun0_B.sl.v779, kernelRun0_B.sl.v814, kernelRun0_B.sl.v856, kernelRun0_B.sl.v891, normed_B, chunk0 _ _ _ _ _ _ _ _ _ _ _ _ hn, chunk1, chunk2, chunk3, chunk4, chunk5, chunk6, chunk7, chunk8, chunk9, chunk10, load_slice]
  rfl

theorem rows_B : kernelRun0_B.sl.r_91 (F := Ideal) c arg2 harg2 arg3 harg3 arg4 harg4 arg5 harg5 arg6 harg6 arg7 harg7 arg8 harg8 arg9 harg9 arg10 harg10 arg11 harg11 arg12 harg12 arg13 harg13 arg14 harg14 arg19 arg20 harg20 x0 x1 x2 x3 x4 x5 x6 x7 x8 x9 x10 x11 x12 xs1
    = outRows (mixed x0 x1 x2 x3 x4 x5 x6 x7) (hidden (normed (mixed x0 x1 x2 x3 x4 x5 x6 x7) x8) x9 xs1 x10 x11) x12 := by
  unfold kernelRun0_B.sl.r_91 kernelRun0_B.sl.v930
  rw [mixed_B, hidden_B]
  simp only [load_whole2]
  exact outRows_apply _ _ _ _ _

/-- The first output: the rows after the down weight. -/
theorem out14_B (r : Fin 512) (j : Fin 1024) : out0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 xs1 (ix3 0 r j)
    = outRows (mixed x0 x1 x2 x3 x4 x5 x6 x7) (hidden (normed (mixed x0 x1 x2 x3 x4 x5 x6 x7) x8) x9 xs1 x10 x11) x12 (ix2 r j) := by
  unfold out0_B_14
  rw [View.read_writes_junk_eq_canon]
  unfold kernelRun0_B
  dsimp only
  rw [View.canon_unit_zero hz3, rows_B]
  exact store_rows _ r j

/-- The second output: those rows normalised. -/
theorem out15_B (r : Fin 512) (j : Fin 1024) : out0_B_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 xs1 (ix3 0 r j)
    = wide (fun q => outRows (mixed x0 x1 x2 x3 x4 x5 x6 x7) (hidden (normed (mixed x0 x1 x2 x3 x4 x5 x6 x7) x8) x9 xs1 x10 x11) x12 (ix2 r q)) (fun q => x13 (ix2 0 q)) j := by
  unfold out0_B_15
  rw [View.read_writes_junk_eq_canon]
  unfold kernelRun0_B
  dsimp only
  rw [View.canon_unit_zero hz3, rows_B]
  simp only [load_whole2]
  exact store_wide _ _ r j

/-- The third output: each column's last two up rows. -/
theorem out16_B (p : Fin 2) (q : Fin 11) (e : Fin 2) (l : Fin 256) : out0_B_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 xs1 (ix5 0 p q e l)
    = upAt (normed (mixed x0 x1 x2 x3 x4 x5 x6 x7) x8) (slice x9 p q) ⟨510 + e.val, by omega⟩ l := by
  have hn : k0_pay9 (F := Ideal) (kernelRun0_B.sl.r_4 (F := Ideal) c arg2 harg2 arg3 harg3 arg4 harg4 arg5 harg5 arg6 harg6 arg7 harg7 arg8 harg8 arg9 harg9 x0 x1 x2 x3 x4 x5 x6 x7) (kernelRun0_B.sl.r_5 (F := Ideal) c arg10 harg10 x8) (kernelRun0_B.sl.r_6 (F := Ideal) c arg2 harg2 arg3 harg3 arg4 harg4 arg5 harg5 arg6 harg6 arg7 harg7 arg8 harg8 arg9 harg9 x0 x1 x2 x3 x4 x5 x6 x7)
      = (normed (mixed x0 x1 x2 x3 x4 x5 x6 x7) x8) := normed_B c arg2 harg2 arg3 harg3 arg4 harg4 arg5 harg5 arg6 harg6 arg7 harg7 arg8 harg8 arg9 harg9 arg10 harg10 x0 x1 x2 x3 x4 x5 x6 x7 x8
  unfold out0_B_16
  rw [View.read_writes_junk_eq_canon]
  unfold kernelRun0_B
  dsimp only
  refine (congrFun (congrArg View.canon (?e : _ = convPieces (fun p q => k0_pay30 (k0_pay29 (normed (mixed x0 x1 x2 x3 x4 x5 x6 x7) x8) (slice x9 p q))) ++ [])) _).trans ((conv_canon _ _ p q e l).trans (store_conv _ _ e l))
  simp only [kernelRun0_B.sl.r_1, kernelRun0_B.sl.r_2, kernelRun0_B.sl.r_3, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_70, kernelRun0_B.sl.r_71, kernelRun0_B.sl.r_72, kernelRun0_B.sl.r_73, kernelRun0_B.sl.r_74, kernelRun0_B.sl.r_75, kernelRun0_B.sl.r_76, kernelRun0_B.sl.r_77, kernelRun0_B.sl.r_78, kernelRun0_B.sl.r_79, kernelRun0_B.sl.r_80, kernelRun0_B.sl.r_81, kernelRun0_B.sl.r_82, kernelRun0_B.sl.r_83, kernelRun0_B.sl.r_84, kernelRun0_B.sl.r_85, kernelRun0_B.sl.r_86, kernelRun0_B.sl.r_87, kernelRun0_B.sl.r_88, kernelRun0_B.sl.r_89, kernelRun0_B.sl.r_90, normed_B, conv0 _ _ _ _ _ hn, load_slice]
  rfl

/-- The carried rows: each column's last eight up rows. -/
theorem carry_B (p : Fin 2) (q : Fin 11) (e : Fin 8) (l : Fin 256) : sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 xs1 (ix4 p q e l)
    = upAt (normed (mixed x0 x1 x2 x3 x4 x5 x6 x7) x8) (slice x9 p q) ⟨504 + e.val, by omega⟩ l := by
  have hn : k0_pay9 (F := Ideal) (kernelRun0_B.sl.r_4 (F := Ideal) c arg2 harg2 arg3 harg3 arg4 harg4 arg5 harg5 arg6 harg6 arg7 harg7 arg8 harg8 arg9 harg9 x0 x1 x2 x3 x4 x5 x6 x7) (kernelRun0_B.sl.r_5 (F := Ideal) c arg10 harg10 x8) (kernelRun0_B.sl.r_6 (F := Ideal) c arg2 harg2 arg3 harg3 arg4 harg4 arg5 harg5 arg6 harg6 arg7 harg7 arg8 harg8 arg9 harg9 x0 x1 x2 x3 x4 x5 x6 x7)
      = (normed (mixed x0 x1 x2 x3 x4 x5 x6 x7) x8) := normed_B c arg2 harg2 arg3 harg3 arg4 harg4 arg5 harg5 arg6 harg6 arg7 harg7 arg8 harg8 arg9 harg9 arg10 harg10 x0 x1 x2 x3 x4 x5 x6 x7 x8
  unfold sout0_B_1
  rw [View.read_writes_junk_eq_canon]
  unfold kernelRun0_B
  dsimp only
  refine (congrFun (congrArg View.canon (?e : _ = tailPieces (fun p q => k0_pay28 (normed (mixed x0 x1 x2 x3 x4 x5 x6 x7) x8) (slice x9 p q)) ++ [])) _).trans ((tail_canon _ _ p q e l).trans (store_tail _ _ e l))
  simp only [kernelRun0_B.sl.r_1, kernelRun0_B.sl.r_2, kernelRun0_B.sl.r_3, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_70, kernelRun0_B.sl.r_71, kernelRun0_B.sl.r_72, kernelRun0_B.sl.r_73, kernelRun0_B.sl.r_74, kernelRun0_B.sl.r_75, kernelRun0_B.sl.r_76, kernelRun0_B.sl.r_77, kernelRun0_B.sl.r_78, kernelRun0_B.sl.r_79, kernelRun0_B.sl.r_80, kernelRun0_B.sl.r_81, kernelRun0_B.sl.r_82, kernelRun0_B.sl.r_83, kernelRun0_B.sl.r_84, kernelRun0_B.sl.r_85, kernelRun0_B.sl.r_86, kernelRun0_B.sl.r_87, kernelRun0_B.sl.r_88, kernelRun0_B.sl.r_89, kernelRun0_B.sl.r_90, normed_B, tail0 _ _ _ _ _ hn, load_slice]
  rfl

end Cert.OutSeqIdeal.Block

end
-- ==== Proof.OutSeq.Spec.lean ====
/- What the output call computes, row by row of the whole arrays: the mixed rows, their up product, the three-row convolution
   (rows above the first are zero), the gated down product, the final norm, and the last two up rows of each batch. -/
module

public import proofs.«01_k».proof.Proof.OutSeq.Block

@[expose] public section

set_option maxRecDepth 16384

noncomputable section

namespace Cert.OutSeqSpec

open Cert.OutSeqIdeal Cert.OutSeqIdeal.Gen Cert.OutSeqIdeal.Block Idealize.ShloMosaic Idealize.ShloMosaic.TcCoe Idealize.SL.Sem

/-- An array of rows: a number for each batch, row and column. -/
abbrev Rows (n : Nat) : Type := Fin 2 → Fin 8192 → Fin n → EReal

/-- The mixed rows. -/
def mixRows (x0 : Vec Ideal S2x8192x512 .f32) (x1 x2 : Vec Ideal S2x8192x256 .f32) (x3 : Vec Ideal S2x8192x1024 .f32)
    (x4 : Vec Ideal S512 .f32) (x5 x6 : Vec Ideal S256 .f32) (x7 : Vec Ideal S1024x1024 .f32) : Rows 1024 := fun b s k =>
  mix (fun j => x0 (ix3 b s j)) (fun j => x1 (ix3 b s j)) (fun j => x2 (ix3 b s j)) (x3 (ix3 b s k))
    (fun j => x4 (ix1 j)) (fun j => x5 (ix1 j)) (fun j => x6 (ix1 j)) (fun j => x7 (ix2 ⟨j.val, by omega⟩ k))
    (fun j => x7 (ix2 ⟨512 + j.val, by omega⟩ k)) (fun j => x7 (ix2 ⟨768 + j.val, by omega⟩ k))

/-- The mixed rows normalised, times the up weight. -/
def upRows (X : Rows 1024) (x8 : Vec Ideal S1024 .f32) (x9 : Vec Ideal S1024x5632 .f32) : Rows 5632 := fun b s q =>
  dotRow (wide (X b s) (fun j => x8 (ix1 j))) (fun k => x9 (ix2 k q))

/-- The row `d` above row `s`: zero above the first. -/
def above (U : Rows 5632) (d : Nat) : Rows 5632 := fun b s q =>
  if d ≤ s.val then U b ⟨s.val - d, by omega⟩ q else 0

theorem above_pos (U : Rows 5632) (d : Nat) (b : Fin 2) (s z : Fin 8192) (q : Fin 5632) (h : d ≤ s.val) (hz : z.val = s.val - d) :
    above U d b s q = U b z q := by
  unfold above
  rw [if_pos h]
  exact congrArg (fun y => U b y q) (Fin.ext hz.symm)

theorem above_neg (U : Rows 5632) (d : Nat) (b : Fin 2) (s : Fin 8192) (q : Fin 5632) (h : ¬ d ≤ s.val) : above U d b s q = 0 := by
  unfold above
  rw [if_neg h]

/-- The convolution over a row and the two above it. -/
def convRows (U : Rows 5632) (x10 : Vec Ideal S3x5632 .f32) (x11 : Vec Ideal S5632 .f32) : Rows 5632 := fun b s q =>
  tap (x11 (ix1 q)) (x10 (ix2 0 q)) (x10 (ix2 1 q)) (x10 (ix2 2 q)) (U b s q) (above U 1 b s q) (above U 2 b s q)

/-- The mixed rows plus the gated halves times the down weight. -/
def finalRows (X : Rows 1024) (C : Rows 5632) (x12 : Vec Ideal S2816x1024 .f32) : Rows 1024 := fun b s k =>
  X b s k + dotRow (fun j : Fin 2816 => gated (C b s ⟨2816 + j.val, by omega⟩) (C b s ⟨j.val, by omega⟩)) (fun j => x12 (ix2 j k))

/-- Those rows normalised. -/
def normRows (O : Rows 1024) (x13 : Vec Ideal S1024 .f32) : Rows 1024 := fun b s => wide (O b s) (fun j => x13 (ix1 j))

/-- The column a part, a chunk and a lane stand for. -/
abbrev col (p : Fin 2) (q : Fin 11) (l : Fin 256) : Fin 5632 := ⟨p.val * 2816 + q.val * 256 + l.val, by omega⟩

end Cert.OutSeqSpec

end
-- ==== Proof.OutSeq.Windows.lean ====
/- What each window of the output call holds at a grid point, in terms of the call's arguments: the four row arrays' blocks are
   512 rows of one batch, every other block is a whole array, reshaped on the host. -/
module

public import proofs.«01_k».proof.Proof.OutSeq.Spec
public import Idealize.ShloMosaic.Lib.Pipeline.ValueKit

@[expose] public section

set_option maxRecDepth 16384

noncomputable section

namespace Cert.OutSeqIdeal.Block

open Cert.OutSeqIdeal Cert.OutSeqIdeal.Gen Cert.OutSeqIdeal.Value Idealize.ShloMosaic Idealize.ShloMosaic.TcCoe Idealize.SL.Sem
open Cert.OutSeqSpec

variable (m : (ℓ : Loc nD τ sig) → Buf (Elt Ideal) ℓ) (c : Dev nD)

/-- The batch a grid point works on, and the array row that row `r` of its tile is. -/
abbrev bat (t : Fin cfg0.N) : Fin 2 := ⟨t.val / 16, by have h : t.val < 32 := t.isLt; omega⟩
abbrev row (t : Fin cfg0.N) (r : Fin 512) : Fin 8192 := ⟨t.val % 16 * 512 + r.val, by omega⟩

theorem at0 : ∀ t : Fin cfg0.N, win0_0.index t (0 : Fin 3) = t.val / 16 ∧ win0_0.index t (1 : Fin 3) = t.val % 16 ∧ win0_0.index t (2 : Fin 3) = 0 := (by decide +kernel : ∀ t : Fin grid0.N, _)
theorem emb0 (t : Fin cfg0.N) (r : Fin 512) (j : Fin 512) : ((cfg0.win 0).blk t).view.emb (ix3 0 r j) = ix3 (bat t) (row t r) j := by
  obtain ⟨a, b, d⟩ := at0 t
  funext i; apply Fin.ext
  match i with
  | ⟨0, _⟩ => show win0_0.index t (0 : Fin 3) * 1 + 1 * 0 = t.val / 16; omega
  | ⟨1, _⟩ => show win0_0.index t (1 : Fin 3) * 512 + 1 * r.val = t.val % 16 * 512 + r.val; omega
  | ⟨2, _⟩ => show win0_0.index t (2 : Fin 3) * 512 + 1 * j.val = j.val; omega

theorem blk0 (t : Fin cfg0.N) (r : Fin 512) (j : Fin 512) : iblk m c 0 t (ix3 0 r j) = m ((c : Thread nD τ).loc main_arg0) (ix3 (bat t) (row t r) j) := by
  show V m c main_arg0 (((cfg0.win 0).blk t).view.emb (ix3 0 r j)) = _
  rw [emb0, V_main_arg0]

theorem at1 : ∀ t : Fin cfg0.N, win0_1.index t (0 : Fin 3) = t.val / 16 ∧ win0_1.index t (1 : Fin 3) = t.val % 16 ∧ win0_1.index t (2 : Fin 3) = 0 := (by decide +kernel : ∀ t : Fin grid0.N, _)
theorem emb1 (t : Fin cfg0.N) (r : Fin 512) (j : Fin 256) : ((cfg0.win 1).blk t).view.emb (ix3 0 r j) = ix3 (bat t) (row t r) j := by
  obtain ⟨a, b, d⟩ := at1 t
  funext i; apply Fin.ext
  match i with
  | ⟨0, _⟩ => show win0_1.index t (0 : Fin 3) * 1 + 1 * 0 = t.val / 16; omega
  | ⟨1, _⟩ => show win0_1.index t (1 : Fin 3) * 512 + 1 * r.val = t.val % 16 * 512 + r.val; omega
  | ⟨2, _⟩ => show win0_1.index t (2 : Fin 3) * 256 + 1 * j.val = j.val; omega

theorem blk1 (t : Fin cfg0.N) (r : Fin 512) (j : Fin 256) : iblk m c 1 t (ix3 0 r j) = m ((c : Thread nD τ).loc main_arg1) (ix3 (bat t) (row t r) j) := by
  show V m c main_arg1 (((cfg0.win 1).blk t).view.emb (ix3 0 r j)) = _
  rw [emb1, V_main_arg1]

theorem at2 : ∀ t : Fin cfg0.N, win0_2.index t (0 : Fin 3) = t.val / 16 ∧ win0_2.index t (1 : Fin 3) = t.val % 16 ∧ win0_2.index t (2 : Fin 3) = 0 := (by decide +kernel : ∀ t : Fin grid0.N, _)
theorem emb2 (t : Fin cfg0.N) (r : Fin 512) (j : Fin 256) : ((cfg0.win 2).blk t).view.emb (ix3 0 r j) = ix3 (bat t) (row t r) j := by
  obtain ⟨a, b, d⟩ := at2 t
  funext i; apply Fin.ext
  match i with
  | ⟨0, _⟩ => show win0_2.index t (0 : Fin 3) * 1 + 1 * 0 = t.val / 16; omega
  | ⟨1, _⟩ => show win0_2.index t (1 : Fin 3) * 512 + 1 * r.val = t.val % 16 * 512 + r.val; omega
  | ⟨2, _⟩ => show win0_2.index t (2 : Fin 3) * 256 + 1 * j.val = j.val; omega

theorem blk2 (t : Fin cfg0.N) (r : Fin 512) (j : Fin 256) : iblk m c 2 t (ix3 0 r j) = m ((c : Thread nD τ).loc main_arg2) (ix3 (bat t) (row t r) j) := by
  show V m c main_arg2 (((cfg0.win 2).blk t).view.emb (ix3 0 r j)) = _
  rw [emb2, V_main_arg2]

theorem at3 : ∀ t : Fin cfg0.N, win0_3.index t (0 : Fin 3) = t.val / 16 ∧ win0_3.index t (1 : Fin 3) = t.val % 16 ∧ win0_3.index t (2 : Fin 3) = 0 := (by decide +kernel : ∀ t : Fin grid0.N, _)
theorem emb3 (t : Fin cfg0.N) (r : Fin 512) (j : Fin 1024) : ((cfg0.win 3).blk t).view.emb (ix3 0 r j) = ix3 (bat t) (row t r) j := by
  obtain ⟨a, b, d⟩ := at3 t
  funext i; apply Fin.ext
  match i with
  | ⟨0, _⟩ => show win0_3.index t (0 : Fin 3) * 1 + 1 * 0 = t.val / 16; omega
  | ⟨1, _⟩ => show win0_3.index t (1 : Fin 3) * 512 + 1 * r.val = t.val % 16 * 512 + r.val; omega
  | ⟨2, _⟩ => show win0_3.index t (2 : Fin 3) * 1024 + 1 * j.val = j.val; omega

theorem blk3 (t : Fin cfg0.N) (r : Fin 512) (j : Fin 1024) : iblk m c 3 t (ix3 0 r j) = m ((c : Thread nD τ).loc main_arg3) (ix3 (bat t) (row t r) j) := by
  show V m c main_arg3 (((cfg0.win 3).blk t).view.emb (ix3 0 r j)) = _
  rw [emb3, V_main_arg3]

theorem at14 : ∀ t : Fin cfg0.N, win0_14.index t (0 : Fin 3) = t.val / 16 ∧ win0_14.index t (1 : Fin 3) = t.val % 16 ∧ win0_14.index t (2 : Fin 3) = 0 := (by decide +kernel : ∀ t : Fin grid0.N, _)
theorem emb14 (t : Fin cfg0.N) (r : Fin 512) (j : Fin 1024) : ((cfg0.win 14).blk t).view.emb (ix3 0 r j) = ix3 (bat t) (row t r) j := by
  obtain ⟨a, b, d⟩ := at14 t
  funext i; apply Fin.ext
  match i with
  | ⟨0, _⟩ => show win0_14.index t (0 : Fin 3) * 1 + 1 * 0 = t.val / 16; omega
  | ⟨1, _⟩ => show win0_14.index t (1 : Fin 3) * 512 + 1 * r.val = t.val % 16 * 512 + r.val; omega
  | ⟨2, _⟩ => show win0_14.index t (2 : Fin 3) * 1024 + 1 * j.val = j.val; omega

theorem at15 : ∀ t : Fin cfg0.N, win0_15.index t (0 : Fin 3) = t.val / 16 ∧ win0_15.index t (1 : Fin 3) = t.val % 16 ∧ win0_15.index t (2 : Fin 3) = 0 := (by decide +kernel : ∀ t : Fin grid0.N, _)
theorem emb15 (t : Fin cfg0.N) (r : Fin 512) (j : Fin 1024) : ((cfg0.win 15).blk t).view.emb (ix3 0 r j) = ix3 (bat t) (row t r) j := by
  obtain ⟨a, b, d⟩ := at15 t
  funext i; apply Fin.ext
  match i with
  | ⟨0, _⟩ => show win0_15.index t (0 : Fin 3) * 1 + 1 * 0 = t.val / 16; omega
  | ⟨1, _⟩ => show win0_15.index t (1 : Fin 3) * 512 + 1 * r.val = t.val % 16 * 512 + r.val; omega
  | ⟨2, _⟩ => show win0_15.index t (2 : Fin 3) * 1024 + 1 * j.val = j.val; omega

theorem at4 : ∀ t : Fin cfg0.N, win0_4.index t (0 : Fin 2) = 0 ∧ win0_4.index t (1 : Fin 2) = 0 := (by decide +kernel : ∀ t : Fin grid0.N, _)
theorem emb4 (t : Fin cfg0.N) (i0 : Fin 1) (i1 : Fin 512) : ((cfg0.win 4).blk t).view.emb (ix2 i0 i1) = ix2 i0 i1 := by
  obtain ⟨a, b⟩ := at4 t
  funext i; apply Fin.ext
  match i with
  | ⟨0, _⟩ => show win0_4.index t (0 : Fin 2) * 1 + 1 * i0.val = i0.val; omega
  | ⟨1, _⟩ => show win0_4.index t (1 : Fin 2) * 512 + 1 * i1.val = i1.val; omega

theorem blk4 (t : Fin cfg0.N) (j : Fin 512) : iblk m c 4 t (ix2 0 j) = m ((c : Thread nD τ).loc main_arg4) (ix1 j) := by
  have h : (V m c main_v0 : Vec Ideal S1x512 .f32) = shapeCast S1x512 (m ((c : Thread nD τ).loc main_arg4)) shapeCasts_S512_S1x512 := by
    simp only [V, hostOps0]
    after_results_simp
    rfl
  show V m c main_v0 (((cfg0.win 4).blk t).view.emb (ix2 0 j)) = _
  rw [emb4]
  refine (congrFun h _).trans ?_
  pointwise!

theorem at5 : ∀ t : Fin cfg0.N, win0_5.index t (0 : Fin 2) = 0 ∧ win0_5.index t (1 : Fin 2) = 0 := (by decide +kernel : ∀ t : Fin grid0.N, _)
theorem emb5 (t : Fin cfg0.N) (i0 : Fin 1) (i1 : Fin 256) : ((cfg0.win 5).blk t).view.emb (ix2 i0 i1) = ix2 i0 i1 := by
  obtain ⟨a, b⟩ := at5 t
  funext i; apply Fin.ext
  match i with
  | ⟨0, _⟩ => show win0_5.index t (0 : Fin 2) * 1 + 1 * i0.val = i0.val; omega
  | ⟨1, _⟩ => show win0_5.index t (1 : Fin 2) * 256 + 1 * i1.val = i1.val; omega

theorem blk5 (t : Fin cfg0.N) (j : Fin 256) : iblk m c 5 t (ix2 0 j) = m ((c : Thread nD τ).loc main_arg5) (ix1 j) := by
  have h : (V m c main_v1 : Vec Ideal S1x256 .f32) = shapeCast S1x256 (m ((c : Thread nD τ).loc main_arg5)) shapeCasts_S256_S1x256 := by
    simp only [V, hostOps0]
    after_results_simp
    rfl
  show V m c main_v1 (((cfg0.win 5).blk t).view.emb (ix2 0 j)) = _
  rw [emb5]
  refine (congrFun h _).trans ?_
  pointwise!

theorem at6 : ∀ t : Fin cfg0.N, win0_6.index t (0 : Fin 2) = 0 ∧ win0_6.index t (1 : Fin 2) = 0 := (by decide +kernel : ∀ t : Fin grid0.N, _)
theorem emb6 (t : Fin cfg0.N) (i0 : Fin 1) (i1 : Fin 256) : ((cfg0.win 6).blk t).view.emb (ix2 i0 i1) = ix2 i0 i1 := by
  obtain ⟨a, b⟩ := at6 t
  funext i; apply Fin.ext
  match i with
  | ⟨0, _⟩ => show win0_6.index t (0 : Fin 2) * 1 + 1 * i0.val = i0.val; omega
  | ⟨1, _⟩ => show win0_6.index t (1 : Fin 2) * 256 + 1 * i1.val = i1.val; omega

theorem blk6 (t : Fin cfg0.N) (j : Fin 256) : iblk m c 6 t (ix2 0 j) = m ((c : Thread nD τ).loc main_arg6) (ix1 j) := by
  have h : (V m c main_v2 : Vec Ideal S1x256 .f32) = shapeCast S1x256 (m ((c : Thread nD τ).loc main_arg6)) shapeCasts_S256_S1x256 := by
    simp only [V, hostOps0]
    after_results_simp
    rfl
  show V m c main_v2 (((cfg0.win 6).blk t).view.emb (ix2 0 j)) = _
  rw [emb6]
  refine (congrFun h _).trans ?_
  pointwise!

theorem at8 : ∀ t : Fin cfg0.N, win0_8.index t (0 : Fin 2) = 0 ∧ win0_8.index t (1 : Fin 2) = 0 := (by decide +kernel : ∀ t : Fin grid0.N, _)
theorem emb8 (t : Fin cfg0.N) (i0 : Fin 1) (i1 : Fin 1024) : ((cfg0.win 8).blk t).view.emb (ix2 i0 i1) = ix2 i0 i1 := by
  obtain ⟨a, b⟩ := at8 t
  funext i; apply Fin.ext
  match i with
  | ⟨0, _⟩ => show win0_8.index t (0 : Fin 2) * 1 + 1 * i0.val = i0.val; omega
  | ⟨1, _⟩ => show win0_8.index t (1 : Fin 2) * 1024 + 1 * i1.val = i1.val; omega

theorem blk8 (t : Fin cfg0.N) (j : Fin 1024) : iblk m c 8 t (ix2 0 j) = m ((c : Thread nD τ).loc main_arg8) (ix1 j) := by
  have h : (V m c main_v4 : Vec Ideal S1x1024 .f32) = shapeCast S1x1024 (m ((c : Thread nD τ).loc main_arg8)) shapeCasts_S1024_S1x1024 := by
    simp only [V, hostOps0]
    after_results_simp
    rfl
  show V m c main_v4 (((cfg0.win 8).blk t).view.emb (ix2 0 j)) = _
  rw [emb8]
  refine (congrFun h _).trans ?_
  pointwise!

theorem at13 : ∀ t : Fin cfg0.N, win0_13.index t (0 : Fin 2) = 0 ∧ win0_13.index t (1 : Fin 2) = 0 := (by decide +kernel : ∀ t : Fin grid0.N, _)
theorem emb13 (t : Fin cfg0.N) (i0 : Fin 1) (i1 : Fin 1024) : ((cfg0.win 13).blk t).view.emb (ix2 i0 i1) = ix2 i0 i1 := by
  obtain ⟨a, b⟩ := at13 t
  funext i; apply Fin.ext
  match i with
  | ⟨0, _⟩ => show win0_13.index t (0 : Fin 2) * 1 + 1 * i0.val = i0.val; omega
  | ⟨1, _⟩ => show win0_13.index t (1 : Fin 2) * 1024 + 1 * i1.val = i1.val; omega

theorem blk13 (t : Fin cfg0.N) (j : Fin 1024) : iblk m c 13 t (ix2 0 j) = m ((c : Thread nD τ).loc main_arg13) (ix1 j) := by
  have h : (V m c main_v14 : Vec Ideal S1x1024 .f32) = shapeCast S1x1024 (m ((c : Thread nD τ).loc main_arg13)) shapeCasts_S1024_S1x1024 := by
    simp only [V, hostOps0]
    after_results_simp
    rfl
  show V m c main_v14 (((cfg0.win 13).blk t).view.emb (ix2 0 j)) = _
  rw [emb13]
  refine (congrFun h _).trans ?_
  pointwise!

theorem at7 : ∀ t : Fin cfg0.N, win0_7.index t (0 : Fin 2) = 0 ∧ win0_7.index t (1 : Fin 2) = 0 := (by decide +kernel : ∀ t : Fin grid0.N, _)
theorem emb7 (t : Fin cfg0.N) (i0 : Fin 1024) (i1 : Fin 1024) : ((cfg0.win 7).blk t).view.emb (ix2 i0 i1) = ix2 i0 i1 := by
  obtain ⟨a, b⟩ := at7 t
  funext i; apply Fin.ext
  match i with
  | ⟨0, _⟩ => show win0_7.index t (0 : Fin 2) * 1024 + 1 * i0.val = i0.val; omega
  | ⟨1, _⟩ => show win0_7.index t (1 : Fin 2) * 1024 + 1 * i1.val = i1.val; omega

theorem blk7 (t : Fin cfg0.N) (i0 : Fin 1024) (i1 : Fin 1024) : iblk m c 7 t (ix2 i0 i1) = m ((c : Thread nD τ).loc main_arg7) (ix2 i0 i1) := by
  have h : V m c main_v3 = m ((c : Thread nD τ).loc main_arg7) := by
    simp only [V, hostOps0]
    after_results_simp
    rfl
  show V m c main_v3 (((cfg0.win 7).blk t).view.emb (ix2 i0 i1)) = _
  rw [emb7]
  exact congrFun h _

theorem at12 : ∀ t : Fin cfg0.N, win0_12.index t (0 : Fin 2) = 0 ∧ win0_12.index t (1 : Fin 2) = 0 := (by decide +kernel : ∀ t : Fin grid0.N, _)
theorem emb12 (t : Fin cfg0.N) (i0 : Fin 2816) (i1 : Fin 1024) : ((cfg0.win 12).blk t).view.emb (ix2 i0 i1) = ix2 i0 i1 := by
  obtain ⟨a, b⟩ := at12 t
  funext i; apply Fin.ext
  match i with
  | ⟨0, _⟩ => show win0_12.index t (0 : Fin 2) * 2816 + 1 * i0.val = i0.val; omega
  | ⟨1, _⟩ => show win0_12.index t (1 : Fin 2) * 1024 + 1 * i1.val = i1.val; omega

theorem blk12 (t : Fin cfg0.N) (i0 : Fin 2816) (i1 : Fin 1024) : iblk m c 12 t (ix2 i0 i1) = m ((c : Thread nD τ).loc main_arg12) (ix2 i0 i1) := by
  have h : V m c main_v13 = m ((c : Thread nD τ).loc main_arg12) := by
    simp only [V, hostOps0]
    after_results_simp
    rfl
  show V m c main_v13 (((cfg0.win 12).blk t).view.emb (ix2 i0 i1)) = _
  rw [emb12]
  exact congrFun h _

theorem at9 : ∀ t : Fin cfg0.N, win0_9.index t (0 : Fin 4) = 0 ∧ win0_9.index t (1 : Fin 4) = 0 ∧ win0_9.index t (2 : Fin 4) = 0 ∧ win0_9.index t (3 : Fin 4) = 0 := (by decide +kernel : ∀ t : Fin grid0.N, _)
theorem emb9 (t : Fin cfg0.N) (i0 : Fin 2) (i1 : Fin 11) (i2 : Fin 1024) (i3 : Fin 256) : ((cfg0.win 9).blk t).view.emb (ix4 i0 i1 i2 i3) = ix4 i0 i1 i2 i3 := by
  obtain ⟨a, b, d, e⟩ := at9 t
  funext i; apply Fin.ext
  match i with
  | ⟨0, _⟩ => show win0_9.index t (0 : Fin 4) * 2 + 1 * i0.val = i0.val; omega
  | ⟨1, _⟩ => show win0_9.index t (1 : Fin 4) * 11 + 1 * i1.val = i1.val; omega
  | ⟨2, _⟩ => show win0_9.index t (2 : Fin 4) * 1024 + 1 * i2.val = i2.val; omega
  | ⟨3, _⟩ => show win0_9.index t (3 : Fin 4) * 256 + 1 * i3.val = i3.val; omega

theorem at10 : ∀ t : Fin cfg0.N, win0_10.index t (0 : Fin 4) = 0 ∧ win0_10.index t (1 : Fin 4) = 0 ∧ win0_10.index t (2 : Fin 4) = 0 ∧ win0_10.index t (3 : Fin 4) = 0 := (by decide +kernel : ∀ t : Fin grid0.N, _)
theorem emb10 (t : Fin cfg0.N) (i0 : Fin 2) (i1 : Fin 11) (i2 : Fin 3) (i3 : Fin 256) : ((cfg0.win 10).blk t).view.emb (ix4 i0 i1 i2 i3) = ix4 i0 i1 i2 i3 := by
  obtain ⟨a, b, d, e⟩ := at10 t
  funext i; apply Fin.ext
  match i with
  | ⟨0, _⟩ => show win0_10.index t (0 : Fin 4) * 2 + 1 * i0.val = i0.val; omega
  | ⟨1, _⟩ => show win0_10.index t (1 : Fin 4) * 11 + 1 * i1.val = i1.val; omega
  | ⟨2, _⟩ => show win0_10.index t (2 : Fin 4) * 3 + 1 * i2.val = i2.val; omega
  | ⟨3, _⟩ => show win0_10.index t (3 : Fin 4) * 256 + 1 * i3.val = i3.val; omega

theorem at11 : ∀ t : Fin cfg0.N, win0_11.index t (0 : Fin 4) = 0 ∧ win0_11.index t (1 : Fin 4) = 0 ∧ win0_11.index t (2 : Fin 4) = 0 ∧ win0_11.index t (3 : Fin 4) = 0 := (by decide +kernel : ∀ t : Fin grid0.N, _)
theorem emb11 (t : Fin cfg0.N) (i0 : Fin 2) (i1 : Fin 11) (i2 : Fin 1) (i3 : Fin 256) : ((cfg0.win 11).blk t).view.emb (ix4 i0 i1 i2 i3) = ix4 i0 i1 i2 i3 := by
  obtain ⟨a, b, d, e⟩ := at11 t
  funext i; apply Fin.ext
  match i with
  | ⟨0, _⟩ => show win0_11.index t (0 : Fin 4) * 2 + 1 * i0.val = i0.val; omega
  | ⟨1, _⟩ => show win0_11.index t (1 : Fin 4) * 11 + 1 * i1.val = i1.val; omega
  | ⟨2, _⟩ => show win0_11.index t (2 : Fin 4) * 1 + 1 * i2.val = i2.val; omega
  | ⟨3, _⟩ => show win0_11.index t (3 : Fin 4) * 256 + 1 * i3.val = i3.val; omega

theorem blk9 (t : Fin cfg0.N) (p : Fin 2) (q : Fin 11) (k : Fin 1024) (l : Fin 256) :
    iblk m c 9 t (ix4 p q k l) = m ((c : Thread nD τ).loc main_arg9) (ix2 k (col p q l)) := by
  have h : (V m c main_v7 : Vec Ideal S2x11x1024x256 .bf16) = transpose S2x11x1024x256 [1, 2, 0, 3]
      (shapeCast S1024x2x11x256 (m ((c : Thread nD τ).loc main_arg9)) shapeCasts_S1024x5632_S1024x2x11x256) transposes_S1024x2x11x256_S2x11x1024x256_1_2_0_3 := by
    simp only [V, hostOps0]
    after_results_simp
    rfl
  show V m c main_v7 (((cfg0.win 9).blk t).view.emb (ix4 p q k l)) = _
  rw [emb9]
  refine (congrFun h _).trans ?_
  pointwise!

theorem blk10 (t : Fin cfg0.N) (p : Fin 2) (q : Fin 11) (k : Fin 3) (l : Fin 256) :
    iblk m c 10 t (ix4 p q k l) = m ((c : Thread nD τ).loc main_arg10) (ix2 k (col p q l)) := by
  have h : (V m c main_v9 : Vec Ideal S2x11x3x256 .f32) = transpose S2x11x3x256 [1, 2, 0, 3]
      (shapeCast S3x2x11x256 (m ((c : Thread nD τ).loc main_arg10)) shapeCasts_S3x5632_S3x2x11x256) transposes_S3x2x11x256_S2x11x3x256_1_2_0_3 := by
    simp only [V, hostOps0]
    after_results_simp
    rfl
  show V m c main_v9 (((cfg0.win 10).blk t).view.emb (ix4 p q k l)) = _
  rw [emb10]
  refine (congrFun h _).trans ?_
  pointwise!

/-- The bias, as a row and as columns of chunks. -/
theorem bias_row (x : Vec Ideal S5632 .f32) (z : Fin 5632) : shapeCast S1x5632 x shapeCasts_S5632_S1x5632 (ix2 0 z) = x (ix1 z) := by
  pointwise!

theorem bias_cols (x : Vec Ideal S1x5632 .f32) (p : Fin 2) (q : Fin 11) (l : Fin 256) :
    transpose S2x11x1x256 [1, 2, 0, 3] (shapeCast S1x2x11x256 x shapeCasts_S1x5632_S1x2x11x256) transposes_S1x2x11x256_S2x11x1x256_1_2_0_3 (ix4 p q 0 l)
      = x (ix2 0 (col p q l)) := by
  pointwise!

theorem blk11 (t : Fin cfg0.N) (p : Fin 2) (q : Fin 11) (l : Fin 256) :
    iblk m c 11 t (ix4 p q 0 l) = m ((c : Thread nD τ).loc main_arg11) (ix1 (col p q l)) := by
  have h : (V m c main_v12 : Vec Ideal S2x11x1x256 .f32) = transpose S2x11x1x256 [1, 2, 0, 3]
      (shapeCast S1x2x11x256 (shapeCast S1x5632 (m ((c : Thread nD τ).loc main_arg11)) shapeCasts_S5632_S1x5632) shapeCasts_S1x5632_S1x2x11x256) transposes_S1x2x11x256_S2x11x1x256_1_2_0_3 := by
    simp only [V, hostOps0]
    after_results_simp
    rfl
  show V m c main_v12 (((cfg0.win 11).blk t).view.emb (ix4 p q 0 l)) = _
  rw [emb11]
  exact (congrFun h _).trans ((bias_cols _ p q l).trans (bias_row _ _))

end Cert.OutSeqIdeal.Block

end
-- ==== Proof.OutSeq.Point.lean ====
/- One grid point of the output call in terms of the whole arrays: its tile of mixed rows, up rows, convolved rows and final
   rows are those of the specification. The carried block holds the last eight up rows of the tile above (zero for a batch's
   first tile), which is what the convolution's two rows above need. -/
module

public import proofs.«01_k».proof.Proof.OutSeq.CaseA
public import proofs.«01_k».proof.Proof.OutSeq.CaseB
public import proofs.«01_k».proof.Proof.OutSeq.Windows

@[expose] public section

set_option maxRecDepth 16384

noncomputable section

namespace Cert.OutSeqIdeal.Block

open Cert.OutSeqIdeal Cert.OutSeqIdeal.Gen Cert.OutSeqIdeal.Value Idealize.ShloMosaic Idealize.ShloMosaic.TcCoe Idealize.SL.Sem
open Cert.OutSeqSpec

variable (m : (ℓ : Loc nD τ sig) → Buf (Elt Ideal) ℓ) (c : Dev nD)

/-- The specification's rows for the call's arguments: mixed, up, convolved, final. -/
def argX : Rows 1024 := mixRows (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7))
def argU : Rows 5632 := upRows (argX m c) (m ((c : Thread nD τ).loc main_arg8)) (m ((c : Thread nD τ).loc main_arg9))
def argC : Rows 5632 := convRows (argU m c) (m ((c : Thread nD τ).loc main_arg10)) (m ((c : Thread nD τ).loc main_arg11))
def argO : Rows 1024 := finalRows (argX m c) (argC m c) (m ((c : Thread nD τ).loc main_arg12))

/-- A point's mixed rows, and those normalised. -/
abbrev mixedAt (t : Fin cfg0.N) : FVec Ideal S512x1024 .f32 :=
  mixed (iblk m c 0 t) (iblk m c 1 t) (iblk m c 2 t) (iblk m c 3 t) (iblk m c 4 t) (iblk m c 5 t) (iblk m c 6 t) (iblk m c 7 t)
abbrev normedAt (t : Fin cfg0.N) : FVec Ideal S512x1024 .bf16 := normed (mixedAt m c t) (iblk m c 8 t)

theorem mixed_at (t : Fin cfg0.N) (r : Fin 512) (j : Fin 1024) : mixedAt m c t (ix2 r j) = argX m c (bat t) (row t r) j := by
  unfold mixedAt mixed argX mixRows
  simp only [ix2_0, ix2_1, blk0, blk1, blk2, blk3, blk4, blk5, blk6, blk7]

theorem up_at (t : Fin cfg0.N) (r : Fin 512) (p : Fin 2) (q : Fin 11) (l : Fin 256) :
    upAt (normedAt m c t) (slice (iblk m c 9 t) p q) r l = argU m c (bat t) (row t r) (col p q l) := by
  have e0 : (fun j => mixedAt m c t (ix2 r j)) = argX m c (bat t) (row t r) := funext fun j => mixed_at m c t r j
  have e1 : (fun j => iblk m c 8 t (ix2 0 j)) = fun j => m ((c : Thread nD τ).loc main_arg8) (ix1 j) := funext fun j => blk8 m c t j
  have e2 : (fun k => iblk m c 9 t (ix4 p q k l)) = fun k => m ((c : Thread nD τ).loc main_arg9) (ix2 k (col p q l)) := funext fun k => blk9 m c t p q k l
  show dotRow (wide (fun j => mixedAt m c t (ix2 r j)) (fun j => iblk m c 8 t (ix2 0 j))) (fun k => iblk m c 9 t (ix4 p q k l)) = _
  rw [e0, e1, e2]
  rfl

/-- The carried block `T` holds the eight up rows above point `t`'s tile. -/
def Carries (t : Fin cfg0.N) (T : Vec Ideal S2x11x8x256 .f32) : Prop :=
  ∀ (p : Fin 2) (q : Fin 11) (i : Fin 8) (l : Fin 256), T (ix4 p q i l) = above (argU m c) (8 - i.val) (bat t) (row t 0) (col p q l)

theorem carries_zero (t : Fin cfg0.N) (h : t.val % 16 = 0) : Carries m c t (fun _ => (0 : EReal)) := fun p q i l =>
  (above_neg _ _ _ _ _ (show ¬ 8 - i.val ≤ t.val % 16 * 512 + 0 by omega)).symm

/-- The row `d` above row `r` of the tile. -/
theorem ext_at (t : Fin cfg0.N) (T : Vec Ideal S2x11x8x256 .f32) (hT : Carries m c t T) (d : Nat) (h1 : 1 ≤ d) (h8 : d ≤ 8)
    (r : Fin 512) (p : Fin 2) (q : Fin 11) (l : Fin 256) (z : Fin 520) (hz : z.val = r.val + 8 - d) :
    ext (normedAt m c t) (slice (iblk m c 9 t) p q) (slice T p q) z l = above (argU m c) d (bat t) (row t r) (col p q l) := by
  unfold ext
  by_cases h : z.val < 8
  · rw [dif_pos h]
    refine (hT p q ⟨z.val, h⟩ l).trans ?_
    by_cases hd : d ≤ t.val % 16 * 512 + r.val
    · rw [above_pos _ d (bat t) (row t r) ⟨t.val % 16 * 512 + r.val - d, by omega⟩ _ hd rfl]
      exact above_pos _ _ _ _ _ _ (show 8 - z.val ≤ t.val % 16 * 512 + 0 by omega)
        (show t.val % 16 * 512 + r.val - d = t.val % 16 * 512 + 0 - (8 - z.val) by omega)
    · rw [above_neg _ d (bat t) (row t r) _ hd]
      exact above_neg _ _ _ _ _ (show ¬ 8 - z.val ≤ t.val % 16 * 512 + 0 by omega)
  · rw [dif_neg h, up_at]
    exact (above_pos _ _ _ _ _ _ (show d ≤ t.val % 16 * 512 + r.val by omega)
      (show t.val % 16 * 512 + (z.val - 8) = t.val % 16 * 512 + r.val - d by omega)).symm

theorem part_at (t : Fin cfg0.N) (T : Vec Ideal S2x11x8x256 .f32) (hT : Carries m c t T) (r : Fin 512) (p : Fin 2) (q : Fin 11) (l : Fin 256) :
    partAt (normedAt m c t) (slice (iblk m c 9 t) p q) (slice T p q) (slice (iblk m c 10 t) p q) (slice (iblk m c 11 t) p q) r l
      = argC m c (bat t) (row t r) (col p q l) := by
  unfold partAt
  rw [up_at, ext_at m c t T hT 1 (by omega) (by omega) r p q l _ rfl, ext_at m c t T hT 2 (by omega) (by omega) r p q l _ rfl]
  have e0 : slice (iblk m c 10 t) p q (ix4 0 0 0 l) = _ := blk10 m c t p q 0 l
  have e1 : slice (iblk m c 10 t) p q (ix4 0 0 1 l) = _ := blk10 m c t p q 1 l
  have e2 : slice (iblk m c 10 t) p q (ix4 0 0 2 l) = _ := blk10 m c t p q 2 l
  have e3 : slice (iblk m c 11 t) p q (ix4 0 0 0 l) = _ := blk11 m c t p q l
  rw [e0, e1, e2, e3]
  rfl

theorem out_at (t : Fin cfg0.N) (T : Vec Ideal S2x11x8x256 .f32) (hT : Carries m c t T) (r : Fin 512) (k : Fin 1024) :
    outRows (mixedAt m c t) (hidden (normedAt m c t) (iblk m c 9 t) T (iblk m c 10 t) (iblk m c 11 t)) (iblk m c 12 t) (ix2 r k)
      = argO m c (bat t) (row t r) k := by
  unfold outRows argO finalRows
  rw [mixed_at]
  refine congrArg (_ + ·) (congrArg₂ dotRow (funext fun j => ?_) (funext fun j => blk12 m c t j k))
  refine (chunk_apply _ _ _ _ _ _ _ _ _ r _).trans ?_
  rw [part_at m c t T hT, part_at m c t T hT]
  refine congrArg₂ gated (congrArg _ (Fin.ext ?_)) (congrArg _ (Fin.ext ?_))
  · show 1 * 2816 + j.val / 256 * 256 + j.val % 256 = 2816 + j.val; omega
  · show 0 * 2816 + j.val / 256 * 256 + j.val % 256 = j.val; omega

/-- What any point leaves carried: the last eight up rows of its tile. -/
theorem carried (t : Fin cfg0.N) (p : Fin 2) (q : Fin 11) (i : Fin 8) (l : Fin 256) :
    (outsAt0 m c t.val t.isLt).2.2.2 (ix4 p q i l) = argU m c (bat t) (row t ⟨504 + i.val, by omega⟩) (col p q l) := by
  by_cases h : t.val % 16 = 0
  · rw [outsAt0_A m c t h]
    dsimp only
    rw [carry_A]
    exact up_at m c t _ p q l
  · rw [outsAt0_B m c t h]
    dsimp only
    rw [carry_B]
    exact up_at m c t _ p q l

theorem carries_above (t : Fin cfg0.N) (h : ¬ t.val % 16 = 0) :
    Carries m c t (outsAt0 m c (t.val - 1) (Nat.lt_of_le_of_lt (Nat.sub_le _ _) t.isLt)).2.2.2 := fun p q i l => by
  refine (carried m c ⟨t.val - 1, Nat.lt_of_le_of_lt (Nat.sub_le _ _) t.isLt⟩ p q i l).trans ?_
  have hb : bat ⟨t.val - 1, Nat.lt_of_le_of_lt (Nat.sub_le _ _) t.isLt⟩ = bat t := Fin.ext (show (t.val - 1) / 16 = t.val / 16 by omega)
  rw [hb]
  exact (above_pos _ _ _ _ _ _ (show 8 - i.val ≤ t.val % 16 * 512 + 0 by omega)
    (show (t.val - 1) % 16 * 512 + (504 + i.val) = t.val % 16 * 512 + 0 - (8 - i.val) by omega)).symm

/-- What any point leaves in its three output blocks. -/
theorem left0 (t : Fin cfg0.N) (r : Fin 512) (k : Fin 1024) :
    (outsAt0 m c t.val t.isLt).1 (ix3 0 r k) = argO m c (bat t) (row t r) k := by
  by_cases h : t.val % 16 = 0
  · rw [outsAt0_A m c t h]
    dsimp only
    rw [out14_A]
    exact out_at m c t _ (carries_zero m c t h) r k
  · rw [outsAt0_B m c t h]
    dsimp only
    rw [out14_B]
    exact out_at m c t _ (carries_above m c t h) r k

theorem left1 (t : Fin cfg0.N) (r : Fin 512) (k : Fin 1024) :
    (outsAt0 m c t.val t.isLt).2.1 (ix3 0 r k) = normRows (argO m c) (m ((c : Thread nD τ).loc main_arg13)) (bat t) (row t r) k := by
  by_cases h : t.val % 16 = 0
  · rw [outsAt0_A m c t h]
    dsimp only
    rw [out15_A]
    exact congrArg₂ (fun f g => wide f g k) (funext fun j => out_at m c t _ (carries_zero m c t h) r j) (funext fun j => blk13 m c t j)
  · rw [outsAt0_B m c t h]
    dsimp only
    rw [out15_B]
    exact congrArg₂ (fun f g => wide f g k) (funext fun j => out_at m c t _ (carries_above m c t h) r j) (funext fun j => blk13 m c t j)

theorem left2 (t : Fin cfg0.N) (p : Fin 2) (q : Fin 11) (i : Fin 2) (l : Fin 256) :
    (outsAt0 m c t.val t.isLt).2.2.1 (ix5 0 p q i l) = argU m c (bat t) (row t ⟨510 + i.val, by omega⟩) (col p q l) := by
  by_cases h : t.val % 16 = 0
  · rw [outsAt0_A m c t h]
    dsimp only
    rw [out16_A]
    exact up_at m c t _ p q l
  · rw [outsAt0_B m c t h]
    dsimp only
    rw [out16_B]
    exact up_at m c t _ p q l

end Cert.OutSeqIdeal.Block

end
-- ==== Proof.OutSeq.Reference.lean ====
/- What the output call's reference computes, at an index: the rows of the specification. -/
module

public import proofs.«01_k».proof.Proof.Gen.OutSeqRefIdeal.Read
public import proofs.«01_k».proof.Proof.OutSeq.Spec

@[expose] public section

set_option maxRecDepth 16384

noncomputable section

namespace Cert.OutSeqRefIdeal.Value

open Cert.OutSeqRefIdeal Cert.OutSeqRefIdeal.Gen Cert.OutSeqRefIdeal.Read Idealize.ShloMosaic Idealize.ShloMosaic.TcCoe Idealize.SL.Sem
open Cert.OutSeqIdeal.Block (rmsRow dotRow mix wide tap gated)
open Cert.OutSeqSpec

/-- A sum over 1024 columns is the sum over its first 512, its next 256 and its last 256. -/
theorem sum_three (f : Fin 1024 → EReal) :
    ∑ j, f j = (∑ j : Fin 512, f ⟨j.val, by omega⟩) + (∑ j : Fin 256, f ⟨512 + j.val, by omega⟩) + ∑ j : Fin 256, f ⟨768 + j.val, by omega⟩ :=
  (Fin.sum_univ_add (a := 768) (b := 256) f).trans
    (congrArg (· + _) (Fin.sum_univ_add (a := 512) (b := 256) fun j : Fin 768 => f ⟨j.val, by omega⟩))

variable (x0 : Vec Ideal S2x8192x512 .f32) (x1 x2 : Vec Ideal S2x8192x256 .f32) (x3 : Vec Ideal S2x8192x1024 .f32)
  (x4 : Vec Ideal S512 .f32) (x5 x6 : Vec Ideal S256 .f32) (x7 : Vec Ideal S1024x1024 .f32) (x8 : Vec Ideal S1024 .f32)
  (x9 : Vec Ideal S1024x5632 .f32) (x10 : Vec Ideal S3x5632 .f32) (x11 : Vec Ideal S5632 .f32) (x12 : Vec Ideal S2816x1024 .f32)
  (x13 : Vec Ideal S1024 .f32)

/-- The three branches, normalised. -/
theorem branch0 (b : Fin 2) (s : Fin 8192) (j : Fin 512) : val_main_v12 (F := Ideal) x0 x4 (ix3 b s j)
    = rmsRow (Ideal.ofBits .f32 0x44000000#32) (fun j => x0 (ix3 b s j)) (fun j => x4 (ix1 j)) j := by
  unfold rmsRow
  pointwise [val_main_v12, val_main_v11, val_main_v10, val_main_v9, val_main_v8, val_main_v7, val_main_v6, val_main_v5, val_main_v4, val_main_v3, val_main_v2, val_main_v1, val_main_v0, val_main_cst, val_main_cst_0, val_main_cst_1]

theorem branch1 (b : Fin 2) (s : Fin 8192) (j : Fin 256) : val_main_v25 (F := Ideal) x1 x5 (ix3 b s j)
    = rmsRow (Ideal.ofBits .f32 0x43800000#32) (fun j => x1 (ix3 b s j)) (fun j => x5 (ix1 j)) j := by
  unfold rmsRow
  pointwise [val_main_v25, val_main_v24, val_main_v23, val_main_v22, val_main_v21, val_main_v20, val_main_v19, val_main_v18, val_main_v17, val_main_v16, val_main_v15, val_main_v14, val_main_v13, val_main_cst_2, val_main_cst_3, val_main_cst_4]

theorem branch2 (b : Fin 2) (s : Fin 8192) (j : Fin 256) : val_main_v38 (F := Ideal) x2 x6 (ix3 b s j)
    = rmsRow (Ideal.ofBits .f32 0x43800000#32) (fun j => x2 (ix3 b s j)) (fun j => x6 (ix1 j)) j := by
  unfold rmsRow
  pointwise [val_main_v38, val_main_v37, val_main_v36, val_main_v35, val_main_v34, val_main_v33, val_main_v32, val_main_v31, val_main_v30, val_main_v29, val_main_v28, val_main_v27, val_main_v26, val_main_cst_5, val_main_cst_6, val_main_cst_7]

/-- The three branches side by side. -/
theorem beside0 (b : Fin 2) (s : Fin 8192) (j : Fin 512) : val_main_v39 (F := Ideal) x0 x1 x2 x4 x5 x6 (ix3 b s ⟨j.val, by omega⟩)
    = val_main_v12 (F := Ideal) x0 x4 (ix3 b s j) := by
  unfold val_main_v39
  generalize val_main_v12 (F := Ideal) x0 x4 = P
  generalize val_main_v25 (F := Ideal) x1 x5 = Q
  generalize val_main_v38 (F := Ideal) x2 x6 = R
  pointwise

theorem beside1 (b : Fin 2) (s : Fin 8192) (j : Fin 256) : val_main_v39 (F := Ideal) x0 x1 x2 x4 x5 x6 (ix3 b s ⟨512 + j.val, by omega⟩)
    = val_main_v25 (F := Ideal) x1 x5 (ix3 b s j) := by
  unfold val_main_v39
  generalize val_main_v12 (F := Ideal) x0 x4 = P
  generalize val_main_v25 (F := Ideal) x1 x5 = Q
  generalize val_main_v38 (F := Ideal) x2 x6 = R
  pointwise

theorem beside2 (b : Fin 2) (s : Fin 8192) (j : Fin 256) : val_main_v39 (F := Ideal) x0 x1 x2 x4 x5 x6 (ix3 b s ⟨768 + j.val, by omega⟩)
    = val_main_v38 (F := Ideal) x2 x6 (ix3 b s j) := by
  unfold val_main_v39
  generalize val_main_v12 (F := Ideal) x0 x4 = P
  generalize val_main_v25 (F := Ideal) x1 x5 = Q
  generalize val_main_v38 (F := Ideal) x2 x6 = R
  pointwise
  rw [dif_neg (show ¬ 768 + j.val < 512 by omega), dif_neg (show ¬ 768 + j.val - 512 < 256 by omega)]
  exact congrArg (fun z => R (ix3 b s z)) (Fin.ext (show 768 + j.val - 512 - 256 = j.val by omega))

theorem mix_eq (b : Fin 2) (s : Fin 8192) (k : Fin 1024) : val_main_v41 (F := Ideal) x0 x1 x2 x3 x4 x5 x6 x7 (ix3 b s k)
    = mixRows x0 x1 x2 x3 x4 x5 x6 x7 b s k := by
  have e : val_main_v41 (F := Ideal) x0 x1 x2 x3 x4 x5 x6 x7 (ix3 b s k)
      = x3 (ix3 b s k) + ∑ j : Fin 1024, val_main_v39 (F := Ideal) x0 x1 x2 x4 x5 x6 (ix3 b s j) * x7 (ix2 j k) := by
    unfold val_main_v41 val_main_v40
    generalize val_main_v39 (F := Ideal) x0 x1 x2 x4 x5 x6 = P
    pointwise
  rw [e, sum_three]
  simp only [beside0, beside1, beside2, branch0, branch1, branch2]
  rfl

theorem up_eq (b : Fin 2) (s : Fin 8192) (q : Fin 5632) : val_main_v55 (F := Ideal) x0 x1 x2 x3 x4 x5 x6 x7 x8 x9 (ix3 b s q)
    = upRows (mixRows x0 x1 x2 x3 x4 x5 x6 x7) x8 x9 b s q := by
  unfold upRows dotRow wide rmsRow
  simp only [← mix_eq]
  simp only [val_main_v55, val_main_v54, val_main_v53, val_main_v52, val_main_v51, val_main_v50, val_main_v49, val_main_v48, val_main_v47, val_main_v46, val_main_v45, val_main_v44, val_main_v43, val_main_v42, val_main_cst_8, val_main_cst_9, val_main_cst_10]
  generalize val_main_v41 (F := Ideal) x0 x1 x2 x3 x4 x5 x6 x7 = P
  pointwise

/-- The up rows below two zero rows. -/
theorem padded (b : Fin 2) (s : Fin 8194) (q : Fin 5632) : val_main_v57 (F := Ideal) x0 x1 x2 x3 x4 x5 x6 x7 x8 x9 (ix3 b s q)
    = if h : 2 ≤ s.val then upRows (mixRows x0 x1 x2 x3 x4 x5 x6 x7) x8 x9 b ⟨s.val - 2, by omega⟩ q else 0 := by
  simp only [← up_eq]
  unfold val_main_v57 val_main_v56 val_main_cst_11
  generalize val_main_v55 (F := Ideal) x0 x1 x2 x3 x4 x5 x6 x7 x8 x9 = P
  by_cases h : 2 ≤ s.val
  · rw [dif_pos h]
    pointwise
    rw [dif_neg (show ¬ s.val < 2 by omega)]
  · rw [dif_neg h]
    pointwise
    rw [dif_pos (show s.val < 2 by omega)]

theorem conv_eq (b : Fin 2) (s : Fin 8192) (q : Fin 5632) : val_main_v80 (F := Ideal) x0 x1 x2 x3 x4 x5 x6 x7 x8 x9 x10 x11 (ix3 b s q)
    = convRows (upRows (mixRows x0 x1 x2 x3 x4 x5 x6 x7) x8 x9) x10 x11 b s q := by
  have e : val_main_v80 (F := Ideal) x0 x1 x2 x3 x4 x5 x6 x7 x8 x9 x10 x11 (ix3 b s q)
      = tap (x11 (ix1 q)) (x10 (ix2 0 q)) (x10 (ix2 1 q)) (x10 (ix2 2 q))
          (val_main_v57 (F := Ideal) x0 x1 x2 x3 x4 x5 x6 x7 x8 x9 (ix3 b ⟨2 + s.val, by omega⟩ q))
          (val_main_v57 (F := Ideal) x0 x1 x2 x3 x4 x5 x6 x7 x8 x9 (ix3 b ⟨1 + s.val, by omega⟩ q))
          (val_main_v57 (F := Ideal) x0 x1 x2 x3 x4 x5 x6 x7 x8 x9 (ix3 b ⟨s.val, by omega⟩ q)) := by
    simp only [val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58]
    unfold tap
    generalize val_main_v57 (F := Ideal) x0 x1 x2 x3 x4 x5 x6 x7 x8 x9 = P
    pointwise!
  rw [e, padded, padded, padded]
  unfold convRows above
  rw [dif_pos (show 2 ≤ 2 + s.val by omega)]
  congr 1
  · exact congrArg (fun z => upRows _ _ _ b z q) (Fin.ext (show 2 + s.val - 2 = s.val by omega))
  · by_cases h : 1 ≤ s.val
    · rw [dif_pos (show 2 ≤ 1 + s.val by omega), if_pos h]
      exact congrArg (fun z => upRows _ _ _ b z q) (Fin.ext (show 1 + s.val - 2 = s.val - 1 by omega))
    · rw [dif_neg (show ¬ 2 ≤ 1 + s.val by omega), if_neg h]

theorem final_eq (b : Fin 2) (s : Fin 8192) (k : Fin 1024) : val_main_v86 (F := Ideal) x0 x1 x2 x3 x4 x5 x6 x7 x8 x9 x10 x11 x12 (ix3 b s k)
    = finalRows (mixRows x0 x1 x2 x3 x4 x5 x6 x7) (convRows (upRows (mixRows x0 x1 x2 x3 x4 x5 x6 x7) x8 x9) x10 x11) x12 b s k := by
  unfold finalRows dotRow gated
  simp only [← mix_eq, ← conv_eq]
  simp only [val_main_v86, val_main_v85, val_main_v84, val_main_v83, val_main_v82, val_main_v81, val_main_call0_v5, val_main_call0_v4, val_main_call0_v3, val_main_call0_v2, val_main_call0_v1, val_main_call0_v0, val_main_call0_cst, val_main_call0_cst_0]
  generalize val_main_v41 (F := Ideal) x0 x1 x2 x3 x4 x5 x6 x7 = P
  generalize val_main_v80 (F := Ideal) x0 x1 x2 x3 x4 x5 x6 x7 x8 x9 x10 x11 = Q
  unfold Ideal.logistic
  simp only [← Ideal.ofBits_one_f32]
  pointwise!

theorem norm_eq (b : Fin 2) (s : Fin 8192) (k : Fin 1024) : val_main_v99 (F := Ideal) x0 x1 x2 x3 x4 x5 x6 x7 x8 x9 x10 x11 x12 x13 (ix3 b s k)
    = normRows (finalRows (mixRows x0 x1 x2 x3 x4 x5 x6 x7) (convRows (upRows (mixRows x0 x1 x2 x3 x4 x5 x6 x7) x8 x9) x10 x11) x12) x13 b s k := by
  unfold normRows wide rmsRow
  simp only [← final_eq]
  simp only [val_main_v99, val_main_v98, val_main_v97, val_main_v96, val_main_v95, val_main_v94, val_main_v93, val_main_v92, val_main_v91, val_main_v90, val_main_v89, val_main_v88, val_main_v87, val_main_cst_12, val_main_cst_13, val_main_cst_14]
  generalize val_main_v86 (F := Ideal) x0 x1 x2 x3 x4 x5 x6 x7 x8 x9 x10 x11 x12 = P
  pointwise

theorem last_eq (b p : Fin 2) (q : Fin 11) (i : Fin 2) (l : Fin 256) : val_main_v102 (F := Ideal) x0 x1 x2 x3 x4 x5 x6 x7 x8 x9 (ix5 b p q i l)
    = upRows (mixRows x0 x1 x2 x3 x4 x5 x6 x7) x8 x9 b ⟨8190 + i.val, by omega⟩ (col p q l) := by
  have e : val_main_v102 (F := Ideal) x0 x1 x2 x3 x4 x5 x6 x7 x8 x9 (ix5 b p q i l)
      = val_main_v57 (F := Ideal) x0 x1 x2 x3 x4 x5 x6 x7 x8 x9 (ix3 b ⟨8192 + i.val, by omega⟩ (col p q l)) := by
    simp only [val_main_v102, val_main_v101, val_main_v100]
    generalize val_main_v57 (F := Ideal) x0 x1 x2 x3 x4 x5 x6 x7 x8 x9 = P
    pointwise!
  rw [e, padded, dif_pos (show 2 ≤ 8192 + i.val by omega)]
  exact congrArg (fun z => upRows _ _ _ b z (col p q l)) (Fin.ext (show 8192 + i.val - 2 = 8190 + i.val by omega))

end Cert.OutSeqRefIdeal.Value

end
-- ==== Proof.OutSeq.Run.lean ====
/- The output call's three result arrays after the run: the blocks the grid points write back tile each array, so each array
   is the reference's. The third is written back at a batch's last point only. -/
module

public import proofs.«01_k».proof.Proof.OutSeq.Point
public import proofs.«01_k».proof.Proof.OutSeq.Reference

@[expose] public section

set_option maxRecDepth 16384

noncomputable section

namespace Cert.OutSeqIdeal.Block

open Cert.OutSeqIdeal Cert.OutSeqIdeal.Gen Cert.OutSeqIdeal.Value Idealize.ShloMosaic Idealize.ShloMosaic.TcCoe Idealize.SL.Sem
open Cert.OutSeqSpec
open Cert.OutSeqRefIdeal.Read

variable (m : (ℓ : Loc nD τ sig) → Buf (Elt Ideal) ℓ) (c : Dev nD)

/-- The reference's results for the call's arguments. -/
def want0 := val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
def want1 := val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
def want2 := val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

theorem final0 : (dats m 0 c).arrAt 14 cfg0.N = want0 m c := by
  refine (dats m 0 c).arrAt_eq_of_covers 14 _ (by decide +kernel) fun t _ y => ?_
  obtain ⟨z, r, k, rfl⟩ : ∃ (z : Fin 1) (r : Fin 512) (k : Fin 1024), y = ix3 z r k := ⟨_, _, _, eq_ix3 y⟩
  obtain rfl : z = 0 := Subsingleton.elim _ _
  rw [emb14]
  refine Eq.trans ?_ (Cert.OutSeqRefIdeal.Value.final_eq _ _ _ _ _ _ _ _ _ _ _ _ _ (bat t) (row t r) k).symm
  exact (congrFun (after0_14 m c t) (ix3 0 r k)).trans (left0 m c t r k)

theorem final1 : (dats m 0 c).arrAt 15 cfg0.N = want1 m c := by
  refine (dats m 0 c).arrAt_eq_of_covers 15 _ (by decide +kernel) fun t _ y => ?_
  obtain ⟨z, r, k, rfl⟩ : ∃ (z : Fin 1) (r : Fin 512) (k : Fin 1024), y = ix3 z r k := ⟨_, _, _, eq_ix3 y⟩
  obtain rfl : z = 0 := Subsingleton.elim _ _
  rw [emb15]
  refine Eq.trans ?_ (Cert.OutSeqRefIdeal.Value.norm_eq _ _ _ _ _ _ _ _ _ _ _ _ _ _ (bat t) (row t r) k).symm
  exact (congrFun (after0_15 m c t) (ix3 0 r k)).trans (left1 m c t r k)

theorem at16 : ∀ t : Fin cfg0.N, win0_16.index t (0 : Fin 5) = t.val / 16 ∧ win0_16.index t (1 : Fin 5) = 0 ∧ win0_16.index t (2 : Fin 5) = 0
    ∧ win0_16.index t (3 : Fin 5) = 0 ∧ win0_16.index t (4 : Fin 5) = 0 := (by decide +kernel : ∀ t : Fin grid0.N, _)
theorem emb16 (t : Fin cfg0.N) (p : Fin 2) (q : Fin 11) (i : Fin 2) (l : Fin 256) :
    ((cfg0.win 16).blk t).view.emb (ix5 0 p q i l) = ix5 (bat t) p q i l := by
  obtain ⟨a0, a1, a2, a3, a4⟩ := at16 t
  funext x; apply Fin.ext
  match x with
  | ⟨0, _⟩ => show win0_16.index t (0 : Fin 5) * 1 + 1 * 0 = t.val / 16; omega
  | ⟨1, _⟩ => show win0_16.index t (1 : Fin 5) * 2 + 1 * p.val = p.val; omega
  | ⟨2, _⟩ => show win0_16.index t (2 : Fin 5) * 11 + 1 * q.val = q.val; omega
  | ⟨3, _⟩ => show win0_16.index t (3 : Fin 5) * 2 + 1 * i.val = i.val; omega
  | ⟨4, _⟩ => show win0_16.index t (4 : Fin 5) * 256 + 1 * l.val = l.val; omega

/-- The third array is written back at a batch's last point. -/
theorem last_point : ∀ t : Fin cfg0.N, (cfg0.win 16).flush t = true → t.val % 16 = 15 :=
  (by decide +kernel : ∀ t : Fin grid0.N, win0_16.flush t = true → t.val % 16 = 15)

theorem final2 : (dats m 0 c).arrAt 16 cfg0.N = want2 m c := by
  refine (dats m 0 c).arrAt_eq_of_covers 16 _ (by decide +kernel) fun t hf y => ?_
  obtain ⟨z, p, q, i, l, rfl⟩ : ∃ (z : Fin 1) (p : Fin 2) (q : Fin 11) (i : Fin 2) (l : Fin 256), y = ix5 z p q i l := ⟨_, _, _, _, _, eq_ix5 y⟩
  obtain rfl : z = 0 := Subsingleton.elim _ _
  have ht := last_point t hf
  rw [emb16]
  refine Eq.trans ?_ (Cert.OutSeqRefIdeal.Value.last_eq _ _ _ _ _ _ _ _ _ _ (bat t) p q i l).symm
  have hr : row t ⟨510 + i.val, by omega⟩ = ⟨8190 + i.val, by omega⟩ :=
    Fin.ext (show t.val % 16 * 512 + (510 + i.val) = 8190 + i.val by omega)
  refine (congrFun (after0_16 m c t) (ix5 0 p q i l)).trans ((left2 m c t p q i l).trans ?_)
  rw [hr]
  rfl

end Cert.OutSeqIdeal.Block

end
-- ==== Proof.OutSeq.Claims.lean ====
/- The claims about the output call. -/
module

public import proofs.«01_k».proof.Defs
public import proofs.«01_k».proof.Proof.Gen.OutSeq.Frame
public import proofs.«01_k».proof.Proof.Gen.OutSeqRefIdeal.Run
public import proofs.«01_k».proof.Proof.OutSeq.Run
public import Idealize.ShloMosaic.Lib.Quiescent

@[expose] public section

set_option maxRecDepth 16384

noncomputable section

namespace Cert.Proof.OutSeq

open Idealize.ShloMosaic Idealize.ShloMosaic.TcCoe Idealize.SL.Sem

theorem reference_frame : Cert.quiescent_OutSeqRefIdeal (hOutSeqRefIdeal := Cert.OutSeqRefIdeal.Gen.facts) := fun m ρ _ =>
  (θ_run Cert.OutSeqRefIdeal.defs _ _).mono
    (fun r h => ⟨fun c => (h c).2.2.2, Idealize.ShloMosaic.sem_eq_zero_of_no_sems (by decide) r.2⟩)
    (Cert.OutSeqRefIdeal.Value.run (F := Ideal) m ρ)

theorem algebraic : Cert.algebraic_OutSeqIdeal_OutSeqRefIdeal (hOutSeqIdeal := Cert.OutSeqIdeal.Gen.facts)
    (hOutSeqRefIdeal := Cert.OutSeqRefIdeal.Gen.facts) := by
  intro m ρ m' ρ' _ hagree
  refine ⟨fun c => Cert.OutSeqIdeal.Block.want0 m c, fun c => Cert.OutSeqIdeal.Block.want1 m c, fun c => Cert.OutSeqIdeal.Block.want2 m c,
    (θ_run Cert.OutSeqIdeal.defs _ _).mono (fun r h c => ?_) (Cert.OutSeqIdeal.Value.run_blocks m ρ),
    (θ_run Cert.OutSeqRefIdeal.defs _ _).mono (fun r h c => ?_) (Cert.OutSeqRefIdeal.Value.run m' ρ')⟩
  · obtain ⟨h0, h1, h2, k⟩ := h c
    exact ⟨h0.trans (Cert.OutSeqIdeal.Block.final0 m c), h1.trans (Cert.OutSeqIdeal.Block.final1 m c),
      h2.trans (Cert.OutSeqIdeal.Block.final2 m c), k⟩
  · obtain ⟨h0, h1, h2, k⟩ := h c
    obtain ⟨a0, a1, a2, a3, a4, a5, a6, a7, a8, a9, a10, a11, a12, a13⟩ := hagree c
    dsimp only
    unfold Cert.OutSeqIdeal.Block.want0 Cert.OutSeqIdeal.Block.want1 Cert.OutSeqIdeal.Block.want2
    rw [← a0, ← a1, ← a2, ← a3, ← a4, ← a5, ← a6, ← a7, ← a8, ← a9, ← a10, ← a11, ← a12, ← a13]
    exact ⟨h0.trans (Cert.OutSeqRefIdeal.Read.val_main_v86_eq _), h1.trans (Cert.OutSeqRefIdeal.Read.val_main_v99_eq _),
      h2.trans (Cert.OutSeqRefIdeal.Read.val_main_v102_eq _), k⟩

end Cert.Proof.OutSeq

end
-- ==== Proof.OutSlab.Block.lean ====
/- The sample group's output kernel over the extended reals. It runs once, over 256 rows: 32 streams of eight tokens. Its body
   is that of the prompt's output kernel but for the convolution: the rows one and two above a token are the up rows turned by
   one and two, except at a stream's first token or two, where they are the stored rows `t1` and `t2` (`partAt`).
   This module reads each of the body's values at an index. -/
module

public import proofs.«01_k».proof.Proof.OutSeq.Spec
public import proofs.«01_k».proof.Proof.OutSeq.Tile
public import proofs.«01_k».proof.Proof.Gen.OutSlabIdeal.Skeleton

@[expose] public section

set_option maxRecDepth 16384

noncomputable section

namespace Cert.OutSlabIdeal.Block

open Cert.OutSlabIdeal Cert.OutSlabIdeal.Gen Idealize.ShloMosaic Idealize.ShloMosaic.TcCoe Idealize.SL.Sem
open Cert.OutSeqIdeal.Block (rmsRow dotRow mix wide tap gated slice)

theorem mix_apply (a : Vec Ideal S1x256x512 .f32) (s p : Vec Ideal S1x256x256 .f32) (x : Vec Ideal S1x256x1024 .f32)
    (ga : Vec Ideal S1x512 .f32) (gs gp : Vec Ideal S1x256 .f32) (wa : Vec Ideal S512x1024 .bf16) (ws wp : Vec Ideal S256x1024 .bf16)
    (r : Fin 256) (k : Fin 1024) :
    k0_pay6 (F := Ideal) (k0_pay3 a ga wa) (k0_pay4 s gs) (k0_pay5 ws) p gp wp x (ix2 r k)
      = mix (fun j => a (ix3 0 r j)) (fun j => s (ix3 0 r j)) (fun j => p (ix3 0 r j)) (x (ix3 0 r k)) (fun j => ga (ix2 0 j))
          (fun j => gs (ix2 0 j)) (fun j => gp (ix2 0 j)) (fun j => wa (ix2 j k)) (fun j => ws (ix2 j k)) (fun j => wp (ix2 j k)) := by
  unfold mix dotRow rmsRow
  pointwise [k0_pay6, k0_pay3, k0_pay4, k0_pay5]

/-- The mixed rows normalised, from the mixed rows `X` and their mean squares. -/
theorem wide_apply (X : FVec Ideal S256x1024 .f32) (g : Vec Ideal S1x1024 .f32) (v19 : FVec Ideal S256x1024 .f32)
    (v36 : FVec Ideal S256x256 .bf16) (v38 : FVec Ideal S256x1024 .bf16) (v41 : Vec Ideal S1x256x256 .f32) (v43 : Vec Ideal S1x256 .f32)
    (v58 : Vec Ideal S256x1024 .bf16) (v62 : Vec Ideal S1x256x1024 .f32)
    (hX : k0_pay6 v19 v36 v38 v41 v43 v58 v62 = X) (r : Fin 256) (k : Fin 1024) :
    k0_pay10 (F := Ideal) X (k0_pay8 g) (k0_pay9 v19 v36 v38 v41 v43 v58 v62) (ix2 r k)
      = wide (fun j => X (ix2 r j)) (fun j => g (ix2 0 j)) k := by
  unfold wide rmsRow
  unfold k0_pay9
  rw [hX]
  pointwise [k0_pay10, k0_pay8]

variable (hn : FVec Ideal S256x1024 .bf16) (w w' : Vec Ideal S1x1x1024x256 .bf16) (t1 t1' t2 t2' : Vec Ideal S1x1x256x256 .f32)
  (cw cw' : Vec Ideal S1x1x3x256 .f32) (cb cb' : Vec Ideal S1x1x1x256 .f32)

/-- The up product of one chunk at row `r`, column `l`. -/
def upAt (r : Fin 256) (l : Fin 256) : EReal := dotRow (fun k => hn (ix2 r k)) (fun k => w (ix4 0 0 k l))

/-- The row `d` above row `r`, of the same stream where that has one, else the stored row's. -/
def backAt (d : Nat) (t : Vec Ideal S1x1x256x256 .f32) (r : Fin 256) (l : Fin 256) : EReal :=
  if d ≤ r.val % 8 then upAt hn w ⟨r.val - d, by omega⟩ l else t (ix4 0 0 r l)

/-- One half of one chunk after the convolution. -/
def partAt (r : Fin 256) (l : Fin 256) : EReal :=
  tap (cb (ix4 0 0 0 l)) (cw (ix4 0 0 0 l)) (cw (ix4 0 0 1 l)) (cw (ix4 0 0 2 l)) (upAt hn w r l) (backAt hn w 1 t1 r l) (backAt hn w 2 t2 r l)

theorem up_apply (r : Fin 256) (l : Fin 256) : k0_pay24 (F := Ideal) hn w (ix2 r l) = upAt hn w r l := by
  unfold upAt dotRow
  pointwise [k0_pay24]

/-- A row's place in its stream, as the body compares it. -/
theorem place_one : ∀ r : Fin 256, IntOp.cmpi .sge (IntOp.andi (BitVec.ofNat 32 r.val) 7#32) 1#32 = if 1 ≤ r.val % 8 then 1#1 else 0#1 := by
  decide +kernel

theorem place_two : ∀ r : Fin 256, IntOp.cmpi .sge (IntOp.andi (BitVec.ofNat 32 r.val) 7#32) 2#32 = if 2 ≤ r.val % 8 then 1#1 else 0#1 := by
  decide +kernel

/-- The turned rows or the stored ones, as the body chooses. -/
theorem choose_one (P : FVec Ideal S256x256 .f32) (z : EReal) (r l : Fin 256) :
    Scalar.select (IntOp.cmpi .sge (IntOp.andi (BitVec.ofNat 32 r.val) 7#32) 1#32) (P (ix2 ⟨(r.val + 256 - 1) % 256, by omega⟩ l)) z
      = if 1 ≤ r.val % 8 then P (ix2 ⟨r.val - 1, by omega⟩ l) else z := by
  rw [place_one]
  by_cases h : 1 ≤ r.val % 8
  · rw [if_pos h, if_pos h]
    exact congrArg (fun i => P (ix2 i l)) (Fin.ext (show (r.val + 256 - 1) % 256 = r.val - 1 by omega))
  · rw [if_neg h, if_neg h]; rfl

theorem choose_two (P : FVec Ideal S256x256 .f32) (z : EReal) (r l : Fin 256) :
    Scalar.select (IntOp.cmpi .sge (IntOp.andi (BitVec.ofNat 32 r.val) 7#32) 2#32) (P (ix2 ⟨(r.val + 256 - 2) % 256, by omega⟩ l)) z
      = if 2 ≤ r.val % 8 then P (ix2 ⟨r.val - 2, by omega⟩ l) else z := by
  rw [place_two]
  by_cases h : 2 ≤ r.val % 8
  · rw [if_pos h, if_pos h]
    exact congrArg (fun i => P (ix2 i l)) (Fin.ext (show (r.val + 256 - 2) % 256 = r.val - 2 by omega))
  · rw [if_neg h, if_neg h]; rfl

theorem back_one (r : Fin 256) (l : Fin 256) : k0_pay26 (F := Ideal) k0_pay7 hn w t1 (ix2 r l) = backAt hn w 1 t1 r l := by
  unfold k0_pay26 backAt
  simp only [← up_apply]
  generalize k0_pay24 (F := Ideal) hn w = P
  pointwise [k0_pay7]
  exact choose_one P _ r l

/-- One half as the body writes it in its second chunk. -/
def part : FVec Ideal S256x256 .f32 :=
  k0_pay29 (F := Ideal) (k0_pay24 hn w) (k0_pay26 k0_pay7 hn w t1) (k0_pay27 k0_pay7) (k0_pay28 hn w) t2 cw cb

theorem part_apply (r : Fin 256) (l : Fin 256) : part hn w t1 t2 cw cb (ix2 r l) = partAt hn w t1 t2 cw cb r l := by
  unfold part partAt k0_pay28
  rw [← back_one]
  unfold tap backAt
  simp only [← up_apply]
  generalize k0_pay26 (F := Ideal) k0_pay7 hn w t1 = Q
  generalize k0_pay24 (F := Ideal) hn w = P
  pointwise [k0_pay29, k0_pay27, k0_pay7]
  rw [choose_two]

/-- One chunk of the hidden rows as the body writes it in its second chunk. The other ten are the same operations cut at other
    places. -/
def chunk : FVec Ideal S256x256 .bf16 :=
  k0_pay34 (F := Ideal) k0_pay7 (part hn w t1 t2 cw cb) (k0_pay30 hn w') (k0_pay32 k0_pay7 hn w' t1') k0_pay33 t2' cw' cb'

theorem chunk_apply (r : Fin 256) (l : Fin 256) :
    chunk hn w w' t1 t1' t2 t2' cw cw' cb cb' (ix2 r l) = gated (partAt hn w' t1' t2' cw' cb' r l) (partAt hn w t1 t2 cw cb r l) := by
  have h : chunk hn w w' t1 t1' t2 t2' cw cw' cb cb' (ix2 r l)
      = gated (part hn w' t1' t2' cw' cb' (ix2 r l)) (part hn w t1 t2 cw cb (ix2 r l)) := by
    unfold chunk
    generalize part hn w t1 t2 cw cb = A
    unfold part
    show k0_pay34 (F := Ideal) k0_pay7 _ (k0_pay24 hn w') (k0_pay26 k0_pay7 hn w' t1') k0_pay33 t2' cw' cb' _ = _
    unfold k0_pay28
    generalize k0_pay24 (F := Ideal) hn w' = P
    generalize k0_pay26 (F := Ideal) k0_pay7 hn w' t1' = Q
    generalize k0_pay7 = I
    unfold gated
    pointwise [k0_pay34, k0_pay29, k0_pay33, k0_pay27]
  rw [h, part_apply, part_apply]

theorem chunk0 (r4 : FVec Ideal S256x1024 .f32) (r5 : FVec Ideal S1x1024 .f32) (r6 : FVec Ideal S256x1 .f32) (hr : k0_pay10 r4 r5 r6 = hn) :
    k0_pay23 (F := Ideal) (k0_pay17 (k0_pay11 r4 r5 r6 w) (k0_pay13 r4 k0_pay7 r5 r6 w t1) (k0_pay14 cw) (k0_pay15 cb) (k0_pay16 r4 k0_pay7 r5 r6 w t2 cw))
      (k0_pay18 hn w') (k0_pay20 k0_pay7 hn w' t1') (k0_pay21 k0_pay7 hn w' t2') (k0_pay22 cw') cb' = chunk hn w w' t1 t1' t2 t2' cw cw' cb cb' := by
  subst hr; rfl

theorem chunk1 :
    k0_pay34 (F := Ideal) k0_pay7 (k0_pay29 (k0_pay24 hn w) (k0_pay26 k0_pay7 hn w t1) (k0_pay27 k0_pay7) (k0_pay28 hn w) t2 cw cb)
      (k0_pay30 hn w') (k0_pay32 k0_pay7 hn w' t1') k0_pay33 t2' cw' cb' = chunk hn w w' t1 t1' t2 t2' cw cw' cb cb' := rfl

theorem chunk2 :
    k0_pay41 (F := Ideal) (k0_pay40 k0_pay7 (k0_pay37 k0_pay7 (k0_pay35 hn w) t1 t2 cw cb) (k0_pay38 hn w') t1' t2' cw' cb') = chunk hn w w' t1 t1' t2 t2' cw cw' cb cb' := rfl

theorem chunk3 :
    k0_pay54 (F := Ideal) (k0_pay48 (k0_pay42 hn w) (k0_pay44 k0_pay7 hn w t1) (k0_pay45 cw) (k0_pay46 cb) (k0_pay47 k0_pay7 hn w t2 cw))
      (k0_pay49 hn w') (k0_pay51 k0_pay7 hn w' t1') (k0_pay52 k0_pay7 hn w' t2') (k0_pay53 cw') cb' = chunk hn w w' t1 t1' t2 t2' cw cw' cb cb' := rfl

theorem chunk4 :
    k0_pay65 (F := Ideal) k0_pay7 (k0_pay60 (k0_pay55 hn w) (k0_pay57 k0_pay7 hn w t1) (k0_pay58 k0_pay7) (k0_pay59 hn w) t2 cw cb)
      (k0_pay61 hn w') (k0_pay63 k0_pay7 hn w' t1') k0_pay64 t2' cw' cb' = chunk hn w w' t1 t1' t2 t2' cw cw' cb cb' := rfl

theorem chunk5 :
    k0_pay72 (F := Ideal) (k0_pay71 k0_pay7 (k0_pay68 k0_pay7 (k0_pay66 hn w) t1 t2 cw cb) (k0_pay69 hn w') t1' t2' cw' cb') = chunk hn w w' t1 t1' t2 t2' cw cw' cb cb' := rfl

theorem chunk6 :
    k0_pay85 (F := Ideal) (k0_pay79 (k0_pay73 hn w) (k0_pay75 k0_pay7 hn w t1) (k0_pay76 cw) (k0_pay77 cb) (k0_pay78 k0_pay7 hn w t2 cw))
      (k0_pay80 hn w') (k0_pay82 k0_pay7 hn w' t1') (k0_pay83 k0_pay7 hn w' t2') (k0_pay84 cw') cb' = chunk hn w w' t1 t1' t2 t2' cw cw' cb cb' := rfl

theorem chunk7 :
    k0_pay96 (F := Ideal) k0_pay7 (k0_pay91 (k0_pay86 hn w) (k0_pay88 k0_pay7 hn w t1) (k0_pay89 k0_pay7) (k0_pay90 hn w) t2 cw cb)
      (k0_pay92 hn w') (k0_pay94 k0_pay7 hn w' t1') k0_pay95 t2' cw' cb' = chunk hn w w' t1 t1' t2 t2' cw cw' cb cb' := rfl

theorem chunk8 :
    k0_pay103 (F := Ideal) (k0_pay102 k0_pay7 (k0_pay99 k0_pay7 (k0_pay97 hn w) t1 t2 cw cb) (k0_pay100 hn w') t1' t2' cw' cb') = chunk hn w w' t1 t1' t2 t2' cw cw' cb cb' := rfl

theorem chunk9 :
    k0_pay116 (F := Ideal) (k0_pay110 (k0_pay104 hn w) (k0_pay106 k0_pay7 hn w t1) (k0_pay107 cw) (k0_pay108 cb) (k0_pay109 k0_pay7 hn w t2 cw))
      (k0_pay111 hn w') (k0_pay113 k0_pay7 hn w' t1') (k0_pay114 k0_pay7 hn w' t2') (k0_pay115 cw') cb' = chunk hn w w' t1 t1' t2 t2' cw cw' cb cb' := rfl

theorem chunk10 :
    k0_pay127 (F := Ideal) k0_pay7 (k0_pay122 (k0_pay117 hn w) (k0_pay119 k0_pay7 hn w t1) (k0_pay120 k0_pay7) (k0_pay121 hn w) t2 cw cb)
      (k0_pay123 hn w') (k0_pay125 k0_pay7 hn w' t1') k0_pay126 t2' cw' cb' = chunk hn w w' t1 t1' t2 t2' cw cw' cb cb' := rfl

end Cert.OutSlabIdeal.Block

end
-- ==== Proof.OutSlab.Tile.lean ====
/- How the sample group's output kernel addresses its blocks: each load of one chunk is a slice of the whole block, the eleven
   stores into the hidden scratch put chunk `c` at columns `256 c …` (`hid_canon`), and the stores of up rows put half `p` of
   chunk `c` at `(p, c)` (`up_canon`). -/
module

public import proofs.«01_k».proof.Proof.OutSlab.Block
public import proofs.«01_k».proof.Proof.OutSeq.Body

@[expose] public section

set_option maxRecDepth 16384

noncomputable section

namespace Cert.OutSlabIdeal.Block

open Cert.OutSlabIdeal Cert.OutSlabIdeal.Gen Idealize.ShloMosaic Idealize.ShloMosaic.TcCoe Idealize.SL.Sem
open Cert.OutSeqIdeal.Block (slice hz2 hz3)

/-- A load of one half of one chunk of a whole block reads its slice. -/
theorem load_slice {A B : Nat} {e : EltTy} (a : Memref sig .tc .vmem (⟨4, ![2, 11, A, B]⟩ : Shape) e) (ha : a.IsWhole)
    (x : Vec Ideal (⟨4, ![2, 11, A, B]⟩ : Shape) e) (p c : Nat)
    (inb : ∀ b, (![p, c, 0, 0] : Fin 4 → Nat) b + (![1, 1, A, B] : Fin 4 → Nat) b ≤ (![2, 11, A, B] : Fin 4 → Nat) b) :
    View.readAt (Elt Ideal) a.view (Rect.unit (s := ⟨4, ![2, 11, A, B]⟩) ![p, c, 0, 0] ![1, 1, A, B] inb).toLoadRect (ha.unread x)
      = slice x ⟨p, inb 0⟩ ⟨c, inb 1⟩ := by
  rw [View.readAt_eq_ld, ha.read_unread]
  funext i
  show x _ = x _
  congr 1
  funext b; apply Fin.ext
  have h0 : (i 0).val = 0 := Nat.lt_one_iff.mp (i 0).isLt
  have h1 : (i 1).val = 0 := Nat.lt_one_iff.mp (i 1).isLt
  match b with
  | ⟨0, _⟩ => show p + 1 * (i 0).val = p; omega
  | ⟨1, _⟩ => show c + 1 * (i 1).val = c; omega
  | ⟨2, _⟩ => show 0 + 1 * (i 2).val = (i 2).val; omega
  | ⟨3, _⟩ => show 0 + 1 * (i 3).val = (i 3).val; omega

/-- A load of a whole block of rank 2, 3 reads the block. -/
theorem load_whole2 {A B : Nat} {e : EltTy} (a : Memref sig .tc .vmem (⟨2, ![A, B]⟩ : Shape) e) (ha : a.IsWhole)
    (x : Vec Ideal (⟨2, ![A, B]⟩ : Shape) e) (inb : ∀ b, (![0, 0] : Fin 2 → Nat) b + (![A, B] : Fin 2 → Nat) b ≤ (![A, B] : Fin 2 → Nat) b) :
    View.readAt (Elt Ideal) a.view (Rect.unit (s := ⟨2, ![A, B]⟩) ![0, 0] ![A, B] inb).toLoadRect (ha.unread x) = x := by
  rw [View.readAt_eq_ld, ha.read_unread]; exact View.ld_unit_zero hz2 inb x

theorem load_whole3 {A B C : Nat} {e : EltTy} (a : Memref sig .tc .vmem (⟨3, ![A, B, C]⟩ : Shape) e) (ha : a.IsWhole)
    (x : Vec Ideal (⟨3, ![A, B, C]⟩ : Shape) e)
    (inb : ∀ b, (![0, 0, 0] : Fin 3 → Nat) b + (![A, B, C] : Fin 3 → Nat) b ≤ (![A, B, C] : Fin 3 → Nat) b) :
    View.readAt (Elt Ideal) a.view (Rect.unit (s := ⟨3, ![A, B, C]⟩) ![0, 0, 0] ![A, B, C] inb).toLoadRect (ha.unread x) = x := by
  rw [View.readAt_eq_ld, ha.read_unread]; exact View.ld_unit_zero hz3 inb x

/-- A load of some rows of the output weight. -/
theorem load_rows {n : Nat} (w : Vec Ideal S1024x1024 .bf16) (a : Memref sig .tc .vmem S1024x1024 .bf16) (ha : a.IsWhole) (o : Nat)
    (inb : ∀ b, (![o, 0] : Fin 2 → Nat) b + (![n, 1024] : Fin 2 → Nat) b ≤ S1024x1024.size b) (j : Fin n) (k : Fin 1024) :
    View.readAt (Elt Ideal) a.view (Rect.unit (s := S1024x1024) ![o, 0] ![n, 1024] inb).toLoadRect (ha.unread w) (ix2 j k)
      = w (ix2 ⟨o + j.val, by have h := inb 0; have : o + n ≤ 1024 := h; omega⟩ k) := by
  rw [View.readAt_eq_ld, ha.read_unread]
  show w _ = w _
  congr 1
  funext b; apply Fin.ext
  match b with
  | ⟨0, _⟩ => show o + 1 * j.val = o + j.val; omega
  | ⟨1, _⟩ => show 0 + 1 * k.val = k.val; omega

/-- The stores into the hidden scratch, last first. -/
def hidPieces (H : Fin 11 → FVec Ideal S256x256 .bf16) : List (View.Piece (Elt Ideal) S256x2816 .bf16) :=
  [⟨Rect.unit ![0, 2560] S256x256.size inb_S256x2816_S256x256_0_2560, H 10⟩,
    ⟨Rect.unit ![0, 2304] S256x256.size inb_S256x2816_S256x256_0_2304, H 9⟩,
    ⟨Rect.unit ![0, 2048] S256x256.size inb_S256x2816_S256x256_0_2048, H 8⟩,
    ⟨Rect.unit ![0, 1792] S256x256.size inb_S256x2816_S256x256_0_1792, H 7⟩,
    ⟨Rect.unit ![0, 1536] S256x256.size inb_S256x2816_S256x256_0_1536, H 6⟩,
    ⟨Rect.unit ![0, 1280] S256x256.size inb_S256x2816_S256x256_0_1280, H 5⟩,
    ⟨Rect.unit ![0, 1024] S256x256.size inb_S256x2816_S256x256_0_1024, H 4⟩,
    ⟨Rect.unit ![0, 768] S256x256.size inb_S256x2816_S256x256_0_768, H 3⟩,
    ⟨Rect.unit ![0, 512] S256x256.size inb_S256x2816_S256x256_0_512, H 2⟩,
    ⟨Rect.unit ![0, 256] S256x256.size inb_S256x2816_S256x256_0_256, H 1⟩,
    ⟨Rect.unit ![0, 0] S256x256.size inb_S256x2816_S256x256_0_0, H 0⟩]

theorem hid_piece (H : Fin 11 → FVec Ideal S256x256 .bf16) (c : Fin 11) (o : Nat) (ho : o = 256 * c.val)
    (inb : ∀ a, (![0, o] : Fin 2 → Nat) a + S256x256.size a ≤ S256x2816.size a) (x : S256x256.Idx) :
    H c x = (fun y : S256x2816.Idx => H ⟨(y 1).val / 256, by have : (y 1).val < 2816 := (y 1).isLt; omega⟩
      (ix2 (y 0) ⟨(y 1).val % 256, Nat.mod_lt _ (by decide)⟩)) ((Rect.unit (s := S256x2816) ![0, o] S256x256.size inb).emb x) := by
  obtain ⟨a, b, rfl⟩ : ∃ a b, x = ix2 a b := ⟨_, _, eq_ix2 x⟩
  have hb : b.val < 256 := b.isLt
  show H c (ix2 a b) = H ⟨(o + 1 * b.val) / 256, _⟩ (ix2 ⟨0 + 1 * a.val, _⟩ ⟨(o + 1 * b.val) % 256, _⟩)
  congr 1
  · congr 1; apply Fin.ext; show c.val = _; simp only; omega
  · congr 1 <;> (apply Fin.ext; simp only; omega)

theorem hid_canon (H : Fin 11 → FVec Ideal S256x256 .bf16) (r : Fin 256) (j : Fin 2816) :
    View.canon (hidPieces H) (ix2 r j) = H ⟨j.val / 256, by omega⟩ (ix2 r ⟨j.val % 256, Nat.mod_lt _ (by decide)⟩) := by
  refine View.canon_apply_of_pieces (fun y : S256x2816.Idx => H ⟨(y 1).val / 256, by have : (y 1).val < 2816 := (y 1).isLt; omega⟩
      (ix2 (y 0) ⟨(y 1).val % 256, Nat.mod_lt _ (by decide)⟩)) (hidPieces H) ?_ (ix2 r j)
    (View.cover_of_tiledL (hidPieces H) S256x256.size (by sl_kernel_rfl) _)
  intro q hq x
  simp only [hidPieces, List.mem_cons, List.not_mem_nil, or_false] at hq
  rcases hq with rfl | rfl | rfl | rfl | rfl | rfl | rfl | rfl | rfl | rfl | rfl
  · exact hid_piece H 10 2560 rfl inb_S256x2816_S256x256_0_2560 x
  · exact hid_piece H 9 2304 rfl inb_S256x2816_S256x256_0_2304 x
  · exact hid_piece H 8 2048 rfl inb_S256x2816_S256x256_0_2048 x
  · exact hid_piece H 7 1792 rfl inb_S256x2816_S256x256_0_1792 x
  · exact hid_piece H 6 1536 rfl inb_S256x2816_S256x256_0_1536 x
  · exact hid_piece H 5 1280 rfl inb_S256x2816_S256x256_0_1280 x
  · exact hid_piece H 4 1024 rfl inb_S256x2816_S256x256_0_1024 x
  · exact hid_piece H 3 768 rfl inb_S256x2816_S256x256_0_768 x
  · exact hid_piece H 2 512 rfl inb_S256x2816_S256x256_0_512 x
  · exact hid_piece H 1 256 rfl inb_S256x2816_S256x256_0_256 x
  · exact hid_piece H 0 0 rfl inb_S256x2816_S256x256_0_0 x

/-- The stores of the up rows, last first. -/
def upPieces (T : Fin 2 → Fin 11 → Vec Ideal S1x1x256x256 .f32) : List (View.Piece (Elt Ideal) S2x11x256x256 .f32) :=
  [⟨Rect.unit ![1, 10, 0, 0] S1x1x256x256.size inb_S2x11x256x256_S1x1x256x256_1_10_0_0, T 1 10⟩,
    ⟨Rect.unit ![0, 10, 0, 0] S1x1x256x256.size inb_S2x11x256x256_S1x1x256x256_0_10_0_0, T 0 10⟩,
    ⟨Rect.unit ![1, 9, 0, 0] S1x1x256x256.size inb_S2x11x256x256_S1x1x256x256_1_9_0_0, T 1 9⟩,
    ⟨Rect.unit ![0, 9, 0, 0] S1x1x256x256.size inb_S2x11x256x256_S1x1x256x256_0_9_0_0, T 0 9⟩,
    ⟨Rect.unit ![1, 8, 0, 0] S1x1x256x256.size inb_S2x11x256x256_S1x1x256x256_1_8_0_0, T 1 8⟩,
    ⟨Rect.unit ![0, 8, 0, 0] S1x1x256x256.size inb_S2x11x256x256_S1x1x256x256_0_8_0_0, T 0 8⟩,
    ⟨Rect.unit ![1, 7, 0, 0] S1x1x256x256.size inb_S2x11x256x256_S1x1x256x256_1_7_0_0, T 1 7⟩,
    ⟨Rect.unit ![0, 7, 0, 0] S1x1x256x256.size inb_S2x11x256x256_S1x1x256x256_0_7_0_0, T 0 7⟩,
    ⟨Rect.unit ![1, 6, 0, 0] S1x1x256x256.size inb_S2x11x256x256_S1x1x256x256_1_6_0_0, T 1 6⟩,
    ⟨Rect.unit ![0, 6, 0, 0] S1x1x256x256.size inb_S2x11x256x256_S1x1x256x256_0_6_0_0, T 0 6⟩,
    ⟨Rect.unit ![1, 5, 0, 0] S1x1x256x256.size inb_S2x11x256x256_S1x1x256x256_1_5_0_0, T 1 5⟩,
    ⟨Rect.unit ![0, 5, 0, 0] S1x1x256x256.size inb_S2x11x256x256_S1x1x256x256_0_5_0_0, T 0 5⟩,
    ⟨Rect.unit ![1, 4, 0, 0] S1x1x256x256.size inb_S2x11x256x256_S1x1x256x256_1_4_0_0, T 1 4⟩,
    ⟨Rect.unit ![0, 4, 0, 0] S1x1x256x256.size inb_S2x11x256x256_S1x1x256x256_0_4_0_0, T 0 4⟩,
    ⟨Rect.unit ![1, 3, 0, 0] S1x1x256x256.size inb_S2x11x256x256_S1x1x256x256_1_3_0_0, T 1 3⟩,
    ⟨Rect.unit ![0, 3, 0, 0] S1x1x256x256.size inb_S2x11x256x256_S1x1x256x256_0_3_0_0, T 0 3⟩,
    ⟨Rect.unit ![1, 2, 0, 0] S1x1x256x256.size inb_S2x11x256x256_S1x1x256x256_1_2_0_0, T 1 2⟩,
    ⟨Rect.unit ![0, 2, 0, 0] S1x1x256x256.size inb_S2x11x256x256_S1x1x256x256_0_2_0_0, T 0 2⟩,
    ⟨Rect.unit ![1, 1, 0, 0] S1x1x256x256.size inb_S2x11x256x256_S1x1x256x256_1_1_0_0, T 1 1⟩,
    ⟨Rect.unit ![0, 1, 0, 0] S1x1x256x256.size inb_S2x11x256x256_S1x1x256x256_0_1_0_0, T 0 1⟩,
    ⟨Rect.unit ![1, 0, 0, 0] S1x1x256x256.size inb_S2x11x256x256_S1x1x256x256_1_0_0_0, T 1 0⟩,
    ⟨Rect.unit ![0, 0, 0, 0] S1x1x256x256.size inb_S2x11x256x256_S1x1x256x256_0_0_0_0, T 0 0⟩]

theorem up_piece (T : Fin 2 → Fin 11 → Vec Ideal S1x1x256x256 .f32) (p : Fin 2) (c : Fin 11) (p' c' : Nat) (hp : p' = p.val) (hc : c' = c.val)
    (inb : ∀ a, (![p', c', 0, 0] : Fin 4 → Nat) a + S1x1x256x256.size a ≤ S2x11x256x256.size a) (x : S1x1x256x256.Idx) :
    T p c x = (fun y : S2x11x256x256.Idx => T (y 0) (y 1) (ix4 0 0 (y 2) (y 3))) ((Rect.unit (s := S2x11x256x256) ![p', c', 0, 0] S1x1x256x256.size inb).emb x) := by
  subst hp hc
  obtain ⟨a, b, i, l, rfl⟩ : ∃ a b i l, x = ix4 a b i l := ⟨_, _, _, _, eq_ix4 x⟩
  obtain rfl : a = 0 := Subsingleton.elim _ _
  obtain rfl : b = 0 := Subsingleton.elim _ _
  show T p c _ = T ⟨p.val + 1 * 0, _⟩ ⟨c.val + 1 * 0, _⟩ (ix4 0 0 ⟨0 + 1 * i.val, _⟩ ⟨0 + 1 * l.val, _⟩)
  congr 1
  congr 1 <;> (apply Fin.ext; simp only; omega)

theorem up_canon (T : Fin 2 → Fin 11 → Vec Ideal S1x1x256x256 .f32) (p : Fin 2) (c : Fin 11) (i : Fin 256) (l : Fin 256) :
    View.canon (upPieces T) (ix4 p c i l) = T p c (ix4 0 0 i l) := by
  refine View.canon_apply_of_pieces (fun y : S2x11x256x256.Idx => T (y 0) (y 1) (ix4 0 0 (y 2) (y 3))) (upPieces T) ?_ (ix4 p c i l)
    (View.cover_of_tiledL (upPieces T) S1x1x256x256.size (by sl_kernel_rfl) _)
  intro q hq x
  simp only [upPieces, List.mem_cons, List.not_mem_nil, or_false] at hq
  rcases hq with rfl | rfl | rfl | rfl | rfl | rfl | rfl | rfl | rfl | rfl | rfl | rfl | rfl | rfl | rfl | rfl | rfl | rfl | rfl | rfl | rfl | rfl
  · exact up_piece T 1 10 1 10 rfl rfl inb_S2x11x256x256_S1x1x256x256_1_10_0_0 x
  · exact up_piece T 0 10 0 10 rfl rfl inb_S2x11x256x256_S1x1x256x256_0_10_0_0 x
  · exact up_piece T 1 9 1 9 rfl rfl inb_S2x11x256x256_S1x1x256x256_1_9_0_0 x
  · exact up_piece T 0 9 0 9 rfl rfl inb_S2x11x256x256_S1x1x256x256_0_9_0_0 x
  · exact up_piece T 1 8 1 8 rfl rfl inb_S2x11x256x256_S1x1x256x256_1_8_0_0 x
  · exact up_piece T 0 8 0 8 rfl rfl inb_S2x11x256x256_S1x1x256x256_0_8_0_0 x
  · exact up_piece T 1 7 1 7 rfl rfl inb_S2x11x256x256_S1x1x256x256_1_7_0_0 x
  · exact up_piece T 0 7 0 7 rfl rfl inb_S2x11x256x256_S1x1x256x256_0_7_0_0 x
  · exact up_piece T 1 6 1 6 rfl rfl inb_S2x11x256x256_S1x1x256x256_1_6_0_0 x
  · exact up_piece T 0 6 0 6 rfl rfl inb_S2x11x256x256_S1x1x256x256_0_6_0_0 x
  · exact up_piece T 1 5 1 5 rfl rfl inb_S2x11x256x256_S1x1x256x256_1_5_0_0 x
  · exact up_piece T 0 5 0 5 rfl rfl inb_S2x11x256x256_S1x1x256x256_0_5_0_0 x
  · exact up_piece T 1 4 1 4 rfl rfl inb_S2x11x256x256_S1x1x256x256_1_4_0_0 x
  · exact up_piece T 0 4 0 4 rfl rfl inb_S2x11x256x256_S1x1x256x256_0_4_0_0 x
  · exact up_piece T 1 3 1 3 rfl rfl inb_S2x11x256x256_S1x1x256x256_1_3_0_0 x
  · exact up_piece T 0 3 0 3 rfl rfl inb_S2x11x256x256_S1x1x256x256_0_3_0_0 x
  · exact up_piece T 1 2 1 2 rfl rfl inb_S2x11x256x256_S1x1x256x256_1_2_0_0 x
  · exact up_piece T 0 2 0 2 rfl rfl inb_S2x11x256x256_S1x1x256x256_0_2_0_0 x
  · exact up_piece T 1 1 1 1 rfl rfl inb_S2x11x256x256_S1x1x256x256_1_1_0_0 x
  · exact up_piece T 0 1 0 1 rfl rfl inb_S2x11x256x256_S1x1x256x256_0_1_0_0 x
  · exact up_piece T 1 0 1 0 rfl rfl inb_S2x11x256x256_S1x1x256x256_1_0_0_0 x
  · exact up_piece T 0 0 0 0 rfl rfl inb_S2x11x256x256_S1x1x256x256_0_0_0_0 x

end Cert.OutSlabIdeal.Block

end
-- ==== Proof.OutSlab.Body.lean ====
/- What the sample group's output kernel leaves, as arrays: the mixed rows (`mixed`), their normalised form (`normed`), the
   hidden chunks (`hidden`), the rows after the down weight (`outRows`). `P1` and `P2` are the stored rows one and two above. -/
module

public import proofs.«01_k».proof.Proof.OutSlab.Tile

@[expose] public section

set_option maxRecDepth 16384

noncomputable section

namespace Cert.OutSlabIdeal.Block

open Cert.OutSlabIdeal Cert.OutSlabIdeal.Gen Idealize.ShloMosaic Idealize.ShloMosaic.TcCoe Idealize.SL.Sem
open Cert.OutSeqIdeal.Block (rmsRow dotRow mix wide tap gated slice hz2)

variable (x0 : Vec Ideal S1x256x512 .f32) (x1 x2 : Vec Ideal S1x256x256 .f32) (x3 : Vec Ideal S1x256x1024 .f32)
  (x6 : Vec Ideal S1x512 .f32) (x7 x8 : Vec Ideal S1x256 .f32) (x9 : Vec Ideal S1024x1024 .bf16)

/-- The mixed rows. -/
def mixed : FVec Ideal S256x1024 .f32 := fun y =>
  mix (fun j => x0 (ix3 0 (y 0) j)) (fun j => x1 (ix3 0 (y 0) j)) (fun j => x2 (ix3 0 (y 0) j)) (x3 (ix3 0 (y 0) (y 1)))
    (fun j => x6 (ix2 0 j)) (fun j => x7 (ix2 0 j)) (fun j => x8 (ix2 0 j)) (fun j => x9 (ix2 ⟨j.val, by omega⟩ (y 1)))
    (fun j => x9 (ix2 ⟨512 + j.val, by omega⟩ (y 1))) (fun j => x9 (ix2 ⟨768 + j.val, by omega⟩ (y 1)))

/-- Rows normalised. -/
def normed (X : FVec Ideal S256x1024 .f32) (g : Vec Ideal S1x1024 .f32) : FVec Ideal S256x1024 .bf16 := fun y =>
  wide (fun j => X (ix2 (y 0) j)) (fun j => g (ix2 0 j)) (y 1)

/-- The hidden chunks. -/
def hidden (hn : FVec Ideal S256x1024 .bf16) (x11 : Vec Ideal S2x11x1024x256 .bf16) (P1 P2 : Vec Ideal S2x11x256x256 .f32)
    (x12 : Vec Ideal S2x11x3x256 .f32) (x13 : Vec Ideal S2x11x1x256 .f32) (k : Fin 11) : FVec Ideal S256x256 .bf16 :=
  chunk hn (slice x11 0 k) (slice x11 1 k) (slice P1 0 k) (slice P1 1 k) (slice P2 0 k) (slice P2 1 k) (slice x12 0 k) (slice x12 1 k)
    (slice x13 0 k) (slice x13 1 k)

/-- The rows after the down weight. -/
def outRows (X : FVec Ideal S256x1024 .f32) (H : Fin 11 → FVec Ideal S256x256 .bf16) (x14 : Vec Ideal S2816x1024 .bf16) :
    FVec Ideal S256x1024 .f32 := fun y =>
  X y + dotRow (fun j : Fin 2816 => H ⟨j.val / 256, by omega⟩ (ix2 (y 0) ⟨j.val % 256, Nat.mod_lt _ (by decide)⟩)) (fun j => x14 (ix2 j (y 1)))

/-- A load of the whole hidden scratch after its eleven stores, into the down product. -/
theorem outRows_apply (X : FVec Ideal S256x1024 .f32) (H : Fin 11 → FVec Ideal S256x256 .bf16) (x14 : Vec Ideal S2816x1024 .bf16)
    (a : Memref sig .tc .vmem S256x2816 .bf16) (inb : ∀ b, (![0, 0] : Fin 2 → Nat) b + S256x2816.size b ≤ S256x2816.size b) :
    k0_pay128 (F := Ideal) X (a.view.readCov (hidPieces H) (Rect.unit (s := S256x2816) ![0, 0] S256x2816.size inb).toLoadRect) x14 = outRows X H x14 := by
  rw [View.readCov_eq_canon']
  have e : (fun j => View.canon (hidPieces H) ((Rect.unit (s := S256x2816) ![0, 0] S256x2816.size inb).toLoadRect.idx j)) = View.canon (hidPieces H) :=
    View.ld_unit_zero hz2 inb _
  rw [show (fun j => View.canon (hidPieces H) ((Rect.unit (s := S256x2816) ![0, 0] S256x2816.size inb).toLoadRect.idx j)) = View.canon (hidPieces H) from e]
  funext y
  obtain ⟨r, k, rfl⟩ : ∃ r k, y = ix2 r k := ⟨_, _, eq_ix2 y⟩
  unfold outRows dotRow
  have h := hid_canon H r
  simp only [ix2_0, ix2_1, ← h]
  generalize View.canon (hidPieces H) = P
  pointwise [k0_pay128]

/-- The two stores of the rows. -/
theorem store_rows (X : FVec Ideal S256x1024 .f32) (r : Fin 256) (k : Fin 1024) : k0_pay1 (F := Ideal) X (ix3 0 r k) = X (ix2 r k) := by
  pointwise [k0_pay1]

theorem store_wide (X : FVec Ideal S256x1024 .f32) (g : Vec Ideal S1x1024 .f32) (r : Fin 256) (k : Fin 1024) :
    k0_pay2 (F := Ideal) X g (ix3 0 r k) = wide (fun j => X (ix2 r j)) (fun j => g (ix2 0 j)) k := by
  unfold wide rmsRow
  pointwise [k0_pay2]

/-- The stores of the up rows; the first writes them from the normalised rows' parts. -/
theorem store_up (hn : FVec Ideal S256x1024 .bf16) (w : Vec Ideal S1x1x1024x256 .bf16) (i : Fin 256) (l : Fin 256) :
    k0_pay25 (F := Ideal) hn w (ix4 0 0 i l) = upAt hn w i l := by
  unfold k0_pay25
  rw [← up_apply]
  generalize k0_pay24 (F := Ideal) hn w = P
  pointwise

theorem up0 (hn : FVec Ideal S256x1024 .bf16) (w : Vec Ideal S1x1x1024x256 .bf16) (r4 : FVec Ideal S256x1024 .f32)
    (r5 : FVec Ideal S1x1024 .f32) (r6 : FVec Ideal S256x1 .f32) (hr : k0_pay10 r4 r5 r6 = hn) :
    k0_pay12 (F := Ideal) r4 r5 r6 w = k0_pay25 hn w := by
  subst hr; rfl

end Cert.OutSlabIdeal.Block

end
-- ==== Proof.OutSlab.Case.lean ====
/- What the sample group's output kernel's one grid point leaves in its three output blocks. -/
module

public import proofs.«01_k».proof.Proof.OutSlab.Body
public import proofs.«01_k».proof.Proof.Gen.OutSlabIdeal.Value

@[expose] public section

set_option maxRecDepth 16384

noncomputable section

namespace Cert.OutSlabIdeal.Block

open Cert.OutSlabIdeal Cert.OutSlabIdeal.Gen Cert.OutSlabIdeal.Value Idealize.ShloMosaic Idealize.ShloMosaic.TcCoe Idealize.SL.Sem
open Cert.OutSeqIdeal.Block (rmsRow dotRow mix wide tap gated slice hz3)

variable (c : Dev nD) (arg0 : Memref sig .tc .vmem S1x256x512 .f32) (harg0 : arg0.IsWhole) (arg1 : Memref sig .tc .vmem S1x256x256 .f32) (harg1 : arg1.IsWhole) (arg2 : Memref sig .tc .vmem S1x256x256 .f32) (harg2 : arg2.IsWhole) (arg3 : Memref sig .tc .vmem S1x256x1024 .f32) (harg3 : arg3.IsWhole) (arg4 : Memref sig .tc .vmem S2x11x256x256 .f32) (harg4 : arg4.IsWhole) (arg5 : Memref sig .tc .vmem S2x11x256x256 .f32) (harg5 : arg5.IsWhole) (arg6 : Memref sig .tc .vmem S1x512 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S2x11x1024x256 .bf16) (harg11 : arg11.IsWhole) (arg12 : Memref sig .tc .vmem S2x11x3x256 .f32) (harg12 : arg12.IsWhole) (arg13 : Memref sig .tc .vmem S2x11x1x256 .f32) (harg13 : arg13.IsWhole) (arg14 : Memref sig .tc .vmem S2816x1024 .bf16) (harg14 : arg14.IsWhole) (arg15 : Memref sig .tc .vmem S1x1024 .f32) (harg15 : arg15.IsWhole) (arg16 : Memref sig .tc .vmem S1x256x1024 .f32) (harg16 : arg16.IsWhole) (arg17 : Memref sig .tc .vmem S1x256x1024 .f32) (harg17 : arg17.IsWhole) (arg18 : Memref sig .tc .vmem S2x11x256x256 .f32) (harg18 : arg18.IsWhole) (arg19 : Memref sig .tc .vmem S256x2816 .bf16) (harg19 : arg19.IsWhole)
  (x0 : Vec Ideal S1x256x512 .f32) (x1 : Vec Ideal S1x256x256 .f32) (x2 : Vec Ideal S1x256x256 .f32) (x3 : Vec Ideal S1x256x1024 .f32) (x4 : Vec Ideal S2x11x256x256 .f32) (x5 : Vec Ideal S2x11x256x256 .f32) (x6 : Vec Ideal S1x512 .f32) (x7 : Vec Ideal S1x256 .f32) (x8 : Vec Ideal S1x256 .f32) (x9 : Vec Ideal S1024x1024 .bf16) (x10 : Vec Ideal S1x1024 .f32) (x11 : Vec Ideal S2x11x1024x256 .bf16) (x12 : Vec Ideal S2x11x3x256 .f32) (x13 : Vec Ideal S2x11x1x256 .f32) (x14 : Vec Ideal S2816x1024 .bf16) (x15 : Vec Ideal S1x1024 .f32)

theorem mixed_A : kernelRun0_A.sl.r_3 (F := Ideal) c arg0 harg0 arg1 harg1 arg2 harg2 arg3 harg3 arg6 harg6 arg7 harg7 arg8 harg8 arg9 harg9 x0 x1 x2 x3 x6 x7 x8 x9
    = mixed x0 x1 x2 x3 x6 x7 x8 x9 := by
  unfold kernelRun0_A.sl.r_3
  simp only [kernelRun0_A.sl.r, kernelRun0_A.sl.r_1, kernelRun0_A.sl.r_2, load_whole2, load_whole3]
  funext y
  obtain ⟨r, j, rfl⟩ : ∃ r j, y = ix2 r j := ⟨_, _, eq_ix2 y⟩
  rw [mix_apply]
  unfold mixed
  simp only [load_rows, ix2_0, ix2_1, Nat.zero_add]

theorem normed_A : kernelRun0_A.sl.r_6 (F := Ideal) c arg0 harg0 arg1 harg1 arg2 harg2 arg3 harg3 arg6 harg6 arg7 harg7 arg8 harg8 arg9 harg9 arg10 harg10 x0 x1 x2 x3 x6 x7 x8 x9 x10
    = normed (mixed x0 x1 x2 x3 x6 x7 x8 x9) x10 := by
  unfold kernelRun0_A.sl.r_6 kernelRun0_A.sl.r_5 kernelRun0_A.sl.r_4
  rw [mixed_A]
  have h := mixed_A c arg0 harg0 arg1 harg1 arg2 harg2 arg3 harg3 arg6 harg6 arg7 harg7 arg8 harg8 arg9 harg9 x0 x1 x2 x3 x6 x7 x8 x9
  unfold kernelRun0_A.sl.r_3 at h
  funext y
  obtain ⟨r, j, rfl⟩ : ∃ r j, y = ix2 r j := ⟨_, _, eq_ix2 y⟩
  rw [wide_apply _ _ _ _ _ _ _ _ _ h]
  simp only [load_whole2]
  rfl

theorem hidden_A : kernelRun0_A.sl.HS0_11 (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12 x13
    = hidPieces (hidden (normed (mixed x0 x1 x2 x3 x6 x7 x8 x9) x10) x11 x4 x5 x12 x13) := by
  have hn : k0_pay10 (F := Ideal) (kernelRun0_A.sl.r_3 (F := Ideal) c arg0 harg0 arg1 harg1 arg2 harg2 arg3 harg3 arg6 harg6 arg7 harg7 arg8 harg8 arg9 harg9 x0 x1 x2 x3 x6 x7 x8 x9) (kernelRun0_A.sl.r_4 (F := Ideal) c arg10 harg10 x10) (kernelRun0_A.sl.r_5 (F := Ideal) c arg0 harg0 arg1 harg1 arg2 harg2 arg3 harg3 arg6 harg6 arg7 harg7 arg8 harg8 arg9 harg9 x0 x1 x2 x3 x6 x7 x8 x9)
      = (normed (mixed x0 x1 x2 x3 x6 x7 x8 x9) x10) := normed_A c arg0 harg0 arg1 harg1 arg2 harg2 arg3 harg3 arg6 harg6 arg7 harg7 arg8 harg8 arg9 harg9 arg10 harg10 x0 x1 x2 x3 x6 x7 x8 x9 x10
  unfold kernelRun0_A.sl.HS0_11
  simp only [kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, normed_A, chunk0 _ _ _ _ _ _ _ _ _ _ _ _ _ _ hn, chunk1, chunk2, chunk3, chunk4, chunk5, chunk6, chunk7, chunk8, chunk9, chunk10, load_slice]
  rfl

theorem rows_A : kernelRun0_A.sl.r_86 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg19 x0 x1 x2 x3 x4 x5 x6 x7 x8 x9 x10 x11 x12 x13 x14
    = outRows (mixed x0 x1 x2 x3 x6 x7 x8 x9) (hidden (normed (mixed x0 x1 x2 x3 x6 x7 x8 x9) x10) x11 x4 x5 x12 x13) x14 := by
  unfold kernelRun0_A.sl.r_86 kernelRun0_A.sl.v930
  rw [mixed_A, hidden_A]
  simp only [load_whole2]
  exact outRows_apply _ _ _ _ _

/-- The first output: the rows after the down weight. -/
theorem out16_A (r : Fin 256) (j : Fin 1024) : out0_A_16 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 (ix3 0 r j)
    = outRows (mixed x0 x1 x2 x3 x6 x7 x8 x9) (hidden (normed (mixed x0 x1 x2 x3 x6 x7 x8 x9) x10) x11 x4 x5 x12 x13) x14 (ix2 r j) := by
  unfold out0_A_16
  rw [View.read_writes_junk_eq_canon]
  unfold kernelRun0_A
  dsimp only
  rw [View.canon_unit_zero hz3, rows_A]
  exact store_rows _ r j

/-- The second output: those rows normalised. -/
theorem out17_A (r : Fin 256) (j : Fin 1024) : out0_A_17 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 (ix3 0 r j)
    = wide (fun q => outRows (mixed x0 x1 x2 x3 x6 x7 x8 x9) (hidden (normed (mixed x0 x1 x2 x3 x6 x7 x8 x9) x10) x11 x4 x5 x12 x13) x14 (ix2 r q)) (fun q => x15 (ix2 0 q)) j := by
  unfold out0_A_17
  rw [View.read_writes_junk_eq_canon]
  unfold kernelRun0_A
  dsimp only
  rw [View.canon_unit_zero hz3, rows_A]
  simp only [load_whole2]
  exact store_wide _ _ r j

/-- The third output: the up rows. -/
theorem out18_A (p : Fin 2) (q : Fin 11) (r : Fin 256) (l : Fin 256) : out0_A_18 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 (ix4 p q r l)
    = upAt (normed (mixed x0 x1 x2 x3 x6 x7 x8 x9) x10) (slice x11 p q) r l := by
  have hn : k0_pay10 (F := Ideal) (kernelRun0_A.sl.r_3 (F := Ideal) c arg0 harg0 arg1 harg1 arg2 harg2 arg3 harg3 arg6 harg6 arg7 harg7 arg8 harg8 arg9 harg9 x0 x1 x2 x3 x6 x7 x8 x9) (kernelRun0_A.sl.r_4 (F := Ideal) c arg10 harg10 x10) (kernelRun0_A.sl.r_5 (F := Ideal) c arg0 harg0 arg1 harg1 arg2 harg2 arg3 harg3 arg6 harg6 arg7 harg7 arg8 harg8 arg9 harg9 x0 x1 x2 x3 x6 x7 x8 x9)
      = (normed (mixed x0 x1 x2 x3 x6 x7 x8 x9) x10) := normed_A c arg0 harg0 arg1 harg1 arg2 harg2 arg3 harg3 arg6 harg6 arg7 harg7 arg8 harg8 arg9 harg9 arg10 harg10 x0 x1 x2 x3 x6 x7 x8 x9 x10
  unfold out0_A_18
  rw [View.read_writes_junk_eq_canon]
  unfold kernelRun0_A
  dsimp only
  refine (congrFun (congrArg View.canon (?e : _ = upPieces (fun p q => k0_pay25 (normed (mixed x0 x1 x2 x3 x6 x7 x8 x9) x10) (slice x11 p q)))) _).trans ((up_canon _ p q r l).trans (store_up _ _ r l))
  simp only [kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, normed_A, up0 _ _ _ _ _ hn, load_slice]
  rfl

end Cert.OutSlabIdeal.Block

end
-- ==== Proof.OutSlab.Spec.lean ====
/- What the sample group's output call computes, row by row: the mixed rows, their up product, the three-row convolution over
   each stream of eight rows (above a stream's first row come its two stored rows), the gated down product and the final norm. -/
module

public import proofs.«01_k».proof.Proof.OutSlab.Block
public import proofs.«01_k».proof.Proof.OutSeq.Spec

@[expose] public section

set_option maxRecDepth 16384

noncomputable section

namespace Cert.OutSlabSpec

open Cert.OutSlabIdeal Cert.OutSlabIdeal.Gen Idealize.ShloMosaic Idealize.ShloMosaic.TcCoe Idealize.SL.Sem
open Cert.OutSeqIdeal.Block (rmsRow dotRow mix wide tap gated)

/-- An array of rows: a number for each row and column. Row `r` is token `r % 8` of stream `r / 8`. -/
abbrev Rows (n : Nat) : Type := Fin 256 → Fin n → EReal

/-- The mixed rows. -/
def mixRows (x0 : Vec Ideal S1x256x512 .f32) (x1 x2 : Vec Ideal S1x256x256 .f32) (x3 : Vec Ideal S1x256x1024 .f32)
    (x5 : Vec Ideal S512 .f32) (x6 x7 : Vec Ideal S256 .f32) (x8 : Vec Ideal S1024x1024 .f32) : Rows 1024 := fun r k =>
  mix (fun j => x0 (ix3 0 r j)) (fun j => x1 (ix3 0 r j)) (fun j => x2 (ix3 0 r j)) (x3 (ix3 0 r k))
    (fun j => x5 (ix1 j)) (fun j => x6 (ix1 j)) (fun j => x7 (ix1 j)) (fun j => x8 (ix2 ⟨j.val, by omega⟩ k))
    (fun j => x8 (ix2 ⟨512 + j.val, by omega⟩ k)) (fun j => x8 (ix2 ⟨768 + j.val, by omega⟩ k))

/-- The mixed rows normalised, times the up weight. -/
def upRows (X : Rows 1024) (x9 : Vec Ideal S1024 .f32) (x10 : Vec Ideal S1024x5632 .f32) : Rows 5632 := fun r q =>
  dotRow (wide (X r) (fun j => x9 (ix1 j))) (fun k => x10 (ix2 k q))

/-- The row `d` above row `r` in its stream: above the first come the two stored rows `x4`. -/
def above (U : Rows 5632) (x4 : Vec Ideal S32x2x5632 .f32) (d : Nat) : Rows 5632 := fun r q =>
  if h : d ≤ r.val % 8 then U ⟨r.val - d, by omega⟩ q else x4 (ix3 ⟨r.val / 8, by omega⟩ ⟨2 + r.val % 8 - d, by omega⟩ q)

/-- The convolution over a row and the two above it. -/
def convRows (U : Rows 5632) (x4 : Vec Ideal S32x2x5632 .f32) (x11 : Vec Ideal S3x5632 .f32) (x12 : Vec Ideal S5632 .f32) : Rows 5632 := fun r q =>
  tap (x12 (ix1 q)) (x11 (ix2 0 q)) (x11 (ix2 1 q)) (x11 (ix2 2 q)) (U r q) (above U x4 1 r q) (above U x4 2 r q)

/-- The mixed rows plus the gated halves times the down weight. -/
def finalRows (X : Rows 1024) (C : Rows 5632) (x13 : Vec Ideal S2816x1024 .f32) : Rows 1024 := fun r k =>
  X r k + dotRow (fun j : Fin 2816 => gated (C r ⟨2816 + j.val, by omega⟩) (C r ⟨j.val, by omega⟩)) (fun j => x13 (ix2 j k))

/-- Those rows normalised. -/
def normRows (O : Rows 1024) (x14 : Vec Ideal S1024 .f32) : Rows 1024 := fun r => wide (O r) (fun j => x14 (ix1 j))

end Cert.OutSlabSpec

end
-- ==== Proof.OutSlab.Windows.lean ====
/- What each window of the sample group's output call holds at its one grid point, in terms of the call's arguments: every block
   is a whole array, reshaped on the host. The two blocks of stored rows hold, at a stream's first token or two, the stored row
   one or two above. -/
module

public import proofs.«01_k».proof.Proof.OutSlab.Spec
public import proofs.«01_k».proof.Proof.Gen.OutSlabIdeal.Value
public import Idealize.ShloMosaic.Lib.Pipeline.ValueKit

@[expose] public section

set_option maxRecDepth 16384

noncomputable section

namespace Cert.OutSlabIdeal.Block

open Cert.OutSlabIdeal Cert.OutSlabIdeal.Gen Cert.OutSlabIdeal.Value Idealize.ShloMosaic Idealize.ShloMosaic.TcCoe Idealize.SL.Sem
open Cert.OutSlabSpec
open Cert.OutSeqSpec (col)

variable (m : (ℓ : Loc nD τ sig) → Buf (Elt Ideal) ℓ) (c : Dev nD)

theorem at0 : ∀ t : Fin cfg0.N, win0_0.index t (0 : Fin 3) = 0 ∧ win0_0.index t (1 : Fin 3) = 0 ∧ win0_0.index t (2 : Fin 3) = 0 := (by decide +kernel : ∀ t : Fin grid0.N, _)
theorem emb0 (t : Fin cfg0.N) (i0 : Fin 1) (i1 : Fin 256) (i2 : Fin 512) : ((cfg0.win 0).blk t).view.emb (ix3 i0 i1 i2) = ix3 i0 i1 i2 := by
  obtain ⟨a0, a1, a2⟩ := at0 t
  funext i; apply Fin.ext
  match i with
  | ⟨0, _⟩ => show win0_0.index t (0 : Fin 3) * 1 + 1 * i0.val = i0.val; omega
  | ⟨1, _⟩ => show win0_0.index t (1 : Fin 3) * 256 + 1 * i1.val = i1.val; omega
  | ⟨2, _⟩ => show win0_0.index t (2 : Fin 3) * 512 + 1 * i2.val = i2.val; omega

theorem at1 : ∀ t : Fin cfg0.N, win0_1.index t (0 : Fin 3) = 0 ∧ win0_1.index t (1 : Fin 3) = 0 ∧ win0_1.index t (2 : Fin 3) = 0 := (by decide +kernel : ∀ t : Fin grid0.N, _)
theorem emb1 (t : Fin cfg0.N) (i0 : Fin 1) (i1 : Fin 256) (i2 : Fin 256) : ((cfg0.win 1).blk t).view.emb (ix3 i0 i1 i2) = ix3 i0 i1 i2 := by
  obtain ⟨a0, a1, a2⟩ := at1 t
  funext i; apply Fin.ext
  match i with
  | ⟨0, _⟩ => show win0_1.index t (0 : Fin 3) * 1 + 1 * i0.val = i0.val; omega
  | ⟨1, _⟩ => show win0_1.index t (1 : Fin 3) * 256 + 1 * i1.val = i1.val; omega
  | ⟨2, _⟩ => show win0_1.index t (2 : Fin 3) * 256 + 1 * i2.val = i2.val; omega

theorem at2 : ∀ t : Fin cfg0.N, win0_2.index t (0 : Fin 3) = 0 ∧ win0_2.index t (1 : Fin 3) = 0 ∧ win0_2.index t (2 : Fin 3) = 0 := (by decide +kernel : ∀ t : Fin grid0.N, _)
theorem emb2 (t : Fin cfg0.N) (i0 : Fin 1) (i1 : Fin 256) (i2 : Fin 256) : ((cfg0.win 2).blk t).view.emb (ix3 i0 i1 i2) = ix3 i0 i1 i2 := by
  obtain ⟨a0, a1, a2⟩ := at2 t
  funext i; apply Fin.ext
  match i with
  | ⟨0, _⟩ => show win0_2.index t (0 : Fin 3) * 1 + 1 * i0.val = i0.val; omega
  | ⟨1, _⟩ => show win0_2.index t (1 : Fin 3) * 256 + 1 * i1.val = i1.val; omega
  | ⟨2, _⟩ => show win0_2.index t (2 : Fin 3) * 256 + 1 * i2.val = i2.val; omega

theorem at3 : ∀ t : Fin cfg0.N, win0_3.index t (0 : Fin 3) = 0 ∧ win0_3.index t (1 : Fin 3) = 0 ∧ win0_3.index t (2 : Fin 3) = 0 := (by decide +kernel : ∀ t : Fin grid0.N, _)
theorem emb3 (t : Fin cfg0.N) (i0 : Fin 1) (i1 : Fin 256) (i2 : Fin 1024) : ((cfg0.win 3).blk t).view.emb (ix3 i0 i1 i2) = ix3 i0 i1 i2 := by
  obtain ⟨a0, a1, a2⟩ := at3 t
  funext i; apply Fin.ext
  match i with
  | ⟨0, _⟩ => show win0_3.index t (0 : Fin 3) * 1 + 1 * i0.val = i0.val; omega
  | ⟨1, _⟩ => show win0_3.index t (1 : Fin 3) * 256 + 1 * i1.val = i1.val; omega
  | ⟨2, _⟩ => show win0_3.index t (2 : Fin 3) * 1024 + 1 * i2.val = i2.val; omega

theorem at4 : ∀ t : Fin cfg0.N, win0_4.index t (0 : Fin 4) = 0 ∧ win0_4.index t (1 : Fin 4) = 0 ∧ win0_4.index t (2 : Fin 4) = 0 ∧ win0_4.index t (3 : Fin 4) = 0 := (by decide +kernel : ∀ t : Fin grid0.N, _)
theorem emb4 (t : Fin cfg0.N) (i0 : Fin 2) (i1 : Fin 11) (i2 : Fin 256) (i3 : Fin 256) : ((cfg0.win 4).blk t).view.emb (ix4 i0 i1 i2 i3) = ix4 i0 i1 i2 i3 := by
  obtain ⟨a0, a1, a2, a3⟩ := at4 t
  funext i; apply Fin.ext
  match i with
  | ⟨0, _⟩ => show win0_4.index t (0 : Fin 4) * 2 + 1 * i0.val = i0.val; omega
  | ⟨1, _⟩ => show win0_4.index t (1 : Fin 4) * 11 + 1 * i1.val = i1.val; omega
  | ⟨2, _⟩ => show win0_4.index t (2 : Fin 4) * 256 + 1 * i2.val = i2.val; omega
  | ⟨3, _⟩ => show win0_4.index t (3 : Fin 4) * 256 + 1 * i3.val = i3.val; omega

theorem at5 : ∀ t : Fin cfg0.N, win0_5.index t (0 : Fin 4) = 0 ∧ win0_5.index t (1 : Fin 4) = 0 ∧ win0_5.index t (2 : Fin 4) = 0 ∧ win0_5.index t (3 : Fin 4) = 0 := (by decide +kernel : ∀ t : Fin grid0.N, _)
theorem emb5 (t : Fin cfg0.N) (i0 : Fin 2) (i1 : Fin 11) (i2 : Fin 256) (i3 : Fin 256) : ((cfg0.win 5).blk t).view.emb (ix4 i0 i1 i2 i3) = ix4 i0 i1 i2 i3 := by
  obtain ⟨a0, a1, a2, a3⟩ := at5 t
  funext i; apply Fin.ext
  match i with
  | ⟨0, _⟩ => show win0_5.index t (0 : Fin 4) * 2 + 1 * i0.val = i0.val; omega
  | ⟨1, _⟩ => show win0_5.index t (1 : Fin 4) * 11 + 1 * i1.val = i1.val; omega
  | ⟨2, _⟩ => show win0_5.index t (2 : Fin 4) * 256 + 1 * i2.val = i2.val; omega
  | ⟨3, _⟩ => show win0_5.index t (3 : Fin 4) * 256 + 1 * i3.val = i3.val; omega

theorem at6 : ∀ t : Fin cfg0.N, win0_6.index t (0 : Fin 2) = 0 ∧ win0_6.index t (1 : Fin 2) = 0 := (by decide +kernel : ∀ t : Fin grid0.N, _)
theorem emb6 (t : Fin cfg0.N) (i0 : Fin 1) (i1 : Fin 512) : ((cfg0.win 6).blk t).view.emb (ix2 i0 i1) = ix2 i0 i1 := by
  obtain ⟨a0, a1⟩ := at6 t
  funext i; apply Fin.ext
  match i with
  | ⟨0, _⟩ => show win0_6.index t (0 : Fin 2) * 1 + 1 * i0.val = i0.val; omega
  | ⟨1, _⟩ => show win0_6.index t (1 : Fin 2) * 512 + 1 * i1.val = i1.val; omega

theorem at7 : ∀ t : Fin cfg0.N, win0_7.index t (0 : Fin 2) = 0 ∧ win0_7.index t (1 : Fin 2) = 0 := (by decide +kernel : ∀ t : Fin grid0.N, _)
theorem emb7 (t : Fin cfg0.N) (i0 : Fin 1) (i1 : Fin 256) : ((cfg0.win 7).blk t).view.emb (ix2 i0 i1) = ix2 i0 i1 := by
  obtain ⟨a0, a1⟩ := at7 t
  funext i; apply Fin.ext
  match i with
  | ⟨0, _⟩ => show win0_7.index t (0 : Fin 2) * 1 + 1 * i0.val = i0.val; omega
  | ⟨1, _⟩ => show win0_7.index t (1 : Fin 2) * 256 + 1 * i1.val = i1.val; omega

theorem at8 : ∀ t : Fin cfg0.N, win0_8.index t (0 : Fin 2) = 0 ∧ win0_8.index t (1 : Fin 2) = 0 := (by decide +kernel : ∀ t : Fin grid0.N, _)
theorem emb8 (t : Fin cfg0.N) (i0 : Fin 1) (i1 : Fin 256) : ((cfg0.win 8).blk t).view.emb (ix2 i0 i1) = ix2 i0 i1 := by
  obtain ⟨a0, a1⟩ := at8 t
  funext i; apply Fin.ext
  match i with
  | ⟨0, _⟩ => show win0_8.index t (0 : Fin 2) * 1 + 1 * i0.val = i0.val; omega
  | ⟨1, _⟩ => show win0_8.index t (1 : Fin 2) * 256 + 1 * i1.val = i1.val; omega

theorem at9 : ∀ t : Fin cfg0.N, win0_9.index t (0 : Fin 2) = 0 ∧ win0_9.index t (1 : Fin 2) = 0 := (by decide +kernel : ∀ t : Fin grid0.N, _)
theorem emb9 (t : Fin cfg0.N) (i0 : Fin 1024) (i1 : Fin 1024) : ((cfg0.win 9).blk t).view.emb (ix2 i0 i1) = ix2 i0 i1 := by
  obtain ⟨a0, a1⟩ := at9 t
  funext i; apply Fin.ext
  match i with
  | ⟨0, _⟩ => show win0_9.index t (0 : Fin 2) * 1024 + 1 * i0.val = i0.val; omega
  | ⟨1, _⟩ => show win0_9.index t (1 : Fin 2) * 1024 + 1 * i1.val = i1.val; omega

theorem at10 : ∀ t : Fin cfg0.N, win0_10.index t (0 : Fin 2) = 0 ∧ win0_10.index t (1 : Fin 2) = 0 := (by decide +kernel : ∀ t : Fin grid0.N, _)
theorem emb10 (t : Fin cfg0.N) (i0 : Fin 1) (i1 : Fin 1024) : ((cfg0.win 10).blk t).view.emb (ix2 i0 i1) = ix2 i0 i1 := by
  obtain ⟨a0, a1⟩ := at10 t
  funext i; apply Fin.ext
  match i with
  | ⟨0, _⟩ => show win0_10.index t (0 : Fin 2) * 1 + 1 * i0.val = i0.val; omega
  | ⟨1, _⟩ => show win0_10.index t (1 : Fin 2) * 1024 + 1 * i1.val = i1.val; omega

theorem at11 : ∀ t : Fin cfg0.N, win0_11.index t (0 : Fin 4) = 0 ∧ win0_11.index t (1 : Fin 4) = 0 ∧ win0_11.index t (2 : Fin 4) = 0 ∧ win0_11.index t (3 : Fin 4) = 0 := (by decide +kernel : ∀ t : Fin grid0.N, _)
theorem emb11 (t : Fin cfg0.N) (i0 : Fin 2) (i1 : Fin 11) (i2 : Fin 1024) (i3 : Fin 256) : ((cfg0.win 11).blk t).view.emb (ix4 i0 i1 i2 i3) = ix4 i0 i1 i2 i3 := by
  obtain ⟨a0, a1, a2, a3⟩ := at11 t
  funext i; apply Fin.ext
  match i with
  | ⟨0, _⟩ => show win0_11.index t (0 : Fin 4) * 2 + 1 * i0.val = i0.val; omega
  | ⟨1, _⟩ => show win0_11.index t (1 : Fin 4) * 11 + 1 * i1.val = i1.val; omega
  | ⟨2, _⟩ => show win0_11.index t (2 : Fin 4) * 1024 + 1 * i2.val = i2.val; omega
  | ⟨3, _⟩ => show win0_11.index t (3 : Fin 4) * 256 + 1 * i3.val = i3.val; omega

theorem at12 : ∀ t : Fin cfg0.N, win0_12.index t (0 : Fin 4) = 0 ∧ win0_12.index t (1 : Fin 4) = 0 ∧ win0_12.index t (2 : Fin 4) = 0 ∧ win0_12.index t (3 : Fin 4) = 0 := (by decide +kernel : ∀ t : Fin grid0.N, _)
theorem emb12 (t : Fin cfg0.N) (i0 : Fin 2) (i1 : Fin 11) (i2 : Fin 3) (i3 : Fin 256) : ((cfg0.win 12).blk t).view.emb (ix4 i0 i1 i2 i3) = ix4 i0 i1 i2 i3 := by
  obtain ⟨a0, a1, a2, a3⟩ := at12 t
  funext i; apply Fin.ext
  match i with
  | ⟨0, _⟩ => show win0_12.index t (0 : Fin 4) * 2 + 1 * i0.val = i0.val; omega
  | ⟨1, _⟩ => show win0_12.index t (1 : Fin 4) * 11 + 1 * i1.val = i1.val; omega
  | ⟨2, _⟩ => show win0_12.index t (2 : Fin 4) * 3 + 1 * i2.val = i2.val; omega
  | ⟨3, _⟩ => show win0_12.index t (3 : Fin 4) * 256 + 1 * i3.val = i3.val; omega

theorem at13 : ∀ t : Fin cfg0.N, win0_13.index t (0 : Fin 4) = 0 ∧ win0_13.index t (1 : Fin 4) = 0 ∧ win0_13.index t (2 : Fin 4) = 0 ∧ win0_13.index t (3 : Fin 4) = 0 := (by decide +kernel : ∀ t : Fin grid0.N, _)
theorem emb13 (t : Fin cfg0.N) (i0 : Fin 2) (i1 : Fin 11) (i2 : Fin 1) (i3 : Fin 256) : ((cfg0.win 13).blk t).view.emb (ix4 i0 i1 i2 i3) = ix4 i0 i1 i2 i3 := by
  obtain ⟨a0, a1, a2, a3⟩ := at13 t
  funext i; apply Fin.ext
  match i with
  | ⟨0, _⟩ => show win0_13.index t (0 : Fin 4) * 2 + 1 * i0.val = i0.val; omega
  | ⟨1, _⟩ => show win0_13.index t (1 : Fin 4) * 11 + 1 * i1.val = i1.val; omega
  | ⟨2, _⟩ => show win0_13.index t (2 : Fin 4) * 1 + 1 * i2.val = i2.val; omega
  | ⟨3, _⟩ => show win0_13.index t (3 : Fin 4) * 256 + 1 * i3.val = i3.val; omega

theorem at14 : ∀ t : Fin cfg0.N, win0_14.index t (0 : Fin 2) = 0 ∧ win0_14.index t (1 : Fin 2) = 0 := (by decide +kernel : ∀ t : Fin grid0.N, _)
theorem emb14 (t : Fin cfg0.N) (i0 : Fin 2816) (i1 : Fin 1024) : ((cfg0.win 14).blk t).view.emb (ix2 i0 i1) = ix2 i0 i1 := by
  obtain ⟨a0, a1⟩ := at14 t
  funext i; apply Fin.ext
  match i with
  | ⟨0, _⟩ => show win0_14.index t (0 : Fin 2) * 2816 + 1 * i0.val = i0.val; omega
  | ⟨1, _⟩ => show win0_14.index t (1 : Fin 2) * 1024 + 1 * i1.val = i1.val; omega

theorem at15 : ∀ t : Fin cfg0.N, win0_15.index t (0 : Fin 2) = 0 ∧ win0_15.index t (1 : Fin 2) = 0 := (by decide +kernel : ∀ t : Fin grid0.N, _)
theorem emb15 (t : Fin cfg0.N) (i0 : Fin 1) (i1 : Fin 1024) : ((cfg0.win 15).blk t).view.emb (ix2 i0 i1) = ix2 i0 i1 := by
  obtain ⟨a0, a1⟩ := at15 t
  funext i; apply Fin.ext
  match i with
  | ⟨0, _⟩ => show win0_15.index t (0 : Fin 2) * 1 + 1 * i0.val = i0.val; omega
  | ⟨1, _⟩ => show win0_15.index t (1 : Fin 2) * 1024 + 1 * i1.val = i1.val; omega

theorem at16 : ∀ t : Fin cfg0.N, win0_16.index t (0 : Fin 3) = 0 ∧ win0_16.index t (1 : Fin 3) = 0 ∧ win0_16.index t (2 : Fin 3) = 0 := (by decide +kernel : ∀ t : Fin grid0.N, _)
theorem emb16 (t : Fin cfg0.N) (i0 : Fin 1) (i1 : Fin 256) (i2 : Fin 1024) : ((cfg0.win 16).blk t).view.emb (ix3 i0 i1 i2) = ix3 i0 i1 i2 := by
  obtain ⟨a0, a1, a2⟩ := at16 t
  funext i; apply Fin.ext
  match i with
  | ⟨0, _⟩ => show win0_16.index t (0 : Fin 3) * 1 + 1 * i0.val = i0.val; omega
  | ⟨1, _⟩ => show win0_16.index t (1 : Fin 3) * 256 + 1 * i1.val = i1.val; omega
  | ⟨2, _⟩ => show win0_16.index t (2 : Fin 3) * 1024 + 1 * i2.val = i2.val; omega

theorem at17 : ∀ t : Fin cfg0.N, win0_17.index t (0 : Fin 3) = 0 ∧ win0_17.index t (1 : Fin 3) = 0 ∧ win0_17.index t (2 : Fin 3) = 0 := (by decide +kernel : ∀ t : Fin grid0.N, _)
theorem emb17 (t : Fin cfg0.N) (i0 : Fin 1) (i1 : Fin 256) (i2 : Fin 1024) : ((cfg0.win 17).blk t).view.emb (ix3 i0 i1 i2) = ix3 i0 i1 i2 := by
  obtain ⟨a0, a1, a2⟩ := at17 t
  funext i; apply Fin.ext
  match i with
  | ⟨0, _⟩ => show win0_17.index t (0 : Fin 3) * 1 + 1 * i0.val = i0.val; omega
  | ⟨1, _⟩ => show win0_17.index t (1 : Fin 3) * 256 + 1 * i1.val = i1.val; omega
  | ⟨2, _⟩ => show win0_17.index t (2 : Fin 3) * 1024 + 1 * i2.val = i2.val; omega

theorem at18 : ∀ t : Fin cfg0.N, win0_18.index t (0 : Fin 4) = 0 ∧ win0_18.index t (1 : Fin 4) = 0 ∧ win0_18.index t (2 : Fin 4) = 0 ∧ win0_18.index t (3 : Fin 4) = 0 := (by decide +kernel : ∀ t : Fin grid0.N, _)
theorem emb18 (t : Fin cfg0.N) (i0 : Fin 2) (i1 : Fin 11) (i2 : Fin 256) (i3 : Fin 256) : ((cfg0.win 18).blk t).view.emb (ix4 i0 i1 i2 i3) = ix4 i0 i1 i2 i3 := by
  obtain ⟨a0, a1, a2, a3⟩ := at18 t
  funext i; apply Fin.ext
  match i with
  | ⟨0, _⟩ => show win0_18.index t (0 : Fin 4) * 2 + 1 * i0.val = i0.val; omega
  | ⟨1, _⟩ => show win0_18.index t (1 : Fin 4) * 11 + 1 * i1.val = i1.val; omega
  | ⟨2, _⟩ => show win0_18.index t (2 : Fin 4) * 256 + 1 * i2.val = i2.val; omega
  | ⟨3, _⟩ => show win0_18.index t (3 : Fin 4) * 256 + 1 * i3.val = i3.val; omega

theorem blk0 (t : Fin cfg0.N) (r : Fin 256) (j : Fin 512) : iblk m c 0 t (ix3 0 r j) = m ((c : Thread nD τ).loc main_arg0) (ix3 0 r j) := by
  show V m c main_arg0 (((cfg0.win 0).blk t).view.emb (ix3 0 r j)) = _
  rw [emb0, V_main_arg0]

theorem blk1 (t : Fin cfg0.N) (r : Fin 256) (j : Fin 256) : iblk m c 1 t (ix3 0 r j) = m ((c : Thread nD τ).loc main_arg1) (ix3 0 r j) := by
  show V m c main_arg1 (((cfg0.win 1).blk t).view.emb (ix3 0 r j)) = _
  rw [emb1, V_main_arg1]

theorem blk2 (t : Fin cfg0.N) (r : Fin 256) (j : Fin 256) : iblk m c 2 t (ix3 0 r j) = m ((c : Thread nD τ).loc main_arg2) (ix3 0 r j) := by
  show V m c main_arg2 (((cfg0.win 2).blk t).view.emb (ix3 0 r j)) = _
  rw [emb2, V_main_arg2]

theorem blk3 (t : Fin cfg0.N) (r : Fin 256) (j : Fin 1024) : iblk m c 3 t (ix3 0 r j) = m ((c : Thread nD τ).loc main_arg3) (ix3 0 r j) := by
  show V m c main_arg3 (((cfg0.win 3).blk t).view.emb (ix3 0 r j)) = _
  rw [emb3, V_main_arg3]

theorem blk6 (t : Fin cfg0.N) (j : Fin 512) : iblk m c 6 t (ix2 0 j) = m ((c : Thread nD τ).loc main_arg5) (ix1 j) := by
  have h : (V m c main_v0 : Vec Ideal S1x512 .f32) = shapeCast S1x512 (m ((c : Thread nD τ).loc main_arg5)) shapeCasts_S512_S1x512 := by
    simp only [V, hostOps0]
    after_results_simp
    rfl
  show V m c main_v0 (((cfg0.win 6).blk t).view.emb (ix2 0 j)) = _
  rw [emb6]
  refine (congrFun h _).trans ?_
  pointwise!

theorem blk7 (t : Fin cfg0.N) (j : Fin 256) : iblk m c 7 t (ix2 0 j) = m ((c : Thread nD τ).loc main_arg6) (ix1 j) := by
  have h : (V m c main_v1 : Vec Ideal S1x256 .f32) = shapeCast S1x256 (m ((c : Thread nD τ).loc main_arg6)) shapeCasts_S256_S1x256 := by
    simp only [V, hostOps0]
    after_results_simp
    rfl
  show V m c main_v1 (((cfg0.win 7).blk t).view.emb (ix2 0 j)) = _
  rw [emb7]
  refine (congrFun h _).trans ?_
  pointwise!

theorem blk8 (t : Fin cfg0.N) (j : Fin 256) : iblk m c 8 t (ix2 0 j) = m ((c : Thread nD τ).loc main_arg7) (ix1 j) := by
  have h : (V m c main_v2 : Vec Ideal S1x256 .f32) = shapeCast S1x256 (m ((c : Thread nD τ).loc main_arg7)) shapeCasts_S256_S1x256 := by
    simp only [V, hostOps0]
    after_results_simp
    rfl
  show V m c main_v2 (((cfg0.win 8).blk t).view.emb (ix2 0 j)) = _
  rw [emb8]
  refine (congrFun h _).trans ?_
  pointwise!

theorem blk10 (t : Fin cfg0.N) (j : Fin 1024) : iblk m c 10 t (ix2 0 j) = m ((c : Thread nD τ).loc main_arg9) (ix1 j) := by
  have h : (V m c main_v4 : Vec Ideal S1x1024 .f32) = shapeCast S1x1024 (m ((c : Thread nD τ).loc main_arg9)) shapeCasts_S1024_S1x1024 := by
    simp only [V, hostOps0]
    after_results_simp
    rfl
  show V m c main_v4 (((cfg0.win 10).blk t).view.emb (ix2 0 j)) = _
  rw [emb10]
  refine (congrFun h _).trans ?_
  pointwise!

theorem blk15 (t : Fin cfg0.N) (j : Fin 1024) : iblk m c 15 t (ix2 0 j) = m ((c : Thread nD τ).loc main_arg14) (ix1 j) := by
  have h : (V m c main_v14 : Vec Ideal S1x1024 .f32) = shapeCast S1x1024 (m ((c : Thread nD τ).loc main_arg14)) shapeCasts_S1024_S1x1024 := by
    simp only [V, hostOps0]
    after_results_simp
    rfl
  show V m c main_v14 (((cfg0.win 15).blk t).view.emb (ix2 0 j)) = _
  rw [emb15]
  refine (congrFun h _).trans ?_
  pointwise!

theorem blk9 (t : Fin cfg0.N) (i0 : Fin 1024) (i1 : Fin 1024) : iblk m c 9 t (ix2 i0 i1) = m ((c : Thread nD τ).loc main_arg8) (ix2 i0 i1) := by
  have h : V m c main_v3 = m ((c : Thread nD τ).loc main_arg8) := by
    simp only [V, hostOps0]
    after_results_simp
    rfl
  show V m c main_v3 (((cfg0.win 9).blk t).view.emb (ix2 i0 i1)) = _
  rw [emb9]
  exact congrFun h _

theorem blk14 (t : Fin cfg0.N) (i0 : Fin 2816) (i1 : Fin 1024) : iblk m c 14 t (ix2 i0 i1) = m ((c : Thread nD τ).loc main_arg13) (ix2 i0 i1) := by
  have h : V m c main_v13 = m ((c : Thread nD τ).loc main_arg13) := by
    simp only [V, hostOps0]
    after_results_simp
    rfl
  show V m c main_v13 (((cfg0.win 14).blk t).view.emb (ix2 i0 i1)) = _
  rw [emb14]
  exact congrFun h _

theorem cols1024 (x : Vec Ideal S1024x5632 .bf16) (p : Fin 2) (q : Fin 11) (k : Fin 1024) (l : Fin 256) :
    transpose S2x11x1024x256 [1, 2, 0, 3] (shapeCast S1024x2x11x256 x shapeCasts_S1024x5632_S1024x2x11x256) transposes_S1024x2x11x256_S2x11x1024x256_1_2_0_3 (ix4 p q k l)
      = x (ix2 k (col p q l)) := by
  pointwise!

theorem blk11 (t : Fin cfg0.N) (p : Fin 2) (q : Fin 11) (k : Fin 1024) (l : Fin 256) :
    iblk m c 11 t (ix4 p q k l) = m ((c : Thread nD τ).loc main_arg10) (ix2 k (col p q l)) := by
  have h : (V m c main_v7 : Vec Ideal S2x11x1024x256 .bf16) = transpose S2x11x1024x256 [1, 2, 0, 3]
      (shapeCast S1024x2x11x256 (m ((c : Thread nD τ).loc main_arg10)) shapeCasts_S1024x5632_S1024x2x11x256) transposes_S1024x2x11x256_S2x11x1024x256_1_2_0_3 := by
    simp only [V, hostOps0]
    after_results_simp
    rfl
  show V m c main_v7 (((cfg0.win 11).blk t).view.emb (ix4 p q k l)) = _
  rw [emb11]
  exact (congrFun h _).trans (cols1024 _ p q k l)

theorem cols3 (x : Vec Ideal S3x5632 .f32) (p : Fin 2) (q : Fin 11) (k : Fin 3) (l : Fin 256) :
    transpose S2x11x3x256 [1, 2, 0, 3] (shapeCast S3x2x11x256 x shapeCasts_S3x5632_S3x2x11x256) transposes_S3x2x11x256_S2x11x3x256_1_2_0_3 (ix4 p q k l)
      = x (ix2 k (col p q l)) := by
  pointwise!

theorem blk12 (t : Fin cfg0.N) (p : Fin 2) (q : Fin 11) (k : Fin 3) (l : Fin 256) :
    iblk m c 12 t (ix4 p q k l) = m ((c : Thread nD τ).loc main_arg11) (ix2 k (col p q l)) := by
  have h : (V m c main_v9 : Vec Ideal S2x11x3x256 .f32) = transpose S2x11x3x256 [1, 2, 0, 3]
      (shapeCast S3x2x11x256 (m ((c : Thread nD τ).loc main_arg11)) shapeCasts_S3x5632_S3x2x11x256) transposes_S3x2x11x256_S2x11x3x256_1_2_0_3 := by
    simp only [V, hostOps0]
    after_results_simp
    rfl
  show V m c main_v9 (((cfg0.win 12).blk t).view.emb (ix4 p q k l)) = _
  rw [emb12]
  exact (congrFun h _).trans (cols3 _ p q k l)

/-- The bias, as a row and as columns of chunks. -/
theorem bias_row (x : Vec Ideal S5632 .f32) (z : Fin 5632) : shapeCast S1x5632 x shapeCasts_S5632_S1x5632 (ix2 0 z) = x (ix1 z) := by
  pointwise!

theorem bias_cols (x : Vec Ideal S1x5632 .f32) (p : Fin 2) (q : Fin 11) (l : Fin 256) :
    transpose S2x11x1x256 [1, 2, 0, 3] (shapeCast S1x2x11x256 x shapeCasts_S1x5632_S1x2x11x256) transposes_S1x2x11x256_S2x11x1x256_1_2_0_3 (ix4 p q 0 l)
      = x (ix2 0 (col p q l)) := by
  pointwise!

theorem blk13 (t : Fin cfg0.N) (p : Fin 2) (q : Fin 11) (l : Fin 256) :
    iblk m c 13 t (ix4 p q 0 l) = m ((c : Thread nD τ).loc main_arg12) (ix1 (col p q l)) := by
  have h : (V m c main_v12 : Vec Ideal S2x11x1x256 .f32) = transpose S2x11x1x256 [1, 2, 0, 3]
      (shapeCast S1x2x11x256 (shapeCast S1x5632 (m ((c : Thread nD τ).loc main_arg12)) shapeCasts_S5632_S1x5632) shapeCasts_S1x5632_S1x2x11x256) transposes_S1x2x11x256_S2x11x1x256_1_2_0_3 := by
    simp only [V, hostOps0]
    after_results_simp
    rfl
  show V m c main_v12 (((cfg0.win 13).blk t).view.emb (ix4 p q 0 l)) = _
  rw [emb13]
  exact (congrFun h _).trans ((bias_cols _ p q l).trans (bias_row _ _))

/-- Rows of streams as one array of rows, and as columns of chunks. -/
def chunked (z : Vec Ideal S32x8x5632 .f32) : Vec Ideal S2x11x256x256 .f32 :=
  transpose S2x11x256x256 [1, 2, 0, 3] (shapeCast S256x2x11x256 (shapeCast S256x5632 z shapeCasts_S32x8x5632_S256x5632)
    shapeCasts_S256x5632_S256x2x11x256) transposes_S256x2x11x256_S2x11x256x256_1_2_0_3

theorem stream_rows (z : Vec Ideal S32x8x5632 .f32) (r : Fin 256) (q : Fin 5632) :
    shapeCast S256x5632 z shapeCasts_S32x8x5632_S256x5632 (ix2 r q) = z (ix3 ⟨r.val / 8, by omega⟩ ⟨r.val % 8, by omega⟩ q) := by
  refine shapeCast_apply z _ _ _ ?_
  rw [Shape.rowMajor_val_two, Shape.rowMajor_val_three]
  show (r.val / 8 * 8 + r.val % 8) * 5632 + q.val = r.val * 5632 + q.val
  omega

theorem chunked_apply (z : Vec Ideal S32x8x5632 .f32) (p : Fin 2) (q : Fin 11) (r : Fin 256) (l : Fin 256) :
    chunked z (ix4 p q r l) = z (ix3 ⟨r.val / 8, by omega⟩ ⟨r.val % 8, by omega⟩ (col p q l)) := by
  unfold chunked
  refine Eq.trans ?_ (stream_rows z r (col p q l))
  generalize shapeCast S256x5632 z shapeCasts_S32x8x5632_S256x5632 = Z
  pointwise!

/-- A stored row at a stream's first token, zeros after it. -/
def primed1 (x : Vec Ideal S32x2x5632 .f32) : Vec Ideal S32x8x5632 .f32 :=
  let z := broadcastInDim S32x1x5632 ![] bcast_S_S32x1x5632 (constant (F := Ideal) S_ .f32 0x00000000#32)
  concatenate S32x8x5632 1 [⟨S32x1x5632, extractStridedSlice S32x1x5632 ![0, 1, 0] x slices_S32x2x5632_S32x1x5632_0_1_0⟩,
    ⟨S32x1x5632, z⟩, ⟨S32x1x5632, z⟩, ⟨S32x1x5632, z⟩, ⟨S32x1x5632, z⟩, ⟨S32x1x5632, z⟩, ⟨S32x1x5632, z⟩, ⟨S32x1x5632, z⟩]
    concatenates_S32x1x5632_S32x1x5632_S32x1x5632_S32x1x5632_S32x1x5632_S32x1x5632_S32x1x5632_S32x1x5632_S32x8x5632_d1

/-- The two stored rows at a stream's first two tokens, zeros after them. -/
def primed2 (x : Vec Ideal S32x2x5632 .f32) : Vec Ideal S32x8x5632 .f32 :=
  let z := broadcastInDim S32x1x5632 ![] bcast_S_S32x1x5632 (constant (F := Ideal) S_ .f32 0x00000000#32)
  concatenate S32x8x5632 1 [⟨S32x1x5632, extractStridedSlice S32x1x5632 ![0, 0, 0] x slices_S32x2x5632_S32x1x5632_0_0_0⟩,
    ⟨S32x1x5632, extractStridedSlice S32x1x5632 ![0, 1, 0] x slices_S32x2x5632_S32x1x5632_0_1_0⟩,
    ⟨S32x1x5632, z⟩, ⟨S32x1x5632, z⟩, ⟨S32x1x5632, z⟩, ⟨S32x1x5632, z⟩, ⟨S32x1x5632, z⟩, ⟨S32x1x5632, z⟩]
    concatenates_S32x1x5632_S32x1x5632_S32x1x5632_S32x1x5632_S32x1x5632_S32x1x5632_S32x1x5632_S32x1x5632_S32x8x5632_d1

theorem primed1_first (x : Vec Ideal S32x2x5632 .f32) (b : Fin 32) (q : Fin 5632) : primed1 x (ix3 b 0 q) = x (ix3 b 1 q) := by
  unfold primed1
  pointwise

theorem primed2_first (x : Vec Ideal S32x2x5632 .f32) (b : Fin 32) (q : Fin 5632) : primed2 x (ix3 b 0 q) = x (ix3 b 0 q) := by
  unfold primed2
  pointwise

theorem primed2_second (x : Vec Ideal S32x2x5632 .f32) (b : Fin 32) (q : Fin 5632) : primed2 x (ix3 b 1 q) = x (ix3 b 1 q) := by
  unfold primed2
  pointwise

/-- The stored row one above a stream's first token. -/
theorem blk4 (t : Fin cfg0.N) (p : Fin 2) (q : Fin 11) (r : Fin 256) (l : Fin 256) (h : r.val % 8 = 0) :
    iblk m c 4 t (ix4 p q r l) = m ((c : Thread nD τ).loc main_arg4) (ix3 ⟨r.val / 8, by omega⟩ 1 (col p q l)) := by
  have e : (V m c main_v23 : Vec Ideal S2x11x256x256 .f32) = chunked (primed1 (m ((c : Thread nD τ).loc main_arg4))) := by
    simp only [V, hostOps0]
    after_results_simp
    rfl
  show V m c main_v23 (((cfg0.win 4).blk t).view.emb (ix4 p q r l)) = _
  rw [emb4]
  refine (congrFun e _).trans ((chunked_apply _ p q r l).trans ?_)
  rw [show (⟨r.val % 8, by omega⟩ : Fin 8) = 0 from Fin.ext h]
  exact primed1_first _ _ _

/-- The stored row two above a stream's first or second token. -/
theorem blk5 (t : Fin cfg0.N) (p : Fin 2) (q : Fin 11) (r : Fin 256) (l : Fin 256) (h : r.val % 8 < 2) :
    iblk m c 5 t (ix4 p q r l) = m ((c : Thread nD τ).loc main_arg4) (ix3 ⟨r.val / 8, by omega⟩ ⟨r.val % 8, h⟩ (col p q l)) := by
  have e : (V m c main_v26 : Vec Ideal S2x11x256x256 .f32) = chunked (primed2 (m ((c : Thread nD τ).loc main_arg4))) := by
    simp only [V, hostOps0]
    after_results_simp
    rfl
  show V m c main_v26 (((cfg0.win 5).blk t).view.emb (ix4 p q r l)) = _
  rw [emb5]
  refine (congrFun e _).trans ((chunked_apply _ p q r l).trans ?_)
  rcases (show r.val % 8 = 0 ∨ r.val % 8 = 1 by omega) with h0 | h0
  · rw [show (⟨r.val % 8, by omega⟩ : Fin 8) = 0 from Fin.ext h0, show (⟨r.val % 8, h⟩ : Fin 2) = 0 from Fin.ext h0]
    exact primed2_first _ _ _
  · rw [show (⟨r.val % 8, by omega⟩ : Fin 8) = 1 from Fin.ext h0, show (⟨r.val % 8, h⟩ : Fin 2) = 1 from Fin.ext h0]
    exact primed2_second _ _ _

end Cert.OutSlabIdeal.Block

end
-- ==== Proof.OutSlab.Point.lean ====
/- The sample group's output call in terms of its arguments: its mixed rows, up rows, convolved rows and final rows are those of
   the specification. -/
module

public import proofs.«01_k».proof.Proof.OutSlab.Case
public import proofs.«01_k».proof.Proof.OutSlab.Windows

@[expose] public section

set_option maxRecDepth 16384

noncomputable section

namespace Cert.OutSlabIdeal.Block

open Cert.OutSlabIdeal Cert.OutSlabIdeal.Gen Cert.OutSlabIdeal.Value Idealize.ShloMosaic Idealize.ShloMosaic.TcCoe Idealize.SL.Sem
open Cert.OutSlabSpec
open Cert.OutSeqSpec (col)
open Cert.OutSeqIdeal.Block (rmsRow dotRow mix wide tap gated slice)

variable (m : (ℓ : Loc nD τ sig) → Buf (Elt Ideal) ℓ) (c : Dev nD)

/-- The specification's rows for the call's arguments: mixed, up, convolved, final. -/
def argX : Rows 1024 := mixRows (m ((c : Thread nD τ).loc main_arg0)) (m ((c : Thread nD τ).loc main_arg1)) (m ((c : Thread nD τ).loc main_arg2))
  (m ((c : Thread nD τ).loc main_arg3)) (m ((c : Thread nD τ).loc main_arg5)) (m ((c : Thread nD τ).loc main_arg6)) (m ((c : Thread nD τ).loc main_arg7))
  (m ((c : Thread nD τ).loc main_arg8))
def argU : Rows 5632 := upRows (argX m c) (m ((c : Thread nD τ).loc main_arg9)) (m ((c : Thread nD τ).loc main_arg10))
def argC : Rows 5632 := convRows (argU m c) (m ((c : Thread nD τ).loc main_arg4)) (m ((c : Thread nD τ).loc main_arg11)) (m ((c : Thread nD τ).loc main_arg12))
def argO : Rows 1024 := finalRows (argX m c) (argC m c) (m ((c : Thread nD τ).loc main_arg13))

/-- The point's mixed rows, and those normalised. -/
abbrev mixedAt (t : Fin cfg0.N) : FVec Ideal S256x1024 .f32 :=
  mixed (iblk m c 0 t) (iblk m c 1 t) (iblk m c 2 t) (iblk m c 3 t) (iblk m c 6 t) (iblk m c 7 t) (iblk m c 8 t) (iblk m c 9 t)
abbrev normedAt (t : Fin cfg0.N) : FVec Ideal S256x1024 .bf16 := normed (mixedAt m c t) (iblk m c 10 t)

theorem mixed_at (t : Fin cfg0.N) (r : Fin 256) (j : Fin 1024) : mixedAt m c t (ix2 r j) = argX m c r j := by
  unfold mixedAt mixed argX mixRows
  simp only [ix2_0, ix2_1, blk0, blk1, blk2, blk3, blk6, blk7, blk8, blk9]

theorem up_at (t : Fin cfg0.N) (r : Fin 256) (p : Fin 2) (q : Fin 11) (l : Fin 256) :
    upAt (normedAt m c t) (slice (iblk m c 11 t) p q) r l = argU m c r (col p q l) := by
  have e0 : (fun j => mixedAt m c t (ix2 r j)) = argX m c r := funext fun j => mixed_at m c t r j
  have e1 : (fun j => iblk m c 10 t (ix2 0 j)) = fun j => m ((c : Thread nD τ).loc main_arg9) (ix1 j) := funext fun j => blk10 m c t j
  have e2 : (fun k => iblk m c 11 t (ix4 p q k l)) = fun k => m ((c : Thread nD τ).loc main_arg10) (ix2 k (col p q l)) := funext fun k => blk11 m c t p q k l
  show dotRow (wide (fun j => mixedAt m c t (ix2 r j)) (fun j => iblk m c 10 t (ix2 0 j))) (fun k => iblk m c 11 t (ix4 p q k l)) = _
  rw [e0, e1, e2]
  rfl

/-- The rows one and two above. -/
theorem back1_at (t : Fin cfg0.N) (r : Fin 256) (p : Fin 2) (q : Fin 11) (l : Fin 256) :
    backAt (normedAt m c t) (slice (iblk m c 11 t) p q) 1 (slice (iblk m c 4 t) p q) r l
      = above (argU m c) (m ((c : Thread nD τ).loc main_arg4)) 1 r (col p q l) := by
  unfold backAt above
  by_cases h : 1 ≤ r.val % 8
  · rw [if_pos h, dif_pos h]
    exact up_at m c t _ p q l
  · rw [if_neg h, dif_neg h]
    refine (blk4 m c t p q r l (by omega)).trans ?_
    exact congrArg (fun z => m ((c : Thread nD τ).loc main_arg4) (ix3 _ z (col p q l))) (Fin.ext (show 1 = 2 + r.val % 8 - 1 by omega))

theorem back2_at (t : Fin cfg0.N) (r : Fin 256) (p : Fin 2) (q : Fin 11) (l : Fin 256) :
    backAt (normedAt m c t) (slice (iblk m c 11 t) p q) 2 (slice (iblk m c 5 t) p q) r l
      = above (argU m c) (m ((c : Thread nD τ).loc main_arg4)) 2 r (col p q l) := by
  unfold backAt above
  by_cases h : 2 ≤ r.val % 8
  · rw [if_pos h, dif_pos h]
    exact up_at m c t _ p q l
  · rw [if_neg h, dif_neg h]
    refine (blk5 m c t p q r l (by omega)).trans ?_
    exact congrArg (fun z => m ((c : Thread nD τ).loc main_arg4) (ix3 _ z (col p q l))) (Fin.ext (show r.val % 8 = 2 + r.val % 8 - 2 by omega))

theorem part_at (t : Fin cfg0.N) (r : Fin 256) (p : Fin 2) (q : Fin 11) (l : Fin 256) :
    partAt (normedAt m c t) (slice (iblk m c 11 t) p q) (slice (iblk m c 4 t) p q) (slice (iblk m c 5 t) p q) (slice (iblk m c 12 t) p q)
        (slice (iblk m c 13 t) p q) r l = argC m c r (col p q l) := by
  unfold partAt
  rw [up_at, back1_at, back2_at]
  have e0 : slice (iblk m c 12 t) p q (ix4 0 0 0 l) = _ := blk12 m c t p q 0 l
  have e1 : slice (iblk m c 12 t) p q (ix4 0 0 1 l) = _ := blk12 m c t p q 1 l
  have e2 : slice (iblk m c 12 t) p q (ix4 0 0 2 l) = _ := blk12 m c t p q 2 l
  have e3 : slice (iblk m c 13 t) p q (ix4 0 0 0 l) = _ := blk13 m c t p q l
  rw [e0, e1, e2, e3]
  rfl

/-- The rows after the down weight, from what their parts are. -/
theorem outRows_eq (X : FVec Ideal S256x1024 .f32) (H : Fin 11 → FVec Ideal S256x256 .bf16) (w : Vec Ideal S2816x1024 .bf16)
    (r : Fin 256) (k : Fin 1024) {a : EReal} {f g : Fin 2816 → EReal} (ha : X (ix2 r k) = a)
    (hf : ∀ j : Fin 2816, H ⟨j.val / 256, by omega⟩ (ix2 r ⟨j.val % 256, by omega⟩) = f j) (hg : ∀ j : Fin 2816, w (ix2 j k) = g j) :
    outRows X H w (ix2 r k) = a + dotRow f g := by
  obtain rfl := ha
  obtain rfl := funext hf
  obtain rfl := funext hg
  rfl

theorem out_at (t : Fin cfg0.N) (r : Fin 256) (k : Fin 1024) :
    outRows (mixedAt m c t) (hidden (normedAt m c t) (iblk m c 11 t) (iblk m c 4 t) (iblk m c 5 t) (iblk m c 12 t) (iblk m c 13 t)) (iblk m c 14 t) (ix2 r k)
      = argO m c r k := by
  refine outRows_eq _ _ _ r k (mixed_at m c t r k) (fun j => ?_) (fun j => blk14 m c t j k)
  refine (chunk_apply _ _ _ _ _ _ _ _ _ _ _ r _).trans ?_
  rw [part_at, part_at]
  refine congrArg₂ gated (congrArg _ (Fin.ext ?_)) (congrArg _ (Fin.ext ?_))
  · show 1 * 2816 + j.val / 256 * 256 + j.val % 256 = 2816 + j.val; omega
  · show 0 * 2816 + j.val / 256 * 256 + j.val % 256 = j.val; omega

/-- What the point leaves in its three output blocks. -/
theorem left0 (t : Fin cfg0.N) (r : Fin 256) (k : Fin 1024) : (outsAt0 m c t).1 (ix3 0 r k) = argO m c r k := by
  unfold outsAt0
  dsimp only
  rw [out16_A]
  exact out_at m c t r k

theorem left1 (t : Fin cfg0.N) (r : Fin 256) (k : Fin 1024) :
    (outsAt0 m c t).2.1 (ix3 0 r k) = normRows (argO m c) (m ((c : Thread nD τ).loc main_arg14)) r k := by
  unfold outsAt0
  dsimp only
  rw [out17_A]
  exact congrArg₂ (fun f g => wide f g k) (funext fun j => out_at m c t r j) (funext fun j => blk15 m c t j)

theorem left2 (t : Fin cfg0.N) (p : Fin 2) (q : Fin 11) (r : Fin 256) (l : Fin 256) :
    (outsAt0 m c t).2.2 (ix4 p q r l) = argU m c r (col p q l) := by
  unfold outsAt0
  dsimp only
  rw [out18_A]
  exact up_at m c t r p q l

end Cert.OutSlabIdeal.Block

end
-- ==== Proof.OutSlab.Reference.lean ====
/- What the reference of the sample group's output call computes, at an index: the rows of the specification. -/
module

public import proofs.«01_k».proof.Proof.Gen.OutSlabRefIdeal.Read
public import proofs.«01_k».proof.Proof.OutSlab.Spec
public import proofs.«01_k».proof.Proof.OutSeq.Reference

@[expose] public section

set_option maxRecDepth 16384

noncomputable section

namespace Cert.OutSlabRefIdeal.Value

open Cert.OutSlabRefIdeal Cert.OutSlabRefIdeal.Gen Cert.OutSlabRefIdeal.Read Idealize.ShloMosaic Idealize.ShloMosaic.TcCoe Idealize.SL.Sem
open Cert.OutSeqIdeal.Block (rmsRow dotRow mix wide tap gated)
open Cert.OutSlabSpec
open Cert.OutSeqSpec (col)
open Cert.OutSeqRefIdeal.Value (sum_three)

variable (x0 : Vec Ideal S1x256x512 .f32) (x1 x2 : Vec Ideal S1x256x256 .f32) (x3 : Vec Ideal S1x256x1024 .f32)
  (x4 : Vec Ideal S32x2x5632 .f32) (x5 : Vec Ideal S512 .f32) (x6 x7 : Vec Ideal S256 .f32) (x8 : Vec Ideal S1024x1024 .f32)
  (x9 : Vec Ideal S1024 .f32) (x10 : Vec Ideal S1024x5632 .f32) (x11 : Vec Ideal S3x5632 .f32) (x12 : Vec Ideal S5632 .f32)
  (x13 : Vec Ideal S2816x1024 .f32) (x14 : Vec Ideal S1024 .f32)

/-- The three branches, normalised. -/
theorem branch0 (r : Fin 256) (j : Fin 512) : val_main_v12 (F := Ideal) x0 x5 (ix3 0 r j)
    = rmsRow (Ideal.ofBits .f32 0x44000000#32) (fun j => x0 (ix3 0 r j)) (fun j => x5 (ix1 j)) j := by
  unfold rmsRow
  pointwise [val_main_v12, val_main_v11, val_main_v10, val_main_v9, val_main_v8, val_main_v7, val_main_v6, val_main_v5, val_main_v4, val_main_v3, val_main_v2, val_main_v1, val_main_v0, val_main_cst, val_main_cst_0, val_main_cst_1]

theorem branch1 (r : Fin 256) (j : Fin 256) : val_main_v25 (F := Ideal) x1 x6 (ix3 0 r j)
    = rmsRow (Ideal.ofBits .f32 0x43800000#32) (fun j => x1 (ix3 0 r j)) (fun j => x6 (ix1 j)) j := by
  unfold rmsRow
  pointwise [val_main_v25, val_main_v24, val_main_v23, val_main_v22, val_main_v21, val_main_v20, val_main_v19, val_main_v18, val_main_v17, val_main_v16, val_main_v15, val_main_v14, val_main_v13, val_main_cst_2, val_main_cst_3, val_main_cst_4]

theorem branch2 (r : Fin 256) (j : Fin 256) : val_main_v38 (F := Ideal) x2 x7 (ix3 0 r j)
    = rmsRow (Ideal.ofBits .f32 0x43800000#32) (fun j => x2 (ix3 0 r j)) (fun j => x7 (ix1 j)) j := by
  unfold rmsRow
  pointwise [val_main_v38, val_main_v37, val_main_v36, val_main_v35, val_main_v34, val_main_v33, val_main_v32, val_main_v31, val_main_v30, val_main_v29, val_main_v28, val_main_v27, val_main_v26, val_main_cst_5, val_main_cst_6, val_main_cst_7]

/-- The three branches side by side. -/
theorem beside0 (r : Fin 256) (j : Fin 512) : val_main_v39 (F := Ideal) x0 x1 x2 x5 x6 x7 (ix3 0 r ⟨j.val, by omega⟩)
    = val_main_v12 (F := Ideal) x0 x5 (ix3 0 r j) := by
  unfold val_main_v39
  generalize val_main_v12 (F := Ideal) x0 x5 = P
  generalize val_main_v25 (F := Ideal) x1 x6 = Q
  generalize val_main_v38 (F := Ideal) x2 x7 = R
  pointwise

theorem beside1 (r : Fin 256) (j : Fin 256) : val_main_v39 (F := Ideal) x0 x1 x2 x5 x6 x7 (ix3 0 r ⟨512 + j.val, by omega⟩)
    = val_main_v25 (F := Ideal) x1 x6 (ix3 0 r j) := by
  unfold val_main_v39
  generalize val_main_v12 (F := Ideal) x0 x5 = P
  generalize val_main_v25 (F := Ideal) x1 x6 = Q
  generalize val_main_v38 (F := Ideal) x2 x7 = R
  pointwise

theorem beside2 (r : Fin 256) (j : Fin 256) : val_main_v39 (F := Ideal) x0 x1 x2 x5 x6 x7 (ix3 0 r ⟨768 + j.val, by omega⟩)
    = val_main_v38 (F := Ideal) x2 x7 (ix3 0 r j) := by
  unfold val_main_v39
  generalize val_main_v12 (F := Ideal) x0 x5 = P
  generalize val_main_v25 (F := Ideal) x1 x6 = Q
  generalize val_main_v38 (F := Ideal) x2 x7 = R
  pointwise
  rw [dif_neg (show ¬ 768 + j.val < 512 by omega), dif_neg (show ¬ 768 + j.val - 512 < 256 by omega)]
  exact congrArg (fun z => R (ix3 0 r z)) (Fin.ext (show 768 + j.val - 512 - 256 = j.val by omega))

theorem mix_eq (r : Fin 256) (k : Fin 1024) : val_main_v41 (F := Ideal) x0 x1 x2 x3 x5 x6 x7 x8 (ix3 0 r k) = mixRows x0 x1 x2 x3 x5 x6 x7 x8 r k := by
  have e : val_main_v41 (F := Ideal) x0 x1 x2 x3 x5 x6 x7 x8 (ix3 0 r k)
      = x3 (ix3 0 r k) + ∑ j : Fin 1024, val_main_v39 (F := Ideal) x0 x1 x2 x5 x6 x7 (ix3 0 r j) * x8 (ix2 j k) := by
    unfold val_main_v41 val_main_v40
    generalize val_main_v39 (F := Ideal) x0 x1 x2 x5 x6 x7 = P
    pointwise
  rw [e, sum_three]
  simp only [beside0, beside1, beside2, branch0, branch1, branch2]
  rfl

theorem up_eq (r : Fin 256) (q : Fin 5632) : val_main_v55 (F := Ideal) x0 x1 x2 x3 x5 x6 x7 x8 x9 x10 (ix3 0 r q) = upRows (mixRows x0 x1 x2 x3 x5 x6 x7 x8) x9 x10 r q := by
  unfold upRows dotRow wide rmsRow
  simp only [← mix_eq]
  simp only [val_main_v55, val_main_v54, val_main_v53, val_main_v52, val_main_v51, val_main_v50, val_main_v49, val_main_v48, val_main_v47, val_main_v46, val_main_v45, val_main_v44, val_main_v43, val_main_v42, val_main_cst_8, val_main_cst_9, val_main_cst_10]
  generalize val_main_v41 (F := Ideal) x0 x1 x2 x3 x5 x6 x7 x8 = P
  pointwise

/-- The up rows by stream and token. -/
theorem stream_eq (b : Fin 32) (t : Fin 8) (q : Fin 5632) : val_main_v56 (F := Ideal) x0 x1 x2 x3 x5 x6 x7 x8 x9 x10 (ix3 b t q)
    = upRows (mixRows x0 x1 x2 x3 x5 x6 x7 x8) x9 x10 ⟨8 * b.val + t.val, by omega⟩ q := by
  rw [← up_eq]
  unfold val_main_v56
  refine shapeCast_apply _ _ _ _ ?_
  rw [Shape.rowMajor_val_three, Shape.rowMajor_val_three]
  show ((0 * 256) + (8 * b.val + t.val)) * 5632 + q.val = (b.val * 8 + t.val) * 5632 + q.val
  omega

/-- A stream's up rows below its two stored rows. -/
theorem stored_eq (b : Fin 32) (s : Fin 10) (q : Fin 5632) (h : s.val < 2) : val_main_v57 (F := Ideal) x0 x1 x2 x3 x4 x5 x6 x7 x8 x9 x10 (ix3 b s q)
    = x4 (ix3 b ⟨s.val, h⟩ q) := by
  unfold val_main_v57
  generalize val_main_v56 (F := Ideal) x0 x1 x2 x3 x5 x6 x7 x8 x9 x10 = P
  pointwise
  rw [dif_pos h]

theorem below_eq (b : Fin 32) (s : Fin 10) (q : Fin 5632) (h : 2 ≤ s.val) : val_main_v57 (F := Ideal) x0 x1 x2 x3 x4 x5 x6 x7 x8 x9 x10 (ix3 b s q)
    = upRows (mixRows x0 x1 x2 x3 x5 x6 x7 x8) x9 x10 ⟨8 * b.val + (s.val - 2), by omega⟩ q := by
  refine Eq.trans ?_ (stream_eq x0 x1 x2 x3 x5 x6 x7 x8 x9 x10 b ⟨s.val - 2, by omega⟩ q)
  unfold val_main_v57
  generalize val_main_v56 (F := Ideal) x0 x1 x2 x3 x5 x6 x7 x8 x9 x10 = P
  pointwise
  rw [dif_neg (show ¬ s.val < 2 by omega)]

/-- The row `d` above token `t` of stream `b`. -/
theorem above_eq (b : Fin 32) (t : Fin 8) (q : Fin 5632) (d : Nat) (hd : d ≤ 2) (s : Fin 10) (hs : s.val = 2 + t.val - d) :
    val_main_v57 (F := Ideal) x0 x1 x2 x3 x4 x5 x6 x7 x8 x9 x10 (ix3 b s q) = above (upRows (mixRows x0 x1 x2 x3 x5 x6 x7 x8) x9 x10) x4 d ⟨8 * b.val + t.val, by omega⟩ q := by
  unfold above
  by_cases h : d ≤ t.val
  · rw [dif_pos (show d ≤ (8 * b.val + t.val) % 8 by omega), below_eq _ _ _ _ _ _ _ _ _ _ _ b s q (by omega)]
    exact congrArg (fun z => upRows _ _ _ z q) (Fin.ext (show 8 * b.val + (s.val - 2) = 8 * b.val + t.val - d by omega))
  · rw [dif_neg (show ¬ d ≤ (8 * b.val + t.val) % 8 by omega), stored_eq _ _ _ _ _ _ _ _ _ _ _ b s q (by omega)]
    refine congrArg₂ (fun y z => x4 (ix3 y z q)) (Fin.ext ?_) (Fin.ext ?_)
    · show b.val = (8 * b.val + t.val) / 8; omega
    · show s.val = 2 + (8 * b.val + t.val) % 8 - d; omega

theorem conv_eq (b : Fin 32) (t : Fin 8) (q : Fin 5632) : val_main_v80 (F := Ideal) x0 x1 x2 x3 x4 x5 x6 x7 x8 x9 x10 x11 x12 (ix3 b t q)
    = convRows (upRows (mixRows x0 x1 x2 x3 x5 x6 x7 x8) x9 x10) x4 x11 x12 ⟨8 * b.val + t.val, by omega⟩ q := by
  have e : val_main_v80 (F := Ideal) x0 x1 x2 x3 x4 x5 x6 x7 x8 x9 x10 x11 x12 (ix3 b t q)
      = tap (x12 (ix1 q)) (x11 (ix2 0 q)) (x11 (ix2 1 q)) (x11 (ix2 2 q))
          (val_main_v57 (F := Ideal) x0 x1 x2 x3 x4 x5 x6 x7 x8 x9 x10 (ix3 b ⟨2 + t.val, by omega⟩ q))
          (val_main_v57 (F := Ideal) x0 x1 x2 x3 x4 x5 x6 x7 x8 x9 x10 (ix3 b ⟨1 + t.val, by omega⟩ q))
          (val_main_v57 (F := Ideal) x0 x1 x2 x3 x4 x5 x6 x7 x8 x9 x10 (ix3 b ⟨t.val, by omega⟩ q)) := by
    simp only [val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58]
    unfold tap
    generalize val_main_v57 (F := Ideal) x0 x1 x2 x3 x4 x5 x6 x7 x8 x9 x10 = P
    pointwise!
  rw [e, above_eq _ _ _ _ _ _ _ _ _ _ _ b t q 0 (by omega) _ rfl, above_eq _ _ _ _ _ _ _ _ _ _ _ b t q 1 (by omega) _ (show 1 + t.val = 2 + t.val - 1 by omega),
    above_eq _ _ _ _ _ _ _ _ _ _ _ b t q 2 (by omega) _ (show t.val = 2 + t.val - 2 by omega)]
  rfl

/-- The gated down product by stream and token. -/
theorem down_eq (b : Fin 32) (t : Fin 8) (k : Fin 1024) : val_main_v85 (F := Ideal) x0 x1 x2 x3 x4 x5 x6 x7 x8 x9 x10 x11 x12 x13 (ix3 b t k)
    = dotRow (fun j : Fin 2816 => gated (convRows (upRows (mixRows x0 x1 x2 x3 x5 x6 x7 x8) x9 x10) x4 x11 x12 ⟨8 * b.val + t.val, by omega⟩ ⟨2816 + j.val, by omega⟩)
        (convRows (upRows (mixRows x0 x1 x2 x3 x5 x6 x7 x8) x9 x10) x4 x11 x12 ⟨8 * b.val + t.val, by omega⟩ ⟨j.val, by omega⟩)) (fun j => x13 (ix2 j k)) := by
  unfold dotRow gated
  simp only [← conv_eq]
  simp only [val_main_v85, val_main_v84, val_main_v83, val_main_v82, val_main_v81, val_main_call0_v5, val_main_call0_v4, val_main_call0_v3, val_main_call0_v2, val_main_call0_v1, val_main_call0_v0, val_main_call0_cst, val_main_call0_cst_0]
  generalize val_main_v80 (F := Ideal) x0 x1 x2 x3 x4 x5 x6 x7 x8 x9 x10 x11 x12 = Q
  unfold Ideal.logistic
  simp only [← Ideal.ofBits_one_f32]
  pointwise!

theorem final_eq (r : Fin 256) (k : Fin 1024) : val_main_v87 (F := Ideal) x0 x1 x2 x3 x4 x5 x6 x7 x8 x9 x10 x11 x12 x13 (ix3 0 r k)
    = finalRows (mixRows x0 x1 x2 x3 x5 x6 x7 x8) (convRows (upRows (mixRows x0 x1 x2 x3 x5 x6 x7 x8) x9 x10) x4 x11 x12) x13 r k := by
  have e : val_main_v86 (F := Ideal) x0 x1 x2 x3 x4 x5 x6 x7 x8 x9 x10 x11 x12 x13 (ix3 0 r k)
      = val_main_v85 (F := Ideal) x0 x1 x2 x3 x4 x5 x6 x7 x8 x9 x10 x11 x12 x13 (ix3 ⟨r.val / 8, by omega⟩ ⟨r.val % 8, by omega⟩ k) := by
    unfold val_main_v86
    refine shapeCast_apply _ _ _ _ ?_
    rw [Shape.rowMajor_val_three, Shape.rowMajor_val_three]
    show (r.val / 8 * 8 + r.val % 8) * 1024 + k.val = (0 * 256 + r.val) * 1024 + k.val
    omega
  have hr : (⟨8 * (r.val / 8) + r.val % 8, by omega⟩ : Fin 256) = r := Fin.ext (show 8 * (r.val / 8) + r.val % 8 = r.val by omega)
  have a : val_main_v87 (F := Ideal) x0 x1 x2 x3 x4 x5 x6 x7 x8 x9 x10 x11 x12 x13 (ix3 0 r k)
      = val_main_v41 (F := Ideal) x0 x1 x2 x3 x5 x6 x7 x8 (ix3 0 r k) + val_main_v86 (F := Ideal) x0 x1 x2 x3 x4 x5 x6 x7 x8 x9 x10 x11 x12 x13 (ix3 0 r k) := by
    unfold val_main_v87
    generalize val_main_v41 (F := Ideal) x0 x1 x2 x3 x5 x6 x7 x8 = P
    generalize val_main_v86 (F := Ideal) x0 x1 x2 x3 x4 x5 x6 x7 x8 x9 x10 x11 x12 x13 = Q
    pointwise
  rw [a, e, down_eq, mix_eq]
  simp only [hr]
  rfl

theorem norm_eq (r : Fin 256) (k : Fin 1024) : val_main_v100 (F := Ideal) x0 x1 x2 x3 x4 x5 x6 x7 x8 x9 x10 x11 x12 x13 x14 (ix3 0 r k)
    = normRows (finalRows (mixRows x0 x1 x2 x3 x5 x6 x7 x8) (convRows (upRows (mixRows x0 x1 x2 x3 x5 x6 x7 x8) x9 x10) x4 x11 x12) x13) x14 r k := by
  unfold normRows wide rmsRow
  simp only [← final_eq]
  simp only [val_main_v100, val_main_v99, val_main_v98, val_main_v97, val_main_v96, val_main_v95, val_main_v94, val_main_v93, val_main_v92, val_main_v91, val_main_v90, val_main_v89, val_main_v88, val_main_cst_11, val_main_cst_12, val_main_cst_13]
  generalize val_main_v87 (F := Ideal) x0 x1 x2 x3 x4 x5 x6 x7 x8 x9 x10 x11 x12 x13 = P
  pointwise

theorem rows_eq (p : Fin 2) (q : Fin 11) (r : Fin 256) (l : Fin 256) : val_main_v102 (F := Ideal) x0 x1 x2 x3 x5 x6 x7 x8 x9 x10 (ix4 p q r l)
    = upRows (mixRows x0 x1 x2 x3 x5 x6 x7 x8) x9 x10 r (col p q l) := by
  have e : val_main_v102 (F := Ideal) x0 x1 x2 x3 x5 x6 x7 x8 x9 x10 (ix4 p q r l)
      = val_main_v56 (F := Ideal) x0 x1 x2 x3 x5 x6 x7 x8 x9 x10 (ix3 ⟨r.val / 8, by omega⟩ ⟨r.val % 8, by omega⟩ (col p q l)) := by
    unfold val_main_v102 val_main_v101
    generalize val_main_v56 (F := Ideal) x0 x1 x2 x3 x5 x6 x7 x8 x9 x10 = P
    show shapeCast S256x2x11x256 P shapeCasts_S32x8x5632_S256x2x11x256 (ix4 r p q l) = _
    refine shapeCast_apply _ _ _ _ ?_
    rw [Shape.rowMajor_val_three, Shape.rowMajor_val_four]
    show (r.val / 8 * 8 + r.val % 8) * 5632 + (p.val * 2816 + q.val * 256 + l.val) = ((r.val * 2 + p.val) * 11 + q.val) * 256 + l.val
    omega
  rw [e, stream_eq]
  exact congrArg (fun z => upRows _ _ _ z (col p q l)) (Fin.ext (show 8 * (r.val / 8) + r.val % 8 = r.val by omega))

end Cert.OutSlabRefIdeal.Value

end
-- ==== Proof.OutSlab.Run.lean ====
/- The sample group's output call's three result arrays after the run: the one grid point writes each whole. -/
module

public import proofs.«01_k».proof.Proof.OutSlab.Point
public import proofs.«01_k».proof.Proof.OutSlab.Reference

@[expose] public section

set_option maxRecDepth 16384

noncomputable section

namespace Cert.OutSlabIdeal.Block

open Cert.OutSlabIdeal Cert.OutSlabIdeal.Gen Cert.OutSlabIdeal.Value Idealize.ShloMosaic Idealize.ShloMosaic.TcCoe Idealize.SL.Sem
open Cert.OutSlabSpec
open Cert.OutSlabRefIdeal.Read

variable (m : (ℓ : Loc nD τ sig) → Buf (Elt Ideal) ℓ) (c : Dev nD)

/-- The reference's results for the call's arguments. -/
def want0 := val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
def want1 := val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
def want2 := val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

theorem final0 : (dats m 0 c).arrAt 16 cfg0.N = want0 m c := by
  refine (dats m 0 c).arrAt_eq_of_covers 16 _ (by decide +kernel) fun t _ y => ?_
  obtain ⟨z, r, k, rfl⟩ : ∃ (z : Fin 1) (r : Fin 256) (k : Fin 1024), y = ix3 z r k := ⟨_, _, _, eq_ix3 y⟩
  obtain rfl : z = 0 := Subsingleton.elim _ _
  rw [emb16]
  refine Eq.trans ?_ (Cert.OutSlabRefIdeal.Value.final_eq _ _ _ _ _ _ _ _ _ _ _ _ _ _ r k).symm
  exact (congrFun (after0_16 m c t) (ix3 0 r k)).trans (left0 m c t r k)

theorem final1 : (dats m 0 c).arrAt 17 cfg0.N = want1 m c := by
  refine (dats m 0 c).arrAt_eq_of_covers 17 _ (by decide +kernel) fun t _ y => ?_
  obtain ⟨z, r, k, rfl⟩ : ∃ (z : Fin 1) (r : Fin 256) (k : Fin 1024), y = ix3 z r k := ⟨_, _, _, eq_ix3 y⟩
  obtain rfl : z = 0 := Subsingleton.elim _ _
  rw [emb17]
  refine Eq.trans ?_ (Cert.OutSlabRefIdeal.Value.norm_eq _ _ _ _ _ _ _ _ _ _ _ _ _ _ _ r k).symm
  exact (congrFun (after0_17 m c t) (ix3 0 r k)).trans (left1 m c t r k)

theorem final2 : (dats m 0 c).arrAt 18 cfg0.N = want2 m c := by
  refine (dats m 0 c).arrAt_eq_of_covers 18 _ (by decide +kernel) fun t _ y => ?_
  obtain ⟨p, q, r, l, rfl⟩ : ∃ (p : Fin 2) (q : Fin 11) (r : Fin 256) (l : Fin 256), y = ix4 p q r l := ⟨_, _, _, _, eq_ix4 y⟩
  rw [emb18]
  refine Eq.trans ?_ (Cert.OutSlabRefIdeal.Value.rows_eq _ _ _ _ _ _ _ _ _ _ p q r l).symm
  exact (congrFun (after0_18 m c t) (ix4 p q r l)).trans (left2 m c t p q r l)

end Cert.OutSlabIdeal.Block

end
-- ==== Proof.OutSlab.Claims.lean ====
/- The claims about the sample group's output call. -/
module

public import proofs.«01_k».proof.Defs
public import proofs.«01_k».proof.Proof.Gen.OutSlab.Frame
public import proofs.«01_k».proof.Proof.Gen.OutSlabRefIdeal.Run
public import proofs.«01_k».proof.Proof.OutSlab.Run
public import Idealize.ShloMosaic.Lib.Quiescent

@[expose] public section

set_option maxRecDepth 16384

noncomputable section

namespace Cert.Proof.OutSlab

open Idealize.ShloMosaic Idealize.ShloMosaic.TcCoe Idealize.SL.Sem

theorem reference_frame : Cert.quiescent_OutSlabRefIdeal (hOutSlabRefIdeal := Cert.OutSlabRefIdeal.Gen.facts) := fun m ρ _ =>
  (θ_run Cert.OutSlabRefIdeal.defs _ _).mono
    (fun r h => ⟨fun c => (h c).2.2.2, Idealize.ShloMosaic.sem_eq_zero_of_no_sems (by decide) r.2⟩)
    (Cert.OutSlabRefIdeal.Value.run (F := Ideal) m ρ)

theorem algebraic : Cert.algebraic_OutSlabIdeal_OutSlabRefIdeal (hOutSlabIdeal := Cert.OutSlabIdeal.Gen.facts)
    (hOutSlabRefIdeal := Cert.OutSlabRefIdeal.Gen.facts) := by
  intro m ρ m' ρ' _ hagree
  refine ⟨fun c => Cert.OutSlabIdeal.Block.want0 m c, fun c => Cert.OutSlabIdeal.Block.want1 m c, fun c => Cert.OutSlabIdeal.Block.want2 m c,
    (θ_run Cert.OutSlabIdeal.defs _ _).mono (fun r h c => ?_) (Cert.OutSlabIdeal.Value.run_blocks m ρ),
    (θ_run Cert.OutSlabRefIdeal.defs _ _).mono (fun r h c => ?_) (Cert.OutSlabRefIdeal.Value.run m' ρ')⟩
  · obtain ⟨h0, h1, h2, k⟩ := h c
    exact ⟨h0.trans (Cert.OutSlabIdeal.Block.final0 m c), h1.trans (Cert.OutSlabIdeal.Block.final1 m c),
      h2.trans (Cert.OutSlabIdeal.Block.final2 m c), k⟩
  · obtain ⟨h0, h1, h2, k⟩ := h c
    obtain ⟨a0, a1, a2, a3, a4, a5, a6, a7, a8, a9, a10, a11, a12, a13, a14⟩ := hagree c
    dsimp only
    unfold Cert.OutSlabIdeal.Block.want0 Cert.OutSlabIdeal.Block.want1 Cert.OutSlabIdeal.Block.want2
    rw [← a0, ← a1, ← a2, ← a3, ← a4, ← a5, ← a6, ← a7, ← a8, ← a9, ← a10, ← a11, ← a12, ← a13, ← a14]
    exact ⟨h0.trans (Cert.OutSlabRefIdeal.Read.val_main_v87_eq _), h1.trans (Cert.OutSlabRefIdeal.Read.val_main_v100_eq _),
      h2.trans (Cert.OutSlabRefIdeal.Read.val_main_v102_eq _), k⟩

end Cert.Proof.OutSlab

end
-- ==== Proof.lean ====
module

public import proofs.«01_k».proof.Defs
public import proofs.«01_k».proof.Proof.Gen.Decode.Frame
public import proofs.«01_k».proof.Proof.Gen.DecodeIdeal.Frame
public import proofs.«01_k».proof.Proof.Gen.InProj.Frame
public import proofs.«01_k».proof.Proof.Gen.InProjIdeal.Frame
public import proofs.«01_k».proof.Proof.Gen.OutSeq.Frame
public import proofs.«01_k».proof.Proof.Gen.OutSeqIdeal.Frame
public import proofs.«01_k».proof.Proof.Gen.OutSlab.Frame
public import proofs.«01_k».proof.Proof.Gen.OutSlabIdeal.Frame
public import proofs.«01_k».proof.Proof.Decode.Claims
public import proofs.«01_k».proof.Proof.InProj.Claims
public import proofs.«01_k».proof.Proof.OutSeq.Claims
public import proofs.«01_k».proof.Proof.OutSlab.Claims
public import Idealize.ShloMosaic.Adequacy
public import Idealize.ShloMosaic.Init

@[expose] public section

noncomputable section

namespace Cert.Proof

open Idealize.ShloMosaic Idealize.SL.Sem

theorem claim : Cert.Claim := ⟨Cert.Decode.Gen.facts, Cert.DecodeIdeal.Gen.facts, Cert.DecodeRefIdeal.Gen.facts,
  Cert.InProj.Gen.facts, Cert.InProjIdeal.Gen.facts, Cert.InProjRefIdeal.Gen.facts,
  Cert.OutSeq.Gen.facts, Cert.OutSeqIdeal.Gen.facts, Cert.OutSeqRefIdeal.Gen.facts,
  Cert.OutSlab.Gen.facts, Cert.OutSlabIdeal.Gen.facts, Cert.OutSlabRefIdeal.Gen.facts, Decode.pre_facts,
  fun m ρ _ => Cert.Decode.Gen.frame m ρ, fun m ρ _ => Cert.DecodeIdeal.Gen.frame m ρ, Decode.kernel_frame_finite,
  Decode.reference_frame, Decode.reference_frame_finite,
  fun m ρ _ => Cert.InProj.Gen.frame m ρ, fun m ρ _ => Cert.InProjIdeal.Gen.frame m ρ, InProj.reference_frame,
  fun m ρ _ => Cert.OutSeq.Gen.frame m ρ, fun m ρ _ => Cert.OutSeqIdeal.Gen.frame m ρ, OutSeq.reference_frame,
  fun m ρ _ => Cert.OutSlab.Gen.frame m ρ, fun m ρ _ => Cert.OutSlabIdeal.Gen.frame m ρ, OutSlab.reference_frame,
  trivial, Decode.algebraic, InProj.preserves, InProj.algebraic, trivial, OutSeq.algebraic, trivial, OutSlab.algebraic⟩

end Cert.Proof

end
